-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.2 = (fun _ => 1#1)

def Pre_KernelIdeal_unit [hPre_unit : Cert.Pre_unit.Facts] (m : (ℓ : Loc Cert.KernelIdeal.nD Cert.KernelIdeal.τ Cert.KernelIdeal.sig) → Buf (Elt Ideal) ℓ) : Prop :=
  ∀ c : Dev Cert.KernelIdeal.nD,
    (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.2.1 = (fun _ => 1#1)
    ∧ (Cert.Pre_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unit [hKernelIdeal : Cert.KernelIdeal.Facts] [hPre_unit : Cert.Pre_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_near_pre_unit [hKernelIdeal : Cert.KernelIdeal.Facts] [hPre_unit : Cert.Pre_unit.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_apart : Cert.Pre_apart.Facts) (hPre_unit : Cert.Pre_unit.Facts) (hPost_near : Cert.Post_near.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_KernelIdeal_pre_unit (hKernelIdeal := hKernelIdeal) (hPre_unit := hPre_unit)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
    ∧ holds_KernelIdeal_near_pre_unit (hKernelIdeal := hKernelIdeal) (hPre_unit := hPre_unit) (hPost_near := hPost_near)
-- ==== Post_near.lean ====
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S4096x2048x1 : Shape := ⟨3, ![4096, 2048, 1]⟩
abbrev S1 : Shape := ⟨1, ![1]⟩
abbrev S1x1x1 : Shape := ⟨3, ![1, 1, 1]⟩
abbrev S4096x4096 : Shape := ⟨2, ![4096, 4096]⟩
abbrev S4096x4097 : Shape := ⟨2, ![4096, 4097]⟩
abbrev S4096x1x2048 : Shape := ⟨3, ![4096, 1, 2048]⟩
abbrev S4096x4096x1 : Shape := ⟨3, ![4096, 4096, 1]⟩
abbrev S4096x4096x2048 : Shape := ⟨3, ![4096, 4096, 2048]⟩

class Facts : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  shapeCasts_S4096x2048_S4096x2048x1 : S4096x2048.ShapeCasts S4096x2048x1
  bcast_S_S4096x2048x1 : S_.BroadcastsInDim S4096x2048x1 (![] : Fin 0 → Fin S4096x2048x1.rank)
  bcast_S1_S1x1x1_2 : S1.BroadcastsInDim S1x1x1 (![2] : Fin 1 → Fin S1x1x1.rank)
  bcast_S1x1x1_S4096x2048x1_0_1_2 : S1x1x1.BroadcastsInDim S4096x2048x1 (![0, 1, 2] : Fin 3 → Fin S4096x2048x1.rank)
  reducesTo_S4096x2048x1_S4096x2048_d2 : S4096x2048x1.ReducesTo [2] S4096x2048
  bcast_S_S_ : S_.BroadcastsInDim S_ (![] : Fin 0 → Fin S_.rank)
  reduceWindows_S4096x2048_S4096x2048_w1s1p0_0_w2048s1p2047_0 : S4096x2048.ReduceWindows (![1, 2048] : Fin 2 → Nat) ![1, 1] ![0, 2047] ![0, 0] S4096x2048
  concatenates_S4096x2048_S4096x2048_S4096x4096_d1 : Shape.Concatenates [S4096x2048, S4096x2048] S4096x4096 1
  pads_S4096x4096_S4096x4097_000_100 : S4096x4096.Pads (![0, 1] : Fin 2 → Nat) ![0, 0] ![0, 0] S4096x4097
  slices_S4096x4097_S4096x4096_0_1 : S4096x4097.Slices ![0, 1] S4096x4096
  slices_S4096x4097_S4096x4096_0_0 : S4096x4097.Slices ![0, 0] S4096x4096
  bcast_S4096x2048_S4096x1x2048_0_2 : S4096x2048.BroadcastsInDim S4096x1x2048 (![0, 2] : Fin 2 → Fin S4096x1x2048.rank)
  bcast_S4096x4096_S4096x4096x1_0_1 : S4096x4096.BroadcastsInDim S4096x4096x1 (![0, 1] : Fin 2 → Fin S4096x4096x1.rank)
  bcast_S4096x1x2048_S4096x4096x2048_0_1_2 : S4096x1x2048.BroadcastsInDim S4096x4096x2048 (![0, 1, 2] : Fin 3 → Fin S4096x4096x2048.rank)
  bcast_S4096x4096x1_S4096x4096x2048_0_1_2 : S4096x4096x1.BroadcastsInDim S4096x4096x2048 (![0, 1, 2] : Fin 3 → Fin S4096x4096x2048.rank)
  natLt_1_32 : 1 < 32
  reducesTo_S4096x4096x2048_S4096x4096_d2 : S4096x4096x2048.ReducesTo [2] S4096x4096
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  reducesTo_S4096x4096_S4096_d1 : S4096x4096.ReducesTo [1] S4096
  bcast_S_S4096 : S_.BroadcastsInDim S4096 (![] : Fin 0 → Fin S4096.rank)
  gather_S4096x2048_S4096x2048x1_S4096x2048_n_1_0_0_1_2_11_wf : GatherDims.WF S4096x2048 S4096x2048x1 S4096x2048 [] [1] [0] [1] [0] 2 ![1, 1]
  gather_S4096x2048_S4096x4096x1_S4096x4096_n_1_0_0_1_2_11_wf : GatherDims.WF S4096x2048 S4096x4096x1 S4096x4096 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S4096x2048_S4096x2048x1_S4096x2048_n_1_0_0_1_2_11 : GatherDims S4096x2048 S4096x2048x1 S4096x2048 where
  offsetDims := []
  collapsedSliceDims := [1]
  operandBatchingDims := [0]
  startIndicesBatchingDims := [0]
  startIndexMap := [1]
  indexVectorDim := 2
  sliceSizes := ![1, 1]
  wf := gather_S4096x2048_S4096x2048x1_S4096x2048_n_1_0_0_1_2_11_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S4096x2048_S4096x4096x1_S4096x4096_n_1_0_0_1_2_11 : GatherDims S4096x2048 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x2048_S4096x4096x1_S4096x4096_n_1_0_0_1_2_11_wf

def fn_argsort {F : FTy → Type} [FloatOps F] (arg0 : FVec F S4096x2048 .f32) : IVec S4096x2048 32 :=
  let v0 : IVec S4096x2048 32 := iotaInDim S4096x2048 32 1
  let v1_0 : FVec F S4096x2048 .f32 := (fun x y => (Host.sort2 S4096x2048 1 comparator_f32_i32_d1 x y).1) arg0 v0
  let v1_1 : IVec S4096x2048 32 := (fun x y => (Host.sort2 S4096x2048 1 comparator_f32_i32_d1 x y).2) arg0 v0
  v1_1

def fn_take_along_axis {F : FTy → Type} [FloatOps F] (arg0 : FVec F S4096x2048 .f32) (arg1 : IVec S4096x2048 32) : FVec F S4096x2048 .f32 :=
  let c : IVec S_ 32 := constantI S_ 32 0#32
  let v0 : IVec S4096x2048 32 := broadcastInDim S4096x2048 ![] bcast_S_S4096x2048 c
  let v1 : IVec S4096x2048 1 := cmpi .slt arg1 v0
  let c_0 : IVec S_ 32 := constantI S_ 32 2048#32
  let v2 : IVec S4096x2048 32 := broadcastInDim S4096x2048 ![] bcast_S_S4096x2048 c_0
  let v3 : IVec S4096x2048 32 := addi arg1 v2
  let v4 : IVec S4096x2048 32 := select v1 v3 arg1
  let v5 : IVec S4096x2048x1 32 := shapeCast S4096x2048x1 v4 shapeCasts_S4096x2048_S4096x2048x1
  let c_1 : IVec S1 32 := constantI S1 32 2047#32
  let c_2 : IVec S_ 32 := constantI S_ 32 0#32
  let v6 : IVec S4096x2048x1 32 := broadcastInDim S4096x2048x1 ![] bcast_S_S4096x2048x1 c_2
  let v7 : IVec S4096x2048x1 1 := cmpi .sge v5 v6
  let v8 : IVec S1x1x1 32 := broadcastInDim S1x1x1 ![2] bcast_S1_S1x1x1_2 c_1
  let v9 : IVec S4096x2048x1 32 := broadcastInDim S4096x2048x1 ![0, 1, 2] bcast_S1x1x1_S4096x2048x1_0_1_2 v8
  let v10 : IVec S4096x2048x1 1 := cmpi .sle v5 v9
  let v11 : IVec S4096x2048x1 1 := andi v7 v10
  let c_3 : IVec S_ 1 := constantI S_ 1 1#1
  let v12 : IVec S4096x2048 1 := (fun x v => Host.reduce IntOp.andi x v reducesTo_S4096x2048x1_S4096x2048_d2 h_S_) v11 c_3
  let v13 : FVec F S4096x2048 .f32 := (fun x i => Host.gather gather_S4096x2048_S4096x2048x1_S4096x2048_n_1_0_0_1_2_11 x i) arg0 v5
  let cst : FVec F S_ .f32 := constant S_ .f32 0x7FC00000#32
  let v14 : FVec F S4096x2048 .f32 := broadcastInDim S4096x2048 ![] bcast_S_S4096x2048 cst
  let v15 : FVec F S4096x2048 .f32 := select v12 v13 v14
  v15

def fn_take_along_axis_0 {F : FTy → Type} [FloatOps F] (arg0 : FVec F S4096x2048 .f32) (arg1 : IVec S4096x2048 32) : FVec F S4096x2048 .f32 :=
  let c : IVec S_ 32 := constantI S_ 32 0#32
  let v0 : IVec S4096x2048 32 := broadcastInDim S4096x2048 ![] bcast_S_S4096x2048 c
  let v1 : IVec S4096x2048 1 := cmpi .slt arg1 v0
  let c_0 : IVec S_ 32 := constantI S_ 32 2048#32
  let v2 : IVec S4096x2048 32 := broadcastInDim S4096x2048 ![] bcast_S_S4096x2048 c_0
  let v3 : IVec S4096x2048 32 := addi arg1 v2
  let v4 : IVec S4096x2048 32 := select v1 v3 arg1
  let v5 : IVec S4096x2048x1 32 := shapeCast S4096x2048x1 v4 shapeCasts_S4096x2048_S4096x2048x1
  let c_1 : IVec S1 32 := constantI S1 32 2047#32
  let c_2 : IVec S_ 32 := constantI S_ 32 0#32
  let v6 : IVec S4096x2048x1 32 := broadcastInDim S4096x2048x1 ![] bcast_S_S4096x2048x1 c_2
  let v7 : IVec S4096x2048x1 1 := cmpi .sge v5 v6
  let v8 : IVec S1x1x1 32 := broadcastInDim S1x1x1 ![2] bcast_S1_S1x1x1_2 c_1
  let v9 : IVec S4096x2048x1 32 := broadcastInDim S4096x2048x1 ![0, 1, 2] bcast_S1x1x1_S4096x2048x1_0_1_2 v8
  let v10 : IVec S4096x2048x1 1 := cmpi .sle v5 v9
  let v11 : IVec S4096x2048x1 1 := andi v7 v10
  let c_3 : IVec S_ 1 := constantI S_ 1 1#1
  let v12 : IVec S4096x2048 1 := (fun x v => Host.reduce IntOp.andi x v reducesTo_S4096x2048x1_S4096x2048_d2 h_S_) v11 c_3
  let v13 : FVec F S4096x2048 .f32 := (fun x i => Host.gather gather_S4096x2048_S4096x2048x1_S4096x2048_n_1_0_0_1_2_11 x i) arg0 v5
  let cst : FVec F S_ .f32 := constant S_ .f32 0x7FC00000#32
  let v14 : FVec F S4096x2048 .f32 := broadcastInDim S4096x2048 ![] bcast_S_S4096x2048 cst
  let v15 : FVec F S4096x2048 .f32 := select v12 v13 v14
  v15

def fn_cumsum_1 {F : FTy → Type} [FloatOps F] (arg0 : FVec F S4096x2048 .f32) : FVec F S4096x2048 .f32 :=
  let cst : FVec F S_ .f32 := constant S_ .f32 0x00000000#32
  let v0 : FVec F S_ .f32 := broadcastInDim S_ ![] bcast_S_S_ cst
  let v1 : FVec F S4096x2048 .f32 := (fun x v => Host.reduceWindowAdd ![1, 2048] ![1, 1] ![0, 2047] ![0, 0] x v reduceWindows_S4096x2048_S4096x2048_w1s1p0_0_w2048s1p2047_0 h_S_) arg0 v0
  v1

def fn_cumsum {F : FTy → Type} [FloatOps F] (arg0 : FVec F S4096x2048 .f32) : FVec F S4096x2048 .f32 :=
  let v0 : FVec F S4096x2048 .f32 := fn_cumsum_1 (F := F) arg0
  v0

def fn_sort {F : FTy → Type} [FloatOps F] (arg0 : FVec F S4096x4096 .f32) : FVec F S4096x4096 .f32 :=
  let v0 : FVec F S4096x4096 .f32 := (fun x => Host.sort S4096x4096 1 comparator_f32_d1 x) arg0
  v0

def fn_pad {F : FTy → Type} [FloatOps F] (arg0 : FVec F S4096x4096 .f32) (arg1 : IVec S_ 32) : FVec F S4096x4097 .f32 :=
  let v0 : FVec F S_ .f32 := sitofp .f32 arg1
  let v1 : FVec F S4096x4097 .f32 := (fun x v => pad S4096x4097 ![0, 1] ![0, 0] ![0, 0] x v pads_S4096x4096_S4096x4097_000_100 h_S_) arg0 v0
  v1

def fn_clip {F : FTy → Type} [FloatOps F] (arg0 : IVec S4096x4096 32) (arg1 : IVec S_ 32) (arg2 : IVec S_ 32) : IVec S4096x4096 32 :=
  let v0 : IVec S_ 32 := id arg1
  let v1 : IVec S4096x4096 32 := broadcastInDim S4096x4096 ![] bcast_S_S4096x4096 v0
  let v2 : IVec S4096x4096 32 := maxsi v1 arg0
  let v3 : IVec S_ 32 := id arg2
  let v4 : IVec S4096x4096 32 := broadcastInDim S4096x4096 ![] bcast_S_S4096x4096 v3
  let v5 : IVec S4096x4096 32 := minsi v4 v2
  v5

def fn_take_along_axis_2 {F : FTy → Type} [FloatOps F] (arg0 : FVec F S4096x2048 .f32) (arg1 : IVec S4096x4096 32) : FVec F S4096x4096 .f32 :=
  let c : IVec S_ 32 := constantI S_ 32 0#32
  let v0 : IVec S4096x4096 32 := broadcastInDim S4096x4096 ![] bcast_S_S4096x4096 c
  let v1 : IVec S4096x4096 1 := cmpi .slt arg1 v0
  let c_0 : IVec S_ 32 := constantI S_ 32 2048#32
  let v2 : IVec S4096x4096 32 := broadcastInDim S4096x4096 ![] bcast_S_S4096x4096 c_0
  let v3 : IVec S4096x4096 32 := addi arg1 v2
  let v4 : IVec S4096x4096 32 := select v1 v3 arg1
  let v5 : IVec S4096x4096x1 32 := shapeCast S4096x4096x1 v4 shapeCasts_S4096x4096_S4096x4096x1
  let c_1 : IVec S1 32 := constantI S1 32 2047#32
  let c_2 : IVec S_ 32 := constantI S_ 32 0#32
  let v6 : IVec S4096x4096x1 32 := broadcastInDim S4096x4096x1 ![] bcast_S_S4096x4096x1 c_2
  let v7 : IVec S4096x4096x1 1 := cmpi .sge v5 v6
  let v8 : IVec S1x1x1 32 := broadcastInDim S1x1x1 ![2] bcast_S1_S1x1x1_2 c_1
  let v9 : IVec S4096x4096x1 32 := broadcastInDim S4096x4096x1 ![0, 1, 2] bcast_S1x1x1_S4096x4096x1_0_1_2 v8
  let v10 : IVec S4096x4096x1 1 := cmpi .sle v5 v9
  let v11 : IVec S4096x4096x1 1 := andi v7 v10
  let c_3 : IVec S_ 1 := constantI S_ 1 1#1
  let v12 : IVec S4096x4096 1 := (fun x v => Host.reduce IntOp.andi x v reducesTo_S4096x4096x1_S4096x4096_d2 h_S_) v11 c_3
  let v13 : FVec F S4096x4096 .f32 := (fun x i => Host.gather gather_S4096x2048_S4096x4096x1_S4096x4096_n_1_0_0_1_2_11 x i) arg0 v5
  let cst : FVec F S_ .f32 := constant S_ .f32 0x7FC00000#32
  let v14 : FVec F S4096x4096 .f32 := broadcastInDim S4096x4096 ![] bcast_S_S4096x4096 cst
  let v15 : FVec F S4096x4096 .f32 := select v12 v13 v14
  v15

def fn_part2 {F : FTy → Type} [FloatOps F] (main_arg4 : FVec F S4096 .f32) (main_v12 : FVec F S4096x2048 .f32) (main_v21 : FVec F S4096x4096 .f32) (main_v30 : FVec F S4096x4096 .f32) (main_v38 : IVec S4096x4096 32) : IVec S4096 1 :=
  let main_v39 : FVec F S4096x4096 .f32 := fn_take_along_axis_2 (F := F) main_v12 main_v38
  let main_v40 : FVec F S4096x4096 .f32 := subf main_v30 main_v39
  let main_v41 : FVec F S4096x4096 .f32 := Host.absf main_v40
  let main_v42 : FVec F S4096x4096 .f32 := mulf main_v21 main_v41
  let main_cst_7 : FVec F S_ .f32 := constant S_ .f32 0x00000000#32
  let main_v43 : FVec F S4096 .f32 := (fun x v => Host.reduceAdd x v reducesTo_S4096x4096_S4096_d1 h_S_) main_v42 main_cst_7
  let main_v44 : FVec F S4096 .f32 := subf main_arg4 main_v43
  let main_v45 : FVec F S4096 .f32 := Host.absf main_v44
  let main_cst_8 : FVec F S_ .f32 := constant S_ .f32 0x37000000#32
  let main_v46 : FVec F S4096 .f32 := broadcastInDim S4096 ![] bcast_S_S4096 main_cst_8
  let main_v47 : IVec S4096 1 := cmpf .ole main_v45 main_v46
  main_v47

def fn_part1 {F : FTy → Type} [FloatOps F] (main_arg4 : FVec F S4096 .f32) (main_v9 : FVec F S4096x2048 .f32) (main_v12 : FVec F S4096x2048 .f32) (main_v14 : FVec F S4096x2048 .f32) (main_v15 : FVec F S4096x2048 .f32) (main_v17 : FVec F S4096x4096 .f32) (main_v19 : FVec F S4096x4096 .f32) (main_v20 : FVec F S4096x4096 .f32) : IVec S4096 1 :=
  let main_v21 : FVec F S4096x4096 .f32 := subf main_v19 main_v20
  let main_v22 : FVec F S4096x1x2048 .f32 := broadcastInDim S4096x1x2048 ![0, 2] bcast_S4096x2048_S4096x1x2048_0_2 main_v14
  let main_v23 : FVec F S4096x4096x1 .f32 := broadcastInDim S4096x4096x1 ![0, 1] bcast_S4096x4096_S4096x4096x1_0_1 main_v17
  let main_v24 : FVec F S4096x4096x2048 .f32 := broadcastInDim S4096x4096x2048 ![0, 1, 2] bcast_S4096x1x2048_S4096x4096x2048_0_1_2 main_v22
  let main_v25 : FVec F S4096x4096x2048 .f32 := broadcastInDim S4096x4096x2048 ![0, 1, 2] bcast_S4096x4096x1_S4096x4096x2048_0_1_2 main_v23
  let main_v26 : IVec S4096x4096x2048 1 := cmpf .olt main_v24 main_v25
  let main_v27 : IVec S4096x4096x2048 32 := (extui 32 · natLt_1_32) main_v26
  let main_c_1 : IVec S_ 32 := constantI S_ 32 0#32
  let main_v28 : IVec S4096x4096 32 := (fun x v => Host.reduce IntOp.addi x v reducesTo_S4096x4096x2048_S4096x4096_d2 h_S_) main_v27 main_c_1
  let main_c_2 : IVec S_ 32 := constantI S_ 32 0#32
  let main_c_3 : IVec S_ 32 := constantI S_ 32 2047#32
  let main_v29 : IVec S4096x4096 32 := fn_clip (F := F) main_v28 main_c_2 main_c_3
  let main_v30 : FVec F S4096x4096 .f32 := fn_take_along_axis_2 (F := F) main_v9 main_v29
  let main_v31 : FVec F S4096x1x2048 .f32 := broadcastInDim S4096x1x2048 ![0, 2] bcast_S4096x2048_S4096x1x2048_0_2 main_v15
  let main_v32 : FVec F S4096x4096x1 .f32 := broadcastInDim S4096x4096x1 ![0, 1] bcast_S4096x4096_S4096x4096x1_0_1 main_v17
  let main_v33 : FVec F S4096x4096x2048 .f32 := broadcastInDim S4096x4096x2048 ![0, 1, 2] bcast_S4096x1x2048_S4096x4096x2048_0_1_2 main_v31
  let main_v34 : FVec F S4096x4096x2048 .f32 := broadcastInDim S4096x4096x2048 ![0, 1, 2] bcast_S4096x4096x1_S4096x4096x2048_0_1_2 main_v32
  let main_v35 : IVec S4096x4096x2048 1 := cmpf .olt main_v33 main_v34
  let main_v36 : IVec S4096x4096x2048 32 := (extui 32 · natLt_1_32) main_v35
  let main_c_4 : IVec S_ 32 := constantI S_ 32 0#32
  let main_v37 : IVec S4096x4096 32 := (fun x v => Host.reduce IntOp.addi x v reducesTo_S4096x4096x2048_S4096x4096_d2 h_S_) main_v36 main_c_4
  let main_c_5 : IVec S_ 32 := constantI S_ 32 0#32
  let main_c_6 : IVec S_ 32 := constantI S_ 32 2047#32
  let main_v38 : IVec S4096x4096 32 := fn_clip (F := F) main_v37 main_c_5 main_c_6
  fn_part2 (F := F) main_arg4 main_v12 main_v21 main_v30 main_v38

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096 .f32) : IVec S4096 1 :=
  let main_cst : FVec F S_ .f32 := constant S_ .f32 0x00000000#32
  let main_v0 : FVec F S4096 .f32 := (fun x v => Host.reduceAdd x v reducesTo_S4096x2048_S4096_d1 h_S_) main_arg0 main_cst
  let main_v1 : FVec F S4096x1 .f32 := broadcastInDim S4096x1 ![0] bcast_S4096_S4096x1_0 main_v0
  let main_v2 : FVec F S4096x2048 .f32 := broadcastInDim S4096x2048 ![0, 1] bcast_S4096x1_S4096x2048_0_1 main_v1
  let main_v3 : FVec F S4096x2048 .f32 := Host.divf main_arg0 main_v2
  let main_cst_0 : FVec F S_ .f32 := constant S_ .f32 0x00000000#32
  let main_v4 : FVec F S4096 .f32 := (fun x v => Host.reduceAdd x v reducesTo_S4096x2048_S4096_d1 h_S_) main_arg1 main_cst_0
  let main_v5 : FVec F S4096x1 .f32 := broadcastInDim S4096x1 ![0] bcast_S4096_S4096x1_0 main_v4
  let main_v6 : FVec F S4096x2048 .f32 := broadcastInDim S4096x2048 ![0, 1] bcast_S4096x1_S4096x2048_0_1 main_v5
  let main_v7 : FVec F S4096x2048 .f32 := Host.divf main_arg1 main_v6
  let main_v8 : IVec S4096x2048 32 := fn_argsort (F := F) main_arg2
  let main_v9 : FVec F S4096x2048 .f32 := fn_take_along_axis (F := F) main_arg2 main_v8
  let main_v10 : FVec F S4096x2048 .f32 := fn_take_along_axis_0 (F := F) main_v3 main_v8
  let main_v11 : IVec S4096x2048 32 := fn_argsort (F := F) main_arg3
  let main_v12 : FVec F S4096x2048 .f32 := fn_take_along_axis (F := F) main_arg3 main_v11
  let main_v13 : FVec F S4096x2048 .f32 := fn_take_along_axis_0 (F := F) main_v7 main_v11
  let main_v14 : FVec F S4096x2048 .f32 := fn_cumsum (F := F) main_v10
  let main_v15 : FVec F S4096x2048 .f32 := fn_cumsum (F := F) main_v13
  let main_v16 : FVec F S4096x4096 .f32 := (fun a b => concatenate S4096x4096 1 [⟨S4096x2048, a⟩, ⟨S4096x2048, b⟩] concatenates_S4096x2048_S4096x2048_S4096x4096_d1) main_v14 main_v15
  let main_v17 : FVec F S4096x4096 .f32 := fn_sort (F := F) main_v16
  let main_c : IVec S_ 32 := constantI S_ 32 0#32
  let main_v18 : FVec F S4096x4097 .f32 := fn_pad (F := F) main_v17 main_c
  let main_v19 : FVec F S4096x4096 .f32 := (extractStridedSlice S4096x4096 ![0, 1] · slices_S4096x4097_S4096x4096_0_1) main_v18
  let main_v20 : FVec F S4096x4096 .f32 := (extractStridedSlice S4096x4096 ![0, 0] · slices_S4096x4097_S4096x4096_0_0) main_v18
  fn_part1 (F := F) main_arg4 main_v9 main_v12 main_v14 main_v15 main_v17 main_v19 main_v20
-- ==== Pre_apart.lean ====
abbrev S4096x2048 : Shape := ⟨2, ![4096, 2048]⟩
abbrev S4096x4096 : Shape := ⟨2, ![4096, 4096]⟩
abbrev S_ : Shape := ⟨0, ![]⟩
abbrev S4096 : Shape := ⟨1, ![4096]⟩
abbrev S4096x4096x1 : Shape := ⟨3, ![4096, 4096, 1]⟩
abbrev S4096x1x4096 : Shape := ⟨3, ![4096, 1, 4096]⟩
abbrev S4096x4096x4096 : Shape := ⟨3, ![4096, 4096, 4096]⟩

class Facts : Prop where
  concatenates_S4096x2048_S4096x2048_S4096x4096_d1 : Shape.Concatenates [S4096x2048, S4096x2048] S4096x4096 1
  bcast_S_S4096x4096 : S_.BroadcastsInDim S4096x4096 (![] : Fin 0 → Fin S4096x4096.rank)
  bcast_S_S4096x2048 : S_.BroadcastsInDim S4096x2048 (![] : Fin 0 → Fin S4096x2048.rank)
  reducesTo_S4096x2048_S4096_d1 : S4096x2048.ReducesTo [1] S4096
  h_S_ : 0 < S_.numel
  bcast_S_S4096 : S_.BroadcastsInDim S4096 (![] : Fin 0 → Fin S4096.rank)
  bcast_S4096x4096_S4096x4096x1_0_1 : S4096x4096.BroadcastsInDim S4096x4096x1 (![0, 1] : Fin 2 → Fin S4096x4096x1.rank)
  bcast_S4096x4096_S4096x1x4096_0_2 : S4096x4096.BroadcastsInDim S4096x1x4096 (![0, 2] : Fin 2 → Fin S4096x1x4096.rank)
  bcast_S4096x4096x1_S4096x4096x4096_0_1_2 : S4096x4096x1.BroadcastsInDim S4096x4096x4096 (![0, 1, 2] : Fin 3 → Fin S4096x4096x4096.rank)
  bcast_S4096x1x4096_S4096x4096x4096_0_1_2 : S4096x1x4096.BroadcastsInDim S4096x4096x4096 (![0, 1, 2] : Fin 3 → Fin S4096x4096x4096.rank)

variable [Facts]

def fn_part2 {F : FTy → Type} [FloatOps F] (main_v7 : IVec S4096x2048 1) (main_v10 : IVec S4096 1) (main_v13 : IVec S4096 1) (main_v15 : IVec S4096x2048 1) (main_v18 : IVec S4096 1) (main_v21 : IVec S4096 1) (main_v23 : IVec S4096x4096 1) (main_v25 : IVec S4096x4096 1) (main_v30 : IVec S4096x4096x4096 1) (main_v32 : IVec S4096x1x4096 32) (main_v33 : IVec S4096x4096x4096 32) : IVec S4096x2048 1 × IVec S4096 1 × IVec S4096 1 × IVec S4096x2048 1 × IVec S4096 1 × IVec S4096 1 × IVec S4096x4096 1 × IVec S4096x4096 1 × IVec S4096x4096x4096 1 :=
  let main_v34 : IVec S4096x4096x4096 32 := broadcastInDim S4096x4096x4096 ![0, 1, 2] bcast_S4096x1x4096_S4096x4096x4096_0_1_2 main_v32
  let main_v35 : IVec S4096x4096x4096 1 := cmpi .ne main_v33 main_v34
  let main_v36 : IVec S4096x4096x4096 1 := ori main_v30 main_v35
  (main_v7, main_v10, main_v13, main_v15, main_v18, main_v21, main_v23, main_v25, main_v36)

def fn_part1 {F : FTy → Type} [FloatOps F] (main_arg1 : FVec F S4096x2048 .f32) (main_v0 : FVec F S4096x4096 .f32) (main_v5 : IVec S4096x4096 32) (main_v7 : IVec S4096x2048 1) (main_v10 : IVec S4096 1) (main_v13 : IVec S4096 1) (main_v15 : IVec S4096x2048 1) : IVec S4096x2048 1 × IVec S4096 1 × IVec S4096 1 × IVec S4096x2048 1 × IVec S4096 1 × IVec S4096 1 × IVec S4096x4096 1 × IVec S4096x4096 1 × IVec S4096x4096x4096 1 :=
  let main_cst_6 : FVec F S_ .f32 := constant S_ .f32 0x00000000#32
  let main_v16 : FVec F S4096 .f32 := (fun x v => Host.reduceAdd x v reducesTo_S4096x2048_S4096_d1 h_S_) main_arg1 main_cst_6
  let main_cst_7 : FVec F S_ .f32 := constant S_ .f32 0x00000000#32
  let main_v17 : FVec F S4096 .f32 := broadcastInDim S4096 ![] bcast_S_S4096 main_cst_7
  let main_v18 : IVec S4096 1 := cmpf .ogt main_v16 main_v17
  let main_cst_8 : FVec F S_ .f32 := constant S_ .f32 0x00000000#32
  let main_v19 : FVec F S4096 .f32 := (fun x v => Host.reduceAdd x v reducesTo_S4096x2048_S4096_d1 h_S_) main_arg1 main_cst_8
  let main_cst_9 : FVec F S_ .f32 := constant S_ .f32 0x7F800000#32
  let main_v20 : FVec F S4096 .f32 := broadcastInDim S4096 ![] bcast_S_S4096 main_cst_9
  let main_v21 : IVec S4096 1 := cmpf .olt main_v19 main_v20
  let main_cst_10 : FVec F S_ .f32 := constant S_ .f32 0x00000000#32
  let main_v22 : FVec F S4096x4096 .f32 := broadcastInDim S4096x4096 ![] bcast_S_S4096x4096 main_cst_10
  let main_v23 : IVec S4096x4096 1 := cmpf .oge main_v0 main_v22
  let main_cst_11 : FVec F S_ .f32 := constant S_ .f32 0x7F800000#32
  let main_v24 : FVec F S4096x4096 .f32 := broadcastInDim S4096x4096 ![] bcast_S_S4096x4096 main_cst_11
  let main_v25 : IVec S4096x4096 1 := cmpf .olt main_v0 main_v24
  let main_v26 : FVec F S4096x4096x1 .f32 := broadcastInDim S4096x4096x1 ![0, 1] bcast_S4096x4096_S4096x4096x1_0_1 main_v0
  let main_v27 : FVec F S4096x1x4096 .f32 := broadcastInDim S4096x1x4096 ![0, 2] bcast_S4096x4096_S4096x1x4096_0_2 main_v0
  let main_v28 : FVec F S4096x4096x4096 .f32 := broadcastInDim S4096x4096x4096 ![0, 1, 2] bcast_S4096x4096x1_S4096x4096x4096_0_1_2 main_v26
  let main_v29 : FVec F S4096x4096x4096 .f32 := broadcastInDim S4096x4096x4096 ![0, 1, 2] bcast_S4096x1x4096_S4096x4096x4096_0_1_2 main_v27
  let main_v30 : IVec S4096x4096x4096 1 := cmpf .oeq main_v28 main_v29
  let main_v31 : IVec S4096x4096x1 32 := broadcastInDim S4096x4096x1 ![0, 1] bcast_S4096x4096_S4096x4096x1_0_1 main_v5
  let main_v32 : IVec S4096x1x4096 32 := broadcastInDim S4096x1x4096 ![0, 2] bcast_S4096x4096_S4096x1x4096_0_2 main_v5
  let main_v33 : IVec S4096x4096x4096 32 := broadcastInDim S4096x4096x4096 ![0, 1, 2] bcast_S4096x4096x1_S4096x4096x4096_0_1_2 main_v31
  fn_part2 (F := F) main_v7 main_v10 main_v13 main_v15 main_v18 main_v21 main_v23 main_v25 main_v30 main_v32 main_v33

def fn {F : FTy → Type} [FloatOps F] (main_arg0 : FVec F S4096x2048 .f32) (main_arg1 : FVec F S4096x2048 .f32) (main_arg2 : FVec F S4096x2048 .f32) (main_arg3 : FVec F S4096x2048 .f32) : IVec S4096x2048 1 × IVec S4096 1 × IVec S4096 1 × IVec S4096x2048 1 × IVec S4096 1 × IVec S4096 1 × IVec S4096x4096 1 × IVec S4096x4096 1 × IVec S4096x4096x4096 1 :=
  let main_v0 : FVec F S4096x4096 .f32 := (fun a b => concatenate S4096x4096 1 [⟨S4096x2048, a⟩, ⟨S4096x2048, b⟩] concatenates_S4096x2048_S4096x2048_S4096x4096_d1) main_arg2 main_arg3
  let main_cst : FVec F S_ .f32 := constant S_ .f32 0x48800000#32
  let main_v1 : FVec F S4096x4096 .f32 := broadcastInDim S4096x4096 ![] bcast_S_S4096x4096 main_cst
  let main_v2 : FVec F S4096x4096 .f32 := mulf main_v0 main_v1
  let main_v3 : IVec S4096x4096 32 := fptosi 32 main_v2
  let main_c : IVec S_ 32 := constantI S_ 32 262143#32
  let main_v4 : IVec S4096x4096 32 := broadcastInDim S4096x4096 ![] bcast_S_S4096x4096 main_c
  let main_v5 : IVec S4096x4096 32 := minsi main_v3 main_v4
  let main_cst_0 : FVec F S_ .f32 := constant S_ .f32 0x00000000#32
  let main_v6 : FVec F S4096x2048 .f32 := broadcastInDim S4096x2048 ![] bcast_S_S4096x2048 main_cst_0
  let main_v7 : IVec S4096x2048 1 := cmpf .oge main_arg0 main_v6
  let main_cst_1 : FVec F S_ .f32 := constant S_ .f32 0x00000000#32
  let main_v8 : FVec F S4096 .f32 := (fun x v => Host.reduceAdd x v reducesTo_S4096x2048_S4096_d1 h_S_) main_arg0 main_cst_1
  let main_cst_2 : FVec F S_ .f32 := constant S_ .f32 0x00000000#32
  let main_v9 : FVec F S4096 .f32 := broadcastInDim S4096 ![] bcast_S_S4096 main_cst_2
  let main_v10 : IVec S4096 1 := cmpf .ogt main_v8 main_v9
  let main_cst_3 : FVec F S_ .f32 := constant S_ .f32 0x00000000#32
  let main_v11 : FVec F S4096 .f32 := (fun x v => Host.reduceAdd x v reducesTo_S4096x2048_S4096_d1 h_S_) main_arg0 main_cst_3
  let main_cst_4 : FVec F S_ .f32 := constant S_ .f32 0x7F800000#32
  let main_v12 : FVec F S4096 .f32 := broadcastInDim S4096 ![] bcast_S_S4096 main_cst_4
  let main_v13 : IVec S4096 1 := cmpf .olt main_v11 main_v12
  let main_cst_5 : FVec F S_ .f32 := constant S_ .f32 0x00000000#32
  let main_v14 : FVec F S4096x2048 .f32 := broadcastInDim S4096x2048 ![] bcast_S_S4096x2048 main_cst_5
  let main_v15 : IVec S4096x2048 1 := cmpf .oge main_arg1 main_v14
  fn_part1 (F := F) main_arg1 main_v0 main_v5 main_v7 main_v10 main_v13 main_v15
-- ==== Pre_unit.lean ====
abbrev S4096x2048 : Shape := ⟨2, ![4096, 2048]⟩
abbrev S_ : Shape := ⟨0, ![]⟩
abbrev S4096 : Shape := ⟨1, ![4096]⟩

class Facts : Prop where
  bcast_S_S4096x2048 : S_.BroadcastsInDim S4096x2048 (![] : Fin 0 → Fin S4096x2048.rank)
  reducesTo_S4096x2048_S4096_d1 : S4096x2048.ReducesTo [1] S4096
  h_S_ : 0 < S_.numel
  bcast_S_S4096 : S_.BroadcastsInDim S4096 (![] : Fin 0 → Fin S4096.rank)

variable [Facts]

def fn_part1 {F : FTy → Type} [FloatOps F] (main_arg2 : FVec F S4096x2048 .f32) (main_arg3 : FVec F S4096x2048 .f32) (main_v1 : IVec S4096x2048 1) (main_v4 : IVec S4096 1) (main_v7 : IVec S4096 1) (main_v9 : IVec S4096x2048 1) (main_v12 : IVec S4096 1) (main_v13 : FVec F S4096 .f32) (main_cst_8 : FVec F S_ .f32) : IVec S4096x2048 1 × IVec S4096 1 × IVec S4096 1 × IVec S4096x2048 1 × IVec S4096 1 × IVec S4096 1 × IVec S4096x2048 1 × IVec S4096x2048 1 × IVec S4096x2048 1 × IVec S4096x2048 1 :=
  let main_v14 : FVec F S4096 .f32 := broadcastInDim S4096 ![] bcast_S_S4096 main_cst_8
  let main_v15 : IVec S4096 1 := cmpf .olt main_v13 main_v14
  let main_cst_9 : FVec F S_ .f32 := constant S_ .f32 0x00000000#32
  let main_v16 : FVec F S4096x2048 .f32 := broadcastInDim S4096x2048 ![] bcast_S_S4096x2048 main_cst_9
  let main_v17 : IVec S4096x2048 1 := cmpf .oge main_arg2 main_v16
  let main_cst_10 : FVec F S_ .f32 := constant S_ .f32 0x3F800000#32
  let main_v18 : FVec F S4096x2048 .f32 := broadcastInDim S4096x2048 ![] bcast_S_S4096x2048 main_cst_10
  let main_v19 : IVec S4096x2048 1 := cmpf .ole main_arg2 main_v18
  let main_cst_11 : FVec F S_ .f32 := constant S_ .f32 0x00000000#32
  let main_v20 : FVec F S4096x2048 .f32 := broadcastInDim S4096x2048 ![] bcast_S_S4096x2048 main_cst_11
  let main_v21 : IVec S4096x2048 1 := cmpf .oge main_arg3 main_v20
  let main_cst_12 : FVec F S_ .f32 := constant S_ .f32 0x3F800000#32
  let main_v22 : FVec F S4096x2048 .f32 := broadcastInDim S4096x2048 ![] bcast_S_S4096x2048 main_cst_12
  let main_v23 : IVec S4096x2048 1 := cmpf .ole main_arg3 main_v22
  (main_v1, main_v4, main_v7, main_v9, main_v12, main_v15, main_v17, main_v19, main_v21, main_v23)

def fn {F : FTy → Type} [FloatOps F] (main_arg0 : FVec F S4096x2048 .f32) (main_arg1 : FVec F S4096x2048 .f32) (main_arg2 : FVec F S4096x2048 .f32) (main_arg3 : FVec F S4096x2048 .f32) : IVec S4096x2048 1 × IVec S4096 1 × IVec S4096 1 × IVec S4096x2048 1 × IVec S4096 1 × IVec S4096 1 × IVec S4096x2048 1 × IVec S4096x2048 1 × IVec S4096x2048 1 × IVec S4096x2048 1 :=
  let main_cst : FVec F S_ .f32 := constant S_ .f32 0x00000000#32
  let main_v0 : FVec F S4096x2048 .f32 := broadcastInDim S4096x2048 ![] bcast_S_S4096x2048 main_cst
  let main_v1 : IVec S4096x2048 1 := cmpf .oge main_arg0 main_v0
  let main_cst_0 : FVec F S_ .f32 := constant S_ .f32 0x00000000#32
  let main_v2 : FVec F S4096 .f32 := (fun x v => Host.reduceAdd x v reducesTo_S4096x2048_S4096_d1 h_S_) main_arg0 main_cst_0
  let main_cst_1 : FVec F S_ .f32 := constant S_ .f32 0x00000000#32
  let main_v3 : FVec F S4096 .f32 := broadcastInDim S4096 ![] bcast_S_S4096 main_cst_1
  let main_v4 : IVec S4096 1 := cmpf .ogt main_v2 main_v3
  let main_cst_2 : FVec F S_ .f32 := constant S_ .f32 0x00000000#32
  let main_v5 : FVec F S4096 .f32 := (fun x v => Host.reduceAdd x v reducesTo_S4096x2048_S4096_d1 h_S_) main_arg0 main_cst_2
  let main_cst_3 : FVec F S_ .f32 := constant S_ .f32 0x7F800000#32
  let main_v6 : FVec F S4096 .f32 := broadcastInDim S4096 ![] bcast_S_S4096 main_cst_3
  let main_v7 : IVec S4096 1 := cmpf .olt main_v5 main_v6
  let main_cst_4 : FVec F S_ .f32 := constant S_ .f32 0x00000000#32
  let main_v8 : FVec F S4096x2048 .f32 := broadcastInDim S4096x2048 ![] bcast_S_S4096x2048 main_cst_4
  let main_v9 : IVec S4096x2048 1 := cmpf .oge main_arg1 main_v8
  let main_cst_5 : FVec F S_ .f32 := constant S_ .f32 0x00000000#32
  let main_v10 : FVec F S4096 .f32 := (fun x v => Host.reduceAdd x v reducesTo_S4096x2048_S4096_d1 h_S_) main_arg1 main_cst_5
  let main_cst_6 : FVec F S_ .f32 := constant S_ .f32 0x00000000#32
  let main_v11 : FVec F S4096 .f32 := broadcastInDim S4096 ![] bcast_S_S4096 main_cst_6
  let main_v12 : IVec S4096 1 := cmpf .ogt main_v10 main_v11
  let main_cst_7 : FVec F S_ .f32 := constant S_ .f32 0x00000000#32
  let main_v13 : FVec F S4096 .f32 := (fun x v => Host.reduceAdd x v reducesTo_S4096x2048_S4096_d1 h_S_) main_arg1 main_cst_7
  let main_cst_8 : FVec F S_ .f32 := constant S_ .f32 0x7F800000#32
  fn_part1 (F := F) main_arg2 main_arg3 main_v1 main_v4 main_v7 main_v9 main_v12 main_v13 main_cst_8
-- ==== Kernel.lean ====
abbrev S4096x2048 : Shape := ⟨2, ![4096, 2048]⟩
abbrev S4096 : Shape := ⟨1, ![4096]⟩
abbrev S4112 : Shape := ⟨1, ![4112]⟩
abbrev S1024 : Shape := ⟨1, ![1024]⟩
abbrev S128 : Shape := ⟨1, ![128]⟩
abbrev S_ : Shape := ⟨0, ![]⟩
abbrev S16 : Shape := ⟨1, ![16]⟩
abbrev S2048 : Shape := ⟨1, ![2048]⟩
abbrev S1x2048 : Shape := ⟨2, ![1, 2048]⟩
abbrev S1 : Shape := ⟨1, ![1]⟩

abbrev nBuf : Table → Nat
  | .hbm => 5
  | .local .scVector .vmem => 11
  | _ => 0

abbrev bufTy : (tb : Table) → Fin (nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096, .f32⟩
  | .local .scVector .vmem, ⟨0, _⟩ => ⟨S4096, .f32⟩
  | .local .scVector .vmem, ⟨1, _⟩ => ⟨S4096, .f32⟩
  | .local .scVector .vmem, ⟨2, _⟩ => ⟨S4096, .f32⟩
  | .local .scVector .vmem, ⟨3, _⟩ => ⟨S4096, .f32⟩
  | .local .scVector .vmem, ⟨4, _⟩ => ⟨S4112, .i32⟩
  | .local .scVector .vmem, ⟨5, _⟩ => ⟨S4112, .i32⟩
  | .local .scVector .vmem, ⟨6, _⟩ => ⟨S1024, .i32⟩
  | .local .scVector .vmem, ⟨7, _⟩ => ⟨S1024, .i32⟩
  | .local .scVector .vmem, ⟨8, _⟩ => ⟨S1024, .i32⟩
  | .local .scVector .vmem, ⟨9, _⟩ => ⟨S1024, .i32⟩
  | .local .scVector .vmem, ⟨10, _⟩ => ⟨S128, .f32⟩
  | _, _ => ⟨S4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  ![v2.toNat, 0]
@[reducible] def k0_t1_loop : Scf.Loop 32 :=
  let c0_i32_19 : BitVec 32 := 0#32
  let c64_i32_20 : BitVec 32 := 64#32
  let v45 : BitVec 32 := Scalar.addi c0_i32_19 c64_i32_20
  let c1_i32_21 : BitVec 32 := 1#32
  ⟨c0_i32_19, v45, c1_i32_21⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_40 : BitVec 32 := 2#32
  let c0_i32_19 : BitVec 32 := 0#32
  let c1_i32_21 : BitVec 32 := 1#32
  let arg20 : BitVec 32 := Scf.iv c0_i32_19 c1_i32_21 k0_t1
  let v72 : BitVec 32 := Scalar.muli c2_i32_40 arg20
  let c1_i32_41 : BitVec 32 := 1#32
  let v73 : BitVec 32 := Scalar.addi v72 c1_i32_41
  let v74 : BitVec 32 := Scalar.addi v2 v73
  let c0_i32_43 : BitVec 32 := 0#32
  ![v74.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_39 : BitVec 32 := 2#32
  let c0_i32_19 : BitVec 32 := 0#32
  let c1_i32_21 : BitVec 32 := 1#32
  let arg20 : BitVec 32 := Scf.iv c0_i32_19 c1_i32_21 k0_t1
  let v71 : BitVec 32 := Scalar.muli c2_i32_39 arg20
  let v99 : BitVec 32 := Scalar.addi v2 v71
  let c0_i32_59 : BitVec 32 := 0#32
  ![v99.toNat, 0]
@[reducible] def k0_t2_loop : Scf.Loop 32 :=
  let c0_i32_76 : BitVec 32 := 0#32
  let c128_i32_77 : BitVec 32 := 128#32
  let v126 : BitVec 32 := Scalar.addi c0_i32_76 c128_i32_77
  let c1_i32_78 : BitVec 32 := 1#32
  ⟨c0_i32_76, v126, c1_i32_78⟩
def k0_off4 (k0_t2 : Fin k0_t2_loop.trips) : Fin 1 → Nat :=
  let c0_i32_76 : BitVec 32 := 0#32
  let c1_i32_78 : BitVec 32 := 1#32
  let arg22 : BitVec 32 := Scf.iv c0_i32_76 c1_i32_78 k0_t2
  let c16_i32_257 : BitVec 32 := 16#32
  let v540 : BitVec 32 := Scalar.muli arg22 c16_i32_257
  let v541 : Index := Scalar.indexCast v540
  ![v541.toNat]
def k0_off5 (k0_t2 : Fin k0_t2_loop.trips) : Fin 1 → Nat :=
  let c2048_i32_259 : BitVec 32 := 2048#32
  let c0_i32_76 : BitVec 32 := 0#32
  let c1_i32_78 : BitVec 32 := 1#32
  let arg22 : BitVec 32 := Scf.iv c0_i32_76 c1_i32_78 k0_t2
  let c16_i32_258 : BitVec 32 := 16#32
  let v544 : BitVec 32 := Scalar.muli arg22 c16_i32_258
  let v545 : BitVec 32 := Scalar.addi c2048_i32_259 v544
  let v546 : Index := Scalar.indexCast v545
  ![v546.toNat]
@[reducible] def k0_t3_loop : Scf.Loop 32 :=
  let c0_i32_83 : BitVec 32 := 0#32
  let c64_i32_84 : BitVec 32 := 64#32
  let v228 : BitVec 32 := Scalar.addi c0_i32_83 c64_i32_84
  let c1_i32_85 : BitVec 32 := 1#32
  ⟨c0_i32_83, v228, c1_i32_85⟩
def k0_off6 (k0_t3 : Fin k0_t3_loop.trips) : Fin 1 → Nat :=
  let c0_i32_83 : BitVec 32 := 0#32
  let c1_i32_85 : BitVec 32 := 1#32
  let arg22 : BitVec 32 := Scf.iv c0_i32_83 c1_i32_85 k0_t3
  let c16_i32_258 : BitVec 32 := 16#32
  let v541 : BitVec 32 := Scalar.muli arg22 c16_i32_258
  let v542 : Index := Scalar.indexCast v541
  ![v542.toNat]
@[reducible] def k0_t4_loop : Scf.Loop 32 :=
  let c0_i32_88 : BitVec 32 := 0#32
  let c64_i32_89 : BitVec 32 := 64#32
  let v230 : BitVec 32 := Scalar.addi c0_i32_88 c64_i32_89
  let c1_i32_90 : BitVec 32 := 1#32
  ⟨c0_i32_88, v230, c1_i32_90⟩

def k0_chk1 (v541 : IVec S16 32) : Prop :=
  (∀ a x, ((![v541] : Fin 1 → IVec S16 32) a x).toNat < S4096.size a) ∧
  (∀ a x, ((![v541] : Fin 1 → IVec S16 32) a x).toNat < S4112.size a)
theorem k0_idx1_inb : ∀ (v541 : IVec S16 32) (k0_hw1 : k0_chk1 v541), ∀ a x, ((![v541] : Fin 1 → IVec S16 32) a x).toNat < S4096.size a := fun v541 k0_hw1 => k0_hw1.1
theorem k0_idx2_inb : ∀ (v541 : IVec S16 32) (k0_hw1 : k0_chk1 v541), ∀ a x, ((![v541] : Fin 1 → IVec S16 32) a x).toNat < S4112.size a := fun v541 k0_hw1 => k0_hw1.2

def k0_chk2 (v555 : IVec S16 32) : Prop :=
  (∀ a x, ((![v555] : Fin 1 → IVec S16 32) a x).toNat < S1024.size a)
theorem k0_idx3_inb : ∀ (v555 : IVec S16 32) (k0_hw2 : k0_chk2 v555), ∀ a x, ((![v555] : Fin 1 → IVec S16 32) a x).toNat < S1024.size a := fun v555 k0_hw2 => k0_hw2

def k0_chk3 (v557 : IVec S16 32) : Prop :=
  (∀ a x, ((![v557] : Fin 1 → IVec S16 32) a x).toNat < S4096.size a) ∧
  (∀ a x, ((![v557] : Fin 1 → IVec S16 32) a x).toNat < S4112.size a)
theorem k0_idx4_inb : ∀ (v557 : IVec S16 32) (k0_hw3 : k0_chk3 v557), ∀ a x, ((![v557] : Fin 1 → IVec S16 32) a x).toNat < S4096.size a := fun v557 k0_hw3 => k0_hw3.1
theorem k0_idx5_inb : ∀ (v557 : IVec S16 32) (k0_hw3 : k0_chk3 v557), ∀ a x, ((![v557] : Fin 1 → IVec S16 32) a x).toNat < S4112.size a := fun v557 k0_hw3 => k0_hw3.2

def k0_chk4 (v571 : IVec S16 32) : Prop :=
  (∀ a x, ((![v571] : Fin 1 → IVec S16 32) a x).toNat < S1024.size a)
theorem k0_idx6_inb : ∀ (v571 : IVec S16 32) (k0_hw4 : k0_chk4 v571), ∀ a x, ((![v571] : Fin 1 → IVec S16 32) a x).toNat < S1024.size a := fun v571 k0_hw4 => k0_hw4

def k0_chk5 (v573 : IVec S16 32) : Prop :=
  (∀ a x, ((![v573] : Fin 1 → IVec S16 32) a x).toNat < S4096.size a) ∧
  (∀ a x, ((![v573] : Fin 1 → IVec S16 32) a x).toNat < S4112.size a)
theorem k0_idx7_inb : ∀ (v573 : IVec S16 32) (k0_hw5 : k0_chk5 v573), ∀ a x, ((![v573] : Fin 1 → IVec S16 32) a x).toNat < S4096.size a := fun v573 k0_hw5 => k0_hw5.1
theorem k0_idx8_inb : ∀ (v573 : IVec S16 32) (k0_hw5 : k0_chk5 v573), ∀ a x, ((![v573] : Fin 1 → IVec S16 32) a x).toNat < S4112.size a := fun v573 k0_hw5 => k0_hw5.2

def k0_chk6 (v587 : IVec S16 32) : Prop :=
  (∀ a x, ((![v587] : Fin 1 → IVec S16 32) a x).toNat < S1024.size a)
theorem k0_idx9_inb : ∀ (v587 : IVec S16 32) (k0_hw6 : k0_chk6 v587), ∀ a x, ((![v587] : Fin 1 → IVec S16 32) a x).toNat < S1024.size a := fun v587 k0_hw6 => k0_hw6

def k0_chk7 (v589 : IVec S16 32) : Prop :=
  (∀ a x, ((![v589] : Fin 1 → IVec S16 32) a x).toNat < S4096.size a) ∧
  (∀ a x, ((![v589] : Fin 1 → IVec S16 32) a x).toNat < S4112.size a)
theorem k0_idx10_inb : ∀ (v589 : IVec S16 32) (k0_hw7 : k0_chk7 v589), ∀ a x, ((![v589] : Fin 1 → IVec S16 32) a x).toNat < S4096.size a := fun v589 k0_hw7 => k0_hw7.1
theorem k0_idx11_inb : ∀ (v589 : IVec S16 32) (k0_hw7 : k0_chk7 v589), ∀ a x, ((![v589] : Fin 1 → IVec S16 32) a x).toNat < S4112.size a := fun v589 k0_hw7 => k0_hw7.2

def k0_chk8 (v603 : IVec S16 32) : Prop :=
  (∀ a x, ((![v603] : Fin 1 → IVec S16 32) a x).toNat < S1024.size a)
theorem k0_idx12_inb : ∀ (v603 : IVec S16 32) (k0_hw8 : k0_chk8 v603), ∀ a x, ((![v603] : Fin 1 → IVec S16 32) a x).toNat < S1024.size a := fun v603 k0_hw8 => k0_hw8
@[reducible] def k0_t5_loop : Scf.Loop 32 :=
  let c0_i32_93 : BitVec 32 := 0#32
  let c64_i32_94 : BitVec 32 := 64#32
  let v232 : BitVec 32 := Scalar.addi c0_i32_93 c64_i32_94
  let c1_i32_95 : BitVec 32 := 1#32
  ⟨c0_i32_93, v232, c1_i32_95⟩
def k0_off7 (k0_t5 : Fin k0_t5_loop.trips) : Fin 1 → Nat :=
  let c0_i32_93 : BitVec 32 := 0#32
  let c1_i32_95 : BitVec 32 := 1#32
  let arg22 : BitVec 32 := Scf.iv c0_i32_93 c1_i32_95 k0_t5
  let c16_i32_257 : BitVec 32 := 16#32
  let v540 : BitVec 32 := Scalar.muli arg22 c16_i32_257
  let v541 : Index := Scalar.indexCast v540
  ![v541.toNat]
@[reducible] def k0_t6_loop : Scf.Loop 32 :=
  let c0_i32_98 : BitVec 32 := 0#32
  let c64_i32_99 : BitVec 32 := 64#32
  let v234 : BitVec 32 := Scalar.addi c0_i32_98 c64_i32_99
  let c1_i32_100 : BitVec 32 := 1#32
  ⟨c0_i32_98, v234, c1_i32_100⟩

def k0_chk9 (v541 : IVec S16 32) : Prop :=
  (∀ a x, ((![v541] : Fin 1 → IVec S16 32) a x).toNat < S4112.size a)
theorem k0_idx13_inb : ∀ (v541 : IVec S16 32) (k0_hw9 : k0_chk9 v541), ∀ a x, ((![v541] : Fin 1 → IVec S16 32) a x).toNat < S4112.size a := fun v541 k0_hw9 => k0_hw9

def k0_chk11 (v550 : IVec S16 32) : Prop :=
  (∀ a x, ((![v550] : Fin 1 → IVec S16 32) a x).toNat < S4112.size a)
theorem k0_idx15_inb : ∀ (v550 : IVec S16 32) (k0_hw11 : k0_chk11 v550), ∀ a x, ((![v550] : Fin 1 → IVec S16 32) a x).toNat < S4112.size a := fun v550 k0_hw11 => k0_hw11

def k0_chk10 (v549 : IVec S16 32) : Prop :=
  (∀ a x, ((![v549] : Fin 1 → IVec S16 32) a x).toNat < S1024.size a) ∧
  (∀ a x, ((![v549] : Fin 1 → IVec S16 32) a x).toNat < S1024.size a)
theorem k0_idx14_inb : ∀ (v549 : IVec S16 32) (k0_hw10 : k0_chk10 v549), ∀ a x, ((![v549] : Fin 1 → IVec S16 32) a x).toNat < S1024.size a := fun v549 k0_hw10 => k0_hw10.1
theorem k0_idx16_inb : ∀ (v549 : IVec S16 32) (k0_hw10 : k0_chk10 v549), ∀ a x, ((![v549] : Fin 1 → IVec S16 32) a x).toNat < S1024.size a := fun v549 k0_hw10 => k0_hw10.2

def k0_chk12 (v554 : IVec S16 32) : Prop :=
  (∀ a x, ((![v554] : Fin 1 → IVec S16 32) a x).toNat < S4112.size a)
theorem k0_idx17_inb : ∀ (v554 : IVec S16 32) (k0_hw12 : k0_chk12 v554), ∀ a x, ((![v554] : Fin 1 → IVec S16 32) a x).toNat < S4112.size a := fun v554 k0_hw12 => k0_hw12

def k0_chk14 (v563 : IVec S16 32) : Prop :=
  (∀ a x, ((![v563] : Fin 1 → IVec S16 32) a x).toNat < S4112.size a)
theorem k0_idx19_inb : ∀ (v563 : IVec S16 32) (k0_hw14 : k0_chk14 v563), ∀ a x, ((![v563] : Fin 1 → IVec S16 32) a x).toNat < S4112.size a := fun v563 k0_hw14 => k0_hw14

def k0_chk13 (v562 : IVec S16 32) : Prop :=
  (∀ a x, ((![v562] : Fin 1 → IVec S16 32) a x).toNat < S1024.size a) ∧
  (∀ a x, ((![v562] : Fin 1 → IVec S16 32) a x).toNat < S1024.size a)
theorem k0_idx18_inb : ∀ (v562 : IVec S16 32) (k0_hw13 : k0_chk13 v562), ∀ a x, ((![v562] : Fin 1 → IVec S16 32) a x).toNat < S1024.size a := fun v562 k0_hw13 => k0_hw13.1
theorem k0_idx20_inb : ∀ (v562 : IVec S16 32) (k0_hw13 : k0_chk13 v562), ∀ a x, ((![v562] : Fin 1 → IVec S16 32) a x).toNat < S1024.size a := fun v562 k0_hw13 => k0_hw13.2

def k0_chk15 (v567 : IVec S16 32) : Prop :=
  (∀ a x, ((![v567] : Fin 1 → IVec S16 32) a x).toNat < S4112.size a)
theorem k0_idx21_inb : ∀ (v567 : IVec S16 32) (k0_hw15 : k0_chk15 v567), ∀ a x, ((![v567] : Fin 1 → IVec S16 32) a x).toNat < S4112.size a := fun v567 k0_hw15 => k0_hw15

def k0_chk17 (v576 : IVec S16 32) : Prop :=
  (∀ a x, ((![v576] : Fin 1 → IVec S16 32) a x).toNat < S4112.size a)
theorem k0_idx23_inb : ∀ (v576 : IVec S16 32) (k0_hw17 : k0_chk17 v576), ∀ a x, ((![v576] : Fin 1 → IVec S16 32) a x).toNat < S4112.size a := fun v576 k0_hw17 => k0_hw17

def k0_chk16 (v575 : IVec S16 32) : Prop :=
  (∀ a x, ((![v575] : Fin 1 → IVec S16 32) a x).toNat < S1024.size a) ∧
  (∀ a x, ((![v575] : Fin 1 → IVec S16 32) a x).toNat < S1024.size a)
theorem k0_idx22_inb : ∀ (v575 : IVec S16 32) (k0_hw16 : k0_chk16 v575), ∀ a x, ((![v575] : Fin 1 → IVec S16 32) a x).toNat < S1024.size a := fun v575 k0_hw16 => k0_hw16.1
theorem k0_idx24_inb : ∀ (v575 : IVec S16 32) (k0_hw16 : k0_chk16 v575), ∀ a x, ((![v575] : Fin 1 → IVec S16 32) a x).toNat < S1024.size a := fun v575 k0_hw16 => k0_hw16.2

def k0_chk18 (v580 : IVec S16 32) : Prop :=
  (∀ a x, ((![v580] : Fin 1 → IVec S16 32) a x).toNat < S4112.size a)
theorem k0_idx25_inb : ∀ (v580 : IVec S16 32) (k0_hw18 : k0_chk18 v580), ∀ a x, ((![v580] : Fin 1 → IVec S16 32) a x).toNat < S4112.size a := fun v580 k0_hw18 => k0_hw18

def k0_chk20 (v589 : IVec S16 32) : Prop :=
  (∀ a x, ((![v589] : Fin 1 → IVec S16 32) a x).toNat < S4112.size a)
theorem k0_idx27_inb : ∀ (v589 : IVec S16 32) (k0_hw20 : k0_chk20 v589), ∀ a x, ((![v589] : Fin 1 → IVec S16 32) a x).toNat < S4112.size a := fun v589 k0_hw20 => k0_hw20

def k0_chk19 (v588 : IVec S16 32) : Prop :=
  (∀ a x, ((![v588] : Fin 1 → IVec S16 32) a x).toNat < S1024.size a) ∧
  (∀ a x, ((![v588] : Fin 1 → IVec S16 32) a x).toNat < S1024.size a)
theorem k0_idx26_inb : ∀ (v588 : IVec S16 32) (k0_hw19 : k0_chk19 v588), ∀ a x, ((![v588] : Fin 1 → IVec S16 32) a x).toNat < S1024.size a := fun v588 k0_hw19 => k0_hw19.1
theorem k0_idx28_inb : ∀ (v588 : IVec S16 32) (k0_hw19 : k0_chk19 v588), ∀ a x, ((![v588] : Fin 1 → IVec S16 32) a x).toNat < S1024.size a := fun v588 k0_hw19 => k0_hw19.2
@[reducible] def k0_t7_loop : Scf.Loop 32 :=
  let c0_i32_103 : BitVec 32 := 0#32
  let c64_i32_104 : BitVec 32 := 64#32
  let v236 : BitVec 32 := Scalar.addi c0_i32_103 c64_i32_104
  let c1_i32_105 : BitVec 32 := 1#32
  ⟨c0_i32_103, v236, c1_i32_105⟩
def k0_off8 (k0_t7 : Fin k0_t7_loop.trips) : Fin 1 → Nat :=
  let c0_i32_103 : BitVec 32 := 0#32
  let c1_i32_105 : BitVec 32 := 1#32
  let arg22 : BitVec 32 := Scf.iv c0_i32_103 c1_i32_105 k0_t7
  let c16_i32_258 : BitVec 32 := 16#32
  let v541 : BitVec 32 := Scalar.muli arg22 c16_i32_258
  let v542 : Index := Scalar.indexCast v541
  ![v542.toNat]
@[reducible] def k0_t8_loop : Scf.Loop 32 :=
  let c0_i32_108 : BitVec 32 := 0#32
  let c64_i32_109 : BitVec 32 := 64#32
  let v238 : BitVec 32 := Scalar.addi c0_i32_108 c64_i32_109
  let c1_i32_110 : BitVec 32 := 1#32
  ⟨c0_i32_108, v238, c1_i32_110⟩

def k0_chk21 (v541 : IVec S16 32) : Prop :=
  (∀ a x, ((![v541] : Fin 1 → IVec S16 32) a x).toNat < S4112.size a)
theorem k0_idx29_inb : ∀ (v541 : IVec S16 32) (k0_hw21 : k0_chk21 v541), ∀ a x, ((![v541] : Fin 1 → IVec S16 32) a x).toNat < S4112.size a := fun v541 k0_hw21 => k0_hw21

def k0_chk22 (v549 : IVec S16 32) : Prop :=
  (∀ a x, ((![v549] : Fin 1 → IVec S16 32) a x).toNat < S1024.size a)
theorem k0_idx30_inb : ∀ (v549 : IVec S16 32) (k0_hw22 : k0_chk22 v549), ∀ a x, ((![v549] : Fin 1 → IVec S16 32) a x).toNat < S1024.size a := fun v549 k0_hw22 => k0_hw22

def k0_chk23 (v551 : IVec S16 32) : Prop :=
  (∀ a x, ((![v551] : Fin 1 → IVec S16 32) a x).toNat < S4112.size a)
theorem k0_idx31_inb : ∀ (v551 : IVec S16 32) (k0_hw23 : k0_chk23 v551), ∀ a x, ((![v551] : Fin 1 → IVec S16 32) a x).toNat < S4112.size a := fun v551 k0_hw23 => k0_hw23

def k0_chk24 (v559 : IVec S16 32) : Prop :=
  (∀ a x, ((![v559] : Fin 1 → IVec S16 32) a x).toNat < S1024.size a)
theorem k0_idx32_inb : ∀ (v559 : IVec S16 32) (k0_hw24 : k0_chk24 v559), ∀ a x, ((![v559] : Fin 1 → IVec S16 32) a x).toNat < S1024.size a := fun v559 k0_hw24 => k0_hw24

def k0_chk25 (v561 : IVec S16 32) : Prop :=
  (∀ a x, ((![v561] : Fin 1 → IVec S16 32) a x).toNat < S4112.size a)
theorem k0_idx33_inb : ∀ (v561 : IVec S16 32) (k0_hw25 : k0_chk25 v561), ∀ a x, ((![v561] : Fin 1 → IVec S16 32) a x).toNat < S4112.size a := fun v561 k0_hw25 => k0_hw25

def k0_chk26 (v569 : IVec S16 32) : Prop :=
  (∀ a x, ((![v569] : Fin 1 → IVec S16 32) a x).toNat < S1024.size a)
theorem k0_idx34_inb : ∀ (v569 : IVec S16 32) (k0_hw26 : k0_chk26 v569), ∀ a x, ((![v569] : Fin 1 → IVec S16 32) a x).toNat < S1024.size a := fun v569 k0_hw26 => k0_hw26

def k0_chk27 (v571 : IVec S16 32) : Prop :=
  (∀ a x, ((![v571] : Fin 1 → IVec S16 32) a x).toNat < S4112.size a)
theorem k0_idx35_inb : ∀ (v571 : IVec S16 32) (k0_hw27 : k0_chk27 v571), ∀ a x, ((![v571] : Fin 1 → IVec S16 32) a x).toNat < S4112.size a := fun v571 k0_hw27 => k0_hw27

def k0_chk28 (v579 : IVec S16 32) : Prop :=
  (∀ a x, ((![v579] : Fin 1 → IVec S16 32) a x).toNat < S1024.size a)
theorem k0_idx36_inb : ∀ (v579 : IVec S16 32) (k0_hw28 : k0_chk28 v579), ∀ a x, ((![v579] : Fin 1 → IVec S16 32) a x).toNat < S1024.size a := fun v579 k0_hw28 => k0_hw28
@[reducible] def k0_t9_loop : Scf.Loop 32 :=
  let c0_i32_113 : BitVec 32 := 0#32
  let c64_i32_114 : BitVec 32 := 64#32
  let v240 : BitVec 32 := Scalar.addi c0_i32_113 c64_i32_114
  let c1_i32_115 : BitVec 32 := 1#32
  ⟨c0_i32_113, v240, c1_i32_115⟩
def k0_off9 (k0_t9 : Fin k0_t9_loop.trips) : Fin 1 → Nat :=
  let c0_i32_113 : BitVec 32 := 0#32
  let c1_i32_115 : BitVec 32 := 1#32
  let arg22 : BitVec 32 := Scf.iv c0_i32_113 c1_i32_115 k0_t9
  let c16_i32_257 : BitVec 32 := 16#32
  let v540 : BitVec 32 := Scalar.muli arg22 c16_i32_257
  let v541 : Index := Scalar.indexCast v540
  ![v541.toNat]
@[reducible] def k0_t10_loop : Scf.Loop 32 :=
  let c0_i32_118 : BitVec 32 := 0#32
  let c64_i32_119 : BitVec 32 := 64#32
  let v242 : BitVec 32 := Scalar.addi c0_i32_118 c64_i32_119
  let c1_i32_120 : BitVec 32 := 1#32
  ⟨c0_i32_118, v242, c1_i32_120⟩

def k0_chk29 (v541 : IVec S16 32) : Prop :=
  (∀ a x, ((![v541] : Fin 1 → IVec S16 32) a x).toNat < S4112.size a)
theorem k0_idx37_inb : ∀ (v541 : IVec S16 32) (k0_hw29 : k0_chk29 v541), ∀ a x, ((![v541] : Fin 1 → IVec S16 32) a x).toNat < S4112.size a := fun v541 k0_hw29 => k0_hw29

def k0_chk31 (v550 : IVec S16 32) : Prop :=
  (∀ a x, ((![v550] : Fin 1 → IVec S16 32) a x).toNat < S4112.size a)
theorem k0_idx39_inb : ∀ (v550 : IVec S16 32) (k0_hw31 : k0_chk31 v550), ∀ a x, ((![v550] : Fin 1 → IVec S16 32) a x).toNat < S4112.size a := fun v550 k0_hw31 => k0_hw31

def k0_chk30 (v549 : IVec S16 32) : Prop :=
  (∀ a x, ((![v549] : Fin 1 → IVec S16 32) a x).toNat < S1024.size a) ∧
  (∀ a x, ((![v549] : Fin 1 → IVec S16 32) a x).toNat < S1024.size a)
theorem k0_idx38_inb : ∀ (v549 : IVec S16 32) (k0_hw30 : k0_chk30 v549), ∀ a x, ((![v549] : Fin 1 → IVec S16 32) a x).toNat < S1024.size a := fun v549 k0_hw30 => k0_hw30.1
theorem k0_idx40_inb : ∀ (v549 : IVec S16 32) (k0_hw30 : k0_chk30 v549), ∀ a x, ((![v549] : Fin 1 → IVec S16 32) a x).toNat < S1024.size a := fun v549 k0_hw30 => k0_hw30.2

def k0_chk32 (v554 : IVec S16 32) : Prop :=
  (∀ a x, ((![v554] : Fin 1 → IVec S16 32) a x).toNat < S4112.size a)
theorem k0_idx41_inb : ∀ (v554 : IVec S16 32) (k0_hw32 : k0_chk32 v554), ∀ a x, ((![v554] : Fin 1 → IVec S16 32) a x).toNat < S4112.size a := fun v554 k0_hw32 => k0_hw32

def k0_chk34 (v563 : IVec S16 32) : Prop :=
  (∀ a x, ((![v563] : Fin 1 → IVec S16 32) a x).toNat < S4112.size a)
theorem k0_idx43_inb : ∀ (v563 : IVec S16 32) (k0_hw34 : k0_chk34 v563), ∀ a x, ((![v563] : Fin 1 → IVec S16 32) a x).toNat < S4112.size a := fun v563 k0_hw34 => k0_hw34

def k0_chk33 (v562 : IVec S16 32) : Prop :=
  (∀ a x, ((![v562] : Fin 1 → IVec S16 32) a x).toNat < S1024.size a) ∧
  (∀ a x, ((![v562] : Fin 1 → IVec S16 32) a x).toNat < S1024.size a)
theorem k0_idx42_inb : ∀ (v562 : IVec S16 32) (k0_hw33 : k0_chk33 v562), ∀ a x, ((![v562] : Fin 1 → IVec S16 32) a x).toNat < S1024.size a := fun v562 k0_hw33 => k0_hw33.1
theorem k0_idx44_inb : ∀ (v562 : IVec S16 32) (k0_hw33 : k0_chk33 v562), ∀ a x, ((![v562] : Fin 1 → IVec S16 32) a x).toNat < S1024.size a := fun v562 k0_hw33 => k0_hw33.2

def k0_chk35 (v567 : IVec S16 32) : Prop :=
  (∀ a x, ((![v567] : Fin 1 → IVec S16 32) a x).toNat < S4112.size a)
theorem k0_idx45_inb : ∀ (v567 : IVec S16 32) (k0_hw35 : k0_chk35 v567), ∀ a x, ((![v567] : Fin 1 → IVec S16 32) a x).toNat < S4112.size a := fun v567 k0_hw35 => k0_hw35

def k0_chk37 (v576 : IVec S16 32) : Prop :=
  (∀ a x, ((![v576] : Fin 1 → IVec S16 32) a x).toNat < S4112.size a)
theorem k0_idx47_inb : ∀ (v576 : IVec S16 32) (k0_hw37 : k0_chk37 v576), ∀ a x, ((![v576] : Fin 1 → IVec S16 32) a x).toNat < S4112.size a := fun v576 k0_hw37 => k0_hw37

def k0_chk36 (v575 : IVec S16 32) : Prop :=
  (∀ a x, ((![v575] : Fin 1 → IVec S16 32) a x).toNat < S1024.size a) ∧
  (∀ a x, ((![v575] : Fin 1 → IVec S16 32) a x).toNat < S1024.size a)
theorem k0_idx46_inb : ∀ (v575 : IVec S16 32) (k0_hw36 : k0_chk36 v575), ∀ a x, ((![v575] : Fin 1 → IVec S16 32) a x).toNat < S1024.size a := fun v575 k0_hw36 => k0_hw36.1
theorem k0_idx48_inb : ∀ (v575 : IVec S16 32) (k0_hw36 : k0_chk36 v575), ∀ a x, ((![v575] : Fin 1 → IVec S16 32) a x).toNat < S1024.size a := fun v575 k0_hw36 => k0_hw36.2

def k0_chk38 (v580 : IVec S16 32) : Prop :=
  (∀ a x, ((![v580] : Fin 1 → IVec S16 32) a x).toNat < S4112.size a)
theorem k0_idx49_inb : ∀ (v580 : IVec S16 32) (k0_hw38 : k0_chk38 v580), ∀ a x, ((![v580] : Fin 1 → IVec S16 32) a x).toNat < S4112.size a := fun v580 k0_hw38 => k0_hw38

def k0_chk40 (v589 : IVec S16 32) : Prop :=
  (∀ a x, ((![v589] : Fin 1 → IVec S16 32) a x).toNat < S4112.size a)
theorem k0_idx51_inb : ∀ (v589 : IVec S16 32) (k0_hw40 : k0_chk40 v589), ∀ a x, ((![v589] : Fin 1 → IVec S16 32) a x).toNat < S4112.size a := fun v589 k0_hw40 => k0_hw40

def k0_chk39 (v588 : IVec S16 32) : Prop :=
  (∀ a x, ((![v588] : Fin 1 → IVec S16 32) a x).toNat < S1024.size a) ∧
  (∀ a x, ((![v588] : Fin 1 → IVec S16 32) a x).toNat < S1024.size a)
theorem k0_idx50_inb : ∀ (v588 : IVec S16 32) (k0_hw39 : k0_chk39 v588), ∀ a x, ((![v588] : Fin 1 → IVec S16 32) a x).toNat < S1024.size a := fun v588 k0_hw39 => k0_hw39.1
theorem k0_idx52_inb : ∀ (v588 : IVec S16 32) (k0_hw39 : k0_chk39 v588), ∀ a x, ((![v588] : Fin 1 → IVec S16 32) a x).toNat < S1024.size a := fun v588 k0_hw39 => k0_hw39.2
@[reducible] def k0_t11_loop : Scf.Loop 32 :=
  let c0_i32_123 : BitVec 32 := 0#32
  let c64_i32_124 : BitVec 32 := 64#32
  let v244 : BitVec 32 := Scalar.addi c0_i32_123 c64_i32_124
  let c1_i32_125 : BitVec 32 := 1#32
  ⟨c0_i32_123, v244, c1_i32_125⟩
def k0_off10 (k0_t11 : Fin k0_t11_loop.trips) : Fin 1 → Nat :=
  let c0_i32_123 : BitVec 32 := 0#32
  let c1_i32_125 : BitVec 32 := 1#32
  let arg22 : BitVec 32 := Scf.iv c0_i32_123 c1_i32_125 k0_t11
  let c16_i32_258 : BitVec 32 := 16#32
  let v541 : BitVec 32 := Scalar.muli arg22 c16_i32_258
  let v542 : Index := Scalar.indexCast v541
  ![v542.toNat]
@[reducible] def k0_t12_loop : Scf.Loop 32 :=
  let c0_i32_128 : BitVec 32 := 0#32
  let c64_i32_129 : BitVec 32 := 64#32
  let v246 : BitVec 32 := Scalar.addi c0_i32_128 c64_i32_129
  let c1_i32_130 : BitVec 32 := 1#32
  ⟨c0_i32_128, v246, c1_i32_130⟩

def k0_chk41 (v541 : IVec S16 32) : Prop :=
  (∀ a x, ((![v541] : Fin 1 → IVec S16 32) a x).toNat < S4112.size a)
theorem k0_idx53_inb : ∀ (v541 : IVec S16 32) (k0_hw41 : k0_chk41 v541), ∀ a x, ((![v541] : Fin 1 → IVec S16 32) a x).toNat < S4112.size a := fun v541 k0_hw41 => k0_hw41

def k0_chk42 (v549 : IVec S16 32) : Prop :=
  (∀ a x, ((![v549] : Fin 1 → IVec S16 32) a x).toNat < S1024.size a)
theorem k0_idx54_inb : ∀ (v549 : IVec S16 32) (k0_hw42 : k0_chk42 v549), ∀ a x, ((![v549] : Fin 1 → IVec S16 32) a x).toNat < S1024.size a := fun v549 k0_hw42 => k0_hw42

def k0_chk43 (v551 : IVec S16 32) : Prop :=
  (∀ a x, ((![v551] : Fin 1 → IVec S16 32) a x).toNat < S4112.size a)
theorem k0_idx55_inb : ∀ (v551 : IVec S16 32) (k0_hw43 : k0_chk43 v551), ∀ a x, ((![v551] : Fin 1 → IVec S16 32) a x).toNat < S4112.size a := fun v551 k0_hw43 => k0_hw43

def k0_chk44 (v559 : IVec S16 32) : Prop :=
  (∀ a x, ((![v559] : Fin 1 → IVec S16 32) a x).toNat < S1024.size a)
theorem k0_idx56_inb : ∀ (v559 : IVec S16 32) (k0_hw44 : k0_chk44 v559), ∀ a x, ((![v559] : Fin 1 → IVec S16 32) a x).toNat < S1024.size a := fun v559 k0_hw44 => k0_hw44

def k0_chk45 (v561 : IVec S16 32) : Prop :=
  (∀ a x, ((![v561] : Fin 1 → IVec S16 32) a x).toNat < S4112.size a)
theorem k0_idx57_inb : ∀ (v561 : IVec S16 32) (k0_hw45 : k0_chk45 v561), ∀ a x, ((![v561] : Fin 1 → IVec S16 32) a x).toNat < S4112.size a := fun v561 k0_hw45 => k0_hw45

def k0_chk46 (v569 : IVec S16 32) : Prop :=
  (∀ a x, ((![v569] : Fin 1 → IVec S16 32) a x).toNat < S1024.size a)
theorem k0_idx58_inb : ∀ (v569 : IVec S16 32) (k0_hw46 : k0_chk46 v569), ∀ a x, ((![v569] : Fin 1 → IVec S16 32) a x).toNat < S1024.size a := fun v569 k0_hw46 => k0_hw46

def k0_chk47 (v571 : IVec S16 32) : Prop :=
  (∀ a x, ((![v571] : Fin 1 → IVec S16 32) a x).toNat < S4112.size a)
theorem k0_idx59_inb : ∀ (v571 : IVec S16 32) (k0_hw47 : k0_chk47 v571), ∀ a x, ((![v571] : Fin 1 → IVec S16 32) a x).toNat < S4112.size a := fun v571 k0_hw47 => k0_hw47

def k0_chk48 (v579 : IVec S16 32) : Prop :=
  (∀ a x, ((![v579] : Fin 1 → IVec S16 32) a x).toNat < S1024.size a)
theorem k0_idx60_inb : ∀ (v579 : IVec S16 32) (k0_hw48 : k0_chk48 v579), ∀ a x, ((![v579] : Fin 1 → IVec S16 32) a x).toNat < S1024.size a := fun v579 k0_hw48 => k0_hw48
@[reducible] def k0_t13_loop : Scf.Loop 32 :=
  let c0_i32_133 : BitVec 32 := 0#32
  let c64_i32_134 : BitVec 32 := 64#32
  let v248 : BitVec 32 := Scalar.addi c0_i32_133 c64_i32_134
  let c1_i32_135 : BitVec 32 := 1#32
  ⟨c0_i32_133, v248, c1_i32_135⟩
def k0_off11 (k0_t13 : Fin k0_t13_loop.trips) : Fin 1 → Nat :=
  let c0_i32_133 : BitVec 32 := 0#32
  let c1_i32_135 : BitVec 32 := 1#32
  let arg22 : BitVec 32 := Scf.iv c0_i32_133 c1_i32_135 k0_t13
  let c16_i32_257 : BitVec 32 := 16#32
  let v540 : BitVec 32 := Scalar.muli arg22 c16_i32_257
  let v541 : Index := Scalar.indexCast v540
  ![v541.toNat]
@[reducible] def k0_t14_loop : Scf.Loop 32 :=
  let c0_i32_138 : BitVec 32 := 0#32
  let c64_i32_139 : BitVec 32 := 64#32
  let v250 : BitVec 32 := Scalar.addi c0_i32_138 c64_i32_139
  let c1_i32_140 : BitVec 32 := 1#32
  ⟨c0_i32_138, v250, c1_i32_140⟩

def k0_chk49 (v541 : IVec S16 32) : Prop :=
  (∀ a x, ((![v541] : Fin 1 → IVec S16 32) a x).toNat < S4112.size a)
theorem k0_idx61_inb : ∀ (v541 : IVec S16 32) (k0_hw49 : k0_chk49 v541), ∀ a x, ((![v541] : Fin 1 → IVec S16 32) a x).toNat < S4112.size a := fun v541 k0_hw49 => k0_hw49

def k0_chk51 (v550 : IVec S16 32) : Prop :=
  (∀ a x, ((![v550] : Fin 1 → IVec S16 32) a x).toNat < S4112.size a)
theorem k0_idx63_inb : ∀ (v550 : IVec S16 32) (k0_hw51 : k0_chk51 v550), ∀ a x, ((![v550] : Fin 1 → IVec S16 32) a x).toNat < S4112.size a := fun v550 k0_hw51 => k0_hw51

def k0_chk50 (v549 : IVec S16 32) : Prop :=
  (∀ a x, ((![v549] : Fin 1 → IVec S16 32) a x).toNat < S1024.size a) ∧
  (∀ a x, ((![v549] : Fin 1 → IVec S16 32) a x).toNat < S1024.size a)
theorem k0_idx62_inb : ∀ (v549 : IVec S16 32) (k0_hw50 : k0_chk50 v549), ∀ a x, ((![v549] : Fin 1 → IVec S16 32) a x).toNat < S1024.size a := fun v549 k0_hw50 => k0_hw50.1
theorem k0_idx64_inb : ∀ (v549 : IVec S16 32) (k0_hw50 : k0_chk50 v549), ∀ a x, ((![v549] : Fin 1 → IVec S16 32) a x).toNat < S1024.size a := fun v549 k0_hw50 => k0_hw50.2

def k0_chk52 (v554 : IVec S16 32) : Prop :=
  (∀ a x, ((![v554] : Fin 1 → IVec S16 32) a x).toNat < S4112.size a)
theorem k0_idx65_inb : ∀ (v554 : IVec S16 32) (k0_hw52 : k0_chk52 v554), ∀ a x, ((![v554] : Fin 1 → IVec S16 32) a x).toNat < S4112.size a := fun v554 k0_hw52 => k0_hw52

def k0_chk54 (v563 : IVec S16 32) : Prop :=
  (∀ a x, ((![v563] : Fin 1 → IVec S16 32) a x).toNat < S4112.size a)
theorem k0_idx67_inb : ∀ (v563 : IVec S16 32) (k0_hw54 : k0_chk54 v563), ∀ a x, ((![v563] : Fin 1 → IVec S16 32) a x).toNat < S4112.size a := fun v563 k0_hw54 => k0_hw54

def k0_chk53 (v562 : IVec S16 32) : Prop :=
  (∀ a x, ((![v562] : Fin 1 → IVec S16 32) a x).toNat < S1024.size a) ∧
  (∀ a x, ((![v562] : Fin 1 → IVec S16 32) a x).toNat < S1024.size a)
theorem k0_idx66_inb : ∀ (v562 : IVec S16 32) (k0_hw53 : k0_chk53 v562), ∀ a x, ((![v562] : Fin 1 → IVec S16 32) a x).toNat < S1024.size a := fun v562 k0_hw53 => k0_hw53.1
theorem k0_idx68_inb : ∀ (v562 : IVec S16 32) (k0_hw53 : k0_chk53 v562), ∀ a x, ((![v562] : Fin 1 → IVec S16 32) a x).toNat < S1024.size a := fun v562 k0_hw53 => k0_hw53.2

def k0_chk55 (v567 : IVec S16 32) : Prop :=
  (∀ a x, ((![v567] : Fin 1 → IVec S16 32) a x).toNat < S4112.size a)
theorem k0_idx69_inb : ∀ (v567 : IVec S16 32) (k0_hw55 : k0_chk55 v567), ∀ a x, ((![v567] : Fin 1 → IVec S16 32) a x).toNat < S4112.size a := fun v567 k0_hw55 => k0_hw55

def k0_chk57 (v576 : IVec S16 32) : Prop :=
  (∀ a x, ((![v576] : Fin 1 → IVec S16 32) a x).toNat < S4112.size a)
theorem k0_idx71_inb : ∀ (v576 : IVec S16 32) (k0_hw57 : k0_chk57 v576), ∀ a x, ((![v576] : Fin 1 → IVec S16 32) a x).toNat < S4112.size a := fun v576 k0_hw57 => k0_hw57

def k0_chk56 (v575 : IVec S16 32) : Prop :=
  (∀ a x, ((![v575] : Fin 1 → IVec S16 32) a x).toNat < S1024.size a) ∧
  (∀ a x, ((![v575] : Fin 1 → IVec S16 32) a x).toNat < S1024.size a)
theorem k0_idx70_inb : ∀ (v575 : IVec S16 32) (k0_hw56 : k0_chk56 v575), ∀ a x, ((![v575] : Fin 1 → IVec S16 32) a x).toNat < S1024.size a := fun v575 k0_hw56 => k0_hw56.1
theorem k0_idx72_inb : ∀ (v575 : IVec S16 32) (k0_hw56 : k0_chk56 v575), ∀ a x, ((![v575] : Fin 1 → IVec S16 32) a x).toNat < S1024.size a := fun v575 k0_hw56 => k0_hw56.2

def k0_chk58 (v580 : IVec S16 32) : Prop :=
  (∀ a x, ((![v580] : Fin 1 → IVec S16 32) a x).toNat < S4112.size a)
theorem k0_idx73_inb : ∀ (v580 : IVec S16 32) (k0_hw58 : k0_chk58 v580), ∀ a x, ((![v580] : Fin 1 → IVec S16 32) a x).toNat < S4112.size a := fun v580 k0_hw58 => k0_hw58

def k0_chk60 (v589 : IVec S16 32) : Prop :=
  (∀ a x, ((![v589] : Fin 1 → IVec S16 32) a x).toNat < S4112.size a)
theorem k0_idx75_inb : ∀ (v589 : IVec S16 32) (k0_hw60 : k0_chk60 v589), ∀ a x, ((![v589] : Fin 1 → IVec S16 32) a x).toNat < S4112.size a := fun v589 k0_hw60 => k0_hw60

def k0_chk59 (v588 : IVec S16 32) : Prop :=
  (∀ a x, ((![v588] : Fin 1 → IVec S16 32) a x).toNat < S1024.size a) ∧
  (∀ a x, ((![v588] : Fin 1 → IVec S16 32) a x).toNat < S1024.size a)
theorem k0_idx74_inb : ∀ (v588 : IVec S16 32) (k0_hw59 : k0_chk59 v588), ∀ a x, ((![v588] : Fin 1 → IVec S16 32) a x).toNat < S1024.size a := fun v588 k0_hw59 => k0_hw59.1
theorem k0_idx76_inb : ∀ (v588 : IVec S16 32) (k0_hw59 : k0_chk59 v588), ∀ a x, ((![v588] : Fin 1 → IVec S16 32) a x).toNat < S1024.size a := fun v588 k0_hw59 => k0_hw59.2
@[reducible] def k0_t15_loop : Scf.Loop 32 :=
  let c0_i32_144 : BitVec 32 := 0#32
  let c256_i32 : BitVec 32 := 256#32
  let v253 : BitVec 32 := Scalar.addi c0_i32_144 c256_i32
  let c1_i32_145 : BitVec 32 := 1#32
  ⟨c0_i32_144, v253, c1_i32_145⟩
def k0_off12 (k0_t15 : Fin k0_t15_loop.trips) : Fin 1 → Nat :=
  let c0_i32_144 : BitVec 32 := 0#32
  let c1_i32_145 : BitVec 32 := 1#32
  let arg22 : BitVec 32 := Scf.iv c0_i32_144 c1_i32_145 k0_t15
  let c16_i32_257 : BitVec 32 := 16#32
  let v540 : BitVec 32 := Scalar.muli arg22 c16_i32_257
  let v541 : Index := Scalar.indexCast v540
  ![v541.toNat]

def k0_chk61 (v544 : IVec S16 32) : Prop :=
  (∀ a x, ((![v544] : Fin 1 → IVec S16 32) a x).toNat < S4096.size a) ∧
  (∀ a x, ((![v544] : Fin 1 → IVec S16 32) a x).toNat < S4096.size a)
theorem k0_idx77_inb : ∀ (v544 : IVec S16 32) (k0_hw61 : k0_chk61 v544), ∀ a x, ((![v544] : Fin 1 → IVec S16 32) a x).toNat < S4096.size a := fun v544 k0_hw61 => k0_hw61.1
theorem k0_idx78_inb : ∀ (v544 : IVec S16 32) (k0_hw61 : k0_chk61 v544), ∀ a x, ((![v544] : Fin 1 → IVec S16 32) a x).toNat < S4096.size a := fun v544 k0_hw61 => k0_hw61.2

def k0_chk62 (v302 : IVec S16 32) : Prop :=
  (∀ a x, ((![v302] : Fin 1 → IVec S16 32) a x).toNat < S128.size a)
theorem k0_idx79_inb : ∀ (v302 : IVec S16 32) (k0_hw62 : k0_chk62 v302), ∀ a x, ((![v302] : Fin 1 → IVec S16 32) a x).toNat < S128.size a := fun v302 k0_hw62 => k0_hw62
def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_39 : BitVec 32 := 2#32
  let c0_i32_19 : BitVec 32 := 0#32
  let c1_i32_21 : BitVec 32 := 1#32
  let arg20 : BitVec 32 := Scf.iv c0_i32_19 c1_i32_21 k0_t1
  let v71 : BitVec 32 := Scalar.muli c2_i32_39 arg20
  let c2_i32_148 : BitVec 32 := 2#32
  let v306 : BitVec 32 := Scalar.addi v71 c2_i32_148
  let c127_i32 : BitVec 32 := 127#32
  let v307 : BitVec 32 := Scalar.andi v306 c127_i32
  let v308 : BitVec 32 := Scalar.addi v2 v307
  let c0_i32_150 : BitVec 32 := 0#32
  ![v308.toNat, 0]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_40 : BitVec 32 := 2#32
  let c0_i32_19 : BitVec 32 := 0#32
  let c1_i32_21 : BitVec 32 := 1#32
  let arg20 : BitVec 32 := Scf.iv c0_i32_19 c1_i32_21 k0_t1
  let v72 : BitVec 32 := Scalar.muli c2_i32_40 arg20
  let c1_i32_41 : BitVec 32 := 1#32
  let v73 : BitVec 32 := Scalar.addi v72 c1_i32_41
  let v333 : BitVec 32 := Scalar.addi v2 v73
  let c0_i32_166 : BitVec 32 := 0#32
  ![v333.toNat, 0]
@[reducible] def k0_t16_loop : Scf.Loop 32 :=
  let c0_i32_183 : BitVec 32 := 0#32
  let c128_i32_184 : BitVec 32 := 128#32
  let v360 : BitVec 32 := Scalar.addi c0_i32_183 c128_i32_184
  let c1_i32_185 : BitVec 32 := 1#32
  ⟨c0_i32_183, v360, c1_i32_185⟩
def k0_off15 (k0_t16 : Fin k0_t16_loop.trips) : Fin 1 → Nat :=
  let c0_i32_183 : BitVec 32 := 0#32
  let c1_i32_185 : BitVec 32 := 1#32
  let arg22 : BitVec 32 := Scf.iv c0_i32_183 c1_i32_185 k0_t16
  let c16_i32_257 : BitVec 32 := 16#32
  let v540 : BitVec 32 := Scalar.muli arg22 c16_i32_257
  let v541 : Index := Scalar.indexCast v540
  ![v541.toNat]
def k0_off16 (k0_t16 : Fin k0_t16_loop.trips) : Fin 1 → Nat :=
  let c2048_i32_259 : BitVec 32 := 2048#32
  let c0_i32_183 : BitVec 32 := 0#32
  let c1_i32_185 : BitVec 32 := 1#32
  let arg22 : BitVec 32 := Scf.iv c0_i32_183 c1_i32_185 k0_t16
  let c16_i32_258 : BitVec 32 := 16#32
  let v544 : BitVec 32 := Scalar.muli arg22 c16_i32_258
  let v545 : BitVec 32 := Scalar.addi c2048_i32_259 v544
  let v546 : Index := Scalar.indexCast v545
  ![v546.toNat]
@[reducible] def k0_t17_loop : Scf.Loop 32 :=
  let c0_i32_190 : BitVec 32 := 0#32
  let c64_i32_191 : BitVec 32 := 64#32
  let v462 : BitVec 32 := Scalar.addi c0_i32_190 c64_i32_191
  let c1_i32_192 : BitVec 32 := 1#32
  ⟨c0_i32_190, v462, c1_i32_192⟩
def k0_off17 (k0_t17 : Fin k0_t17_loop.trips) : Fin 1 → Nat :=
  let c0_i32_190 : BitVec 32 := 0#32
  let c1_i32_192 : BitVec 32 := 1#32
  let arg22 : BitVec 32 := Scf.iv c0_i32_190 c1_i32_192 k0_t17
  let c16_i32_258 : BitVec 32 := 16#32
  let v541 : BitVec 32 := Scalar.muli arg22 c16_i32_258
  let v542 : Index := Scalar.indexCast v541
  ![v542.toNat]
@[reducible] def k0_t18_loop : Scf.Loop 32 :=
  let c0_i32_195 : BitVec 32 := 0#32
  let c64_i32_196 : BitVec 32 := 64#32
  let v464 : BitVec 32 := Scalar.addi c0_i32_195 c64_i32_196
  let c1_i32_197 : BitVec 32 := 1#32
  ⟨c0_i32_195, v464, c1_i32_197⟩

def k0_chk63 (v541 : IVec S16 32) : Prop :=
  (∀ a x, ((![v541] : Fin 1 → IVec S16 32) a x).toNat < S4096.size a) ∧
  (∀ a x, ((![v541] : Fin 1 → IVec S16 32) a x).toNat < S4112.size a)
theorem k0_idx80_inb : ∀ (v541 : IVec S16 32) (k0_hw63 : k0_chk63 v541), ∀ a x, ((![v541] : Fin 1 → IVec S16 32) a x).toNat < S4096.size a := fun v541 k0_hw63 => k0_hw63.1
theorem k0_idx81_inb : ∀ (v541 : IVec S16 32) (k0_hw63 : k0_chk63 v541), ∀ a x, ((![v541] : Fin 1 → IVec S16 32) a x).toNat < S4112.size a := fun v541 k0_hw63 => k0_hw63.2

def k0_chk64 (v555 : IVec S16 32) : Prop :=
  (∀ a x, ((![v555] : Fin 1 → IVec S16 32) a x).toNat < S1024.size a)
theorem k0_idx82_inb : ∀ (v555 : IVec S16 32) (k0_hw64 : k0_chk64 v555), ∀ a x, ((![v555] : Fin 1 → IVec S16 32) a x).toNat < S1024.size a := fun v555 k0_hw64 => k0_hw64

def k0_chk65 (v557 : IVec S16 32) : Prop :=
  (∀ a x, ((![v557] : Fin 1 → IVec S16 32) a x).toNat < S4096.size a) ∧
  (∀ a x, ((![v557] : Fin 1 → IVec S16 32) a x).toNat < S4112.size a)
theorem k0_idx83_inb : ∀ (v557 : IVec S16 32) (k0_hw65 : k0_chk65 v557), ∀ a x, ((![v557] : Fin 1 → IVec S16 32) a x).toNat < S4096.size a := fun v557 k0_hw65 => k0_hw65.1
theorem k0_idx84_inb : ∀ (v557 : IVec S16 32) (k0_hw65 : k0_chk65 v557), ∀ a x, ((![v557] : Fin 1 → IVec S16 32) a x).toNat < S4112.size a := fun v557 k0_hw65 => k0_hw65.2

def k0_chk66 (v571 : IVec S16 32) : Prop :=
  (∀ a x, ((![v571] : Fin 1 → IVec S16 32) a x).toNat < S1024.size a)
theorem k0_idx85_inb : ∀ (v571 : IVec S16 32) (k0_hw66 : k0_chk66 v571), ∀ a x, ((![v571] : Fin 1 → IVec S16 32) a x).toNat < S1024.size a := fun v571 k0_hw66 => k0_hw66

def k0_chk67 (v573 : IVec S16 32) : Prop :=
  (∀ a x, ((![v573] : Fin 1 → IVec S16 32) a x).toNat < S4096.size a) ∧
  (∀ a x, ((![v573] : Fin 1 → IVec S16 32) a x).toNat < S4112.size a)
theorem k0_idx86_inb : ∀ (v573 : IVec S16 32) (k0_hw67 : k0_chk67 v573), ∀ a x, ((![v573] : Fin 1 → IVec S16 32) a x).toNat < S4096.size a := fun v573 k0_hw67 => k0_hw67.1
theorem k0_idx87_inb : ∀ (v573 : IVec S16 32) (k0_hw67 : k0_chk67 v573), ∀ a x, ((![v573] : Fin 1 → IVec S16 32) a x).toNat < S4112.size a := fun v573 k0_hw67 => k0_hw67.2

def k0_chk68 (v587 : IVec S16 32) : Prop :=
  (∀ a x, ((![v587] : Fin 1 → IVec S16 32) a x).toNat < S1024.size a)
theorem k0_idx88_inb : ∀ (v587 : IVec S16 32) (k0_hw68 : k0_chk68 v587), ∀ a x, ((![v587] : Fin 1 → IVec S16 32) a x).toNat < S1024.size a := fun v587 k0_hw68 => k0_hw68

def k0_chk69 (v589 : IVec S16 32) : Prop :=
  (∀ a x, ((![v589] : Fin 1 → IVec S16 32) a x).toNat < S4096.size a) ∧
  (∀ a x, ((![v589] : Fin 1 → IVec S16 32) a x).toNat < S4112.size a)
theorem k0_idx89_inb : ∀ (v589 : IVec S16 32) (k0_hw69 : k0_chk69 v589), ∀ a x, ((![v589] : Fin 1 → IVec S16 32) a x).toNat < S4096.size a := fun v589 k0_hw69 => k0_hw69.1
theorem k0_idx90_inb : ∀ (v589 : IVec S16 32) (k0_hw69 : k0_chk69 v589), ∀ a x, ((![v589] : Fin 1 → IVec S16 32) a x).toNat < S4112.size a := fun v589 k0_hw69 => k0_hw69.2

def k0_chk70 (v603 : IVec S16 32) : Prop :=
  (∀ a x, ((![v603] : Fin 1 → IVec S16 32) a x).toNat < S1024.size a)
theorem k0_idx91_inb : ∀ (v603 : IVec S16 32) (k0_hw70 : k0_chk70 v603), ∀ a x, ((![v603] : Fin 1 → IVec S16 32) a x).toNat < S1024.size a := fun v603 k0_hw70 => k0_hw70
@[reducible] def k0_t19_loop : Scf.Loop 32 :=
  let c0_i32_200 : BitVec 32 := 0#32
  let c64_i32_201 : BitVec 32 := 64#32
  let v466 : BitVec 32 := Scalar.addi c0_i32_200 c64_i32_201
  let c1_i32_202 : BitVec 32 := 1#32
  ⟨c0_i32_200, v466, c1_i32_202⟩
def k0_off18 (k0_t19 : Fin k0_t19_loop.trips) : Fin 1 → Nat :=
  let c0_i32_200 : BitVec 32 := 0#32
  let c1_i32_202 : BitVec 32 := 1#32
  let arg22 : BitVec 32 := Scf.iv c0_i32_200 c1_i32_202 k0_t19
  let c16_i32_257 : BitVec 32 := 16#32
  let v540 : BitVec 32 := Scalar.muli arg22 c16_i32_257
  let v541 : Index := Scalar.indexCast v540
  ![v541.toNat]
@[reducible] def k0_t20_loop : Scf.Loop 32 :=
  let c0_i32_205 : BitVec 32 := 0#32
  let c64_i32_206 : BitVec 32 := 64#32
  let v468 : BitVec 32 := Scalar.addi c0_i32_205 c64_i32_206
  let c1_i32_207 : BitVec 32 := 1#32
  ⟨c0_i32_205, v468, c1_i32_207⟩

def k0_chk71 (v541 : IVec S16 32) : Prop :=
  (∀ a x, ((![v541] : Fin 1 → IVec S16 32) a x).toNat < S4112.size a)
theorem k0_idx92_inb : ∀ (v541 : IVec S16 32) (k0_hw71 : k0_chk71 v541), ∀ a x, ((![v541] : Fin 1 → IVec S16 32) a x).toNat < S4112.size a := fun v541 k0_hw71 => k0_hw71

def k0_chk73 (v550 : IVec S16 32) : Prop :=
  (∀ a x, ((![v550] : Fin 1 → IVec S16 32) a x).toNat < S4112.size a)
theorem k0_idx94_inb : ∀ (v550 : IVec S16 32) (k0_hw73 : k0_chk73 v550), ∀ a x, ((![v550] : Fin 1 → IVec S16 32) a x).toNat < S4112.size a := fun v550 k0_hw73 => k0_hw73

def k0_chk72 (v549 : IVec S16 32) : Prop :=
  (∀ a x, ((![v549] : Fin 1 → IVec S16 32) a x).toNat < S1024.size a) ∧
  (∀ a x, ((![v549] : Fin 1 → IVec S16 32) a x).toNat < S1024.size a)
theorem k0_idx93_inb : ∀ (v549 : IVec S16 32) (k0_hw72 : k0_chk72 v549), ∀ a x, ((![v549] : Fin 1 → IVec S16 32) a x).toNat < S1024.size a := fun v549 k0_hw72 => k0_hw72.1
theorem k0_idx95_inb : ∀ (v549 : IVec S16 32) (k0_hw72 : k0_chk72 v549), ∀ a x, ((![v549] : Fin 1 → IVec S16 32) a x).toNat < S1024.size a := fun v549 k0_hw72 => k0_hw72.2

def k0_chk74 (v554 : IVec S16 32) : Prop :=
  (∀ a x, ((![v554] : Fin 1 → IVec S16 32) a x).toNat < S4112.size a)
theorem k0_idx96_inb : ∀ (v554 : IVec S16 32) (k0_hw74 : k0_chk74 v554), ∀ a x, ((![v554] : Fin 1 → IVec S16 32) a x).toNat < S4112.size a := fun v554 k0_hw74 => k0_hw74

def k0_chk76 (v563 : IVec S16 32) : Prop :=
  (∀ a x, ((![v563] : Fin 1 → IVec S16 32) a x).toNat < S4112.size a)
theorem k0_idx98_inb : ∀ (v563 : IVec S16 32) (k0_hw76 : k0_chk76 v563), ∀ a x, ((![v563] : Fin 1 → IVec S16 32) a x).toNat < S4112.size a := fun v563 k0_hw76 => k0_hw76

def k0_chk75 (v562 : IVec S16 32) : Prop :=
  (∀ a x, ((![v562] : Fin 1 → IVec S16 32) a x).toNat < S1024.size a) ∧
  (∀ a x, ((![v562] : Fin 1 → IVec S16 32) a x).toNat < S1024.size a)
theorem k0_idx97_inb : ∀ (v562 : IVec S16 32) (k0_hw75 : k0_chk75 v562), ∀ a x, ((![v562] : Fin 1 → IVec S16 32) a x).toNat < S1024.size a := fun v562 k0_hw75 => k0_hw75.1
theorem k0_idx99_inb : ∀ (v562 : IVec S16 32) (k0_hw75 : k0_chk75 v562), ∀ a x, ((![v562] : Fin 1 → IVec S16 32) a x).toNat < S1024.size a := fun v562 k0_hw75 => k0_hw75.2

def k0_chk77 (v567 : IVec S16 32) : Prop :=
  (∀ a x, ((![v567] : Fin 1 → IVec S16 32) a x).toNat < S4112.size a)
theorem k0_idx100_inb : ∀ (v567 : IVec S16 32) (k0_hw77 : k0_chk77 v567), ∀ a x, ((![v567] : Fin 1 → IVec S16 32) a x).toNat < S4112.size a := fun v567 k0_hw77 => k0_hw77

def k0_chk79 (v576 : IVec S16 32) : Prop :=
  (∀ a x, ((![v576] : Fin 1 → IVec S16 32) a x).toNat < S4112.size a)
theorem k0_idx102_inb : ∀ (v576 : IVec S16 32) (k0_hw79 : k0_chk79 v576), ∀ a x, ((![v576] : Fin 1 → IVec S16 32) a x).toNat < S4112.size a := fun v576 k0_hw79 => k0_hw79

def k0_chk78 (v575 : IVec S16 32) : Prop :=
  (∀ a x, ((![v575] : Fin 1 → IVec S16 32) a x).toNat < S1024.size a) ∧
  (∀ a x, ((![v575] : Fin 1 → IVec S16 32) a x).toNat < S1024.size a)
theorem k0_idx101_inb : ∀ (v575 : IVec S16 32) (k0_hw78 : k0_chk78 v575), ∀ a x, ((![v575] : Fin 1 → IVec S16 32) a x).toNat < S1024.size a := fun v575 k0_hw78 => k0_hw78.1
theorem k0_idx103_inb : ∀ (v575 : IVec S16 32) (k0_hw78 : k0_chk78 v575), ∀ a x, ((![v575] : Fin 1 → IVec S16 32) a x).toNat < S1024.size a := fun v575 k0_hw78 => k0_hw78.2

def k0_chk80 (v580 : IVec S16 32) : Prop :=
  (∀ a x, ((![v580] : Fin 1 → IVec S16 32) a x).toNat < S4112.size a)
theorem k0_idx104_inb : ∀ (v580 : IVec S16 32) (k0_hw80 : k0_chk80 v580), ∀ a x, ((![v580] : Fin 1 → IVec S16 32) a x).toNat < S4112.size a := fun v580 k0_hw80 => k0_hw80

def k0_chk82 (v589 : IVec S16 32) : Prop :=
  (∀ a x, ((![v589] : Fin 1 → IVec S16 32) a x).toNat < S4112.size a)
theorem k0_idx106_inb : ∀ (v589 : IVec S16 32) (k0_hw82 : k0_chk82 v589), ∀ a x, ((![v589] : Fin 1 → IVec S16 32) a x).toNat < S4112.size a := fun v589 k0_hw82 => k0_hw82

def k0_chk81 (v588 : IVec S16 32) : Prop :=
  (∀ a x, ((![v588] : Fin 1 → IVec S16 32) a x).toNat < S1024.size a) ∧
  (∀ a x, ((![v588] : Fin 1 → IVec S16 32) a x).toNat < S1024.size a)
theorem k0_idx105_inb : ∀ (v588 : IVec S16 32) (k0_hw81 : k0_chk81 v588), ∀ a x, ((![v588] : Fin 1 → IVec S16 32) a x).toNat < S1024.size a := fun v588 k0_hw81 => k0_hw81.1
theorem k0_idx107_inb : ∀ (v588 : IVec S16 32) (k0_hw81 : k0_chk81 v588), ∀ a x, ((![v588] : Fin 1 → IVec S16 32) a x).toNat < S1024.size a := fun v588 k0_hw81 => k0_hw81.2
@[reducible] def k0_t21_loop : Scf.Loop 32 :=
  let c0_i32_210 : BitVec 32 := 0#32
  let c64_i32_211 : BitVec 32 := 64#32
  let v470 : BitVec 32 := Scalar.addi c0_i32_210 c64_i32_211
  let c1_i32_212 : BitVec 32 := 1#32
  ⟨c0_i32_210, v470, c1_i32_212⟩
def k0_off19 (k0_t21 : Fin k0_t21_loop.trips) : Fin 1 → Nat :=
  let c0_i32_210 : BitVec 32 := 0#32
  let c1_i32_212 : BitVec 32 := 1#32
  let arg22 : BitVec 32 := Scf.iv c0_i32_210 c1_i32_212 k0_t21
  let c16_i32_258 : BitVec 32 := 16#32
  let v541 : BitVec 32 := Scalar.muli arg22 c16_i32_258
  let v542 : Index := Scalar.indexCast v541
  ![v542.toNat]
@[reducible] def k0_t22_loop : Scf.Loop 32 :=
  let c0_i32_215 : BitVec 32 := 0#32
  let c64_i32_216 : BitVec 32 := 64#32
  let v472 : BitVec 32 := Scalar.addi c0_i32_215 c64_i32_216
  let c1_i32_217 : BitVec 32 := 1#32
  ⟨c0_i32_215, v472, c1_i32_217⟩

def k0_chk83 (v541 : IVec S16 32) : Prop :=
  (∀ a x, ((![v541] : Fin 1 → IVec S16 32) a x).toNat < S4112.size a)
theorem k0_idx108_inb : ∀ (v541 : IVec S16 32) (k0_hw83 : k0_chk83 v541), ∀ a x, ((![v541] : Fin 1 → IVec S16 32) a x).toNat < S4112.size a := fun v541 k0_hw83 => k0_hw83

def k0_chk84 (v549 : IVec S16 32) : Prop :=
  (∀ a x, ((![v549] : Fin 1 → IVec S16 32) a x).toNat < S1024.size a)
theorem k0_idx109_inb : ∀ (v549 : IVec S16 32) (k0_hw84 : k0_chk84 v549), ∀ a x, ((![v549] : Fin 1 → IVec S16 32) a x).toNat < S1024.size a := fun v549 k0_hw84 => k0_hw84

def k0_chk85 (v551 : IVec S16 32) : Prop :=
  (∀ a x, ((![v551] : Fin 1 → IVec S16 32) a x).toNat < S4112.size a)
theorem k0_idx110_inb : ∀ (v551 : IVec S16 32) (k0_hw85 : k0_chk85 v551), ∀ a x, ((![v551] : Fin 1 → IVec S16 32) a x).toNat < S4112.size a := fun v551 k0_hw85 => k0_hw85

def k0_chk86 (v559 : IVec S16 32) : Prop :=
  (∀ a x, ((![v559] : Fin 1 → IVec S16 32) a x).toNat < S1024.size a)
theorem k0_idx111_inb : ∀ (v559 : IVec S16 32) (k0_hw86 : k0_chk86 v559), ∀ a x, ((![v559] : Fin 1 → IVec S16 32) a x).toNat < S1024.size a := fun v559 k0_hw86 => k0_hw86

def k0_chk87 (v561 : IVec S16 32) : Prop :=
  (∀ a x, ((![v561] : Fin 1 → IVec S16 32) a x).toNat < S4112.size a)
theorem k0_idx112_inb : ∀ (v561 : IVec S16 32) (k0_hw87 : k0_chk87 v561), ∀ a x, ((![v561] : Fin 1 → IVec S16 32) a x).toNat < S4112.size a := fun v561 k0_hw87 => k0_hw87

def k0_chk88 (v569 : IVec S16 32) : Prop :=
  (∀ a x, ((![v569] : Fin 1 → IVec S16 32) a x).toNat < S1024.size a)
theorem k0_idx113_inb : ∀ (v569 : IVec S16 32) (k0_hw88 : k0_chk88 v569), ∀ a x, ((![v569] : Fin 1 → IVec S16 32) a x).toNat < S1024.size a := fun v569 k0_hw88 => k0_hw88

def k0_chk89 (v571 : IVec S16 32) : Prop :=
  (∀ a x, ((![v571] : Fin 1 → IVec S16 32) a x).toNat < S4112.size a)
theorem k0_idx114_inb : ∀ (v571 : IVec S16 32) (k0_hw89 : k0_chk89 v571), ∀ a x, ((![v571] : Fin 1 → IVec S16 32) a x).toNat < S4112.size a := fun v571 k0_hw89 => k0_hw89

def k0_chk90 (v579 : IVec S16 32) : Prop :=
  (∀ a x, ((![v579] : Fin 1 → IVec S16 32) a x).toNat < S1024.size a)
theorem k0_idx115_inb : ∀ (v579 : IVec S16 32) (k0_hw90 : k0_chk90 v579), ∀ a x, ((![v579] : Fin 1 → IVec S16 32) a x).toNat < S1024.size a := fun v579 k0_hw90 => k0_hw90
@[reducible] def k0_t23_loop : Scf.Loop 32 :=
  let c0_i32_220 : BitVec 32 := 0#32
  let c64_i32_221 : BitVec 32 := 64#32
  let v474 : BitVec 32 := Scalar.addi c0_i32_220 c64_i32_221
  let c1_i32_222 : BitVec 32 := 1#32
  ⟨c0_i32_220, v474, c1_i32_222⟩
def k0_off20 (k0_t23 : Fin k0_t23_loop.trips) : Fin 1 → Nat :=
  let c0_i32_220 : BitVec 32 := 0#32
  let c1_i32_222 : BitVec 32 := 1#32
  let arg22 : BitVec 32 := Scf.iv c0_i32_220 c1_i32_222 k0_t23
  let c16_i32_257 : BitVec 32 := 16#32
  let v540 : BitVec 32 := Scalar.muli arg22 c16_i32_257
  let v541 : Index := Scalar.indexCast v540
  ![v541.toNat]
@[reducible] def k0_t24_loop : Scf.Loop 32 :=
  let c0_i32_225 : BitVec 32 := 0#32
  let c64_i32_226 : BitVec 32 := 64#32
  let v476 : BitVec 32 := Scalar.addi c0_i32_225 c64_i32_226
  let c1_i32_227 : BitVec 32 := 1#32
  ⟨c0_i32_225, v476, c1_i32_227⟩

def k0_chk91 (v541 : IVec S16 32) : Prop :=
  (∀ a x, ((![v541] : Fin 1 → IVec S16 32) a x).toNat < S4112.size a)
theorem k0_idx116_inb : ∀ (v541 : IVec S16 32) (k0_hw91 : k0_chk91 v541), ∀ a x, ((![v541] : Fin 1 → IVec S16 32) a x).toNat < S4112.size a := fun v541 k0_hw91 => k0_hw91

def k0_chk93 (v550 : IVec S16 32) : Prop :=
  (∀ a x, ((![v550] : Fin 1 → IVec S16 32) a x).toNat < S4112.size a)
theorem k0_idx118_inb : ∀ (v550 : IVec S16 32) (k0_hw93 : k0_chk93 v550), ∀ a x, ((![v550] : Fin 1 → IVec S16 32) a x).toNat < S4112.size a := fun v550 k0_hw93 => k0_hw93

def k0_chk92 (v549 : IVec S16 32) : Prop :=
  (∀ a x, ((![v549] : Fin 1 → IVec S16 32) a x).toNat < S1024.size a) ∧
  (∀ a x, ((![v549] : Fin 1 → IVec S16 32) a x).toNat < S1024.size a)
theorem k0_idx117_inb : ∀ (v549 : IVec S16 32) (k0_hw92 : k0_chk92 v549), ∀ a x, ((![v549] : Fin 1 → IVec S16 32) a x).toNat < S1024.size a := fun v549 k0_hw92 => k0_hw92.1
theorem k0_idx119_inb : ∀ (v549 : IVec S16 32) (k0_hw92 : k0_chk92 v549), ∀ a x, ((![v549] : Fin 1 → IVec S16 32) a x).toNat < S1024.size a := fun v549 k0_hw92 => k0_hw92.2

def k0_chk94 (v554 : IVec S16 32) : Prop :=
  (∀ a x, ((![v554] : Fin 1 → IVec S16 32) a x).toNat < S4112.size a)
theorem k0_idx120_inb : ∀ (v554 : IVec S16 32) (k0_hw94 : k0_chk94 v554), ∀ a x, ((![v554] : Fin 1 → IVec S16 32) a x).toNat < S4112.size a := fun v554 k0_hw94 => k0_hw94

def k0_chk96 (v563 : IVec S16 32) : Prop :=
  (∀ a x, ((![v563] : Fin 1 → IVec S16 32) a x).toNat < S4112.size a)
theorem k0_idx122_inb : ∀ (v563 : IVec S16 32) (k0_hw96 : k0_chk96 v563), ∀ a x, ((![v563] : Fin 1 → IVec S16 32) a x).toNat < S4112.size a := fun v563 k0_hw96 => k0_hw96

def k0_chk95 (v562 : IVec S16 32) : Prop :=
  (∀ a x, ((![v562] : Fin 1 → IVec S16 32) a x).toNat < S1024.size a) ∧
  (∀ a x, ((![v562] : Fin 1 → IVec S16 32) a x).toNat < S1024.size a)
theorem k0_idx121_inb : ∀ (v562 : IVec S16 32) (k0_hw95 : k0_chk95 v562), ∀ a x, ((![v562] : Fin 1 → IVec S16 32) a x).toNat < S1024.size a := fun v562 k0_hw95 => k0_hw95.1
theorem k0_idx123_inb : ∀ (v562 : IVec S16 32) (k0_hw95 : k0_chk95 v562), ∀ a x, ((![v562] : Fin 1 → IVec S16 32) a x).toNat < S1024.size a := fun v562 k0_hw95 => k0_hw95.2

def k0_chk97 (v567 : IVec S16 32) : Prop :=
  (∀ a x, ((![v567] : Fin 1 → IVec S16 32) a x).toNat < S4112.size a)
theorem k0_idx124_inb : ∀ (v567 : IVec S16 32) (k0_hw97 : k0_chk97 v567), ∀ a x, ((![v567] : Fin 1 → IVec S16 32) a x).toNat < S4112.size a := fun v567 k0_hw97 => k0_hw97

def k0_chk99 (v576 : IVec S16 32) : Prop :=
  (∀ a x, ((![v576] : Fin 1 → IVec S16 32) a x).toNat < S4112.size a)
theorem k0_idx126_inb : ∀ (v576 : IVec S16 32) (k0_hw99 : k0_chk99 v576), ∀ a x, ((![v576] : Fin 1 → IVec S16 32) a x).toNat < S4112.size a := fun v576 k0_hw99 => k0_hw99

def k0_chk98 (v575 : IVec S16 32) : Prop :=
  (∀ a x, ((![v575] : Fin 1 → IVec S16 32) a x).toNat < S1024.size a) ∧
  (∀ a x, ((![v575] : Fin 1 → IVec S16 32) a x).toNat < S1024.size a)
theorem k0_idx125_inb : ∀ (v575 : IVec S16 32) (k0_hw98 : k0_chk98 v575), ∀ a x, ((![v575] : Fin 1 → IVec S16 32) a x).toNat < S1024.size a := fun v575 k0_hw98 => k0_hw98.1
theorem k0_idx127_inb : ∀ (v575 : IVec S16 32) (k0_hw98 : k0_chk98 v575), ∀ a x, ((![v575] : Fin 1 → IVec S16 32) a x).toNat < S1024.size a := fun v575 k0_hw98 => k0_hw98.2

def k0_chk100 (v580 : IVec S16 32) : Prop :=
  (∀ a x, ((![v580] : Fin 1 → IVec S16 32) a x).toNat < S4112.size a)
theorem k0_idx128_inb : ∀ (v580 : IVec S16 32) (k0_hw100 : k0_chk100 v580), ∀ a x, ((![v580] : Fin 1 → IVec S16 32) a x).toNat < S4112.size a := fun v580 k0_hw100 => k0_hw100

def k0_chk102 (v589 : IVec S16 32) : Prop :=
  (∀ a x, ((![v589] : Fin 1 → IVec S16 32) a x).toNat < S4112.size a)
theorem k0_idx130_inb : ∀ (v589 : IVec S16 32) (k0_hw102 : k0_chk102 v589), ∀ a x, ((![v589] : Fin 1 → IVec S16 32) a x).toNat < S4112.size a := fun v589 k0_hw102 => k0_hw102

def k0_chk101 (v588 : IVec S16 32) : Prop :=
  (∀ a x, ((![v588] : Fin 1 → IVec S16 32) a x).toNat < S1024.size a) ∧
  (∀ a x, ((![v588] : Fin 1 → IVec S16 32) a x).toNat < S1024.size a)
theorem k0_idx129_inb : ∀ (v588 : IVec S16 32) (k0_hw101 : k0_chk101 v588), ∀ a x, ((![v588] : Fin 1 → IVec S16 32) a x).toNat < S1024.size a := fun v588 k0_hw101 => k0_hw101.1
theorem k0_idx131_inb : ∀ (v588 : IVec S16 32) (k0_hw101 : k0_chk101 v588), ∀ a x, ((![v588] : Fin 1 → IVec S16 32) a x).toNat < S1024.size a := fun v588 k0_hw101 => k0_hw101.2
@[reducible] def k0_t25_loop : Scf.Loop 32 :=
  let c0_i32_230 : BitVec 32 := 0#32
  let c64_i32_231 : BitVec 32 := 64#32
  let v478 : BitVec 32 := Scalar.addi c0_i32_230 c64_i32_231
  let c1_i32_232 : BitVec 32 := 1#32
  ⟨c0_i32_230, v478, c1_i32_232⟩
def k0_off21 (k0_t25 : Fin k0_t25_loop.trips) : Fin 1 → Nat :=
  let c0_i32_230 : BitVec 32 := 0#32
  let c1_i32_232 : BitVec 32 := 1#32
  let arg22 : BitVec 32 := Scf.iv c0_i32_230 c1_i32_232 k0_t25
  let c16_i32_258 : BitVec 32 := 16#32
  let v541 : BitVec 32 := Scalar.muli arg22 c16_i32_258
  let v542 : Index := Scalar.indexCast v541
  ![v542.toNat]
@[reducible] def k0_t26_loop : Scf.Loop 32 :=
  let c0_i32_235 : BitVec 32 := 0#32
  let c64_i32_236 : BitVec 32 := 64#32
  let v480 : BitVec 32 := Scalar.addi c0_i32_235 c64_i32_236
  let c1_i32_237 : BitVec 32 := 1#32
  ⟨c0_i32_235, v480, c1_i32_237⟩

def k0_chk103 (v541 : IVec S16 32) : Prop :=
  (∀ a x, ((![v541] : Fin 1 → IVec S16 32) a x).toNat < S4112.size a)
theorem k0_idx132_inb : ∀ (v541 : IVec S16 32) (k0_hw103 : k0_chk103 v541), ∀ a x, ((![v541] : Fin 1 → IVec S16 32) a x).toNat < S4112.size a := fun v541 k0_hw103 => k0_hw103

def k0_chk104 (v549 : IVec S16 32) : Prop :=
  (∀ a x, ((![v549] : Fin 1 → IVec S16 32) a x).toNat < S1024.size a)
theorem k0_idx133_inb : ∀ (v549 : IVec S16 32) (k0_hw104 : k0_chk104 v549), ∀ a x, ((![v549] : Fin 1 → IVec S16 32) a x).toNat < S1024.size a := fun v549 k0_hw104 => k0_hw104

def k0_chk105 (v551 : IVec S16 32) : Prop :=
  (∀ a x, ((![v551] : Fin 1 → IVec S16 32) a x).toNat < S4112.size a)
theorem k0_idx134_inb : ∀ (v551 : IVec S16 32) (k0_hw105 : k0_chk105 v551), ∀ a x, ((![v551] : Fin 1 → IVec S16 32) a x).toNat < S4112.size a := fun v551 k0_hw105 => k0_hw105

def k0_chk106 (v559 : IVec S16 32) : Prop :=
  (∀ a x, ((![v559] : Fin 1 → IVec S16 32) a x).toNat < S1024.size a)
theorem k0_idx135_inb : ∀ (v559 : IVec S16 32) (k0_hw106 : k0_chk106 v559), ∀ a x, ((![v559] : Fin 1 → IVec S16 32) a x).toNat < S1024.size a := fun v559 k0_hw106 => k0_hw106

def k0_chk107 (v561 : IVec S16 32) : Prop :=
  (∀ a x, ((![v561] : Fin 1 → IVec S16 32) a x).toNat < S4112.size a)
theorem k0_idx136_inb : ∀ (v561 : IVec S16 32) (k0_hw107 : k0_chk107 v561), ∀ a x, ((![v561] : Fin 1 → IVec S16 32) a x).toNat < S4112.size a := fun v561 k0_hw107 => k0_hw107

def k0_chk108 (v569 : IVec S16 32) : Prop :=
  (∀ a x, ((![v569] : Fin 1 → IVec S16 32) a x).toNat < S1024.size a)
theorem k0_idx137_inb : ∀ (v569 : IVec S16 32) (k0_hw108 : k0_chk108 v569), ∀ a x, ((![v569] : Fin 1 → IVec S16 32) a x).toNat < S1024.size a := fun v569 k0_hw108 => k0_hw108

def k0_chk109 (v571 : IVec S16 32) : Prop :=
  (∀ a x, ((![v571] : Fin 1 → IVec S16 32) a x).toNat < S4112.size a)
theorem k0_idx138_inb : ∀ (v571 : IVec S16 32) (k0_hw109 : k0_chk109 v571), ∀ a x, ((![v571] : Fin 1 → IVec S16 32) a x).toNat < S4112.size a := fun v571 k0_hw109 => k0_hw109

def k0_chk110 (v579 : IVec S16 32) : Prop :=
  (∀ a x, ((![v579] : Fin 1 → IVec S16 32) a x).toNat < S1024.size a)
theorem k0_idx139_inb : ∀ (v579 : IVec S16 32) (k0_hw110 : k0_chk110 v579), ∀ a x, ((![v579] : Fin 1 → IVec S16 32) a x).toNat < S1024.size a := fun v579 k0_hw110 => k0_hw110
@[reducible] def k0_t27_loop : Scf.Loop 32 :=
  let c0_i32_240 : BitVec 32 := 0#32
  let c64_i32_241 : BitVec 32 := 64#32
  let v482 : BitVec 32 := Scalar.addi c0_i32_240 c64_i32_241
  let c1_i32_242 : BitVec 32 := 1#32
  ⟨c0_i32_240, v482, c1_i32_242⟩
def k0_off22 (k0_t27 : Fin k0_t27_loop.trips) : Fin 1 → Nat :=
  let c0_i32_240 : BitVec 32 := 0#32
  let c1_i32_242 : BitVec 32 := 1#32
  let arg22 : BitVec 32 := Scf.iv c0_i32_240 c1_i32_242 k0_t27
  let c16_i32_257 : BitVec 32 := 16#32
  let v540 : BitVec 32 := Scalar.muli arg22 c16_i32_257
  let v541 : Index := Scalar.indexCast v540
  ![v541.toNat]
@[reducible] def k0_t28_loop : Scf.Loop 32 :=
  let c0_i32_245 : BitVec 32 := 0#32
  let c64_i32_246 : BitVec 32 := 64#32
  let v484 : BitVec 32 := Scalar.addi c0_i32_245 c64_i32_246
  let c1_i32_247 : BitVec 32 := 1#32
  ⟨c0_i32_245, v484, c1_i32_247⟩

def k0_chk111 (v541 : IVec S16 32) : Prop :=
  (∀ a x, ((![v541] : Fin 1 → IVec S16 32) a x).toNat < S4112.size a)
theorem k0_idx140_inb : ∀ (v541 : IVec S16 32) (k0_hw111 : k0_chk111 v541), ∀ a x, ((![v541] : Fin 1 → IVec S16 32) a x).toNat < S4112.size a := fun v541 k0_hw111 => k0_hw111

def k0_chk113 (v550 : IVec S16 32) : Prop :=
  (∀ a x, ((![v550] : Fin 1 → IVec S16 32) a x).toNat < S4112.size a)
theorem k0_idx142_inb : ∀ (v550 : IVec S16 32) (k0_hw113 : k0_chk113 v550), ∀ a x, ((![v550] : Fin 1 → IVec S16 32) a x).toNat < S4112.size a := fun v550 k0_hw113 => k0_hw113

def k0_chk112 (v549 : IVec S16 32) : Prop :=
  (∀ a x, ((![v549] : Fin 1 → IVec S16 32) a x).toNat < S1024.size a) ∧
  (∀ a x, ((![v549] : Fin 1 → IVec S16 32) a x).toNat < S1024.size a)
theorem k0_idx141_inb : ∀ (v549 : IVec S16 32) (k0_hw112 : k0_chk112 v549), ∀ a x, ((![v549] : Fin 1 → IVec S16 32) a x).toNat < S1024.size a := fun v549 k0_hw112 => k0_hw112.1
theorem k0_idx143_inb : ∀ (v549 : IVec S16 32) (k0_hw112 : k0_chk112 v549), ∀ a x, ((![v549] : Fin 1 → IVec S16 32) a x).toNat < S1024.size a := fun v549 k0_hw112 => k0_hw112.2

def k0_chk114 (v554 : IVec S16 32) : Prop :=
  (∀ a x, ((![v554] : Fin 1 → IVec S16 32) a x).toNat < S4112.size a)
theorem k0_idx144_inb : ∀ (v554 : IVec S16 32) (k0_hw114 : k0_chk114 v554), ∀ a x, ((![v554] : Fin 1 → IVec S16 32) a x).toNat < S4112.size a := fun v554 k0_hw114 => k0_hw114

def k0_chk116 (v563 : IVec S16 32) : Prop :=
  (∀ a x, ((![v563] : Fin 1 → IVec S16 32) a x).toNat < S4112.size a)
theorem k0_idx146_inb : ∀ (v563 : IVec S16 32) (k0_hw116 : k0_chk116 v563), ∀ a x, ((![v563] : Fin 1 → IVec S16 32) a x).toNat < S4112.size a := fun v563 k0_hw116 => k0_hw116

def k0_chk115 (v562 : IVec S16 32) : Prop :=
  (∀ a x, ((![v562] : Fin 1 → IVec S16 32) a x).toNat < S1024.size a) ∧
  (∀ a x, ((![v562] : Fin 1 → IVec S16 32) a x).toNat < S1024.size a)
theorem k0_idx145_inb : ∀ (v562 : IVec S16 32) (k0_hw115 : k0_chk115 v562), ∀ a x, ((![v562] : Fin 1 → IVec S16 32) a x).toNat < S1024.size a := fun v562 k0_hw115 => k0_hw115.1
theorem k0_idx147_inb : ∀ (v562 : IVec S16 32) (k0_hw115 : k0_chk115 v562), ∀ a x, ((![v562] : Fin 1 → IVec S16 32) a x).toNat < S1024.size a := fun v562 k0_hw115 => k0_hw115.2

def k0_chk117 (v567 : IVec S16 32) : Prop :=
  (∀ a x, ((![v567] : Fin 1 → IVec S16 32) a x).toNat < S4112.size a)
theorem k0_idx148_inb : ∀ (v567 : IVec S16 32) (k0_hw117 : k0_chk117 v567), ∀ a x, ((![v567] : Fin 1 → IVec S16 32) a x).toNat < S4112.size a := fun v567 k0_hw117 => k0_hw117

def k0_chk119 (v576 : IVec S16 32) : Prop :=
  (∀ a x, ((![v576] : Fin 1 → IVec S16 32) a x).toNat < S4112.size a)
theorem k0_idx150_inb : ∀ (v576 : IVec S16 32) (k0_hw119 : k0_chk119 v576), ∀ a x, ((![v576] : Fin 1 → IVec S16 32) a x).toNat < S4112.size a := fun v576 k0_hw119 => k0_hw119

def k0_chk118 (v575 : IVec S16 32) : Prop :=
  (∀ a x, ((![v575] : Fin 1 → IVec S16 32) a x).toNat < S1024.size a) ∧
  (∀ a x, ((![v575] : Fin 1 → IVec S16 32) a x).toNat < S1024.size a)
theorem k0_idx149_inb : ∀ (v575 : IVec S16 32) (k0_hw118 : k0_chk118 v575), ∀ a x, ((![v575] : Fin 1 → IVec S16 32) a x).toNat < S1024.size a := fun v575 k0_hw118 => k0_hw118.1
theorem k0_idx151_inb : ∀ (v575 : IVec S16 32) (k0_hw118 : k0_chk118 v575), ∀ a x, ((![v575] : Fin 1 → IVec S16 32) a x).toNat < S1024.size a := fun v575 k0_hw118 => k0_hw118.2

def k0_chk120 (v580 : IVec S16 32) : Prop :=
  (∀ a x, ((![v580] : Fin 1 → IVec S16 32) a x).toNat < S4112.size a)
theorem k0_idx152_inb : ∀ (v580 : IVec S16 32) (k0_hw120 : k0_chk120 v580), ∀ a x, ((![v580] : Fin 1 → IVec S16 32) a x).toNat < S4112.size a := fun v580 k0_hw120 => k0_hw120

def k0_chk122 (v589 : IVec S16 32) : Prop :=
  (∀ a x, ((![v589] : Fin 1 → IVec S16 32) a x).toNat < S4112.size a)
theorem k0_idx154_inb : ∀ (v589 : IVec S16 32) (k0_hw122 : k0_chk122 v589), ∀ a x, ((![v589] : Fin 1 → IVec S16 32) a x).toNat < S4112.size a := fun v589 k0_hw122 => k0_hw122

def k0_chk121 (v588 : IVec S16 32) : Prop :=
  (∀ a x, ((![v588] : Fin 1 → IVec S16 32) a x).toNat < S1024.size a) ∧
  (∀ a x, ((![v588] : Fin 1 → IVec S16 32) a x).toNat < S1024.size a)
theorem k0_idx153_inb : ∀ (v588 : IVec S16 32) (k0_hw121 : k0_chk121 v588), ∀ a x, ((![v588] : Fin 1 → IVec S16 32) a x).toNat < S1024.size a := fun v588 k0_hw121 => k0_hw121.1
theorem k0_idx155_inb : ∀ (v588 : IVec S16 32) (k0_hw121 : k0_chk121 v588), ∀ a x, ((![v588] : Fin 1 → IVec S16 32) a x).toNat < S1024.size a := fun v588 k0_hw121 => k0_hw121.2
@[reducible] def k0_t29_loop : Scf.Loop 32 :=
  let c0_i32_251 : BitVec 32 := 0#32
  let c256_i32_252 : BitVec 32 := 256#32
  let v487 : BitVec 32 := Scalar.addi c0_i32_251 c256_i32_252
  let c1_i32_253 : BitVec 32 := 1#32
  ⟨c0_i32_251, v487, c1_i32_253⟩
def k0_off23 (k0_t29 : Fin k0_t29_loop.trips) : Fin 1 → Nat :=
  let c0_i32_251 : BitVec 32 := 0#32
  let c1_i32_253 : BitVec 32 := 1#32
  let arg22 : BitVec 32 := Scf.iv c0_i32_251 c1_i32_253 k0_t29
  let c16_i32_257 : BitVec 32 := 16#32
  let v540 : BitVec 32 := Scalar.muli arg22 c16_i32_257
  let v541 : Index := Scalar.indexCast v540
  ![v541.toNat]

def k0_chk123 (v544 : IVec S16 32) : Prop :=
  (∀ a x, ((![v544] : Fin 1 → IVec S16 32) a x).toNat < S4096.size a) ∧
  (∀ a x, ((![v544] : Fin 1 → IVec S16 32) a x).toNat < S4096.size a)
theorem k0_idx156_inb : ∀ (v544 : IVec S16 32) (k0_hw123 : k0_chk123 v544), ∀ a x, ((![v544] : Fin 1 → IVec S16 32) a x).toNat < S4096.size a := fun v544 k0_hw123 => k0_hw123.1
theorem k0_idx157_inb : ∀ (v544 : IVec S16 32) (k0_hw123 : k0_chk123 v544), ∀ a x, ((![v544] : Fin 1 → IVec S16 32) a x).toNat < S4096.size a := fun v544 k0_hw123 => k0_hw123.2

def k0_chk124 (v536 : IVec S16 32) : Prop :=
  (∀ a x, ((![v536] : Fin 1 → IVec S16 32) a x).toNat < S128.size a)
theorem k0_idx158_inb : ∀ (v536 : IVec S16 32) (k0_hw124 : k0_chk124 v536), ∀ a x, ((![v536] : Fin 1 → IVec S16 32) a x).toNat < S128.size a := fun v536 k0_hw124 => k0_hw124
def k0_off24 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S4096x2048x1 : Shape := ⟨3, ![4096, 2048, 1]⟩
abbrev S1 : Shape := ⟨1, ![1]⟩
abbrev S1x1x1 : Shape := ⟨3, ![1, 1, 1]⟩
abbrev S4096x4096 : Shape := ⟨2, ![4096, 4096]⟩
abbrev S4096x4097 : Shape := ⟨2, ![4096, 4097]⟩
abbrev S4096x1x2048 : Shape := ⟨3, ![4096, 1, 2048]⟩
abbrev S4096x4096x1 : Shape := ⟨3, ![4096, 4096, 1]⟩
abbrev S4096x4096x2048 : Shape := ⟨3, ![4096, 4096, 2048]⟩

abbrev nBuf : Space → Nat
  | .hbm => 203
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S_, .f32⟩
  | 5 => ⟨S4096, .f32⟩
  | 6 => ⟨S4096x1, .f32⟩
  | 7 => ⟨S4096x2048, .f32⟩
  | 8 => ⟨S4096x2048, .f32⟩
  | 9 => ⟨S_, .f32⟩
  | 10 => ⟨S4096, .f32⟩
  | 11 => ⟨S4096x1, .f32⟩
  | 12 => ⟨S4096x2048, .f32⟩
  | 13 => ⟨S4096x2048, .f32⟩
  | 14 => ⟨S4096x2048, .i32⟩
  | 15 => ⟨S4096x2048, .f32⟩
  | 16 => ⟨S4096x2048, .i32⟩
  | 17 => ⟨S_, .i32⟩
  | 18 => ⟨S4096x2048, .i32⟩
  | 19 => ⟨S4096x2048, .i1⟩
  | 20 => ⟨S_, .i32⟩
  | 21 => ⟨S4096x2048, .i32⟩
  | 22 => ⟨S4096x2048, .i32⟩
  | 23 => ⟨S4096x2048, .i32⟩
  | 24 => ⟨S4096x2048x1, .i32⟩
  | 25 => ⟨S1, .i32⟩
  | 26 => ⟨S_, .i32⟩
  | 27 => ⟨S4096x2048x1, .i32⟩
  | 28 => ⟨S4096x2048x1, .i1⟩
  | 29 => ⟨S1x1x1, .i32⟩
  | 30 => ⟨S4096x2048x1, .i32⟩
  | 31 => ⟨S4096x2048x1, .i1⟩
  | 32 => ⟨S4096x2048x1, .i1⟩
  | 33 => ⟨S_, .i1⟩
  | 34 => ⟨S4096x2048, .i1⟩
  | 35 => ⟨S4096x2048, .f32⟩
  | 36 => ⟨S_, .f32⟩
  | 37 => ⟨S4096x2048, .f32⟩
  | 38 => ⟨S4096x2048, .f32⟩
  | 39 => ⟨S_, .i32⟩
  | 40 => ⟨S4096x2048, .i32⟩
  | 41 => ⟨S4096x2048, .i1⟩
  | 42 => ⟨S_, .i32⟩
  | 43 => ⟨S4096x2048, .i32⟩
  | 44 => ⟨S4096x2048, .i32⟩
  | 45 => ⟨S4096x2048, .i32⟩
  | 46 => ⟨S4096x2048x1, .i32⟩
  | 47 => ⟨S1, .i32⟩
  | 48 => ⟨S_, .i32⟩
  | 49 => ⟨S4096x2048x1, .i32⟩
  | 50 => ⟨S4096x2048x1, .i1⟩
  | 51 => ⟨S1x1x1, .i32⟩
  | 52 => ⟨S4096x2048x1, .i32⟩
  | 53 => ⟨S4096x2048x1, .i1⟩
  | 54 => ⟨S4096x2048x1, .i1⟩
  | 55 => ⟨S_, .i1⟩
  | 56 => ⟨S4096x2048, .i1⟩
  | 57 => ⟨S4096x2048, .f32⟩
  | 58 => ⟨S_, .f32⟩
  | 59 => ⟨S4096x2048, .f32⟩
  | 60 => ⟨S4096x2048, .f32⟩
  | 61 => ⟨S4096x2048, .i32⟩
  | 62 => ⟨S4096x2048, .f32⟩
  | 63 => ⟨S4096x2048, .i32⟩
  | 64 => ⟨S_, .i32⟩
  | 65 => ⟨S4096x2048, .i32⟩
  | 66 => ⟨S4096x2048, .i1⟩
  | 67 => ⟨S_, .i32⟩
  | 68 => ⟨S4096x2048, .i32⟩
  | 69 => ⟨S4096x2048, .i32⟩
  | 70 => ⟨S4096x2048, .i32⟩
  | 71 => ⟨S4096x2048x1, .i32⟩
  | 72 => ⟨S1, .i32⟩
  | 73 => ⟨S_, .i32⟩
  | 74 => ⟨S4096x2048x1, .i32⟩
  | 75 => ⟨S4096x2048x1, .i1⟩
  | 76 => ⟨S1x1x1, .i32⟩
  | 77 => ⟨S4096x2048x1, .i32⟩
  | 78 => ⟨S4096x2048x1, .i1⟩
  | 79 => ⟨S4096x2048x1, .i1⟩
  | 80 => ⟨S_, .i1⟩
  | 81 => ⟨S4096x2048, .i1⟩
  | 82 => ⟨S4096x2048, .f32⟩
  | 83 => ⟨S_, .f32⟩
  | 84 => ⟨S4096x2048, .f32⟩
  | 85 => ⟨S4096x2048, .f32⟩
  | 86 => ⟨S_, .i32⟩
  | 87 => ⟨S4096x2048, .i32⟩
  | 88 => ⟨S4096x2048, .i1⟩
  | 89 => ⟨S_, .i32⟩
  | 90 => ⟨S4096x2048, .i32⟩
  | 91 => ⟨S4096x2048, .i32⟩
  | 92 => ⟨S4096x2048, .i32⟩
  | 93 => ⟨S4096x2048x1, .i32⟩
  | 94 => ⟨S1, .i32⟩
  | 95 => ⟨S_, .i32⟩
  | 96 => ⟨S4096x2048x1, .i32⟩
  | 97 => ⟨S4096x2048x1, .i1⟩
  | 98 => ⟨S1x1x1, .i32⟩
  | 99 => ⟨S4096x2048x1, .i32⟩
  | 100 => ⟨S4096x2048x1, .i1⟩
  | 101 => ⟨S4096x2048x1, .i1⟩
  | 102 => ⟨S_, .i1⟩
  | 103 => ⟨S4096x2048, .i1⟩
  | 104 => ⟨S4096x2048, .f32⟩
  | 105 => ⟨S_, .f32⟩
  | 106 => ⟨S4096x2048, .f32⟩
  | 107 => ⟨S4096x2048, .f32⟩
  | 108 => ⟨S_, .f32⟩
  | 109 => ⟨S_, .f32⟩
  | 110 => ⟨S4096x2048, .f32⟩
  | 111 => ⟨S_, .f32⟩
  | 112 => ⟨S_, .f32⟩
  | 113 => ⟨S4096x2048, .f32⟩
  | 114 => ⟨S4096x4096, .f32⟩
  | 115 => ⟨S4096x4096, .f32⟩
  | 116 => ⟨S_, .i32⟩
  | 117 => ⟨S_, .f32⟩
  | 118 => ⟨S4096x4097, .f32⟩
  | 119 => ⟨S4096x4096, .f32⟩
  | 120 => ⟨S4096x4096, .f32⟩
  | 121 => ⟨S4096x4096, .f32⟩
  | 122 => ⟨S4096x1x2048, .f32⟩
  | 123 => ⟨S4096x4096x1, .f32⟩
  | 124 => ⟨S4096x4096x2048, .f32⟩
  | 125 => ⟨S4096x4096x2048, .f32⟩
  | 126 => ⟨S4096x4096x2048, .i1⟩
  | 127 => ⟨S4096x4096x2048, .i32⟩
  | _ => ⟨S4096x2048, .f32⟩

abbrev hbmTy0_1 (i : Nat) : BufTy := match i % 128 with
  | 0 => ⟨S_, .i32⟩
  | 1 => ⟨S4096x4096, .i32⟩
  | 2 => ⟨S_, .i32⟩
  | 3 => ⟨S_, .i32⟩
  | 4 => ⟨S_, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S_, .i32⟩
  | 11 => ⟨S4096x4096, .i32⟩
  | 12 => ⟨S4096x4096, .i1⟩
  | 13 => ⟨S_, .i32⟩
  | 14 => ⟨S4096x4096, .i32⟩
  | 15 => ⟨S4096x4096, .i32⟩
  | 16 => ⟨S4096x4096, .i32⟩
  | 17 => ⟨S4096x4096x1, .i32⟩
  | 18 => ⟨S1, .i32⟩
  | 19 => ⟨S_, .i32⟩
  | 20 => ⟨S4096x4096x1, .i32⟩
  | 21 => ⟨S4096x4096x1, .i1⟩
  | 22 => ⟨S1x1x1, .i32⟩
  | 23 => ⟨S4096x4096x1, .i32⟩
  | 24 => ⟨S4096x4096x1, .i1⟩
  | 25 => ⟨S4096x4096x1, .i1⟩
  | 26 => ⟨S_, .i1⟩
  | 27 => ⟨S4096x4096, .i1⟩
  | 28 => ⟨S4096x4096, .f32⟩
  | 29 => ⟨S_, .f32⟩
  | 30 => ⟨S4096x4096, .f32⟩
  | 31 => ⟨S4096x4096, .f32⟩
  | 32 => ⟨S4096x1x2048, .f32⟩
  | 33 => ⟨S4096x4096x1, .f32⟩
  | 34 => ⟨S4096x4096x2048, .f32⟩
  | 35 => ⟨S4096x4096x2048, .f32⟩
  | 36 => ⟨S4096x4096x2048, .i1⟩
  | 37 => ⟨S4096x4096x2048, .i32⟩
  | 38 => ⟨S_, .i32⟩
  | 39 => ⟨S4096x4096, .i32⟩
  | 40 => ⟨S_, .i32⟩
  | 41 => ⟨S_, .i32⟩
  | 42 => ⟨S_, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S_, .i32⟩
  | 49 => ⟨S4096x4096, .i32⟩
  | 50 => ⟨S4096x4096, .i1⟩
  | 51 => ⟨S_, .i32⟩
  | 52 => ⟨S4096x4096, .i32⟩
  | 53 => ⟨S4096x4096, .i32⟩
  | 54 => ⟨S4096x4096, .i32⟩
  | 55 => ⟨S4096x4096x1, .i32⟩
  | 56 => ⟨S1, .i32⟩
  | 57 => ⟨S_, .i32⟩
  | 58 => ⟨S4096x4096x1, .i32⟩
  | 59 => ⟨S4096x4096x1, .i1⟩
  | 60 => ⟨S1x1x1, .i32⟩
  | 61 => ⟨S4096x4096x1, .i32⟩
  | 62 => ⟨S4096x4096x1, .i1⟩
  | 63 => ⟨S4096x4096x1, .i1⟩
  | 64 => ⟨S_, .i1⟩
  | 65 => ⟨S4096x4096, .i1⟩
  | 66 => ⟨S4096x4096, .f32⟩
  | 67 => ⟨S_, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S_, .f32⟩
  | 74 => ⟨S4096, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1_0 : Ref sig .tc := ⟨.hbm, 15, rfl⟩
abbrev main_v8 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v9 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v10 : Ref sig .tc := ⟨.hbm, 60, rfl⟩
abbrev main_call3_v0 : Ref sig .tc := ⟨.hbm, 61, rfl⟩
abbrev main_call3_v1_0 : Ref sig .tc := ⟨.hbm, 62, rfl⟩
abbrev main_v11 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_call4_c_0 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_c_1 : Ref sig .tc := ⟨.hbm, 72, rfl⟩
abbrev main_call4_c_2 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_c_3 : Ref sig .tc := ⟨.hbm, 80, rfl⟩
abbrev main_call4_v12 : Ref sig .tc := ⟨.hbm, 81, rfl⟩
abbrev main_call4_v13 : Ref sig .tc := ⟨.hbm, 82, rfl⟩
abbrev main_call4_cst : Ref sig .tc := ⟨.hbm, 83, rfl⟩
abbrev main_call4_v14 : Ref sig .tc := ⟨.hbm, 84, rfl⟩
abbrev main_v12 : Ref sig .tc := ⟨.hbm, 85, rfl⟩
abbrev main_call5_c : Ref sig .tc := ⟨.hbm, 86, rfl⟩
abbrev main_call5_v0 : Ref sig .tc := ⟨.hbm, 87, rfl⟩
abbrev main_call5_v1 : Ref sig .tc := ⟨.hbm, 88, rfl⟩
abbrev main_call5_c_0 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_c_1 : Ref sig .tc := ⟨.hbm, 94, rfl⟩
abbrev main_call5_c_2 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_v11 : Ref sig .tc := ⟨.hbm, 101, rfl⟩
abbrev main_call5_c_3 : Ref sig .tc := ⟨.hbm, 102, rfl⟩
abbrev main_call5_v12 : Ref sig .tc := ⟨.hbm, 103, rfl⟩
abbrev main_call5_v13 : Ref sig .tc := ⟨.hbm, 104, rfl⟩
abbrev main_call5_cst : Ref sig .tc := ⟨.hbm, 105, rfl⟩
abbrev main_call5_v14 : Ref sig .tc := ⟨.hbm, 106, rfl⟩
abbrev main_v13 : Ref sig .tc := ⟨.hbm, 107, rfl⟩
abbrev main_call6_call0_cst : Ref sig .tc := ⟨.hbm, 108, rfl⟩
abbrev main_call6_call0_v0 : Ref sig .tc := ⟨.hbm, 109, rfl⟩
abbrev main_v14 : Ref sig .tc := ⟨.hbm, 110, rfl⟩
abbrev main_call7_call0_cst : Ref sig .tc := ⟨.hbm, 111, rfl⟩
abbrev main_call7_call0_v0 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_c : Ref sig .tc := ⟨.hbm, 116, rfl⟩
abbrev main_call9_v0 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_c_1 : Ref sig .tc := ⟨.hbm, 128, rfl⟩
abbrev main_v28 : Ref sig .tc := ⟨.hbm, 129, rfl⟩
abbrev main_c_2 : Ref sig .tc := ⟨.hbm, 130, rfl⟩
abbrev main_c_3 : Ref sig .tc := ⟨.hbm, 131, rfl⟩
abbrev main_call10_v0 : Ref sig .tc := ⟨.hbm, 132, rfl⟩
abbrev main_call10_v1 : Ref sig .tc := ⟨.hbm, 133, rfl⟩
abbrev main_call10_v2 : Ref sig .tc := ⟨.hbm, 134, rfl⟩
abbrev main_call10_v3 : Ref sig .tc := ⟨.hbm, 135, rfl⟩
abbrev main_call10_v4 : Ref sig .tc := ⟨.hbm, 136, rfl⟩
abbrev main_v29 : Ref sig .tc := ⟨.hbm, 137, rfl⟩
abbrev main_call11_c : Ref sig .tc := ⟨.hbm, 138, rfl⟩
abbrev main_call11_v0 : Ref sig .tc := ⟨.hbm, 139, rfl⟩
abbrev main_call11_v1 : Ref sig .tc := ⟨.hbm, 140, rfl⟩
abbrev main_call11_c_0 : Ref sig .tc := ⟨.hbm, 141, rfl⟩
abbrev main_call11_v2 : Ref sig .tc := ⟨.hbm, 142, rfl⟩
abbrev main_call11_v3 : Ref sig .tc := ⟨.hbm, 143, rfl⟩
abbrev main_call11_v4 : Ref sig .tc := ⟨.hbm, 144, rfl⟩
abbrev main_call11_v5 : Ref sig .tc := ⟨.hbm, 145, rfl⟩
abbrev main_call11_c_1 : Ref sig .tc := ⟨.hbm, 146, rfl⟩
abbrev main_call11_c_2 : Ref sig .tc := ⟨.hbm, 147, rfl⟩
abbrev main_call11_v6 : Ref sig .tc := ⟨.hbm, 148, rfl⟩
abbrev main_call11_v7 : Ref sig .tc := ⟨.hbm, 149, rfl⟩
abbrev main_call11_v8 : Ref sig .tc := ⟨.hbm, 150, rfl⟩
abbrev main_call11_v9 : Ref sig .tc := ⟨.hbm, 151, rfl⟩
abbrev main_call11_v10 : Ref sig .tc := ⟨.hbm, 152, rfl⟩
abbrev main_call11_v11 : Ref sig .tc := ⟨.hbm, 153, rfl⟩
abbrev main_call11_c_3 : Ref sig .tc := ⟨.hbm, 154, rfl⟩
abbrev main_call11_v12 : Ref sig .tc := ⟨.hbm, 155, rfl⟩
abbrev main_call11_v13 : Ref sig .tc := ⟨.hbm, 156, rfl⟩
abbrev main_call11_cst : Ref sig .tc := ⟨.hbm, 157, rfl⟩
abbrev main_call11_v14 : Ref sig .tc := ⟨.hbm, 158, rfl⟩
abbrev main_v30 : Ref sig .tc := ⟨.hbm, 159, rfl⟩
abbrev main_v31 : Ref sig .tc := ⟨.hbm, 160, rfl⟩
abbrev main_v32 : Ref sig .tc := ⟨.hbm, 161, rfl⟩
abbrev main_v33 : Ref sig .tc := ⟨.hbm, 162, rfl⟩
abbrev main_v34 : Ref sig .tc := ⟨.hbm, 163, rfl⟩
abbrev main_v35 : Ref sig .tc := ⟨.hbm, 164, rfl⟩
abbrev main_v36 : Ref sig .tc := ⟨.hbm, 165, rfl⟩
abbrev main_c_4 : Ref sig .tc := ⟨.hbm, 166, rfl⟩
abbrev main_v37 : Ref sig .tc := ⟨.hbm, 167, rfl⟩
abbrev main_c_5 : Ref sig .tc := ⟨.hbm, 168, rfl⟩
abbrev main_c_6 : Ref sig .tc := ⟨.hbm, 169, rfl⟩
abbrev main_call12_v0 : Ref sig .tc := ⟨.hbm, 170, rfl⟩
abbrev main_call12_v1 : Ref sig .tc := ⟨.hbm, 171, rfl⟩
abbrev main_call12_v2 : Ref sig .tc := ⟨.hbm, 172, rfl⟩
abbrev main_call12_v3 : Ref sig .tc := ⟨.hbm, 173, rfl⟩
abbrev main_call12_v4 : Ref sig .tc := ⟨.hbm, 174, rfl⟩
abbrev main_v38 : Ref sig .tc := ⟨.hbm, 175, rfl⟩
abbrev main_call13_c : Ref sig .tc := ⟨.hbm, 176, rfl⟩
abbrev main_call13_v0 : Ref sig .tc := ⟨.hbm, 177, rfl⟩
abbrev main_call13_v1 : Ref sig .tc := ⟨.hbm, 178, rfl⟩
abbrev main_call13_c_0 : Ref sig .tc := ⟨.hbm, 179, rfl⟩
abbrev main_call13_v2 : Ref sig .tc := ⟨.hbm, 180, rfl⟩
abbrev main_call13_v3 : Ref sig .tc := ⟨.hbm, 181, rfl⟩
abbrev main_call13_v4 : Ref sig .tc := ⟨.hbm, 182, rfl⟩
abbrev main_call13_v5 : Ref sig .tc := ⟨.hbm, 183, rfl⟩
abbrev main_call13_c_1 : Ref sig .tc := ⟨.hbm, 184, rfl⟩
abbrev main_call13_c_2 : Ref sig .tc := ⟨.hbm, 185, rfl⟩
abbrev main_call13_v6 : Ref sig .tc := ⟨.hbm, 186, rfl⟩
abbrev main_call13_v7 : Ref sig .tc := ⟨.hbm, 187, rfl⟩
abbrev main_call13_v8 : Ref sig .tc := ⟨.hbm, 188, rfl⟩
abbrev main_call13_v9 : Ref sig .tc := ⟨.hbm, 189, rfl⟩
abbrev main_call13_v10 : Ref sig .tc := ⟨.hbm, 190, rfl⟩
abbrev main_call13_v11 : Ref sig .tc := ⟨.hbm, 191, rfl⟩
abbrev main_call13_c_3 : Ref sig .tc := ⟨.hbm, 192, rfl⟩
abbrev main_call13_v12 : Ref sig .tc := ⟨.hbm, 193, rfl⟩
abbrev main_call13_v13 : Ref sig .tc := ⟨.hbm, 194, rfl⟩
abbrev main_call13_cst : Ref sig .tc := ⟨.hbm, 195, rfl⟩
abbrev main_call13_v14 : Ref sig .tc := ⟨.hbm, 196, rfl⟩
abbrev main_v39 : Ref sig .tc := ⟨.hbm, 197, rfl⟩
abbrev main_v40 : Ref sig .tc := ⟨.hbm, 198, rfl⟩
abbrev main_v41 : Ref sig .tc := ⟨.hbm, 199, rfl⟩
abbrev main_v42 : Ref sig .tc := ⟨.hbm, 200, rfl⟩
abbrev main_cst_7 : Ref sig .tc := ⟨.hbm, 201, rfl⟩
abbrev main_v43 : Ref sig .tc := ⟨.hbm, 202, rfl⟩

abbrev nD : Nat := 1
abbrev τ : Topo := Topo.v7x

variable {F : FTy → Type} [FloatOps F]
-- ==== Proof.Body.lean ====
/-
  The kernel's body once more, in terms of the few sweeps it is made of. The printed text is one long sequence in which
  each sweep appears several times over (four streams a trip, three passes a row, two rows a trip of the outer loop).
  Here every sweep is one definition over the buffers it reads and writes, `rowProg` is what the body does with one row,
  and the printed loops are shown to be these sweeps by unfolding.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.W1

open Cert.KernelIdeal Cert.KernelIdeal.Gen
open Idealize.ShloMosaic Idealize.SL.Sem

variable {F : FTy → Type} [FloatOps F]

/-- Programs of tile `i`. -/
abbrev Pg (F : FTy → Type) (i : grid0.Coords) (α : Type) : Type 1 :=
  Prog (TpuEff nD τ sig (Elt F) Λ₀ (.scVector ((i 0).castLE hcore0) ((i 1).castLE hsub0))) α

/-- Every word of `v` is below `n`. -/
def Ck (n : Nat) (v : IVec S16 32) : Prop :=
  ∀ a x, ((![v] : Fin 1 → IVec S16 32) a x).toNat < (![n] : Fin 1 → Nat) a
instance Ck.dec : ∀ n v, Decidable (Ck n v) := fun n v => decidable_of_iff' _ (Iff.of_eq (Ck.eq_1 n v))
/-- Every word of `v` is below `n` and below `n'`. -/
def Ck2 (n n' : Nat) (v : IVec S16 32) : Prop :=
  (∀ a x, ((![v] : Fin 1 → IVec S16 32) a x).toNat < (![n] : Fin 1 → Nat) a) ∧
  (∀ a x, ((![v] : Fin 1 → IVec S16 32) a x).toNat < (![n'] : Fin 1 → Nat) a)
instance Ck2.dec : ∀ n n' v, Decidable (Ck2 n n' v) := fun n n' v => decidable_of_iff' _ (Iff.of_eq (Ck2.eq_1 n n' v))

/-- The positions of a stream's column `v`: lane by lane, its first position plus `v`. -/
def colAt (g : IVec S16 32) (v : BitVec 32) : IVec S16 32 := addi g (broadcast S16 v)
/-- The histogram slots of sixteen words: the digit, times sixteen, plus the lane. -/
def slotOf (v3 d : IVec S16 32) : IVec S16 32 := addi (muli (andi d (broadcast S16 63#32)) (broadcast S16 16#32)) v3
def digAt (v3 : IVec S16 32) (sh : BitVec 32) (p : IVec S16 32) : IVec S16 32 := slotOf v3 (shrui p (broadcast S16 sh))
/-- The quantised positions. -/
def quant (pos : FVec F S16 .f32) : IVec S16 32 :=
  minsi (fptosi 32 (mulf pos (broadcast S16 (Scalar.ofBits .f32 0x48800000#32 : F .f32)))) (broadcast S16 262143#32)
/-- The sorted words: the quantised position above the index. -/
def packed (gi : IVec S16 32) (pos : FVec F S16 .f32) : IVec S16 32 := addi (muli (quant pos) (broadcast S16 4096#32)) gi

abbrev MemI (s : Shape) := Memref sig .scVector .vmem s .i32
abbrev MemF (s : Shape) := Memref sig .scVector .vmem s .f32

abbrev loadHist (i : grid0.Coords) (h : MemI S1024) (t : Fin k0_t5_loop.trips) : Pg F i (Vec F S16 .i32) :=
  Prog.lift (.load h (Rect.unit (s := S1024) (k0_off7 t) S16.size (k0_off7_inb t)).toLoadRect (View.loadsAt_vmem h_S16))
abbrev storeHist (i : grid0.Coords) (h : MemI S1024) (t : Fin k0_t5_loop.trips) (v : Vec F S16 .i32) : Pg F i PUnit :=
  Prog.lift (.store h (Rect.unit (s := S1024) (k0_off7 t) S16.size (k0_off7_inb t)) v Finset.univ (View.stores_vmem_bits_univ h_S16 rfl) (.inl rfl))

/-! ## The sweeps -/

def zeroOne (i : grid0.Coords) (h : MemI S1024) (t : Fin k0_t5_loop.trips) : Pg F i PUnit := do
  let _x ← loadHist i h t
  storeHist i h t (broadcast S16 0#32)

def zeroTrip (i : grid0.Coords) (h0 h1 h2 h3 : MemI S1024) (t : Fin k0_t5_loop.trips) : Pg F i (BitVec 32) := do
  zeroOne i h0 t
  zeroOne i h1 t
  zeroOne i h2 t
  zeroOne i h3 t
  pure 0#32

def total (v : IVec S16 32) : BitVec 32 := extractAt ![15] (scan .sum v) inpos_S16_p15
def offs (base : BitVec 32) (v : IVec S16 32) : IVec S16 32 := addi (broadcast S16 base) (subi (scan .sum v) v)

def scanTrip (i : grid0.Coords) (h0 h1 h2 h3 : MemI S1024) (t : Fin k0_t5_loop.trips) (b : BitVec 32) : Pg F i (BitVec 32) := do
  let a0 ← loadHist i h0 t
  let a1 ← loadHist i h1 t
  let a2 ← loadHist i h2 t
  let a3 ← loadHist i h3 t
  let _x ← loadHist i h0 t
  storeHist i h0 t (offs b a0)
  let _x ← loadHist i h1 t
  storeHist i h1 t (offs (Scalar.addi b (total a0)) a1)
  let _x ← loadHist i h2 t
  storeHist i h2 t (offs (Scalar.addi (Scalar.addi b (total a0)) (total a1)) a2)
  let _x ← loadHist i h3 t
  storeHist i h3 t (offs (Scalar.addi (Scalar.addi (Scalar.addi b (total a0)) (total a1)) (total a2)) a3)
  pure (Scalar.addi (Scalar.addi (Scalar.addi (Scalar.addi b (total a0)) (total a1)) (total a2)) (total a3))

def buildOne (i : grid0.Coords) (pb : MemF S4096) (dst : MemI S4112) (h : MemI S1024) (v3 v4 g : IVec S16 32) (v : BitVec 32) : Pg F i PUnit := do
  have hc : Ck2 4096 4112 (colAt g v) := (← Prog.lift (TpuEff.assume (Ck2 4096 4112 (colAt g v)) (Ck2.dec _ _ _))).down
  let p : Vec F S16 .f32 ← SparseCore.vectorLoadIdx pb ![colAt g v] hc.1 (View.loads_vmem h_S4096)
  SparseCore.vectorStoreIdx dst ![colAt g v] (packed (colAt g v) p) (fun _ => 1#1) false hc.2 (View.stores_vmem_bits_univ h_S4112 rfl)
  have hd : Ck 1024 (slotOf v3 (quant p)) := (← Prog.lift (TpuEff.assume (Ck 1024 (slotOf v3 (quant p))) (Ck.dec _ _))).down
  SparseCore.vectorStoreIdx h ![slotOf v3 (quant p)] v4 (fun _ => 1#1) true hd (View.stores_vmem_bits_univ h_S1024 rfl)

def buildTrip (i : grid0.Coords) (pb : MemF S4096) (dst : MemI S4112) (h0 h1 h2 h3 : MemI S1024) (v3 v4 g0 g1 g2 g3 : IVec S16 32)
    (t : Fin k0_t4_loop.trips) : Pg F i (BitVec 32) := do
  buildOne i pb dst h0 v3 v4 g0 (Scf.iv 0#32 1#32 t)
  buildOne i pb dst h1 v3 v4 g1 (Scf.iv 0#32 1#32 t)
  buildOne i pb dst h2 v3 v4 g2 (Scf.iv 0#32 1#32 t)
  buildOne i pb dst h3 v3 v4 g3 (Scf.iv 0#32 1#32 t)
  pure 0#32

def histOne (i : grid0.Coords) (src : MemI S4112) (h : MemI S1024) (sh : BitVec 32) (v3 v4 g : IVec S16 32) (v : BitVec 32) : Pg F i PUnit := do
  have hc : Ck 4112 (colAt g v) := (← Prog.lift (TpuEff.assume (Ck 4112 (colAt g v)) (Ck.dec _ _))).down
  let p : Vec F S16 .i32 ← SparseCore.vectorLoadIdx src ![colAt g v] hc (View.loads_vmem h_S4112)
  have hd : Ck 1024 (digAt v3 sh p) := (← Prog.lift (TpuEff.assume (Ck 1024 (digAt v3 sh p)) (Ck.dec _ _))).down
  SparseCore.vectorStoreIdx h ![digAt v3 sh p] v4 (fun _ => 1#1) true hd (View.stores_vmem_bits_univ h_S1024 rfl)

def histTrip (i : grid0.Coords) (src : MemI S4112) (h0 h1 h2 h3 : MemI S1024) (sh : BitVec 32) (v3 v4 g0 g1 g2 g3 : IVec S16 32)
    (t : Fin k0_t8_loop.trips) : Pg F i (BitVec 32) := do
  histOne i src h0 sh v3 v4 g0 (Scf.iv 0#32 1#32 t)
  histOne i src h1 sh v3 v4 g1 (Scf.iv 0#32 1#32 t)
  histOne i src h2 sh v3 v4 g2 (Scf.iv 0#32 1#32 t)
  histOne i src h3 sh v3 v4 g3 (Scf.iv 0#32 1#32 t)
  pure 0#32

def permOne (i : grid0.Coords) (src dst : MemI S4112) (h : MemI S1024) (sh : BitVec 32) (v3 g : IVec S16 32) (v : BitVec 32) : Pg F i PUnit := do
  have hc : Ck 4112 (colAt g v) := (← Prog.lift (TpuEff.assume (Ck 4112 (colAt g v)) (Ck.dec _ _))).down
  let p : Vec F S16 .i32 ← SparseCore.vectorLoadIdx src ![colAt g v] hc (View.loads_vmem h_S4112)
  have hd : Ck2 1024 1024 (digAt v3 sh p) := (← Prog.lift (TpuEff.assume (Ck2 1024 1024 (digAt v3 sh p)) (Ck2.dec _ _ _))).down
  let o : Vec F S16 .i32 ← SparseCore.vectorLoadIdx h ![digAt v3 sh p] hd.1 (View.loads_vmem h_S1024)
  have ho : Ck 4112 o := (← Prog.lift (TpuEff.assume (Ck 4112 o) (Ck.dec _ _))).down
  SparseCore.vectorStoreIdx dst ![o] p (fun _ => 1#1) false ho (View.stores_vmem_bits_univ h_S4112 rfl)
  SparseCore.vectorStoreIdx h ![digAt v3 sh p] (addi o (broadcast S16 1#32)) (fun _ => 1#1) false hd.2 (View.stores_vmem_bits_univ h_S1024 rfl)

def permTrip (i : grid0.Coords) (src dst : MemI S4112) (h0 h1 h2 h3 : MemI S1024) (sh : BitVec 32) (v3 g0 g1 g2 g3 : IVec S16 32)
    (t : Fin k0_t6_loop.trips) : Pg F i (BitVec 32) := do
  permOne i src dst h0 sh v3 g0 (Scf.iv 0#32 1#32 t)
  permOne i src dst h1 sh v3 g1 (Scf.iv 0#32 1#32 t)
  permOne i src dst h2 sh v3 g2 (Scf.iv 0#32 1#32 t)
  permOne i src dst h3 sh v3 g3 (Scf.iv 0#32 1#32 t)
  pure 0#32

/-! ## The float sweeps -/

theorem slices16 (j : Nat) (h : j < 16) : S16.Slices ![j] S1 :=
  ⟨rfl, fun a => by
    have h0 : a = 0 := Subsingleton.elim (α := Fin 1) a 0
    subst h0; show j + 1 ≤ 16; omega⟩
/-- Lane `j` of a vector. -/
def lane {e : EltTy} (v : Vec F S16 e) (j : Nat) (h : j < 16) : Elt F e := extractAt ![0] (extractStridedSlice S1 ![j] v (slices16 j h)) inpos_S1_p0
/-- The sum of the first `n + 1` lanes, from the left. -/
def laneSumTo (v : FVec F S16 .f32) : (n : Nat) → n < 16 → F .f32
  | 0, h => lane (F := F) (e := .f32) v 0 h
  | n + 1, h => Scalar.addf (laneSumTo v n (Nat.lt_of_succ_lt h)) (lane (F := F) (e := .f32) v (n + 1) h)
def laneSum (v : FVec F S16 .f32) : F .f32 := laneSumTo v 15 (by omega)
/-- The inclusive prefix sums of the first `n` lanes. -/
def prefTo (v3 : IVec S16 32) (w : FVec F S16 .f32) : (n : Nat) → n ≤ 16 → FVec F S16 .f32
  | 0, _ => broadcast S16 (Scalar.ofBits .f32 0x00000000#32 : F .f32)
  | n + 1, h => addf (prefTo v3 w n (Nat.le_of_succ_le h))
      (select (cmpi .sge v3 (broadcast S16 (BitVec.ofNat 32 n))) (broadcast S16 (lane (F := F) (e := .f32) w n h)) (broadcast S16 (Scalar.ofBits .f32 0x00000000#32 : F .f32)))
/-- The lanes moved up by one, from the first `n + 1` lanes. -/
def shiftTo (v3 : IVec S16 32) (g : FVec F S16 .f32) : (n : Nat) → n < 16 → FVec F S16 .f32
  | 0, h => broadcast S16 (lane (F := F) (e := .f32) g 0 h)
  | n + 1, h => select (cmpi .sgt v3 (broadcast S16 (BitVec.ofNat 32 (n + 1)))) (broadcast S16 (lane (F := F) (e := .f32) g (n + 1) h)) (shiftTo v3 g n (Nat.lt_of_succ_lt h))

def sumTrip (i : grid0.Coords) (wb : MemF S4096) (t : Fin k0_t2_loop.trips) (a : FVec F S16 .f32 × FVec F S16 .f32) :
    Pg F i (FVec F S16 .f32 × FVec F S16 .f32) := do
  let u : Vec F S16 .f32 ← Prog.lift (.load wb (Rect.unit (s := S4096) (k0_off4 t) S16.size (k0_off4_inb t)).toLoadRect (View.loadsAt_vmem h_S16))
  let v : Vec F S16 .f32 ← Prog.lift (.load wb (Rect.unit (s := S4096) (k0_off5 t) S16.size (k0_off5_inb t)).toLoadRect (View.loadsAt_vmem h_S16))
  pure (addf a.1 u, addf a.2 v)

/-- The index part of sorted words. -/
def idxOf (p : IVec S16 32) : IVec S16 32 := andi p (broadcast S16 4095#32)
/-- The signed weights at sixteen sorted places. -/
def wgt (gx gy : FVec F S16 .f32) (i0 : IVec S16 32) (w : FVec F S16 .f32) : FVec F S16 .f32 :=
  mulf w (select (cmpi .slt i0 (broadcast S16 2048#32)) gx gy)
def finG (v3 : IVec S16 32) (c : F .f32) (w : FVec F S16 .f32) : FVec F S16 .f32 :=
  absf (addf (broadcast S16 c) (prefTo v3 w 16 (le_refl _)))
def finAcc (v3 : IVec S16 32) (c : F .f32) (acc w pos : FVec F S16 .f32) : FVec F S16 .f32 :=
  addf acc (mulf pos (subf (select (cmpi .eq v3 (broadcast S16 0#32)) (absf (broadcast S16 c)) (shiftTo v3 (finG v3 c w) 14 (by omega))) (finG v3 c w)))

def finTrip (i : grid0.Coords) (wb pb : MemF S4096) (src : MemI S4112) (v3 : IVec S16 32) (gx gy : FVec F S16 .f32)
    (t : Fin k0_t15_loop.trips) (a : F .f32 × FVec F S16 .f32) : Pg F i (F .f32 × FVec F S16 .f32) := do
  let p : Vec F S16 .i32 ← Prog.lift (.load src (Rect.unit (s := S4112) (k0_off12 t) S16.size (k0_off12_inb t)).toLoadRect (View.loadsAt_vmem h_S16))
  have hc : Ck2 4096 4096 (idxOf p) := (← Prog.lift (TpuEff.assume (Ck2 4096 4096 (idxOf p)) (Ck2.dec _ _ _))).down
  let pos : Vec F S16 .f32 ← SparseCore.vectorLoadIdx pb ![idxOf p] hc.1 (View.loads_vmem h_S4096)
  let w : Vec F S16 .f32 ← SparseCore.vectorLoadIdx wb ![idxOf p] hc.2 (View.loads_vmem h_S4096)
  pure (Scalar.addf a.1 (laneSum (wgt gx gy (idxOf p) w)), finAcc v3 a.1 a.2 (wgt gx gy (idxOf p) w) pos)

def gxOf (a : FVec F S16 .f32) : FVec F S16 .f32 := divf (broadcast S16 (Scalar.ofBits .f32 0x3F800000#32 : F .f32)) (broadcast S16 (laneSum a))
def gyOf (a : FVec F S16 .f32) : FVec F S16 .f32 := divf (broadcast S16 (Scalar.ofBits .f32 0xBF800000#32 : F .f32)) (broadcast S16 (laneSum a))

/-! ## A row -/

def zeroLoop (i : grid0.Coords) (h0 h1 h2 h3 : MemI S1024) : Pg F i (BitVec 32) :=
  Scf.Loop.for k0_t5_loop k0_t5_ok 0#32 fun t _ => zeroTrip i h0 h1 h2 h3 t
def scanLoop (i : grid0.Coords) (h0 h1 h2 h3 : MemI S1024) : Pg F i (BitVec 32) :=
  Scf.Loop.for k0_t5_loop k0_t5_ok 0#32 fun t b => scanTrip i h0 h1 h2 h3 t b
def buildLoop (i : grid0.Coords) (pb : MemF S4096) (dst : MemI S4112) (h0 h1 h2 h3 : MemI S1024) (v3 v4 g0 g1 g2 g3 : IVec S16 32) : Pg F i (BitVec 32) :=
  Scf.Loop.for k0_t4_loop k0_t4_ok 0#32 fun t _ => buildTrip i pb dst h0 h1 h2 h3 v3 v4 g0 g1 g2 g3 t
def histLoop (i : grid0.Coords) (src : MemI S4112) (h0 h1 h2 h3 : MemI S1024) (sh : BitVec 32) (v3 v4 g0 g1 g2 g3 : IVec S16 32) : Pg F i (BitVec 32) :=
  Scf.Loop.for k0_t8_loop k0_t8_ok 0#32 fun t _ => histTrip i src h0 h1 h2 h3 sh v3 v4 g0 g1 g2 g3 t
def permLoop (i : grid0.Coords) (src dst : MemI S4112) (h0 h1 h2 h3 : MemI S1024) (sh : BitVec 32) (v3 g0 g1 g2 g3 : IVec S16 32) : Pg F i (BitVec 32) :=
  Scf.Loop.for k0_t6_loop k0_t6_ok 0#32 fun t _ => permTrip i src dst h0 h1 h2 h3 sh v3 g0 g1 g2 g3 t
def sumLoop (i : grid0.Coords) (wb : MemF S4096) : Pg F i (FVec F S16 .f32 × FVec F S16 .f32) :=
  Scf.Loop.for k0_t2_loop k0_t2_ok (broadcast S16 (Scalar.ofBits .f32 0x00000000#32 : F .f32), broadcast S16 (Scalar.ofBits .f32 0x00000000#32 : F .f32)) fun t a => sumTrip i wb t a
def finLoop (i : grid0.Coords) (wb pb : MemF S4096) (src : MemI S4112) (v3 : IVec S16 32) (gx gy : FVec F S16 .f32) : Pg F i (F .f32 × FVec F S16 .f32) :=
  Scf.Loop.for k0_t15_loop k0_t15_ok ((Scalar.ofBits .f32 0x00000000#32 : F .f32), broadcast S16 (Scalar.ofBits .f32 0x00000000#32 : F .f32)) fun t a => finTrip i wb pb src v3 gx gy t a

/-- The three radix passes: the words built from `pb`'s positions, sorted, in `b`. -/
def sortProg (i : grid0.Coords) (pb : MemF S4096) (a b : MemI S4112) (h0 h1 h2 h3 : MemI S1024) (v3 v4 g0 g1 g2 g3 : IVec S16 32) : Pg F i PUnit := do
  let _x ← zeroLoop i h0 h1 h2 h3
  let _x ← buildLoop i pb a h0 h1 h2 h3 v3 v4 g0 g1 g2 g3
  let _x ← scanLoop i h0 h1 h2 h3
  let _x ← permLoop i a b h0 h1 h2 h3 12#32 v3 g0 g1 g2 g3
  let _x ← zeroLoop i h0 h1 h2 h3
  let _x ← histLoop i b h0 h1 h2 h3 18#32 v3 v4 g0 g1 g2 g3
  let _x ← scanLoop i h0 h1 h2 h3
  let _x ← permLoop i b a h0 h1 h2 h3 18#32 v3 g0 g1 g2 g3
  let _x ← zeroLoop i h0 h1 h2 h3
  let _x ← histLoop i a h0 h1 h2 h3 24#32 v3 v4 g0 g1 g2 g3
  let _x ← scanLoop i h0 h1 h2 h3
  let _x ← permLoop i a b h0 h1 h2 h3 24#32 v3 g0 g1 g2 g3
  pure ⟨⟩

/-- What the body does with one row, its weights in `wb` and its positions in `pb`: entry `r` of `res` is written. -/
def rowProg (i : grid0.Coords) (wb pb : MemF S4096) (a b : MemI S4112) (h0 h1 h2 h3 : MemI S1024) (res : MemF S128)
    (v3 v4 g0 g1 g2 g3 : IVec S16 32) (r : BitVec 32) : Pg F i PUnit := do
  let s ← sumLoop i wb
  sortProg i pb a b h0 h1 h2 h3 v3 v4 g0 g1 g2 g3
  let f ← finLoop i wb pb b v3 (gxOf s.1) (gyOf s.2)
  have hr : Ck 128 (broadcast S16 r) := (← Prog.lift (TpuEff.assume (Ck 128 (broadcast S16 r)) (Ck.dec _ _))).down
  SparseCore.vectorStoreIdx res ![broadcast S16 r] (broadcast S16 (laneSum f.2)) (cmpi .eq v3 (broadcast S16 0#32)) false hr (View.stores_vmem_bits_univ h_S128 rfl)

/-- The lane numbers. -/
def lanes : IVec S16 32 := iota .scVector S16 32 [0] iota_S16_d0_w32_scVector

/-! ## The transfers of a row -/

abbrev MemH := Memref sig .scVector .hbm S4096x2048 .f32
abbrev lo (b : MemF S4096) : MemF S2048 := b.slice (Rect.unit (s := S4096) ![0] S2048.size inb_S4096_S2048_0) (fun _ => rfl)
abbrev hi (b : MemF S4096) : MemF S2048 := b.slice (Rect.unit (s := S4096) ![2048] S2048.size inb_S4096_S2048_2048) (fun _ => rfl)
abbrev rowAt (x : MemH) (o : Fin 2 → Nat) (ho : ∀ a, o a + S1x2048.size a ≤ S4096x2048.size a) : Memref sig .scVector .hbm S2048 .f32 :=
  (x.slice (Rect.unit (s := S4096x2048) o S1x2048.size ho) (fun _ => rfl)).squeeze S2048 squeezes_S1x2048_S2048

def startRow (i : grid0.Coords) (x y xp yp : MemH) (wb pb : MemF S4096) (sm : DmaSem sig) (o : Fin 2 → Nat)
    (ho : ∀ a, o a + S1x2048.size a ≤ S4096x2048.size a) : Pg F i PUnit := do
  Prog.lift (.enqueueDma (rowAt x o ho) (.here (lo wb)) (.dma sm) ((View.wordExact_bits rfl).reshape _ _) (View.wordExact_bits rfl) ⟨Or.inl rfl, trivial⟩)
  Prog.lift (.enqueueDma (rowAt y o ho) (.here (hi wb)) (.dma sm) ((View.wordExact_bits rfl).reshape _ _) (View.wordExact_bits rfl) ⟨Or.inl rfl, trivial⟩)
  Prog.lift (.enqueueDma (rowAt xp o ho) (.here (lo pb)) (.dma sm) ((View.wordExact_bits rfl).reshape _ _) (View.wordExact_bits rfl) ⟨Or.inl rfl, trivial⟩)
  Prog.lift (.enqueueDma (rowAt yp o ho) (.here (hi pb)) (.dma sm) ((View.wordExact_bits rfl).reshape _ _) (View.wordExact_bits rfl) ⟨Or.inl rfl, trivial⟩)

def waitRow (i : grid0.Coords) (x y xp yp : MemH) (wb pb : MemF S4096) (sm : DmaSem sig) (o : Fin 2 → Nat)
    (ho : ∀ a, o a + S1x2048.size a ≤ S4096x2048.size a) : Pg F i PUnit := do
  Prog.lift (.waitDma2 sm (rowAt x o ho) (lo wb) ((View.wordExact_bits rfl).reshape _ _) (View.wordExact_bits rfl))
  Prog.lift (.waitDma2 sm (rowAt y o ho) (hi wb) ((View.wordExact_bits rfl).reshape _ _) (View.wordExact_bits rfl))
  Prog.lift (.waitDma2 sm (rowAt xp o ho) (lo pb) ((View.wordExact_bits rfl).reshape _ _) (View.wordExact_bits rfl))
  Prog.lift (.waitDma2 sm (rowAt yp o ho) (hi pb) ((View.wordExact_bits rfl).reshape _ _) (View.wordExact_bits rfl))

/-! ## A trip of the outer loop, and the whole body -/

def pairTrip (i : grid0.Coords) (x y xp yp : MemH) (w0 w1 p0 p1 : MemF S4096) (a b : MemI S4112) (h0 h1 h2 h3 : MemI S1024) (res : MemF S128)
    (s0 s1 : DmaSems sig S_) (v3 v4 g0 g1 g2 g3 : IVec S16 32) (t : Fin k0_t1_loop.trips) : Pg F i (BitVec 32) := do
  startRow i x y xp yp w1 p1 s1.sem (k0_off2 i t) (k0_off2_inb i t)
  waitRow i x y xp yp w0 p0 s0.sem (k0_off3 i t) (k0_off3_inb i t)
  rowProg i w0 p0 a b h0 h1 h2 h3 res v3 v4 g0 g1 g2 g3 (Scalar.muli 2#32 (Scf.iv 0#32 1#32 t))
  startRow i x y xp yp w0 p0 s0.sem (k0_off13 i t) (k0_off13_inb i t)
  waitRow i x y xp yp w1 p1 s1.sem (k0_off14 i t) (k0_off14_inb i t)
  rowProg i w1 p1 a b h0 h1 h2 h3 res v3 v4 g0 g1 g2 g3 (Scalar.addi (Scalar.muli 2#32 (Scf.iv 0#32 1#32 t)) 1#32)
  pure 0#32

abbrev outAt (o : Memref sig .scVector .hbm S4096 .f32) (i : grid0.Coords) : Memref sig .scVector .hbm S128 .f32 :=
  o.slice (Rect.unit (s := S4096) (k0_off24 i) S128.size (k0_off24_inb i)) (fun _ => rfl)

/-- Stream `s`'s first positions: lane `l`'s is `(16 s + l) * 64`. -/
def base (s : BitVec 32) : IVec S16 32 := muli (addi lanes (broadcast S16 s)) (broadcast S16 64#32)

def pairLoop (i : grid0.Coords) (x y xp yp : MemH) (w0 w1 p0 p1 : MemF S4096) (a b : MemI S4112) (h0 h1 h2 h3 : MemI S1024) (res : MemF S128)
    (s0 s1 : DmaSems sig S_) (v3 v4 g0 g1 g2 g3 : IVec S16 32) : Pg F i (BitVec 32) :=
  Scf.Loop.for k0_t1_loop k0_t1_ok 0#32 fun t _ => pairTrip i x y xp yp w0 w1 p0 p1 a b h0 h1 h2 h3 res s0 s1 v3 v4 g0 g1 g2 g3 t

def bodyProg (i : grid0.Coords) (x y xp yp : MemH) (o : Memref sig .scVector .hbm S4096 .f32) (w0 w1 p0 p1 : MemF S4096) (a b : MemI S4112)
    (h0 h1 h2 h3 : MemI S1024) (res : MemF S128) (hres : res.IsWhole) (s0 s1 s2 : DmaSems sig S_) : Pg F i PUnit := do
  startRow i x y xp yp w0 p0 s0.sem (k0_off1 i) (k0_off1_inb i)
  let _x ← pairLoop i x y xp yp w0 w1 p0 p1 a b h0 h1 h2 h3 res s0 s1 lanes (broadcast S16 1#32) (base 0#32) (base 16#32) (base 32#32) (base 48#32)
  waitRow i x y xp yp w0 p0 s0.sem (k0_off1 i) (k0_off1_inb i)
  Prog.lift (.enqueueDma res (.here (outAt o i)) (.dma s2.sem) hres.wordExact (View.wordExact_bits rfl) ⟨Or.inl rfl, trivial⟩)
  Prog.lift (.waitDma2 s2.sem res (outAt o i) hres.wordExact (View.wordExact_bits rfl))
  pure ⟨⟩

section Loops

variable (i : grid0.Coords) (arg2 : MemH) (harg2 : arg2.IsWhole) (arg3 : MemH) (harg3 : arg3.IsWhole) (arg4 : MemH) (harg4 : arg4.IsWhole)
  (arg5 : MemH) (harg5 : arg5.IsWhole) (arg6 : Memref sig .scVector .hbm S4096 .f32) (harg6 : arg6.IsWhole)
  (arg7 : MemF S4096) (harg7 : arg7.IsWhole) (arg8 : MemF S4096) (harg8 : arg8.IsWhole) (arg9 : MemF S4096) (harg9 : arg9.IsWhole)
  (arg10 : MemF S4096) (harg10 : arg10.IsWhole) (arg11 : MemI S4112) (harg11 : arg11.IsWhole) (arg12 : MemI S4112) (harg12 : arg12.IsWhole)
  (arg13 : MemI S1024) (harg13 : arg13.IsWhole) (arg14 : MemI S1024) (harg14 : arg14.IsWhole) (arg15 : MemI S1024) (harg15 : arg15.IsWhole)
  (arg16 : MemI S1024) (harg16 : arg16.IsWhole) (arg17 : MemF S128) (harg17 : arg17.IsWhole)
  (arg18 arg19 v71_r0 : DmaSems sig S_)
  (v2 : BitVec 32) (v3 v4 v8 v12 v16 v20 : IVec S16 32)

theorem t2_eq (k0_t1 : Fin k0_t1_loop.trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 k0_t1
      = fun t a => sumTrip i arg7 t a := rfl
theorem t3_eq (cst : F .f32) (v127_1 : FVec F S16 .f32) (v197 : F .f32) (v199 : F .f32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 cst 262143#32 v127_1 v197 v199
      = fun t _ => zeroTrip i arg13 arg14 arg15 arg16 t := rfl
theorem t4_eq (v127_1 : FVec F S16 .f32) (v197 : F .f32) (v199 : F .f32) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 (Scalar.ofBits .f32 0x48800000#32) 262143#32 v127_1 v197 v199
      = fun t _ => buildTrip i arg9 arg11 arg13 arg14 arg15 arg16 v3 v4 v8 v12 v16 v20 t := rfl
theorem t5_eq (cst : F .f32) (v127_1 : FVec F S16 .f32) (v197 : F .f32) (v199 : F .f32) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 cst 262143#32 v127_1 v197 v199
      = fun t a => scanTrip i arg13 arg14 arg15 arg16 t a := rfl
theorem t6_eq (cst : F .f32) (v127_1 : FVec F S16 .f32) (v197 : F .f32) (v199 : F .f32) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 cst 262143#32 v127_1 v197 v199
      = fun t _ => permTrip i arg11 arg12 arg13 arg14 arg15 arg16 12#32 v3 v8 v12 v16 v20 t := rfl
theorem t7_eq (c64_i32_104 : BitVec 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t _ => zeroTrip i arg13 arg14 arg15 arg16 t := rfl
theorem t8_eq (c64_i32_104 : BitVec 32) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t _ => histTrip i arg12 arg13 arg14 arg15 arg16 18#32 v3 v4 v8 v12 v16 v20 t := rfl
theorem t9_eq (c64_i32_104 : BitVec 32) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t a => scanTrip i arg13 arg14 arg15 arg16 t a := rfl
theorem t10_eq (c64_i32_104 : BitVec 32) :
    k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t _ => permTrip i arg12 arg11 arg13 arg14 arg15 arg16 18#32 v3 v8 v12 v16 v20 t := rfl
theorem t11_eq (c64_i32_104 : BitVec 32) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t _ => zeroTrip i arg13 arg14 arg15 arg16 t := rfl
theorem t12_eq (c64_i32_104 : BitVec 32) :
    k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t _ => histTrip i arg11 arg13 arg14 arg15 arg16 24#32 v3 v4 v8 v12 v16 v20 t := rfl
theorem t13_eq (c64_i32_104 : BitVec 32) :
    k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t a => scanTrip i arg13 arg14 arg15 arg16 t a := rfl
theorem t14_eq (c64_i32_104 : BitVec 32) :
    k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 0#32 0#32 c64_i32_104
      = fun t _ => permTrip i arg11 arg12 arg13 arg14 arg15 arg16 24#32 v3 v8 v12 v16 v20 t := rfl
theorem t15_eq (v71 : BitVec 32) (v177 : FVec F S16 .f32) (v227 : FVec F S16 .f32) (v252 : FVec F S16 .f32) (cst_143 : F .f32) :
    k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v71 v177 v227 v252 cst_143 0#32 1#32
      = fun t a => finTrip i arg7 arg9 arg12 v3 v177 v227 t a := rfl
theorem t16_eq (k0_t1 : Fin k0_t1_loop.trips) :
    k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 k0_t1
      = fun t a => sumTrip i arg8 t a := rfl
theorem t17_eq (cst : F .f32) (v361_1 : FVec F S16 .f32) (v440 : F .f32) :
    k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 cst 262143#32 v361_1 v440
      = fun t _ => zeroTrip i arg13 arg14 arg15 arg16 t := rfl
theorem t18_eq (v361_1 : FVec F S16 .f32) (v440 : F .f32) :
    k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 (Scalar.ofBits .f32 0x48800000#32) 262143#32 v361_1 v440
      = fun t _ => buildTrip i arg10 arg11 arg13 arg14 arg15 arg16 v3 v4 v8 v12 v16 v20 t := rfl
theorem t19_eq (cst : F .f32) (v361_1 : FVec F S16 .f32) (v440 : F .f32) :
    k0_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 cst 262143#32 v361_1 v440
      = fun t a => scanTrip i arg13 arg14 arg15 arg16 t a := rfl
theorem t20_eq (cst : F .f32) (v361_1 : FVec F S16 .f32) (v440 : F .f32) :
    k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 cst 262143#32 v361_1 v440
      = fun t _ => permTrip i arg11 arg12 arg13 arg14 arg15 arg16 12#32 v3 v8 v12 v16 v20 t := rfl
theorem t21_eq (cst : F .f32) (v361_1 : FVec F S16 .f32) (v440 : F .f32) :
    k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 cst 262143#32 v361_1 v440
      = fun t _ => zeroTrip i arg13 arg14 arg15 arg16 t := rfl
theorem t22_eq (v411 : FVec F S16 .f32) (v461 : FVec F S16 .f32) (c64_i32_216 : BitVec 32) :
    k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t _ => histTrip i arg12 arg13 arg14 arg15 arg16 18#32 v3 v4 v8 v12 v16 v20 t := rfl
theorem t23_eq (v411 : FVec F S16 .f32) (v461 : FVec F S16 .f32) (c64_i32_216 : BitVec 32) :
    k0_t23_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t a => scanTrip i arg13 arg14 arg15 arg16 t a := rfl
theorem t24_eq (v411 : FVec F S16 .f32) (v461 : FVec F S16 .f32) (c64_i32_216 : BitVec 32) :
    k0_t24_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t _ => permTrip i arg12 arg11 arg13 arg14 arg15 arg16 18#32 v3 v8 v12 v16 v20 t := rfl
theorem t25_eq (v411 : FVec F S16 .f32) (v461 : FVec F S16 .f32) (c64_i32_216 : BitVec 32) :
    k0_t25_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t _ => zeroTrip i arg13 arg14 arg15 arg16 t := rfl
theorem t26_eq (v411 : FVec F S16 .f32) (v461 : FVec F S16 .f32) (c64_i32_216 : BitVec 32) :
    k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t _ => histTrip i arg11 arg13 arg14 arg15 arg16 24#32 v3 v4 v8 v12 v16 v20 t := rfl
theorem t27_eq (v411 : FVec F S16 .f32) (v461 : FVec F S16 .f32) (c64_i32_216 : BitVec 32) :
    k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t a => scanTrip i arg13 arg14 arg15 arg16 t a := rfl
theorem t28_eq (v411 : FVec F S16 .f32) (v461 : FVec F S16 .f32) (c64_i32_216 : BitVec 32) :
    k0_t28_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t _ => permTrip i arg11 arg12 arg13 arg14 arg15 arg16 24#32 v3 v8 v12 v16 v20 t := rfl
theorem t29_eq (v411 : FVec F S16 .f32) (v461 : FVec F S16 .f32) (c64_i32_216 : BitVec 32) :
    k0_t29_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v3 v4 v8 v12 v16 v20 v411 v461 0#32 0#32 c64_i32_216
      = fun t a => finTrip i arg8 arg10 arg12 v3 v411 v461 t a := rfl

set_option maxRecDepth 65536 in
theorem t1_eq :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0 v2 v3 v4 v8 v12 v16 v20 (Scalar.ofBits .f32 0x48800000#32)
      = fun t _ => pairTrip i arg2 arg3 arg4 arg5 arg7 arg8 arg9 arg10 arg11 arg12 arg13 arg14 arg15 arg16 arg17 arg18 arg19 v3 v4 v8 v12 v16 v20 t := by
  funext t x
  simp only [k0_t1_body, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, t2_eq, t3_eq, t4_eq, t5_eq, t6_eq, t7_eq, t8_eq, t9_eq, t10_eq, t11_eq, t12_eq, t13_eq, t14_eq, t15_eq, t16_eq, t17_eq, t18_eq, t19_eq, t20_eq, t21_eq, t22_eq, t23_eq, t24_eq, t25_eq, t26_eq, t27_eq, t28_eq, t29_eq,
    pairTrip, startRow, waitRow, rowProg, sortProg, zeroLoop, scanLoop, buildLoop, histLoop, permLoop, sumLoop, finLoop, bind_assoc, pure_bind]
  rfl

set_option maxRecDepth 65536 in
/-- The printed body is `bodyProg`. -/
theorem body_eq :
    cc0__w1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v71_r0
      = bodyProg i arg2 arg3 arg4 arg5 arg6 arg7 arg8 arg9 arg10 arg11 arg12 arg13 arg14 arg15 arg16 arg17 harg17 arg18 arg19 v71_r0 := by
  simp only [cc0__w1_body_eq_skeleton, cc0__w1_body_skel, k0_part41_eq_skeleton, k0_part41_skel, k0_part42_eq_skeleton, k0_part42_skel, t1_eq,
    bodyProg, pairLoop, startRow, waitRow, bind_assoc, pure_bind]
  rfl

end Loops

end Cert.Proof.W1

end
-- ==== Proof.Radix.lean ====
/-
  One pass of a stable counting sort over 4096 places arranged as 64 columns of 64, on plain numbers: where an element
  goes (`rank`), that this is what the running offsets count, and that three passes sort by three digits.
-/
module

public import Mathlib.Algebra.BigOperators.Intervals
public import Mathlib.Algebra.Order.BigOperators.Group.Finset
public import Mathlib.Tactic.Choose
public import Mathlib.Tactic.Linarith

@[expose] public section

namespace Cert.Proof.Radix

open Finset

/-- Elements of a smaller digit, and those of digit `t` in the first `q` columns. -/
def off (d : ℕ → ℕ) (t q : ℕ) : ℕ := ((range 4096).filter fun j => d j < t ∨ (d j = t ∧ j / 64 < q)).card
/-- How often digit `t` occurs among the first `v` places of column `q`. -/
def cnt (d : ℕ → ℕ) (q v t : ℕ) : ℕ := ((range v).filter fun v' => d (q * 64 + v') = t).card
/-- Where a stable sort by `d` puts element `i`. -/
def rank (d : ℕ → ℕ) (i : ℕ) : ℕ := ((range 4096).filter fun j => d j < d i ∨ (d j = d i ∧ j < i)).card

theorem cnt_zero (d : ℕ → ℕ) (q t : ℕ) : cnt d q 0 t = 0 := by simp [cnt]

theorem cnt_succ (d : ℕ → ℕ) (q v t : ℕ) : cnt d q (v + 1) t = cnt d q v t + if d (q * 64 + v) = t then 1 else 0 := by
  unfold cnt
  rw [range_add_one, filter_insert]
  split
  · rw [card_insert_of_notMem (by simp)]
  · simp

theorem cnt_eq_card (d : ℕ → ℕ) {q v : ℕ} (hq : q < 64) (hv : v ≤ 64) (t : ℕ) :
    cnt d q v t = ((range 4096).filter fun j => d j = t ∧ j / 64 = q ∧ j < q * 64 + v).card := by
  unfold cnt
  refine card_bij (fun v' _ => q * 64 + v') ?_ ?_ ?_
  · intro a ha
    simp only [mem_filter, mem_range] at ha ⊢
    refine ⟨by omega, ha.2, by omega, by omega⟩
  · intro a _ b _ h; omega
  · intro j hj
    simp only [mem_filter, mem_range] at hj
    obtain ⟨h1, h2, h3, h4⟩ := hj
    refine ⟨j - q * 64, ?_, by omega⟩
    simp only [mem_filter, mem_range]
    refine ⟨by omega, ?_⟩
    rw [show q * 64 + (j - q * 64) = j by omega]; exact h2

theorem off_zero (d : ℕ → ℕ) : off d 0 0 = 0 := by simp [off]

theorem off_succ (d : ℕ → ℕ) {t q : ℕ} (hq : q < 64) : off d t (q + 1) = off d t q + cnt d q 64 t := by
  rw [cnt_eq_card d hq (le_refl _)]
  unfold off
  rw [← card_union_of_disjoint]
  · congr 1
    ext j
    simp only [mem_union, mem_filter, mem_range]
    constructor
    · rintro ⟨h, h' | ⟨h', h''⟩⟩
      · exact .inl ⟨h, .inl h'⟩
      · by_cases hj : j / 64 < q
        · exact .inl ⟨h, .inr ⟨h', hj⟩⟩
        · exact .inr ⟨h, h', by omega, by omega⟩
    · rintro (⟨h, h' | ⟨h', h''⟩⟩ | ⟨h, h', h''⟩)
      · exact ⟨h, .inl h'⟩
      · exact ⟨h, .inr ⟨h', by omega⟩⟩
      · exact ⟨h, .inr ⟨h', by omega⟩⟩
  · rw [disjoint_left]
    intro j hj hj'
    simp only [mem_filter, mem_range] at hj hj'
    omega

theorem off_add_sum (d : ℕ → ℕ) (t q : ℕ) : ∀ n, q + n ≤ 64 → off d t (q + n) = off d t q + ∑ l ∈ range n, cnt d (q + l) 64 t
  | 0, _ => by simp
  | n + 1, h => by
    rw [← Nat.add_assoc, off_succ d (by omega), off_add_sum d t q n (by omega), sum_range_succ, Nat.add_assoc]

theorem off_wrap (d : ℕ → ℕ) (t : ℕ) : off d t 64 = off d (t + 1) 0 := by
  unfold off
  congr 1
  ext j
  simp only [mem_filter, mem_range]
  constructor <;> rintro ⟨h, h'⟩ <;> exact ⟨h, by omega⟩

theorem rank_eq (d : ℕ → ℕ) {q v : ℕ} (hq : q < 64) (hv : v < 64) :
    rank d (q * 64 + v) = off d (d (q * 64 + v)) q + cnt d q v (d (q * 64 + v)) := by
  rw [cnt_eq_card d hq hv.le]
  unfold off rank
  generalize d (q * 64 + v) = t
  rw [← card_union_of_disjoint]
  · congr 1
    ext j
    simp only [mem_union, mem_filter, mem_range]
    constructor
    · rintro ⟨h, h'⟩
      by_cases hj : j / 64 < q
      · exact .inl ⟨h, by omega⟩
      · by_cases h2 : d j < t
        · exact .inl ⟨h, .inl h2⟩
        · exact .inr ⟨h, by omega, by omega, by omega⟩
    · rintro (⟨h, h'⟩ | ⟨h, h', h''⟩) <;> exact ⟨h, by omega⟩
  · rw [disjoint_left]
    intro j hj hj'
    simp only [mem_filter, mem_range] at hj hj'
    omega

/-- The order a stable sort by `d` puts places in. -/
def Before (d : ℕ → ℕ) (j i : ℕ) : Prop := d j < d i ∨ (d j = d i ∧ j < i)

theorem rank_lt_of_before (d : ℕ → ℕ) {i j : ℕ} (hj : j < 4096) (h : Before d j i) : rank d j < rank d i := by
  unfold Before at h
  unfold rank
  refine card_lt_card ⟨?_, ?_⟩
  · intro k hk
    simp only [mem_filter, mem_range] at hk ⊢
    exact ⟨hk.1, by omega⟩
  · intro hs
    have := @hs j (by simp only [mem_filter, mem_range]; exact ⟨hj, h⟩)
    simp only [mem_filter, mem_range] at this
    omega

theorem rank_lt (d : ℕ → ℕ) {i : ℕ} (hi : i < 4096) : rank d i < 4096 := by
  unfold rank
  calc _ < (range 4096).card := card_lt_card ⟨filter_subset _ _, fun hs => by
        have := @hs i (mem_range.mpr hi)
        simp only [mem_filter, mem_range] at this
        omega⟩
    _ = 4096 := card_range _

theorem rank_inj (d : ℕ → ℕ) {i j : ℕ} (hi : i < 4096) (hj : j < 4096) (h : rank d i = rank d j) : i = j := by
  by_contra hne
  have : Before d i j ∨ Before d j i := by unfold Before; omega
  rcases this with h' | h'
  · have := rank_lt_of_before d hi h'; omega
  · have := rank_lt_of_before d hj h'; omega

theorem before_of_rank_lt (d : ℕ → ℕ) {i j : ℕ} (hi : i < 4096) (h : rank d i < rank d j) : Before d i j := by
  by_contra hb
  have : Before d j i ∨ i = j := by unfold Before at hb ⊢; omega
  rcases this with h' | h'
  · by_cases hj : j < 4096
    · have := rank_lt_of_before d hj h'; omega
    · have h1 : rank d j ≤ rank d i := by
        unfold Before at h'
        unfold rank
        refine card_le_card fun k hk => ?_
        simp only [mem_filter, mem_range] at hk ⊢
        exact ⟨hk.1, by omega⟩
      omega
  · subst h'; omega

theorem rank_surj (d : ℕ → ℕ) {k : ℕ} (hk : k < 4096) : ∃ i < 4096, rank d i = k := by
  have h : (range 4096).image (rank d) = range 4096 := by
    refine eq_of_subset_of_card_le (fun x hx => ?_) ?_
    · obtain ⟨i, hi, rfl⟩ := mem_image.mp hx
      exact mem_range.mpr (rank_lt d (mem_range.mp hi))
    · rw [card_image_of_injOn]
      intro a ha b hb hab
      exact rank_inj d (by simpa using ha) (by simpa using hb) hab
  have : k ∈ (range 4096).image (rank d) := by rw [h]; exact mem_range.mpr hk
  obtain ⟨i, hi, rfl⟩ := mem_image.mp this
  exact ⟨i, mem_range.mp hi, rfl⟩

/-! ## Three passes -/

/-- The words `K'` are the words `K` at permuted places. -/
def Perm {α : Type} (K K' : ℕ → α) : Prop :=
  ∃ σ : ℕ → ℕ, (∀ k < 4096, σ k < 4096) ∧ (∀ k < 4096, ∀ k' < 4096, σ k = σ k' → k = k') ∧ ∀ k < 4096, K' k = K (σ k)

theorem Perm.refl {α : Type} (K : ℕ → α) : Perm K K := ⟨id, fun _ h => h, fun _ _ _ _ h => h, fun _ _ => rfl⟩

theorem Perm.trans {α : Type} {K K' K'' : ℕ → α} (h : Perm K K') (h' : Perm K' K'') : Perm K K'' := by
  obtain ⟨σ, h1, h2, h3⟩ := h
  obtain ⟨τ, g1, g2, g3⟩ := h'
  exact ⟨fun k => σ (τ k), fun k hk => h1 _ (g1 k hk), fun k hk k' hk' h => g2 k hk k' hk' (h2 _ (g1 k hk) _ (g1 k' hk') h),
    fun k hk => (g3 k hk).trans (h3 _ (g1 k hk))⟩

/-- `K'` is `K` sorted stably by the digits `d` of `K`'s places. -/
def Pass {α : Type} (d : ℕ → ℕ) (K K' : ℕ → α) : Prop := ∀ i < 4096, K' (rank d i) = K i

theorem Pass.perm {α : Type} {d : ℕ → ℕ} {K K' : ℕ → α} (h : Pass d K K') : Perm K K' := by
  choose! σ h1 h2 using fun k (hk : k < 4096) => rank_surj d hk
  exact ⟨σ, h1, fun k hk k' hk' he => by rw [← h2 k hk, ← h2 k' hk', he], fun k hk => by
    have := h (σ k) (h1 k hk); rw [h2 k hk] at this; exact this⟩

/-- Sorted by the low part (below `m`) of `g`. -/
def Low {α : Type} (g : α → ℕ) (m : ℕ) (K : ℕ → α) : Prop := ∀ k k', k < k' → k' < 4096 → g (K k) % m ≤ g (K k') % m

theorem Low.one {α : Type} (g : α → ℕ) (K : ℕ → α) : Low g 1 K := fun _ _ _ _ => by simp [Nat.mod_one]

theorem Low.pass {α : Type} {g : α → ℕ} {m : ℕ} (hm : 0 < m) {K K' : ℕ → α} {d : ℕ → ℕ} (hd : ∀ i < 4096, d i = g (K i) / m % 64)
    (hL : Low g m K) (h : Pass d K K') : Low g (m * 64) K' := by
  intro k k' hk hk'
  obtain ⟨i, hi, rfl⟩ := rank_surj d (hk.trans hk')
  obtain ⟨i', hi', rfl⟩ := rank_surj d hk'
  rw [h i hi, h i' hi', Nat.mod_mul, Nat.mod_mul, ← hd i hi, ← hd i' hi']
  rcases before_of_rank_lt d hi hk with hb | ⟨hb, hb'⟩
  · have h1 := Nat.mod_lt (g (K i)) hm
    have h2 : m * (d i + 1) ≤ m * d i' := Nat.mul_le_mul_left _ hb
    rw [Nat.mul_add, Nat.mul_one] at h2
    omega
  · have := hL i i' hb' hi'
    rw [hb]; omega

end Cert.Proof.Radix
-- ==== Proof.Lanes.lean ====
/-
  Sixteen-lane gathers, scatters and running sums on rank-one contents, read one element at a time.
-/
module

public import proofs.«01_k».proof.Proof.Body
public import proofs.«01_k».proof.Proof.Radix
public import Idealize.ShloMosaic.Lib.ValueIdxRank1

@[expose] public section

noncomputable section

namespace Cert.Proof.W1

open Cert.KernelIdeal Cert.KernelIdeal.Gen
open Idealize.ShloMosaic Idealize.SL.Sem
open Idealize.ShloMosaic.ValueIdx (ix1 eq_ix1)

variable {F : FTy → Type} [FloatOps F]

/-- Element `k` of rank-one contents. -/
def nth {α : Type} (z : α) {n : ℕ} (f : (⟨1, ![n]⟩ : Shape).Idx → α) (k : ℕ) : α := if h : k < n then f (ix1 ⟨k, h⟩) else z

theorem nth_of_lt {α : Type} (z : α) {n : ℕ} (f : (⟨1, ![n]⟩ : Shape).Idx → α) {k : ℕ} (h : k < n) : nth z f k = f (ix1 ⟨k, h⟩) := dif_pos h

theorem nth_idx {α : Type} (z : α) {n : ℕ} (f : (⟨1, ![n]⟩ : Shape).Idx → α) (i : (⟨1, ![n]⟩ : Shape).Idx) : nth z f (i 0).val = f i := by
  have h : (i 0).val < n := (i 0).isLt
  rw [nth_of_lt z f h]; congr 1; exact (eq_ix1 i).symm

theorem nth_ext {α : Type} (z : α) {n : ℕ} {f g : (⟨1, ![n]⟩ : Shape).Idx → α} (h : ∀ k < n, nth z f k = nth z g k) : f = g := by
  funext i
  rw [← nth_idx z f i, ← nth_idx z g i]; exact h _ (i 0).isLt

/-- Word `k`. -/
abbrev wd {n : ℕ} (f : IVec ⟨1, ![n]⟩ 32) (k : ℕ) : BitVec 32 := nth 0#32 f k

theorem wd_of_lt {n : ℕ} (f : IVec ⟨1, ![n]⟩ 32) {k : ℕ} (h : k < n) : wd f k = f (ix1 ⟨k, h⟩) := nth_of_lt _ _ h

theorem ofLane_eq (k : Fin 16) : (Shape.ofLane (d := ![16]) k) = ix1 k := by
  funext a
  match a with
  | ⟨0, _⟩ => rfl

theorem ck_of {n : ℕ} {v : IVec S16 32} (h : ∀ l < 16, (wd v l).toNat < n) : Ck n v := by
  intro a x
  match a with
  | ⟨0, _⟩ =>
    have := h (x 0).val (x 0).isLt
    rw [show wd v (x 0).val = v x from nth_idx _ _ _] at this
    exact this

theorem ck2_of {n n' : ℕ} {v : IVec S16 32} (h : ∀ l < 16, (wd v l).toNat < n) (h' : ∀ l < 16, (wd v l).toNat < n') : Ck2 n n' v :=
  ⟨ck_of h, ck_of h'⟩

/-- A lane of a gather. -/
theorem loadIdx_lane {e : EltTy} {n : ℕ} (z : Elt F e) (f : Vec F ⟨1, ![n]⟩ e) (o : IVec S16 32) (h) {l : ℕ} (hl : l < 16) :
    nth z (loadIdx (F := F) (e := e) (s := ⟨1, ![n]⟩) (t := S16) f ![o] h : Vec F S16 e) l = nth z f (wd o l).toNat := by
  rw [nth_of_lt _ _ hl]
  have h0 : (o (ix1 ⟨l, hl⟩)).toNat < n := h 0 (ix1 ⟨l, hl⟩)
  rw [show wd o l = o (ix1 ⟨l, hl⟩) from nth_of_lt _ _ hl, nth_of_lt _ _ h0]
  unfold loadIdx idxAt
  congr 1
  funext a
  match a with
  | ⟨0, _⟩ => rfl

section Store

variable {e : EltTy} {n : ℕ} (z : Elt F e) (o : IVec S16 32) (v : Vec F S16 e) (mask : IVec S16 1) (add : Bool)
  (h : ∀ a x, ((![o] : Fin (⟨1, ![n]⟩ : Shape).rank → IVec S16 32) a x).toNat < (⟨1, ![n]⟩ : Shape).size a)

def putLane (g : Vec F ⟨1, ![n]⟩ e) (k : Fin 16) : Vec F ⟨1, ![n]⟩ e :=
  let x : S16.Idx := Shape.ofLane k
  if mask x = 1 then
    let i := idxAt (s := ⟨1, ![n]⟩) ![o] h x
    let y := if add then Elt.idxAdd e (g i) (v x) else v x
    fun j => if (∀ a, (j a).val = (i a).val) then y else g j
  else g

theorem storeIdx_foldl (f : Vec F ⟨1, ![n]⟩ e) :
    storeIdx (F := F) (e := e) (s := ⟨1, ![n]⟩) f ![o] v mask add h = (List.finRange 16).foldl (putLane o v mask add h) f := by
  unfold storeIdx
  congr 1
  funext g k
  unfold putLane
  dsimp only
  split
  · funext j
    congr
  · rfl

theorem putLane_off (g : Vec F ⟨1, ![n]⟩ e) (k : Fin 16) (i : ℕ) (hk : nth 0#1 mask k.val = 1 → (wd o k.val).toNat ≠ i) :
    nth z (putLane o v mask add h g k) i = nth z g i := by
  unfold putLane
  simp only
  split
  · next hm =>
    by_cases hi : i < n
    · rw [nth_of_lt _ _ hi, nth_of_lt _ _ hi, if_neg]
      intro ha
      have h0 := ha 0
      rw [ofLane_eq] at hm
      apply hk (by rw [nth_of_lt _ _ k.isLt]; exact hm)
      rw [show wd o k.val = o (ix1 k) from nth_of_lt _ _ k.isLt]
      rw [ofLane_eq] at h0
      exact h0.symm
    · unfold nth; rw [dif_neg hi, dif_neg hi]
  · rfl

theorem putLane_on (g : Vec F ⟨1, ![n]⟩ e) (k : Fin 16) (hm : nth 0#1 mask k.val = 1) :
    nth z (putLane o v mask add h g k) (wd o k.val).toNat
      = if add then Elt.idxAdd e (nth z g (wd o k.val).toNat) (nth z v k.val) else nth z v k.val := by
  have hw : wd o k.val = o (ix1 k) := nth_of_lt _ _ k.isLt
  have h0 : (o (ix1 k)).toNat < n := h 0 (ix1 k)
  have hmk : mask (ix1 k) = 1 := by rw [← hm]; exact (nth_of_lt _ _ k.isLt).symm
  have hv : nth z v k.val = v (ix1 k) := nth_of_lt _ _ k.isLt
  have hi : (idxAt (s := ⟨1, ![n]⟩) ![o] h (ix1 k)) = ix1 ⟨(o (ix1 k)).toNat, h0⟩ := by
    funext a
    match a with
    | ⟨0, _⟩ => rfl
  rw [hw, hv, nth_of_lt z _ h0, nth_of_lt z g h0]
  unfold putLane
  simp only
  rw [ofLane_eq, if_pos hmk, hi, if_pos (fun a => rfl)]

theorem foldl_off (L : List (Fin 16)) (i : ℕ) (hk : ∀ k ∈ L, nth 0#1 mask k.val = 1 → (wd o k.val).toNat ≠ i) :
    ∀ g : Vec F ⟨1, ![n]⟩ e, nth z (L.foldl (putLane o v mask add h) g) i = nth z g i := by
  induction L with
  | nil => intro g; rfl
  | cons k L ih =>
    intro g
    rw [List.foldl_cons, ih (fun k' hk' => hk k' (List.mem_cons_of_mem _ hk')), putLane_off z o v mask add h g k i (hk k List.mem_cons_self)]

theorem foldl_on (L : List (Fin 16)) (hn : L.Nodup) (k : Fin 16) (hkL : k ∈ L) (hm : nth 0#1 mask k.val = 1)
    (hinj : ∀ k' ∈ L, k' ≠ k → nth 0#1 mask k'.val = 1 → (wd o k'.val).toNat ≠ (wd o k.val).toNat) :
    ∀ g : Vec F ⟨1, ![n]⟩ e, nth z (L.foldl (putLane o v mask add h) g) (wd o k.val).toNat
      = if add then Elt.idxAdd e (nth z g (wd o k.val).toNat) (nth z v k.val) else nth z v k.val := by
  induction L with
  | nil => exact absurd hkL List.not_mem_nil
  | cons k' L ih =>
    intro g
    rw [List.foldl_cons]
    have hn' := List.nodup_cons.mp hn
    by_cases he : k' = k
    · subst he
      rw [foldl_off z o v mask add h L _ (fun k'' hk'' => hinj k'' (List.mem_cons_of_mem _ hk'') fun h => hn'.1 (h ▸ hk'')),
        putLane_on z o v mask add h g k' hm]
    · have hkL' : k ∈ L := (List.mem_cons.mp hkL).resolve_left fun h => he h.symm
      rw [ih hn'.2 hkL' (fun k'' hk'' => hinj k'' (List.mem_cons_of_mem _ hk'')),
        putLane_off z o v mask add h g k' _ (hinj k' List.mem_cons_self he)]

theorem storeIdx_off (f : Vec F ⟨1, ![n]⟩ e) (i : ℕ) (hk : ∀ l < 16, nth 0#1 mask l = 1 → (wd o l).toNat ≠ i) :
    nth z (storeIdx (F := F) (e := e) (s := ⟨1, ![n]⟩) f ![o] v mask add h) i = nth z f i := by
  rw [storeIdx_foldl]
  exact foldl_off z o v mask add h _ i (fun k _ => hk k.val k.isLt) f

theorem storeIdx_on (f : Vec F ⟨1, ![n]⟩ e) {l : ℕ} (hl : l < 16) (hm : nth 0#1 mask l = 1)
    (hinj : ∀ l' < 16, l' ≠ l → nth 0#1 mask l' = 1 → (wd o l').toNat ≠ (wd o l).toNat) :
    nth z (storeIdx (F := F) (e := e) (s := ⟨1, ![n]⟩) f ![o] v mask add h) (wd o l).toNat
      = if add then Elt.idxAdd e (nth z f (wd o l).toNat) (nth z v l) else nth z v l := by
  rw [storeIdx_foldl]
  exact foldl_on z o v mask add h _ (List.nodup_finRange 16) ⟨l, hl⟩ (List.mem_finRange _) hm
    (fun k' _ hk' => hinj k'.val k'.isLt fun h => hk' (Fin.ext h)) f

end Store

theorem mask_all {l : ℕ} (hl : l < 16) : nth 0#1 (fun _ => 1#1 : IVec S16 1) l = 1 := nth_of_lt _ _ hl

/-! ## Running sums over lanes -/

/-- The sum of the first `n` words. -/
def runSum (v : IVec S16 32) : ℕ → BitVec 32
  | 0 => 0#32
  | n + 1 => runSum v n + wd v n

theorem scan_lane (v : IVec S16 32) {l : ℕ} (hl : l < 16) : wd (scan .sum v : IVec S16 32) l = runSum v (l + 1) := by
  have key : ∀ j : Fin 16, (scan .sum v : IVec S16 32) (ix1 j) = runSum v (j.val + 1) := by
    intro j
    have hv : ∀ k (hk : k < 16), wd v k = v (Shape.ofLane (d := ![16]) ⟨k, hk⟩) := fun k hk => (wd_of_lt v hk).trans (congrArg v (ofLane_eq ⟨k, hk⟩).symm)
    fin_cases j <;> dsimp only [runSum] <;> rw [BitVec.zero_add] <;>
      simp only [hv 0 (by omega), hv 1 (by omega), hv 2 (by omega), hv 3 (by omega), hv 4 (by omega), hv 5 (by omega), hv 6 (by omega), hv 7 (by omega),
        hv 8 (by omega), hv 9 (by omega), hv 10 (by omega), hv 11 (by omega), hv 12 (by omega), hv 13 (by omega), hv 14 (by omega), hv 15 (by omega)] <;> rfl
  rw [wd_of_lt _ hl]; exact key ⟨l, hl⟩

theorem total_eq (v : IVec S16 32) : total v = runSum v 16 := by
  rw [← scan_lane v (l := 15) (by omega), wd_of_lt _ (by omega : 15 < 16)]
  unfold total extractAt
  congr 1
  funext a
  match a with
  | ⟨0, _⟩ => rfl

theorem runSum_ofNat {v : IVec S16 32} {c : ℕ → ℕ} : ∀ n, (∀ l < n, wd v l = BitVec.ofNat 32 (c l)) → runSum v n = BitVec.ofNat 32 (∑ l ∈ Finset.range n, c l)
  | 0, _ => rfl
  | n + 1, h => by
    rw [runSum, runSum_ofNat n fun l hl => h l (hl.trans (Nat.lt_succ_self n)), h n (Nat.lt_succ_self n), Finset.sum_range_succ, BitVec.ofNat_add]

theorem offs_lane (b : BitVec 32) (v : IVec S16 32) {l : ℕ} (hl : l < 16) : wd (offs b v) l = b + runSum v l := by
  have h := scan_lane v hl
  rw [runSum] at h
  rw [wd_of_lt _ hl] at h ⊢
  have hv : wd v l = v (ix1 ⟨l, hl⟩) := nth_of_lt _ _ hl
  show b + ((scan .sum v : IVec S16 32) (ix1 ⟨l, hl⟩) - v (ix1 ⟨l, hl⟩)) = _
  rw [h, hv]
  congr 1
  exact BitVec.add_sub_cancel _ _

end Cert.Proof.W1

end
-- ==== Proof.Steps.lean ====
/-
  What one step of each sweep does to the histograms and to the sorted words, stated with the counts and ranks of
  the stable counting sort.
-/
module

public import proofs.«01_k».proof.Proof.Lanes

@[expose] public section

noncomputable section

namespace Cert.Proof.W1

open Cert.KernelIdeal Cert.KernelIdeal.Gen
open Idealize.ShloMosaic Idealize.SL.Sem
open Idealize.ShloMosaic.ValueIdx (ix1 eq_ix1)
open Cert.Proof.Radix

variable {F : FTy → Type} [FloatOps F]

/-! ## Words -/

theorem lanes_lane {l : ℕ} (hl : l < 16) : wd lanes l = BitVec.ofNat 32 l := by
  have key : ∀ j : Fin 16, (lanes : IVec S16 32) (ix1 j) = BitVec.ofNat 32 j.val := by
    intro j; fin_cases j <;> rfl
  rw [wd_of_lt _ hl]; exact key ⟨l, hl⟩

theorem toNat_slotWord (x : BitVec 32) {l : ℕ} (hl : l < 16) : ((x &&& 63#32) * 16#32 + BitVec.ofNat 32 l).toNat = x.toNat % 64 * 16 + l := by
  have h : (x &&& 63#32).toNat = x.toNat % 64 := by
    rw [BitVec.toNat_and]; exact Nat.and_two_pow_sub_one_eq_mod x.toNat 6
  rw [BitVec.toNat_add, BitVec.toNat_mul, h, BitVec.toNat_ofNat, BitVec.toNat_ofNat]
  omega

theorem slotOf_lane (x : IVec S16 32) {l : ℕ} (hl : l < 16) : (wd (slotOf lanes x) l).toNat = (wd x l).toNat % 64 * 16 + l := by
  have h := lanes_lane hl
  rw [wd_of_lt _ hl] at h ⊢
  rw [wd_of_lt _ hl, ← toNat_slotWord _ hl, ← h]
  rfl

/-- The six bits of a word from bit `sh` on. -/
def digit (sh : ℕ) (p : BitVec 32) : ℕ := p.toNat / 2 ^ sh % 64

theorem digit_lt (sh : ℕ) (p : BitVec 32) : digit sh p < 64 := Nat.mod_lt _ (by omega)

theorem digAt_lane (p : IVec S16 32) {sh : ℕ} (hs : sh < 32) {l : ℕ} (hl : l < 16) :
    (wd (digAt lanes (BitVec.ofNat 32 sh) p) l).toNat = digit sh (wd p l) * 16 + l := by
  unfold digAt
  rw [slotOf_lane _ hl, wd_of_lt _ hl, wd_of_lt _ hl]
  have hs' : (BitVec.ofNat 32 sh).toNat = sh := by rw [BitVec.toNat_ofNat]; omega
  have : (shrui p (broadcast S16 (BitVec.ofNat 32 sh))) (ix1 ⟨l, hl⟩) = p (ix1 ⟨l, hl⟩) >>> sh := by
    show IntOp.shrui _ (p (ix1 ⟨l, hl⟩)) (BitVec.ofNat 32 sh) = _
    unfold IntOp.shrui
    rw [hs', if_pos hs, BitVec.ushiftRight_eq', hs']
  rw [this, BitVec.toNat_ushiftRight, Nat.shiftRight_eq_div_pow]
  rfl

/-- Lane `l` of column-vector `g` is stream `s`'s lane. -/
def Col (g : IVec S16 32) (s : ℕ) : Prop := ∀ l < 16, ∀ v < 64, wd (colAt g (Scf.iv 0#32 1#32 v)) l = BitVec.ofNat 32 ((16 * s + l) * 64 + v)

theorem iv_eq (v : ℕ) : Scf.iv 0#32 1#32 v = BitVec.ofNat 32 v := by unfold Scf.iv; rw [BitVec.mul_one, BitVec.zero_add]

theorem base_col {s : ℕ} (hs : s < 4) {b : BitVec 32} (hb : b = BitVec.ofNat 32 (16 * s)) : Col (base b) s := by
  intro l hl v hv
  rw [iv_eq, wd_of_lt _ hl]
  have h := lanes_lane hl
  rw [wd_of_lt _ hl] at h
  show ((lanes : IVec S16 32) (ix1 ⟨l, hl⟩) + b) * 64#32 + BitVec.ofNat 32 v = _
  rw [h, hb, ← BitVec.ofNat_add, ← BitVec.ofNat_mul, ← BitVec.ofNat_add, Nat.add_comm l]

theorem Col.toNat {g : IVec S16 32} {s : ℕ} (h : Col g s) (hs : s < 4) {l v : ℕ} (hl : l < 16) (hv : v < 64) :
    (wd (colAt g (Scf.iv 0#32 1#32 v)) l).toNat = (16 * s + l) * 64 + v := by
  rw [h l hl v hv, BitVec.toNat_ofNat]; omega

/-! ## Histograms -/

/-- The histogram of stream `s`: digit `t`'s entry for lane `l` is `φ t` of that lane's column. -/
def HistAt (H : IVec S1024 32) (s : ℕ) (φ : ℕ → ℕ → ℕ) : Prop := ∀ t < 64, ∀ l < 16, wd H (t * 16 + l) = BitVec.ofNat 32 (φ t (16 * s + l))

theorem hist_step {H : IVec S1024 32} {s v : ℕ} {d : ℕ → ℕ} {D : IVec S16 32} (hH : HistAt H s fun t q => cnt d q v t)
    (hD : ∀ l < 16, (wd D l).toNat = d ((16 * s + l) * 64 + v) * 16 + l) (h) :
    HistAt (storeIdx (F := F) (e := .i32) (s := S1024) H ![D] (broadcast S16 1#32 : IVec S16 32) (fun _ => 1#1) true h) s fun t q => cnt d q (v + 1) t := by
  intro t ht l hl
  dsimp only
  rw [cnt_succ]
  by_cases hd : d ((16 * s + l) * 64 + v) = t
  · rw [if_pos hd]
    have hk : t * 16 + l = (wd D l).toNat := by rw [hD l hl, hd]
    rw [hk]
    refine (storeIdx_on (F := F) (e := .i32) 0#32 D (broadcast S16 1#32 : IVec S16 32) _ true h H hl (mask_all hl) ?_).trans ?_
    · intro l' hl' hne _ he
      rw [hD l hl, hD l' hl'] at he; omega
    · rw [if_pos rfl]
      show (wd H (wd D l).toNat : BitVec 32) + wd (broadcast S16 1#32 : IVec S16 32) l = _
      rw [← hk, hH t ht l hl, wd_of_lt _ hl, BitVec.ofNat_add]
      rfl
  · rw [if_neg hd, Nat.add_zero, ← hH t ht l hl]
    refine storeIdx_off (F := F) (e := .i32) 0#32 D (broadcast S16 1#32 : IVec S16 32) _ true h H _ ?_
    intro l' hl' _ he
    rw [hD l' hl'] at he
    have : l' = l := by omega
    subst this; omega

/-- The places already treated: the first `v` of every column, and place `v` of the columns of the first `s` streams. -/
def Done (v s i : ℕ) : Prop := i % 64 < v ∨ (i % 64 = v ∧ i / 1024 < s)

theorem Done.next {v i : ℕ} (hi : i < 4096) : Done (v + 1) 0 i ↔ Done v 4 i := by unfold Done; omega
theorem Done.all {i : ℕ} : Done 64 0 i := by unfold Done; omega
theorem Done.none {i : ℕ} : ¬ Done 0 0 i := by unfold Done; omega
theorem Done.step {v s i : ℕ} (hi : i < 4096) (hs : s < 4) (h : Done v (s + 1) i) : Done v s i ∨ ∃ l < 16, i = (16 * s + l) * 64 + v := by
  unfold Done at h ⊢
  by_cases h1 : i % 64 < v ∨ (i % 64 = v ∧ i / 1024 < s)
  · exact .inl h1
  · exact .inr ⟨i / 64 % 16, by omega, by omega⟩

/-- The treated places' words are where the stable sort puts them. -/
def DstAt (d : ℕ → ℕ) (K : ℕ → BitVec 32) (g : IVec S4112 32) (v s : ℕ) : Prop := ∀ i < 4096, Done v s i → wd g (rank d i) = K i

/-- The treated places hold their words. -/
def SrcAt (K : ℕ → BitVec 32) (g : IVec S4112 32) (v s : ℕ) : Prop := ∀ i < 4096, Done v s i → wd g i = K i

theorem src_step {g : IVec S4112 32} {s v : ℕ} {K : ℕ → BitVec 32} {o p : IVec S16 32} (hs : s < 4) (hv : v < 64) (hG : SrcAt K g v s)
    (ho : ∀ l < 16, (wd o l).toNat = (16 * s + l) * 64 + v) (hp : ∀ l < 16, wd p l = K ((16 * s + l) * 64 + v)) (h) :
    SrcAt K (storeIdx (F := F) (e := .i32) (s := S4112) g ![o] p (fun _ => 1#1) false h) v (s + 1) := by
  intro i hi hd
  by_cases hx : ∃ l < 16, i = (16 * s + l) * 64 + v
  · obtain ⟨l, hl, rfl⟩ := hx
    rw [← ho l hl]
    refine (storeIdx_on (F := F) (e := .i32) 0#32 o p _ false h g hl (mask_all hl) ?_).trans ?_
    · intro l' hl' hne _ he
      rw [ho l hl, ho l' hl'] at he; omega
    · rw [ho l hl]; exact hp l hl
  · refine (storeIdx_off (F := F) (e := .i32) 0#32 o p _ false h g _ ?_).trans (hG i hi ((Done.step hi hs hd).resolve_right hx))
    intro l' hl' _ he
    exact hx ⟨l', hl', by rw [← he, ho l' hl']⟩

/-- The offsets of stream `s` after `v` places of each of its columns have been moved. -/
abbrev PermAt (d : ℕ → ℕ) (H : IVec S1024 32) (s v : ℕ) : Prop := HistAt H s fun t q => off d t q + cnt d q v t

theorem off_word {H : IVec S1024 32} {s v : ℕ} {d : ℕ → ℕ} {D : IVec S16 32} (hs : s < 4) (hv : v < 64) (hH : PermAt d H s v)
    (hD : ∀ l < 16, (wd D l).toNat = d ((16 * s + l) * 64 + v) * 16 + l) (hd : ∀ i, d i < 64) (h) {l : ℕ} (hl : l < 16) :
    wd (loadIdx (F := F) (e := .i32) (s := S1024) (t := S16) H ![D] h : IVec S16 32) l = BitVec.ofNat 32 (rank d ((16 * s + l) * 64 + v)) := by
  refine (loadIdx_lane (F := F) (e := .i32) 0#32 H D h hl).trans ?_
  rw [hD l hl]
  refine (hH _ (hd _) l hl).trans ?_
  rw [rank_eq d (by omega) hv]

theorem off_toNat {d : ℕ → ℕ} {i : ℕ} (hi : i < 4096) : (BitVec.ofNat 32 (rank d i)).toNat = rank d i := by
  have := rank_lt d hi
  rw [BitVec.toNat_ofNat]; omega

theorem perm_hist_step {H : IVec S1024 32} {s v : ℕ} {d : ℕ → ℕ} {D o : IVec S16 32} (hs : s < 4) (hv : v < 64) (hH : PermAt d H s v)
    (hD : ∀ l < 16, (wd D l).toNat = d ((16 * s + l) * 64 + v) * 16 + l)
    (ho : ∀ l < 16, wd o l = BitVec.ofNat 32 (rank d ((16 * s + l) * 64 + v))) (h) :
    PermAt d (storeIdx (F := F) (e := .i32) (s := S1024) H ![D] (addi o (broadcast S16 1#32)) (fun _ => 1#1) false h) s (v + 1) := by
  intro t ht l hl
  dsimp only
  rw [cnt_succ]
  by_cases hd : d ((16 * s + l) * 64 + v) = t
  · rw [if_pos hd]
    have hk : t * 16 + l = (wd D l).toNat := by rw [hD l hl, hd]
    rw [hk]
    refine (storeIdx_on (F := F) (e := .i32) 0#32 D (addi o (broadcast S16 1#32)) _ false h H hl (mask_all hl) ?_).trans ?_
    · intro l' hl' hne _ he
      rw [hD l hl, hD l' hl'] at he; omega
    · rw [if_neg (by simp)]
      have h1 : nth 0#32 (addi o (broadcast S16 1#32)) l = wd o l + 1#32 := by
        rw [nth_of_lt _ _ hl, wd_of_lt _ hl]; rfl
      refine h1.trans ?_
      rw [ho l hl, rank_eq d (by omega) hv, hd, ← Nat.add_assoc]
      exact (BitVec.ofNat_add _ 1).symm
  · rw [if_neg hd, Nat.add_zero]
    refine (storeIdx_off (F := F) (e := .i32) 0#32 D (addi o (broadcast S16 1#32)) _ false h H _ ?_).trans (hH t ht l hl)
    intro l' hl' _ he
    rw [hD l' hl'] at he
    have : l' = l := by omega
    subst this; omega

theorem perm_dst_step {g : IVec S4112 32} {s v : ℕ} {d : ℕ → ℕ} {K : ℕ → BitVec 32} {o p : IVec S16 32} (hs : s < 4) (hv : v < 64)
    (hG : DstAt d K g v s) (ho : ∀ l < 16, wd o l = BitVec.ofNat 32 (rank d ((16 * s + l) * 64 + v)))
    (hp : ∀ l < 16, wd p l = K ((16 * s + l) * 64 + v)) (h) :
    DstAt d K (storeIdx (F := F) (e := .i32) (s := S4112) g ![o] p (fun _ => 1#1) false h) v (s + 1) := by
  have ho' : ∀ l < 16, (wd o l).toNat = rank d ((16 * s + l) * 64 + v) := fun l hl => by rw [ho l hl, off_toNat (by omega)]
  intro i hi hd
  by_cases hx : ∃ l < 16, i = (16 * s + l) * 64 + v
  · obtain ⟨l, hl, rfl⟩ := hx
    rw [← ho' l hl]
    refine (storeIdx_on (F := F) (e := .i32) 0#32 o p _ false h g hl (mask_all hl) ?_).trans ?_
    · intro l' hl' hne _ he
      rw [ho' l hl, ho' l' hl'] at he
      have := rank_inj d (by omega) (by omega) he
      omega
    · exact hp l hl
  · refine (storeIdx_off (F := F) (e := .i32) 0#32 o p _ false h g _ ?_).trans (hG i hi ((Done.step hi hs hd).resolve_right hx))
    intro l' hl' _ he
    rw [ho' l' hl'] at he
    exact hx ⟨l', hl', (rank_inj d (by omega) hi he).symm⟩

/-! ## Blocks of a histogram -/

/-- Contents `H` with the sixteen words `w` at digit `t`. -/
def IsPut (H H' : IVec S1024 32) (t : ℕ) (w : IVec S16 32) : Prop :=
  (∀ l < 16, wd H' (t * 16 + l) = wd w l) ∧ ∀ t' < 64, t' ≠ t → ∀ l < 16, wd H' (t' * 16 + l) = wd H (t' * 16 + l)
/-- The sixteen words at digit `t`. -/
def IsBlock (H : IVec S1024 32) (t : ℕ) (w : IVec S16 32) : Prop := ∀ l < 16, wd w l = wd H (t * 16 + l)

/-- Offsets up to digit `t`, counts from there. -/
abbrev ScanAt (d : ℕ → ℕ) (H : IVec S1024 32) (s t : ℕ) : Prop := HistAt H s fun t' q => if t' < t then off d t' q else cnt d q 64 t'

theorem scan_step {H H' : IVec S1024 32} {d : ℕ → ℕ} {s t : ℕ} {w : IVec S16 32} {b : BitVec 32} (hs : s < 4) (ht : t < 64) (hH : ScanAt d H s t)
    (hw : IsBlock H t w) (hb : b = BitVec.ofNat 32 (off d t (16 * s))) (hp : IsPut H H' t (offs b w)) :
    ScanAt d H' s (t + 1) := by
  have hwl : ∀ l < 16, wd w l = BitVec.ofNat 32 (cnt d (16 * s + l) 64 t) := fun l hl => by
    rw [hw l hl, hH t ht l hl]; simp
  intro t' ht' l hl
  by_cases he : t' = t
  · subst he
    rw [hp.1 l hl, offs_lane _ _ hl, runSum_ofNat l fun l' h' => hwl l' (h'.trans hl), hb, ← BitVec.ofNat_add,
      ← off_add_sum d t' (16 * s) l (by omega)]
    simp
  · rw [hp.2 t' ht' he l hl, hH t' ht' l hl]
    dsimp only
    by_cases h1 : t' < t
    · rw [if_pos h1, if_pos (by omega)]
    · rw [if_neg h1, if_neg (by omega)]

theorem scan_total {H : IVec S1024 32} {d : ℕ → ℕ} {s t : ℕ} {w : IVec S16 32} {b : BitVec 32} (hs : s < 4) (ht : t < 64) (hH : ScanAt d H s t)
    (hw : IsBlock H t w) (hb : b = BitVec.ofNat 32 (off d t (16 * s))) : Scalar.addi b (total w) = BitVec.ofNat 32 (off d t (16 * (s + 1))) := by
  have hwl : ∀ l < 16, wd w l = BitVec.ofNat 32 (cnt d (16 * s + l) 64 t) := fun l hl => by
    rw [hw l hl, hH t ht l hl]; simp
  show b + total w = _
  rw [total_eq, runSum_ofNat 16 hwl, hb, ← BitVec.ofNat_add, ← off_add_sum d t (16 * s) 16 (by omega), Nat.mul_add]

theorem scan_begin {H : IVec S1024 32} {d : ℕ → ℕ} {s : ℕ} (h : HistAt H s fun t q => cnt d q 64 t) : ScanAt d H s 0 :=
  fun t ht l hl => (h t ht l hl).trans (by simp)
theorem scan_end {H : IVec S1024 32} {d : ℕ → ℕ} {s : ℕ} (h : ScanAt d H s 64) : PermAt d H s 0 :=
  fun t ht l hl => (h t ht l hl).trans (by simp [ht, cnt_zero])

/-- Zero up to digit `t`. -/
def ZeroAt (H : IVec S1024 32) (t : ℕ) : Prop := ∀ t' < t, ∀ l < 16, wd H (t' * 16 + l) = 0#32
theorem zero_step {H H' : IVec S1024 32} {t : ℕ} (ht : t < 64) (h : ZeroAt H t) (hp : IsPut H H' t (broadcast S16 0#32)) : ZeroAt H' (t + 1) := by
  intro t' ht' l hl
  by_cases he : t' = t
  · subst he; rw [hp.1 l hl, wd_of_lt _ hl]; rfl
  · rw [hp.2 t' (by omega) he l hl, h t' (by omega) l hl]
theorem zero_end {H : IVec S1024 32} {d : ℕ → ℕ} (s : ℕ) (h : ZeroAt H 64) : HistAt H s fun t q => cnt d q 0 t :=
  fun t ht l hl => (h t ht l hl).trans (by simp [cnt_zero])

/-! ## The sorted words -/

/-- A float's element `k` of rank-one contents. -/
abbrev fl {n : ℕ} (f : FVec F ⟨1, ![n]⟩ .f32) (k : ℕ) : F .f32 := nth (Scalar.ofBits .f32 0x00000000#32 : F .f32) f k

/-- One position, quantised. -/
def quant1 (p : F .f32) : BitVec 32 := IntOp.minsi (FloatOps.fptosi 32 (FloatOps.mulf p (Scalar.ofBits .f32 0x48800000#32 : F .f32))) 262143#32
/-- The word of place `i`. -/
def key (pv : FVec F S4096 .f32) (i : ℕ) : BitVec 32 := quant1 (fl pv i) * 4096#32 + BitVec.ofNat 32 i

theorem key_mod (pv : FVec F S4096 .f32) {i : ℕ} (hi : i < 4096) : (key pv i).toNat % 4096 = i := by
  unfold key
  rw [BitVec.toNat_add, BitVec.toNat_mul, BitVec.toNat_ofNat, BitVec.toNat_ofNat]
  omega
theorem key_div (pv : FVec F S4096 .f32) {i : ℕ} (hi : i < 4096) : (key pv i).toNat / 4096 = (quant1 (fl pv i)).toNat % 2 ^ 20 := by
  unfold key
  rw [BitVec.toNat_add, BitVec.toNat_mul, BitVec.toNat_ofNat, BitVec.toNat_ofNat]
  omega

/-- `b` holds the words of `pv` in the order of the eighteen bits above the index. -/
def Sorted (pv : FVec F S4096 .f32) (b : IVec S4112 32) : Prop :=
  Perm (key pv) (wd b) ∧ Low (fun w : BitVec 32 => w.toNat / 4096) (2 ^ 18) (wd b)

theorem sorted_of {pv : FVec F S4096 .f32} {K1 K2 : ℕ → BitVec 32} {b : IVec S4112 32}
    (h1 : Pass (fun i => digit 12 (key pv i)) (key pv) K1) (h2 : Pass (fun i => digit 18 (K1 i)) K1 K2)
    (h3 : Pass (fun i => digit 24 (K2 i)) K2 (wd b)) : Sorted pv b := by
  refine ⟨(h1.perm.trans h2.perm).trans h3.perm, ?_⟩
  have l0 := Low.one (fun w : BitVec 32 => w.toNat / 4096) (key pv)
  have l1 := Low.pass (by omega) (fun i _ => by unfold digit; rw [Nat.div_one]; rfl) l0 h1
  have l2 := Low.pass (by omega) (fun i _ => by unfold digit; rw [Nat.div_div_eq_div_mul]; rfl) l1 h2
  have l3 := Low.pass (by omega) (fun i _ => by unfold digit; rw [Nat.div_div_eq_div_mul]; rfl) l2 h3
  exact l3

end Cert.Proof.W1

end
-- ==== Proof.Hold.lean ====
/-
  A tile's scratch buffers held at given contents, and the kernel's loads, stores, gathers and scatters on them.
-/
module

public import proofs.«01_k».proof.Proof.Steps
public import Idealize.ShloMosaic.Lib.Pipeline.Kit

@[expose] public section

noncomputable section

namespace Cert.Proof.W1

open Cert.KernelIdeal Cert.KernelIdeal.Gen
open Idealize.ShloMosaic
open Idealize.ShloMosaic.ValueIdx (ix1 eq_ix1)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none

abbrev cV (i : grid0.Coords) : Fin τ.nSC := (i 0).castLE hcore0
abbrev jV (i : grid0.Coords) : Fin τ.nSub := (i 1).castLE hsub0

/-- The thread of task `i` on device `d`. -/
abbrev thr (d : Dev nD) (i : grid0.Coords) : Thread nD τ := V d (cV i) (jV i)

/-- Running `p` on task `i`'s thread. -/
abbrev Wp (d : Dev nD) (i : grid0.Coords) {α : Type} (p : Pg F i α) (Q : α → sProp 𝕄) : sProp 𝕄 :=
  wp frame (wpE (defs₀ (F := F)) 𝒱₀ (thr d i) none) Set.univ p Q

/-- Memref `m` held outright, reading `f`. -/
def Holds (d : Dev nD) (i : grid0.Coords) {sp : Space} {s : Shape} {e : EltTy} (m : Memref sig .scVector sp s e) (f : Vec F s e) : sProp 𝕄 :=
  iprop(∃ g : Buf (Elt F) (m.view.loc (thr d i)), ⌜m.view.read (Elt F) g = f⌝ ∗ m.view.loc (thr d i) ↦[m.view.set]{fullShare} g)

variable {d : Dev nD} {i : grid0.Coords} {α : Type} {Q : α → sProp (MT nD τ sig (HIx 1) (Elt F) ℕ UU ℕ)}

theorem set_access_subset {sp : Space} {s : Shape} {e : EltTy} (m : Memref sig .scVector sp s e) (r : Rect s) : (m.access r).set ⊆ m.view.set :=
  View.set_slice_subset _ _

theorem holds_load {s : Shape} {e : EltTy} {m : Memref sig .scVector .vmem s e} {f : Vec F s e} {r : Rect s} {hl : m.view.LoadsAt r.toLoadRect}
    {k : Vec F r.shape e → Pg F i α} :
    Holds d i m f ⊢ iprop((Holds d i m f -∗ Wp d i (k fun x => f (r.emb x)) Q) -∗ Wp d i (Prog.lift (.load m r.toLoadRect hl) >>= k) Q) := by
  unfold Holds
  iintro ⟨%g, %hg, Hm⟩ HK
  iapply (wp_load 𝒱₀ (thr d i) none Set.univ (m := m) (r := r.toLoadRect) (hl := hl) (k := k) (S := m.view.set)
    (by show m.view.setOn r.set ⊆ _; exact fun x hx => by
          obtain ⟨y, -, rfl⟩ := Finset.mem_map.mp hx; exact View.emb_mem_set _ _)) $$ Hm
  iintro Hm
  have : m.view.readAt (Elt F) r.toLoadRect g = fun x => f (r.emb x) := by rw [← hg]; rfl
  rw [this]
  iapply HK
  iexists g; isplitr
  · ipureintro; exact hg
  · iexact Hm

theorem read_whole {sp : Space} {s : Shape} {e : EltTy} (m : Memref sig .scVector sp s e) (g : m.view.ty.Contents (Elt F)) :
    (m.access (.whole s)).read (Elt F) g = m.view.read (Elt F) g := by
  funext x
  show m.view.read (Elt F) g ((Rect.whole s).emb x) = _
  congr 1
  funext a; apply Fin.ext
  rw [Rect.emb_apply]; simp [Rect.whole]

theorem set_whole' {sp : Space} {s : Shape} {e : EltTy} (m : Memref sig .scVector sp s e) : (m.access (.whole s)).set = m.view.set := by
  refine Finset.Subset.antisymm (set_access_subset m _) ?_
  intro x hx
  obtain ⟨y, -, rfl⟩ := Finset.mem_map.mp hx
  have : m.view.emb y = (m.access (.whole s)).emb y := by
    show m.view.emb y = m.view.emb ((Rect.whole s).emb y)
    congr 1
    funext a; apply Fin.ext
    rw [Rect.emb_apply]; simp [Rect.whole]
  rw [this]; exact View.emb_mem_set _ _

theorem holds_loadIdx {s t : Shape} {e : EltTy} {m : Memref sig .scVector .vmem s e} {f : Vec F s e} {idxs : Fin s.rank → IVec t 32}
    {h : ∀ a x, (idxs a x).toNat < s.size a} {hl : m.view.Loads} {k : Vec F t e → Pg F i α} :
    Holds d i m f ⊢ iprop((Holds d i m f -∗ Wp d i (k (loadIdx (F := F) f idxs h)) Q) -∗ Wp d i (SparseCore.vectorLoadIdx m idxs h hl >>= k) Q) := by
  unfold Holds
  iintro ⟨%g, %hg, Hm⟩ HK
  iapply (SparseCore.wp_vectorLoadIdx 𝒱₀ (thr d i) none Set.univ (base := m) (idxs := idxs) (h := h) (hl := hl) (k := k) (S := m.view.set)
    (set_access_subset m _)) $$ Hm
  iintro Hm
  rw [read_whole, hg]
  iapply HK
  iexists g; isplitr
  · ipureintro; exact hg
  · iexact Hm

theorem holds_storeIdx {s : Shape} {dm : Fin 1 → ℕ} {e : EltTy} {m : Memref sig .scVector .vmem s e} {f : Vec F s e} {idxs : Fin s.rank → IVec ⟨1, dm⟩ 32}
    {v : Vec F ⟨1, dm⟩ e} {mask : IVec ⟨1, dm⟩ 1} {add : Bool}
    {h : ∀ a x, (idxs a x).toNat < s.size a} {hs : (m.access (.whole s)).Stores Finset.univ} {k : PUnit → Pg F i α} :
    Holds d i m f ⊢ iprop((Holds d i m (storeIdx (F := F) f idxs v mask add h) -∗ Wp d i (k ⟨⟩) Q)
      -∗ Wp d i (SparseCore.vectorStoreIdx m idxs v mask add h hs >>= k) Q) := by
  unfold Holds
  iintro ⟨%g, %hg, Hm⟩ HK
  have e1 := set_whole' m
  iapply (SparseCore.wp_vectorStoreIdx 𝒱₀ (thr d i) none Set.univ (base := m) (idxs := idxs) (v := v) (mask := mask) (add := add) (h := h) (hs := hs) (k := k)) $$ [Hm]
  · rw [e1]; iexact Hm
  iintro Hm
  rw [read_whole, hg, e1]
  iapply HK
  iexists ((m.access (.whole s)).write (Elt F) g (storeIdx (F := F) f idxs v mask add h) Finset.univ); isplitr
  · ipureintro
    rw [← read_whole]; exact View.read_write_univ _ _
  · iexact Hm

theorem holds_store {s : Shape} {e : EltTy} {m : Memref sig .scVector .vmem s e} {f : Vec F s e} {r : Rect s} {w : Vec F r.shape e}
    {hx : (m.access r).Stores Finset.univ} {hm : Finset.univ = Finset.univ ∨ ∀ a, r.stride a = 1} {k : PUnit → Pg F i α} :
    Holds d i m f ⊢ iprop((∀ f', ⌜(∀ x, f' (r.emb x) = w x) ∧ ∀ y, y ∉ (Finset.univ : Finset r.shape.Idx).map r.emb → f' y = f y⌝ -∗ Holds d i m f' -∗ Wp d i (k ⟨⟩) Q)
      -∗ Wp d i (Prog.lift (.store m r w Finset.univ hx hm) >>= k) Q) := by
  unfold Holds
  iintro ⟨%g, %hg, Hm⟩ HK
  iapply (wp_store 𝒱₀ (thr d i) none Set.univ (m := m) (r := r) (w := w) (Mk := Finset.univ) (hx := hx) (hm := hm) (k := k) (S := m.view.set)
    (set_access_subset m r)) $$ Hm
  iintro Hm
  iapply HK $$ %(m.view.read (Elt F) ((m.access r).write (Elt F) g w Finset.univ)) [] [Hm]
  · ipureintro
    refine ⟨fun x => View.read_slice_write_emb (v := m.view) r g w (Finset.mem_univ x), fun y hy => ?_⟩
    rw [← hg]; exact View.read_slice_write_of_not_mem (v := m.view) r g w _ hy
  · iexists _; isplitr
    · ipureintro; rfl
    · iexact Hm

theorem wp_check {P : Prop} {dc : Decidable P} {k : PLift P → Pg F i α} (h : P) :
    Wp d i (k ⟨h⟩) Q ⊢ Wp d i (Prog.lift (TpuEff.assume P dc) >>= k) Q :=
  wp_assume 𝒱₀ (thr d i) none Set.univ h
theorem wp_pure_r {a : α} : Q a ⊢ Wp d i (pure a : Pg F i α) Q := le_wp_ret _ _ _ a Q

end Cert.Proof.W1

end
-- ==== Proof.Sweeps.lean ====
/-
  The sweeps over the histograms and the words, each from what it finds to what it leaves: zeroing, building the words
  while counting, counting, turning counts into offsets, and moving the words to their offsets.
-/
module

public import proofs.«01_k».proof.Proof.Hold

@[expose] public section

noncomputable section

namespace Cert.Proof.W1

open Cert.KernelIdeal Cert.KernelIdeal.Gen
open Idealize.ShloMosaic
open Idealize.ShloMosaic.ValueIdx (ix1 eq_ix1)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix

variable {F : FTy → Type} [FloatOps F]

local notation "𝕄" => MT nD τ sig (HIx 1) (Elt F) ℕ UU ℕ

/-! ## Sixteen consecutive elements -/

theorem unit_emb {n c : ℕ} {o : Fin 1 → ℕ} (ho : o = ![c]) (inb : ∀ a, o a + S16.size a ≤ (⟨1, ![n]⟩ : Shape).size a) {l : ℕ} (hl : l < 16) (hc : c + l < n) :
    (Rect.unit (s := ⟨1, ![n]⟩) o S16.size inb).emb (ix1 ⟨l, hl⟩) = ix1 ⟨c + l, hc⟩ := by
  subst ho
  funext a
  match a with
  | ⟨0, _⟩ =>
    apply Fin.ext
    rw [Rect.emb_apply]
    show c + 1 * l = c + l
    omega

theorem inb_le {n c : ℕ} {o : Fin 1 → ℕ} (ho : o = ![c]) (inb : ∀ a, o a + S16.size a ≤ (⟨1, ![n]⟩ : Shape).size a) : c + 16 ≤ n := by
  subst ho; exact inb 0

theorem nth_block {α : Type} (z : α) {n c : ℕ} {o : Fin 1 → ℕ} (ho : o = ![c]) (inb : ∀ a, o a + S16.size a ≤ (⟨1, ![n]⟩ : Shape).size a)
    (f : (⟨1, ![n]⟩ : Shape).Idx → α) {l : ℕ} (hl : l < 16) :
    nth z (fun x : S16.Idx => f ((Rect.unit (s := ⟨1, ![n]⟩) o S16.size inb).emb x)) l = nth z f (c + l) := by
  have := inb_le ho inb
  rw [nth_of_lt _ _ hl, nth_of_lt _ _ (by omega : c + l < n), unit_emb ho inb hl]

theorem nth_put {α : Type} (z : α) {n c : ℕ} {o : Fin 1 → ℕ} (ho : o = ![c]) (inb : ∀ a, o a + S16.size a ≤ (⟨1, ![n]⟩ : Shape).size a)
    {f f' : (⟨1, ![n]⟩ : Shape).Idx → α} {w : S16.Idx → α}
    (h : (∀ x, f' ((Rect.unit (s := ⟨1, ![n]⟩) o S16.size inb).emb x) = w x)
      ∧ ∀ y, y ∉ (Finset.univ : Finset (Rect.unit (s := ⟨1, ![n]⟩) o S16.size inb).shape.Idx).map (Rect.unit (s := ⟨1, ![n]⟩) o S16.size inb).emb → f' y = f y) :
    (∀ l < 16, nth z f' (c + l) = nth z w l) ∧ ∀ k, (k < c ∨ c + 16 ≤ k) → nth z f' k = nth z f k := by
  have hle := inb_le ho inb
  refine ⟨fun l hl => ?_, fun k hk => ?_⟩
  · rw [nth_of_lt _ _ (by omega : c + l < n), nth_of_lt _ _ hl, ← unit_emb ho inb hl]
    exact h.1 _
  · by_cases hkn : k < n
    · rw [nth_of_lt _ _ hkn, nth_of_lt _ _ hkn]
      apply h.2
      intro hm
      obtain ⟨x, -, hx⟩ := Finset.mem_map.mp hm
      have h0 := congrArg (fun j : (⟨1, ![n]⟩ : Shape).Idx => (j 0).val) hx
      subst ho
      have hx16 : (x 0).val < 16 := (x 0).isLt
      have : c + 1 * (x 0).val = k := h0
      omega
    · unfold nth; rw [dif_neg hkn, dif_neg hkn]

/-! ## Loops -/

section Rules

variable {d : Dev nD} {i : grid0.Coords} {α : Type} {Q : α → sProp (MT nD τ sig (HIx 1) (Elt F) ℕ UU ℕ)}

theorem wp_loop {L : Scf.Loop 32} (ok : L.OK) {n : ℕ} (hn : L.trips = n) {σ : Type} {init : σ} {body : Fin L.trips → σ → Pg F i σ}
    (I : ℕ → σ → sProp 𝕄) (hbody : ∀ (t : Fin L.trips) (acc : σ), t.val < n → I t.val acc ⊢ Wp d i (body t acc) (I (t.val + 1)))
    {k : σ → Pg F i α} :
    I 0 init ⊢ iprop((∀ acc, I n acc -∗ Wp d i (k acc) Q) -∗ Wp d i (Scf.Loop.for L ok init body >>= k) Q) := by
  subst hn
  exact Scf.wp_for_bind frame (wpE (defs₀ (F := F)) 𝒱₀ (thr d i) none) Set.univ L.lb L.ub L.st ok init body I (fun t acc => hbody t acc t.isLt)

theorem trips5 : k0_t5_loop.trips = 64 := by decide
theorem trips4 : k0_t4_loop.trips = 64 := by decide
theorem trips8 : k0_t8_loop.trips = 64 := by decide
theorem trips6 : k0_t6_loop.trips = 64 := by decide
theorem trips2 : k0_t2_loop.trips = 128 := by decide
theorem trips15 : k0_t15_loop.trips = 256 := by decide
theorem trips1 : k0_t1_loop.trips = 64 := by decide

/-! ## Loads and stores of a histogram's digit -/

theorem loadHist_k {h : MemI S1024} {H : IVec S1024 32} (t : Fin k0_t5_loop.trips) {k : Vec F S16 .i32 → Pg F i α} :
    Holds (F := F) d i h H ⊢ iprop((∀ w : IVec S16 32, ⌜IsBlock H t.val w⌝ -∗ Holds (F := F) d i h H -∗ Wp d i (k w) Q) -∗ Wp d i (loadHist i h t >>= k) Q) := by
  iintro Hh HK
  iapply (holds_load (F := F) (m := h) (f := H)) $$ Hh
  iintro Hh
  iapply HK $$ [] [Hh]
  · ipureintro
    intro l hl
    rw [Nat.mul_comm]
    exact nth_block 0#32 (k0_off7_eq t) (k0_off7_inb t) H hl
  · iexact Hh

theorem storeHist_k {h : MemI S1024} {H : IVec S1024 32} (t : Fin k0_t5_loop.trips) {w : IVec S16 32} {k : PUnit → Pg F i α} :
    Holds (F := F) d i h H ⊢ iprop((∀ H' : IVec S1024 32, ⌜IsPut H H' t.val w⌝ -∗ Holds (F := F) d i h H' -∗ Wp d i (k ⟨⟩) Q) -∗ Wp d i (storeHist i h t w >>= k) Q) := by
  iintro Hh HK
  iapply (holds_store (F := F) (m := h) (f := H)) $$ Hh
  iintro %H' %hp Hh
  iapply HK $$ %H' [] [Hh]
  · ipureintro
    have := nth_put 0#32 (k0_off7_eq t) (k0_off7_inb t) hp
    refine ⟨fun l hl => ?_, fun t' ht' hne l hl => ?_⟩
    · rw [Nat.mul_comm t.val]; exact this.1 l hl
    · exact this.2 _ (by omega)
  · iexact Hh

/-- The four histograms, each as `P` of its stream says. -/
def Hists (d : Dev nD) (i : grid0.Coords) (h0 h1 h2 h3 : MemI S1024) (P : ℕ → IVec S1024 32 → Prop) : sProp 𝕄 :=
  iprop(∃ H0 H1 H2 H3, ⌜P 0 H0 ∧ P 1 H1 ∧ P 2 H2 ∧ P 3 H3⌝ ∗ Holds (F := F) d i h0 H0 ∗ Holds (F := F) d i h1 H1 ∗ Holds (F := F) d i h2 H2 ∗ Holds (F := F) d i h3 H3)

variable {h0 h1 h2 h3 : MemI S1024}

theorem Hists.mono {P P' : ℕ → IVec S1024 32 → Prop} (h : ∀ s < 4, ∀ H, P s H → P' s H) : (Hists (F := F) d i h0 h1 h2 h3 P) ⊢ Hists d i h0 h1 h2 h3 P' := by
  unfold Hists
  iintro ⟨%H0, %H1, %H2, %H3, %hP, Hs⟩
  iexists H0; iexists H1; iexists H2; iexists H3
  isplitr
  · ipureintro; exact ⟨h 0 (by omega) _ hP.1, h 1 (by omega) _ hP.2.1, h 2 (by omega) _ hP.2.2.1, h 3 (by omega) _ hP.2.2.2⟩
  · iexact Hs

/-! ## Zeroing -/

theorem zeroTrip_wp (t : Fin k0_t5_loop.trips) (ht : t.val < 64) (acc : BitVec 32) :
    Hists (F := F) d i h0 h1 h2 h3 (fun _ H => ZeroAt H t.val)
      ⊢ Wp d i (zeroTrip i h0 h1 h2 h3 t) (fun _ => Hists d i h0 h1 h2 h3 fun _ H => ZeroAt H (t.val + 1)) := by
  unfold Hists zeroTrip zeroOne
  simp only [bind_assoc]
  iintro ⟨%H0, %H1, %H2, %H3, %hP, H0, H1, H2, H3⟩
  iapply (loadHist_k t) $$ H0; iintro %w %hw H0
  iapply (storeHist_k t) $$ H0; iintro %H0' %h0' H0
  iapply (loadHist_k t) $$ H1; iintro %w %hw H1
  iapply (storeHist_k t) $$ H1; iintro %H1' %h1' H1
  iapply (loadHist_k t) $$ H2; iintro %w %hw H2
  iapply (storeHist_k t) $$ H2; iintro %H2' %h2' H2
  iapply (loadHist_k t) $$ H3; iintro %w %hw H3
  iapply (storeHist_k t) $$ H3; iintro %H3' %h3' H3
  iapply (wp_pure_r (F := F))
  iexists H0'; iexists H1'; iexists H2'; iexists H3'
  isplitr
  · ipureintro; exact ⟨zero_step ht hP.1 h0', zero_step ht hP.2.1 h1', zero_step ht hP.2.2.1 h2', zero_step ht hP.2.2.2 h3'⟩
  · isplitl [H0]; · iexact H0
    isplitl [H1]; · iexact H1
    isplitl [H2] <;> iassumption

theorem zeroLoop_k {k : BitVec 32 → Pg F i α} :
    Hists (F := F) d i h0 h1 h2 h3 (fun _ _ => True)
      ⊢ iprop((∀ a, Hists (F := F) d i h0 h1 h2 h3 (fun _ H => ZeroAt H 64) -∗ Wp d i (k a) Q) -∗ Wp d i (zeroLoop i h0 h1 h2 h3 >>= k) Q) := by
  refine BIBase.Entails.trans ?_ (wp_loop (F := F) (d := d) (i := i) k0_t5_ok trips5 (init := 0#32)
    (fun n _ => Hists (F := F) d i h0 h1 h2 h3 (fun _ H => ZeroAt H n)) (fun t acc ht => zeroTrip_wp t ht acc))
  exact Hists.mono fun s hs H _ t ht => absurd ht (Nat.not_lt_zero _)

/-! ## Turning counts into offsets -/

theorem scanTrip_wp {dg : ℕ → ℕ} (t : Fin k0_t5_loop.trips) (ht : t.val < 64) (b : BitVec 32) :
    iprop(⌜b = BitVec.ofNat 32 (off dg t.val 0)⌝ ∗ Hists (F := F) d i h0 h1 h2 h3 (fun s H => ScanAt dg H s t.val))
      ⊢ Wp d i (scanTrip i h0 h1 h2 h3 t b)
          (fun b' => iprop(⌜b' = BitVec.ofNat 32 (off dg (t.val + 1) 0)⌝ ∗ Hists (F := F) d i h0 h1 h2 h3 fun s H => ScanAt dg H s (t.val + 1))) := by
  unfold Hists scanTrip
  iintro ⟨%hb, %H0, %H1, %H2, %H3, %hP, H0, H1, H2, H3⟩
  iapply (loadHist_k t) $$ H0; iintro %a0 %ha0 H0
  iapply (loadHist_k t) $$ H1; iintro %a1 %ha1 H1
  iapply (loadHist_k t) $$ H2; iintro %a2 %ha2 H2
  iapply (loadHist_k t) $$ H3; iintro %a3 %ha3 H3
  iapply (loadHist_k t) $$ H0; iintro %w %hw H0
  iapply (storeHist_k t) $$ H0; iintro %H0' %h0' H0
  iapply (loadHist_k t) $$ H1; iintro %w %hw H1
  iapply (storeHist_k t) $$ H1; iintro %H1' %h1' H1
  iapply (loadHist_k t) $$ H2; iintro %w %hw H2
  iapply (storeHist_k t) $$ H2; iintro %H2' %h2' H2
  iapply (loadHist_k t) $$ H3; iintro %w %hw H3
  iapply (storeHist_k t) $$ H3; iintro %H3' %h3' H3
  iapply (wp_pure_r (F := F))
  have e0 := scan_total (by omega) ht hP.1 ha0 hb
  have e1 := scan_total (by omega) ht hP.2.1 ha1 e0
  have e2 := scan_total (by omega) ht hP.2.2.1 ha2 e1
  have e3 := scan_total (by omega) ht hP.2.2.2 ha3 e2
  isplitr
  · ipureintro
    exact e3.trans (congrArg _ (off_wrap dg t.val))
  iexists H0'; iexists H1'; iexists H2'; iexists H3'
  isplitr
  · ipureintro
    exact ⟨scan_step (by omega) ht hP.1 ha0 hb h0', scan_step (by omega) ht hP.2.1 ha1 e0 h1', scan_step (by omega) ht hP.2.2.1 ha2 e1 h2',
      scan_step (by omega) ht hP.2.2.2 ha3 e2 h3'⟩
  · isplitl [H0]; · iexact H0
    isplitl [H1]; · iexact H1
    isplitl [H2] <;> iassumption

theorem scanLoop_k {dg : ℕ → ℕ} {k : BitVec 32 → Pg F i α} :
    Hists (F := F) d i h0 h1 h2 h3 (fun s H => HistAt H s fun t q => cnt dg q 64 t)
      ⊢ iprop((∀ a, Hists (F := F) d i h0 h1 h2 h3 (fun s H => PermAt dg H s 0) -∗ Wp d i (k a) Q) -∗ Wp d i (scanLoop i h0 h1 h2 h3 >>= k) Q) := by
  have hl := wp_loop (F := F) (d := d) (i := i) (Q := Q) (k := k) k0_t5_ok trips5 (init := 0#32)
    (fun n b => iprop(⌜b = BitVec.ofNat 32 (off dg n 0)⌝ ∗ Hists (F := F) d i h0 h1 h2 h3 (fun s H => ScanAt dg H s n))) (fun t acc ht => scanTrip_wp t ht acc)
  iintro Hh HK
  iapply hl $$ [Hh]
  · isplitr
    · ipureintro; rw [off_zero]
    · iapply (Hists.mono fun s hs H h => scan_begin h) $$ Hh
  · iintro %a ⟨%ha, Hh⟩
    iapply HK
    iapply (Hists.mono fun s hs H h => scan_end h) $$ Hh

/-! ## Counting -/

section Streams

variable {K : ℕ → BitVec 32} {g g0 g1 g2 g3 : IVec S16 32} {sh : ℕ}

theorem col_ck {s v n : ℕ} (hg : Col g s) (hs : s < 4) (hv : v < 64) (hn : 4096 ≤ n) : Ck n (colAt g (Scf.iv 0#32 1#32 v)) :=
  ck_of fun l hl => by rw [hg.toNat hs hl hv]; omega

theorem src_lane {S : IVec S4112 32} (hS : ∀ j < 4096, wd S j = K j) {s v : ℕ} (hg : Col g s) (hs : s < 4) (hv : v < 64) (h) :
    ∀ l < 16, wd (loadIdx (F := F) (e := .i32) (s := S4112) (t := S16) S ![colAt g (Scf.iv 0#32 1#32 v)] h : IVec S16 32) l = K ((16 * s + l) * 64 + v) := by
  intro l hl
  refine (loadIdx_lane (F := F) (e := .i32) 0#32 S _ h hl).trans ?_
  rw [hg.toNat hs hl hv]
  exact hS _ (by omega)

theorem dig_lane {s v : ℕ} {p : IVec S16 32} (hsh : sh < 32) (hp : ∀ l < 16, wd p l = K ((16 * s + l) * 64 + v)) :
    ∀ l < 16, (wd (digAt lanes (BitVec.ofNat 32 sh) p) l).toNat = digit sh (K ((16 * s + l) * 64 + v)) * 16 + l := by
  intro l hl
  rw [digAt_lane p hsh hl, hp l hl]

theorem slot_ck {D : IVec S16 32} {e : ℕ → ℕ} (he : ∀ l, e l < 64) (hD : ∀ l < 16, (wd D l).toNat = e l * 16 + l) : ∀ l < 16, (wd D l).toNat < 1024 := by
  intro l hl; rw [hD l hl]; have := he l; omega

theorem histOne_k {src : MemI S4112} {h : MemI S1024} {S : IVec S4112 32} {H : IVec S1024 32} {s v : ℕ} (hs : s < 4) (hv : v < 64) (hsh : sh < 32) (hg : Col g s)
    (hS : ∀ j < 4096, wd S j = K j) (hH : HistAt H s fun t q => cnt (fun j => digit sh (K j)) q v t) {k : PUnit → Pg F i α} :
    iprop(Holds (F := F) d i src S ∗ Holds (F := F) d i h H)
      ⊢ iprop((∀ H' : IVec S1024 32, ⌜HistAt H' s fun t q => cnt (fun j => digit sh (K j)) q (v + 1) t⌝ -∗ Holds (F := F) d i src S -∗ Holds (F := F) d i h H' -∗ Wp d i (k ⟨⟩) Q)
        -∗ Wp d i (histOne i src h (BitVec.ofNat 32 sh) lanes (broadcast S16 1#32) g (Scf.iv 0#32 1#32 v) >>= k) Q) := by
  unfold histOne
  simp only [bind_assoc, pure_bind]
  iintro ⟨Hs, Hh⟩ HK
  iapply (wp_check (F := F) (col_ck hg hs hv (by omega)))
  iapply (holds_loadIdx (F := F) (m := src) (f := S)) $$ Hs
  iintro Hs
  have hp := src_lane (F := F) hS hg hs hv (col_ck hg hs hv (by omega))
  have hD := dig_lane (sh := sh) hsh hp
  iapply (wp_check (F := F) (ck_of (slot_ck (fun l => digit_lt sh (K ((16 * s + l) * 64 + v))) hD)))
  iapply (holds_storeIdx (F := F) (m := h) (f := H)) $$ Hh
  iintro Hh
  iapply HK $$ [] [Hs] [Hh]
  rotate_left
  · iexact Hs
  · iexact Hh
  · ipureintro
    exact hist_step (F := F) hH hD _

theorem histTrip_wp {src : MemI S4112} {S : IVec S4112 32} (hsh : sh < 32) (hg : Col g0 0 ∧ Col g1 1 ∧ Col g2 2 ∧ Col g3 3)
    (hS : ∀ j < 4096, wd S j = K j) (t : Fin k0_t8_loop.trips) (ht : t.val < 64) (acc : BitVec 32) :
    iprop(Holds (F := F) d i src S ∗ Hists (F := F) d i h0 h1 h2 h3 (fun s H => HistAt H s fun t' q => cnt (fun j => digit sh (K j)) q t.val t'))
      ⊢ Wp d i (histTrip i src h0 h1 h2 h3 (BitVec.ofNat 32 sh) lanes (broadcast S16 1#32) g0 g1 g2 g3 t)
          (fun _ => iprop(Holds (F := F) d i src S ∗ Hists (F := F) d i h0 h1 h2 h3 (fun s H => HistAt H s fun t' q => cnt (fun j => digit sh (K j)) q (t.val + 1) t'))) := by
  unfold Hists histTrip
  iintro ⟨Hs, %H0, %H1, %H2, %H3, %hP, H0, H1, H2, H3⟩
  iapply (histOne_k (F := F) (by omega) ht hsh hg.1 hS hP.1) $$ [Hs H0]
  · isplitl [Hs] <;> iassumption
  iintro %H0' %h0' Hs H0
  iapply (histOne_k (F := F) (by omega) ht hsh hg.2.1 hS hP.2.1) $$ [Hs H1]
  · isplitl [Hs] <;> iassumption
  iintro %H1' %h1' Hs H1
  iapply (histOne_k (F := F) (by omega) ht hsh hg.2.2.1 hS hP.2.2.1) $$ [Hs H2]
  · isplitl [Hs] <;> iassumption
  iintro %H2' %h2' Hs H2
  iapply (histOne_k (F := F) (by omega) ht hsh hg.2.2.2 hS hP.2.2.2) $$ [Hs H3]
  · isplitl [Hs] <;> iassumption
  iintro %H3' %h3' Hs H3
  iapply (wp_pure_r (F := F))
  isplitl [Hs]; · iexact Hs
  iexists H0'; iexists H1'; iexists H2'; iexists H3'
  isplitr
  · ipureintro; exact ⟨h0', h1', h2', h3'⟩
  · isplitl [H0]; · iexact H0
    isplitl [H1]; · iexact H1
    isplitl [H2] <;> iassumption

theorem histLoop_k {src : MemI S4112} {S : IVec S4112 32} (hsh : sh < 32) (hg : Col g0 0 ∧ Col g1 1 ∧ Col g2 2 ∧ Col g3 3)
    (hS : ∀ j < 4096, wd S j = K j) {k : BitVec 32 → Pg F i α} :
    iprop(Holds (F := F) d i src S ∗ Hists (F := F) d i h0 h1 h2 h3 (fun _ H => ZeroAt H 64))
      ⊢ iprop((∀ a, Holds (F := F) d i src S -∗ Hists (F := F) d i h0 h1 h2 h3 (fun s H => HistAt H s fun t q => cnt (fun j => digit sh (K j)) q 64 t) -∗ Wp d i (k a) Q)
        -∗ Wp d i (histLoop i src h0 h1 h2 h3 (BitVec.ofNat 32 sh) lanes (broadcast S16 1#32) g0 g1 g2 g3 >>= k) Q) := by
  have hl := wp_loop (F := F) (d := d) (i := i) (Q := Q) (k := k) k0_t8_ok trips8 (init := 0#32)
    (fun n _ => iprop(Holds (F := F) d i src S ∗ Hists (F := F) d i h0 h1 h2 h3 (fun s H => HistAt H s fun t q => cnt (fun j => digit sh (K j)) q n t)))
    (fun t acc ht => histTrip_wp hsh hg hS t ht acc)
  iintro ⟨Hs, Hh⟩ HK
  iapply hl $$ [Hs Hh]
  · isplitl [Hs]; · iexact Hs
    iapply (Hists.mono fun s hs H h => zero_end s h) $$ Hh
  · iintro %a ⟨Hs, Hh⟩
    iapply HK $$ [Hs] [Hh]
    · iexact Hs
    · iexact Hh

/-! ## Moving the words -/

theorem permOne_k {src dst : MemI S4112} {h : MemI S1024} {S G : IVec S4112 32} {H : IVec S1024 32} {s v : ℕ} (hs : s < 4) (hv : v < 64) (hsh : sh < 32) (hg : Col g s)
    (hS : ∀ j < 4096, wd S j = K j) (hH : PermAt (fun j => digit sh (K j)) H s v) (hG : DstAt (fun j => digit sh (K j)) K G v s) {k : PUnit → Pg F i α} :
    iprop(Holds (F := F) d i src S ∗ Holds (F := F) d i dst G ∗ Holds (F := F) d i h H)
      ⊢ iprop((∀ (G' : IVec S4112 32) (H' : IVec S1024 32), ⌜PermAt (fun j => digit sh (K j)) H' s (v + 1) ∧ DstAt (fun j => digit sh (K j)) K G' v (s + 1)⌝
            -∗ Holds (F := F) d i src S -∗ Holds (F := F) d i dst G' -∗ Holds (F := F) d i h H' -∗ Wp d i (k ⟨⟩) Q)
        -∗ Wp d i (permOne i src dst h (BitVec.ofNat 32 sh) lanes g (Scf.iv 0#32 1#32 v) >>= k) Q) := by
  unfold permOne
  simp only [bind_assoc, pure_bind]
  iintro ⟨Hs, Hd, Hh⟩ HK
  iapply (wp_check (F := F) (col_ck hg hs hv (by omega)))
  iapply (holds_loadIdx (F := F) (m := src) (f := S)) $$ Hs
  iintro Hs
  have hp := src_lane (F := F) hS hg hs hv (col_ck hg hs hv (by omega))
  have hD := dig_lane (sh := sh) hsh hp
  have hc := slot_ck (fun l => digit_lt sh (K ((16 * s + l) * 64 + v))) hD
  iapply (wp_check (F := F) (ck2_of hc hc))
  iapply (holds_loadIdx (F := F) (m := h) (f := H)) $$ Hh
  iintro Hh
  have ho : ∀ l < 16, wd _ l = _ := fun l hl => off_word (F := F) hs hv hH hD (fun j => digit_lt sh (K j)) (ck2_of hc hc).1 hl
  iapply (wp_check (F := F) (ck_of fun l hl => by
    rw [ho l hl, off_toNat (by omega)]
    exact Nat.lt_of_lt_of_le (rank_lt _ (by omega)) (by omega)))
  iapply (holds_storeIdx (F := F) (m := dst) (f := G)) $$ Hd
  iintro Hd
  iapply (holds_storeIdx (F := F) (m := h) (f := H)) $$ Hh
  iintro Hh
  iapply HK $$ [] [Hs] [Hd] [Hh]
  rotate_left
  · iexact Hs
  · iexact Hd
  · iexact Hh
  · ipureintro
    exact ⟨perm_hist_step (F := F) hs hv hH hD ho _, perm_dst_step (F := F) hs hv hG ho hp _⟩

theorem permTrip_wp {src dst : MemI S4112} {S : IVec S4112 32} (hsh : sh < 32) (hg : Col g0 0 ∧ Col g1 1 ∧ Col g2 2 ∧ Col g3 3)
    (hS : ∀ j < 4096, wd S j = K j) (t : Fin k0_t6_loop.trips) (ht : t.val < 64) (acc : BitVec 32) :
    iprop(Holds (F := F) d i src S ∗ (∃ G, ⌜DstAt (fun j => digit sh (K j)) K G t.val 0⌝ ∗ Holds (F := F) d i dst G)
        ∗ Hists (F := F) d i h0 h1 h2 h3 (fun s H => PermAt (fun j => digit sh (K j)) H s t.val))
      ⊢ Wp d i (permTrip i src dst h0 h1 h2 h3 (BitVec.ofNat 32 sh) lanes g0 g1 g2 g3 t)
          (fun _ => iprop(Holds (F := F) d i src S ∗ (∃ G, ⌜DstAt (fun j => digit sh (K j)) K G (t.val + 1) 0⌝ ∗ Holds (F := F) d i dst G)
            ∗ Hists (F := F) d i h0 h1 h2 h3 (fun s H => PermAt (fun j => digit sh (K j)) H s (t.val + 1)))) := by
  unfold Hists permTrip
  iintro ⟨Hs, ⟨%G, %hG, Hd⟩, %H0, %H1, %H2, %H3, %hP, H0, H1, H2, H3⟩
  iapply (permOne_k (F := F) (by omega) ht hsh hg.1 hS hP.1 hG) $$ [Hs Hd H0]
  · isplitl [Hs]; · iexact Hs
    isplitl [Hd] <;> iassumption
  iintro %G0 %H0' %h0' Hs Hd H0
  iapply (permOne_k (F := F) (by omega) ht hsh hg.2.1 hS hP.2.1 h0'.2) $$ [Hs Hd H1]
  · isplitl [Hs]; · iexact Hs
    isplitl [Hd] <;> iassumption
  iintro %G1 %H1' %h1' Hs Hd H1
  iapply (permOne_k (F := F) (by omega) ht hsh hg.2.2.1 hS hP.2.2.1 h1'.2) $$ [Hs Hd H2]
  · isplitl [Hs]; · iexact Hs
    isplitl [Hd] <;> iassumption
  iintro %G2 %H2' %h2' Hs Hd H2
  iapply (permOne_k (F := F) (by omega) ht hsh hg.2.2.2 hS hP.2.2.2 h2'.2) $$ [Hs Hd H3]
  · isplitl [Hs]; · iexact Hs
    isplitl [Hd] <;> iassumption
  iintro %G3 %H3' %h3' Hs Hd H3
  iapply (wp_pure_r (F := F))
  isplitl [Hs]; · iexact Hs
  isplitl [Hd]
  · iexists G3; isplitr
    · ipureintro; intro j hj hd; exact h3'.2 j hj ((Done.next hj).mp hd)
    · iexact Hd
  iexists H0'; iexists H1'; iexists H2'; iexists H3'
  isplitr
  · ipureintro; exact ⟨h0'.1, h1'.1, h2'.1, h3'.1⟩
  · isplitl [H0]; · iexact H0
    isplitl [H1]; · iexact H1
    isplitl [H2] <;> iassumption

/-- Held, reading anything. -/
def Some' (d : Dev nD) (i : grid0.Coords) {sp : Space} {s : Shape} {e : EltTy} (m : Memref sig .scVector sp s e) : sProp 𝕄 := iprop(∃ f, Holds (F := F) d i m f)

theorem permLoop_k {src dst : MemI S4112} {S : IVec S4112 32} (hsh : sh < 32) (hg : Col g0 0 ∧ Col g1 1 ∧ Col g2 2 ∧ Col g3 3)
    (hS : ∀ j < 4096, wd S j = K j) {k : BitVec 32 → Pg F i α} :
    iprop(Holds (F := F) d i src S ∗ Some' (F := F) d i dst ∗ Hists (F := F) d i h0 h1 h2 h3 (fun s H => PermAt (fun j => digit sh (K j)) H s 0))
      ⊢ iprop((∀ (a : BitVec 32) (G : IVec S4112 32), ⌜Pass (fun j => digit sh (K j)) K (wd G)⌝ -∗ Holds (F := F) d i src S -∗ Holds (F := F) d i dst G
            -∗ Hists (F := F) d i h0 h1 h2 h3 (fun _ _ => True) -∗ Wp d i (k a) Q)
        -∗ Wp d i (permLoop i src dst h0 h1 h2 h3 (BitVec.ofNat 32 sh) lanes g0 g1 g2 g3 >>= k) Q) := by
  have hl := wp_loop (F := F) (d := d) (i := i) (Q := Q) (k := k) k0_t6_ok trips6 (init := 0#32)
    (fun n _ => iprop(Holds (F := F) d i src S ∗ (∃ G, ⌜DstAt (fun j => digit sh (K j)) K G n 0⌝ ∗ Holds (F := F) d i dst G)
        ∗ Hists (F := F) d i h0 h1 h2 h3 (fun s H => PermAt (fun j => digit sh (K j)) H s n)))
    (fun t acc ht => permTrip_wp hsh hg hS t ht acc)
  unfold Some'
  iintro ⟨Hs, ⟨%G, Hd⟩, Hh⟩ HK
  iapply hl $$ [Hs Hd Hh]
  · isplitl [Hs]; · iexact Hs
    isplitl [Hd]
    · iexists G; isplitr
      · ipureintro; intro j hj hd; exact absurd hd Done.none
      · iexact Hd
    · iexact Hh
  · iintro %a ⟨Hs, ⟨%G', %hG, Hd⟩, Hh⟩
    iapply HK $$ %a %G' [] [Hs] [Hd] [Hh]
    · ipureintro; exact fun j hj => hG j hj Done.all
    · iexact Hs
    · iexact Hd
    · iapply (Hists.mono fun s hs H h => trivial) $$ Hh

end Streams

/-! ## Building the words -/

section Build

variable {pv : FVec F S4096 .f32} {g g0 g1 g2 g3 : IVec S16 32} {pb : MemF S4096}

theorem quant_lane (p : FVec F S16 .f32) {l : ℕ} (hl : l < 16) : wd (quant p) l = quant1 (fl p l) := by
  rw [wd_of_lt _ hl, show fl p l = p (ix1 ⟨l, hl⟩) from nth_of_lt _ _ hl]; rfl

theorem packed_lane (p : FVec F S16 .f32) (c : IVec S16 32) {l : ℕ} (hl : l < 16) : wd (packed c p) l = quant1 (fl p l) * 4096#32 + wd c l := by
  rw [← quant_lane p hl, wd_of_lt _ hl, wd_of_lt _ hl, wd_of_lt _ hl]; rfl

theorem digit_key {j : ℕ} (hj : j < 4096) : digit 12 (key pv j) = (quant1 (fl pv j)).toNat % 64 := by
  unfold digit
  show (key pv j).toNat / 4096 % 64 = _
  rw [key_div pv hj]; omega

theorem slot_quant {s v : ℕ} {p : FVec F S16 .f32} (hs : s < 4) (hv : v < 64) (hp : ∀ l < 16, fl p l = fl pv ((16 * s + l) * 64 + v)) {l : ℕ} (hl : l < 16) :
    (wd (slotOf lanes (quant p)) l).toNat = digit 12 (key pv ((16 * s + l) * 64 + v)) * 16 + l := by
  rw [slotOf_lane _ hl, quant_lane _ hl, hp l hl, ← digit_key (pv := pv) (by omega : (16 * s + l) * 64 + v < 4096)]

theorem pos_lane {s v : ℕ} (hg : Col g s) (hs : s < 4) (hv : v < 64) (h) :
    ∀ l < 16, fl (n := 16) (loadIdx (F := F) (e := .f32) (s := S4096) (t := S16) pv ![colAt g (Scf.iv 0#32 1#32 v)] h : FVec F S16 .f32) l = fl pv ((16 * s + l) * 64 + v) := by
  intro l hl
  refine (loadIdx_lane (F := F) (e := .f32) _ pv _ h hl).trans ?_
  rw [hg.toNat hs hl hv]

theorem buildOne_k {dst : MemI S4112} {h : MemI S1024} {G : IVec S4112 32} {H : IVec S1024 32} {s v : ℕ} (hs : s < 4) (hv : v < 64) (hg : Col g s)
    (hH : HistAt H s fun t q => cnt (fun j => digit 12 (key pv j)) q v t) (hG : SrcAt (key pv) G v s) {k : PUnit → Pg F i α} :
    iprop(Holds (F := F) d i pb pv ∗ Holds (F := F) d i dst G ∗ Holds (F := F) d i h H)
      ⊢ iprop((∀ (G' : IVec S4112 32) (H' : IVec S1024 32), ⌜(HistAt H' s fun t q => cnt (fun j => digit 12 (key pv j)) q (v + 1) t) ∧ SrcAt (key pv) G' v (s + 1)⌝
            -∗ Holds (F := F) d i pb pv -∗ Holds (F := F) d i dst G' -∗ Holds (F := F) d i h H' -∗ Wp d i (k ⟨⟩) Q)
        -∗ Wp d i (buildOne i pb dst h lanes (broadcast S16 1#32) g (Scf.iv 0#32 1#32 v) >>= k) Q) := by
  unfold buildOne
  simp only [bind_assoc, pure_bind]
  iintro ⟨Hp, Hd, Hh⟩ HK
  have hp := pos_lane (pv := pv) hg hs hv (col_ck hg hs hv (by omega))
  have hD : ∀ l < 16, _ := @slot_quant F _ pv s v _ hs hv hp
  have hc := slot_ck (fun l => digit_lt 12 (key pv ((16 * s + l) * 64 + v))) hD
  first
    | iapply (wp_check (F := F) (ck2_of (fun l hl => by rw [hg.toNat hs hl hv]; omega) (fun l hl => by rw [hg.toNat hs hl hv]; omega)))
    | iapply (wp_check (F := F) (col_ck hg hs hv (by omega)))
  iapply (holds_loadIdx (F := F) (m := pb) (f := pv)) $$ Hp
  iintro Hp
  iapply (holds_storeIdx (F := F) (m := dst) (f := G)) $$ Hd
  iintro Hd
  iapply (wp_check (F := F) (ck_of hc))
  iapply (holds_storeIdx (F := F) (m := h) (f := H)) $$ Hh
  iintro Hh
  iapply HK $$ [] [Hp] [Hd] [Hh]
  rotate_left
  · iexact Hp
  · iexact Hd
  · iexact Hh
  · ipureintro
    refine ⟨hist_step (F := F) hH hD _, src_step (F := F) hs hv hG (fun l hl => hg.toNat hs hl hv) (fun l hl => ?_) _⟩
    rw [packed_lane _ _ hl, hp l hl, hg l hl v hv]; rfl

theorem buildTrip_wp {dst : MemI S4112} (hg : Col g0 0 ∧ Col g1 1 ∧ Col g2 2 ∧ Col g3 3) (t : Fin k0_t4_loop.trips) (ht : t.val < 64) (acc : BitVec 32) :
    iprop(Holds (F := F) d i pb pv ∗ (∃ G, ⌜SrcAt (key pv) G t.val 0⌝ ∗ Holds (F := F) d i dst G)
        ∗ Hists (F := F) d i h0 h1 h2 h3 (fun s H => HistAt H s fun t' q => cnt (fun j => digit 12 (key pv j)) q t.val t'))
      ⊢ Wp d i (buildTrip i pb dst h0 h1 h2 h3 lanes (broadcast S16 1#32) g0 g1 g2 g3 t)
          (fun _ => iprop(Holds (F := F) d i pb pv ∗ (∃ G, ⌜SrcAt (key pv) G (t.val + 1) 0⌝ ∗ Holds (F := F) d i dst G)
            ∗ Hists (F := F) d i h0 h1 h2 h3 (fun s H => HistAt H s fun t' q => cnt (fun j => digit 12 (key pv j)) q (t.val + 1) t'))) := by
  unfold Hists buildTrip
  iintro ⟨Hs, ⟨%G, %hG, Hd⟩, %H0, %H1, %H2, %H3, %hP, H0, H1, H2, H3⟩
  iapply (buildOne_k (F := F) (by omega) ht hg.1 hP.1 hG) $$ [Hs Hd H0]
  · isplitl [Hs]; · iexact Hs
    isplitl [Hd] <;> iassumption
  iintro %G0 %H0' %h0' Hs Hd H0
  iapply (buildOne_k (F := F) (by omega) ht hg.2.1 hP.2.1 h0'.2) $$ [Hs Hd H1]
  · isplitl [Hs]; · iexact Hs
    isplitl [Hd] <;> iassumption
  iintro %G1 %H1' %h1' Hs Hd H1
  iapply (buildOne_k (F := F) (by omega) ht hg.2.2.1 hP.2.2.1 h1'.2) $$ [Hs Hd H2]
  · isplitl [Hs]; · iexact Hs
    isplitl [Hd] <;> iassumption
  iintro %G2 %H2' %h2' Hs Hd H2
  iapply (buildOne_k (F := F) (by omega) ht hg.2.2.2 hP.2.2.2 h2'.2) $$ [Hs Hd H3]
  · isplitl [Hs]; · iexact Hs
    isplitl [Hd] <;> iassumption
  iintro %G3 %H3' %h3' Hs Hd H3
  iapply (wp_pure_r (F := F))
  isplitl [Hs]; · iexact Hs
  isplitl [Hd]
  · iexists G3; isplitr
    · ipureintro; intro j hj hd; exact h3'.2 j hj ((Done.next hj).mp hd)
    · iexact Hd
  iexists H0'; iexists H1'; iexists H2'; iexists H3'
  isplitr
  · ipureintro; exact ⟨h0'.1, h1'.1, h2'.1, h3'.1⟩
  · isplitl [H0]; · iexact H0
    isplitl [H1]; · iexact H1
    isplitl [H2] <;> iassumption

theorem buildLoop_k {dst : MemI S4112} (hg : Col g0 0 ∧ Col g1 1 ∧ Col g2 2 ∧ Col g3 3) {k : BitVec 32 → Pg F i α} :
    iprop(Holds (F := F) d i pb pv ∗ Some' (F := F) d i dst ∗ Hists (F := F) d i h0 h1 h2 h3 (fun _ H => ZeroAt H 64))
      ⊢ iprop((∀ (a : BitVec 32) (G : IVec S4112 32), ⌜∀ j < 4096, wd G j = key pv j⌝ -∗ Holds (F := F) d i pb pv -∗ Holds (F := F) d i dst G
            -∗ Hists (F := F) d i h0 h1 h2 h3 (fun s H => HistAt H s fun t q => cnt (fun j => digit 12 (key pv j)) q 64 t) -∗ Wp d i (k a) Q)
        -∗ Wp d i (buildLoop i pb dst h0 h1 h2 h3 lanes (broadcast S16 1#32) g0 g1 g2 g3 >>= k) Q) := by
  have hl := wp_loop (F := F) (d := d) (i := i) (Q := Q) (k := k) k0_t4_ok trips4 (init := 0#32)
    (fun n _ => iprop(Holds (F := F) d i pb pv ∗ (∃ G, ⌜SrcAt (key pv) G n 0⌝ ∗ Holds (F := F) d i dst G)
        ∗ Hists (F := F) d i h0 h1 h2 h3 (fun s H => HistAt H s fun t' q => cnt (fun j => digit 12 (key pv j)) q n t')))
    (fun t acc ht => buildTrip_wp hg t ht acc)
  unfold Some'
  iintro ⟨Hs, ⟨%G, Hd⟩, Hh⟩ HK
  iapply hl $$ [Hs Hd Hh]
  · isplitl [Hs]; · iexact Hs
    isplitl [Hd]
    · iexists G; isplitr
      · ipureintro; intro j hj hd; exact absurd hd Done.none
      · iexact Hd
    · iapply (Hists.mono fun s hs H h => zero_end s h) $$ Hh
  · iintro %a ⟨Hs, ⟨%G', %hG, Hd⟩, Hh⟩
    iapply HK $$ %a %G' [] [Hs] [Hd] [Hh]
    · ipureintro; exact fun j hj => hG j hj Done.all
    · iexact Hs
    · iexact Hd
    · iexact Hh

/-! ## The sort -/

theorem sortProg_k {a b : MemI S4112} (hg : Col g0 0 ∧ Col g1 1 ∧ Col g2 2 ∧ Col g3 3) {k : PUnit → Pg F i α} :
    iprop(Holds (F := F) d i pb pv ∗ Some' (F := F) d i a ∗ Some' (F := F) d i b ∗ Hists (F := F) d i h0 h1 h2 h3 (fun _ _ => True))
      ⊢ iprop((∀ B : IVec S4112 32, ⌜Sorted pv B⌝ -∗ Holds (F := F) d i pb pv -∗ Some' (F := F) d i a -∗ Holds (F := F) d i b B
            -∗ Hists (F := F) d i h0 h1 h2 h3 (fun _ _ => True) -∗ Wp d i (k ⟨⟩) Q)
        -∗ Wp d i (sortProg i pb a b h0 h1 h2 h3 lanes (broadcast S16 1#32) g0 g1 g2 g3 >>= k) Q) := by
  unfold sortProg
  simp only [bind_assoc, pure_bind]
  iintro ⟨Hp, Ha, Hb, Hh⟩ HK
  iapply (zeroLoop_k (F := F)) $$ Hh; iintro %_ Hh
  iapply (buildLoop_k (F := F) (pv := pv) hg) $$ [Hp Ha Hh]
  · isplitl [Hp]; · iexact Hp
    isplitl [Ha] <;> iassumption
  iintro %_ %A %hA Hp Ha Hh
  iapply (scanLoop_k (F := F)) $$ Hh; iintro %_ Hh
  iapply (permLoop_k (F := F) (sh := 12) (K := key pv) (by omega) hg hA) $$ [Ha Hb Hh]
  · isplitl [Ha]; · iexact Ha
    isplitl [Hb] <;> iassumption
  iintro %_ %B1 %p1 Ha Hb Hh
  iapply (zeroLoop_k (F := F)) $$ Hh; iintro %_ Hh
  iapply (histLoop_k (F := F) (sh := 18) (K := wd B1) (by omega) hg (fun _ _ => rfl)) $$ [Hb Hh]
  · isplitl [Hb] <;> iassumption
  iintro %_ Hb Hh
  iapply (scanLoop_k (F := F)) $$ Hh; iintro %_ Hh
  iapply (permLoop_k (F := F) (sh := 18) (K := wd B1) (by omega) hg (fun _ _ => rfl)) $$ [Ha Hb Hh]
  · isplitl [Hb]; · iexact Hb
    isplitl [Ha]; · unfold Some'; iexists A; iexact Ha
    iexact Hh
  iintro %_ %A2 %p2 Hb Ha Hh
  iapply (zeroLoop_k (F := F)) $$ Hh; iintro %_ Hh
  iapply (histLoop_k (F := F) (sh := 24) (K := wd A2) (by omega) hg (fun _ _ => rfl)) $$ [Ha Hh]
  · isplitl [Ha] <;> iassumption
  iintro %_ Ha Hh
  iapply (scanLoop_k (F := F)) $$ Hh; iintro %_ Hh
  iapply (permLoop_k (F := F) (sh := 24) (K := wd A2) (by omega) hg (fun _ _ => rfl)) $$ [Ha Hb Hh]
  · isplitl [Ha]; · iexact Ha
    isplitl [Hb]; · unfold Some'; iexists B1; iexact Hb
    iexact Hh
  iintro %_ %B %p3 Ha Hb Hh
  iapply HK $$ %B [] [Hp] [Ha] [Hb] [Hh]
  · ipureintro; exact sorted_of p1 p2 p3
  · iexact Hp
  · unfold Some'; iexists A2; iexact Ha
  · iexact Hb
  · iexact Hh

end Build

end Rules

end Cert.Proof.W1

end
-- ==== Proof.Row.lean ====
/-
  One row: the sums, the sort, the sweep over the sorted words, and the entry of the results it writes.
-/
module

public import proofs.«01_k».proof.Proof.Sweeps

@[expose] public section

noncomputable section

namespace Cert.Proof.W1

open Cert.KernelIdeal Cert.KernelIdeal.Gen
open Idealize.ShloMosaic
open Idealize.ShloMosaic.ValueIdx (ix1 eq_ix1)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix

variable {F : FTy → Type} [FloatOps F]

local notation "𝕄" => MT nD τ sig (HIx 1) (Elt F) ℕ UU ℕ

/-! ## What a row's result is -/

/-- Sixteen consecutive floats from place `c` on. -/
def blk {n : ℕ} (f : FVec F ⟨1, ![n]⟩ .f32) (c : ℕ) : FVec F S16 .f32 := fun x => fl f (c + (x 0).val)
/-- Sixteen consecutive words from place `c` on. -/
def blkI {n : ℕ} (f : IVec ⟨1, ![n]⟩ 32) (c : ℕ) : IVec S16 32 := fun x => wd f (c + (x 0).val)
/-- The floats at sixteen places. -/
def gat {n : ℕ} (f : FVec F ⟨1, ![n]⟩ .f32) (o : IVec S16 32) : FVec F S16 .f32 := fun x => fl f (o x).toNat

/-- The two lane-by-lane sums after `n` blocks. -/
def sumVal (wv : FVec F S4096 .f32) : ℕ → FVec F S16 .f32 × FVec F S16 .f32
  | 0 => (broadcast S16 (Scalar.ofBits .f32 0x00000000#32 : F .f32), broadcast S16 (Scalar.ofBits .f32 0x00000000#32 : F .f32))
  | n + 1 => (addf (sumVal wv n).1 (blk wv (16 * n)), addf (sumVal wv n).2 (blk wv (16 * n + 2048)))

/-- The signed weights of block `n` of the sorted words. -/
def wAt (wv : FVec F S4096 .f32) (b : IVec S4112 32) (gx gy : FVec F S16 .f32) (n : ℕ) : FVec F S16 .f32 :=
  wgt gx gy (idxOf (blkI b (16 * n))) (gat wv (idxOf (blkI b (16 * n))))

/-- The running difference and the running result after `n` blocks of sorted words. -/
def finVal (wv pv : FVec F S4096 .f32) (b : IVec S4112 32) (gx gy : FVec F S16 .f32) : ℕ → F .f32 × FVec F S16 .f32
  | 0 => ((Scalar.ofBits .f32 0x00000000#32 : F .f32), broadcast S16 (Scalar.ofBits .f32 0x00000000#32 : F .f32))
  | n + 1 => (Scalar.addf (finVal wv pv b gx gy n).1 (laneSum (wAt wv b gx gy n)),
      finAcc lanes (finVal wv pv b gx gy n).1 (finVal wv pv b gx gy n).2 (wAt wv b gx gy n) (gat pv (idxOf (blkI b (16 * n)))))

/-- A row's result, from its weights, its positions and its sorted words. -/
def rowOut (wv pv : FVec F S4096 .f32) (b : IVec S4112 32) : F .f32 :=
  laneSum (finVal wv pv b (gxOf (sumVal wv 128).1) (gyOf (sumVal wv 128).2) 256).2

/-- `v` is the result of a row of weights `wv` and positions `pv`. -/
def RowOK (wv pv : FVec F S4096 .f32) (v : F .f32) : Prop := ∃ b, Sorted pv b ∧ v = rowOut wv pv b

/-! ## The sweeps -/

theorem load_blk {n c : ℕ} {o : Fin 1 → ℕ} (ho : o = ![c]) (inb : ∀ a, o a + S16.size a ≤ (⟨1, ![n]⟩ : Shape).size a) (f : FVec F ⟨1, ![n]⟩ .f32) :
    (fun x : S16.Idx => f ((Rect.unit (s := ⟨1, ![n]⟩) o S16.size inb).emb x)) = blk f c := by
  refine nth_ext (Scalar.ofBits .f32 0x00000000#32 : F .f32) fun l hl => ?_
  rw [nth_block _ ho inb f hl, nth_of_lt _ _ hl]; rfl

theorem load_blkI {n c : ℕ} {o : Fin 1 → ℕ} (ho : o = ![c]) (inb : ∀ a, o a + S16.size a ≤ (⟨1, ![n]⟩ : Shape).size a) (f : IVec ⟨1, ![n]⟩ 32) :
    (fun x : S16.Idx => f ((Rect.unit (s := ⟨1, ![n]⟩) o S16.size inb).emb x)) = blkI f c := by
  refine nth_ext 0#32 fun l hl => ?_
  rw [nth_block _ ho inb f hl, nth_of_lt _ _ hl]; rfl

theorem load_gat {n : ℕ} (f : FVec F ⟨1, ![n]⟩ .f32) (o : IVec S16 32) (h) :
    (loadIdx (F := F) (e := .f32) (s := ⟨1, ![n]⟩) (t := S16) f ![o] h : FVec F S16 .f32) = gat f o := by
  refine nth_ext (Scalar.ofBits .f32 0x00000000#32 : F .f32) (n := 16) fun l hl => ?_
  refine (loadIdx_lane (F := F) (e := .f32) _ f o h hl).trans ?_
  rw [nth_of_lt _ _ hl, wd_of_lt _ hl]; rfl

theorem idxOf_lt (p : IVec S16 32) (l : ℕ) (hl : l < 16) : (wd (idxOf p) l).toNat < 4096 := by
  rw [wd_of_lt _ hl]
  show (p _ &&& 4095#32).toNat < 4096
  rw [BitVec.toNat_and]
  exact Nat.lt_succ_of_le Nat.and_le_right

section Rules

variable {d : Dev nD} {i : grid0.Coords} {α : Type} {Q : α → sProp (MT nD τ sig (HIx 1) (Elt F) ℕ UU ℕ)}

theorem sumLoop_k {wb : MemF S4096} {wv : FVec F S4096 .f32} {k : FVec F S16 .f32 × FVec F S16 .f32 → Pg F i α} :
    Holds (F := F) d i wb wv ⊢ iprop((Holds (F := F) d i wb wv -∗ Wp d i (k (sumVal wv 128)) Q) -∗ Wp d i (sumLoop i wb >>= k) Q) := by
  have hl := wp_loop (F := F) (d := d) (i := i) (Q := Q) (k := k) k0_t2_ok trips2
    (init := (broadcast S16 (Scalar.ofBits .f32 0x00000000#32 : F .f32), broadcast S16 (Scalar.ofBits .f32 0x00000000#32 : F .f32)))
    (body := fun t a => sumTrip i wb t a)
    (fun n a => iprop(⌜a = sumVal wv n⌝ ∗ Holds (F := F) d i wb wv)) (fun t a ht => by
      unfold sumTrip
      iintro ⟨%ha, Hw⟩
      iapply (holds_load (F := F) (m := wb) (f := wv)) $$ Hw
      iintro Hw
      iapply (holds_load (F := F) (m := wb) (f := wv)) $$ Hw
      iintro Hw
      iapply (wp_pure_r (F := F))
      isplitr
      · ipureintro
        rw [ha]
        exact congrArg₂ Prod.mk (congrArg _ (load_blk (k0_off4_eq t) (k0_off4_inb t) wv)) (congrArg _ (load_blk (k0_off5_eq t) (k0_off5_inb t) wv))
      · iexact Hw)
  iintro Hw HK
  iapply hl $$ [Hw]
  · isplitr
    · ipureintro; rfl
    · iexact Hw
  · iintro %a ⟨%ha, Hw⟩
    rw [ha]
    iapply HK $$ Hw

theorem load_word_k {src : MemI S4112} {b : IVec S4112 32} (t : Fin k0_t15_loop.trips) {k : IVec S16 32 → Pg F i α} :
    Holds (F := F) d i src b ⊢ iprop((Holds (F := F) d i src b -∗ Wp d i (k (blkI b (16 * t.val))) Q)
      -∗ Wp d i (Prog.lift (.load src (Rect.unit (s := S4112) (k0_off12 t) S16.size (k0_off12_inb t)).toLoadRect (View.loadsAt_vmem h_S16)) >>= k) Q) := by
  rw [← load_blkI (k0_off12_eq t) (k0_off12_inb t) b]
  exact holds_load (F := F) (m := src) (f := b) (r := Rect.unit (s := S4112) (k0_off12 t) S16.size (k0_off12_inb t)) (hl := View.loadsAt_vmem h_S16) (k := k)

theorem finLoop_k {wb pb : MemF S4096} {src : MemI S4112} {wv pv : FVec F S4096 .f32} {b : IVec S4112 32} {gx gy : FVec F S16 .f32}
    {k : F .f32 × FVec F S16 .f32 → Pg F i α} :
    iprop(Holds (F := F) d i wb wv ∗ Holds (F := F) d i pb pv ∗ Holds (F := F) d i src b)
      ⊢ iprop((Holds (F := F) d i wb wv -∗ Holds (F := F) d i pb pv -∗ Holds (F := F) d i src b -∗ Wp d i (k (finVal wv pv b gx gy 256)) Q)
        -∗ Wp d i (finLoop i wb pb src lanes gx gy >>= k) Q) := by
  have hl := wp_loop (F := F) (d := d) (i := i) (Q := Q) (k := k) k0_t15_ok trips15
    (init := ((Scalar.ofBits .f32 0x00000000#32 : F .f32), broadcast S16 (Scalar.ofBits .f32 0x00000000#32 : F .f32)))
    (body := fun t a => finTrip i wb pb src lanes gx gy t a)
    (fun n a => iprop(⌜a = finVal wv pv b gx gy n⌝ ∗ Holds (F := F) d i wb wv ∗ Holds (F := F) d i pb pv ∗ Holds (F := F) d i src b)) (fun t a ht => by
      unfold finTrip
      simp only [bind_assoc, pure_bind]
      iintro ⟨%ha, Hw, Hp, Hs⟩
      iapply (load_word_k (F := F) (b := b) t) $$ Hs
      iintro Hs
      iapply (wp_check (F := F) (ck2_of (idxOf_lt _) (idxOf_lt _)))
      iapply (holds_loadIdx (F := F) (m := pb) (f := pv)) $$ Hp
      iintro Hp
      iapply (holds_loadIdx (F := F) (m := wb) (f := wv)) $$ Hw
      iintro Hw
      iapply (wp_pure_r (F := F))
      isplitr
      · ipureintro
        rw [ha, load_gat, load_gat]; rfl
      · isplitl [Hw]; · iexact Hw
        isplitl [Hp] <;> iassumption)
  iintro ⟨Hw, Hp, Hs⟩ HK
  iapply hl $$ [Hw Hp Hs]
  · isplitr
    · ipureintro; rfl
    · isplitl [Hw]; · iexact Hw
      isplitl [Hp] <;> iassumption
  · iintro %a ⟨%ha, Hw, Hp, Hs⟩
    rw [ha]
    iapply HK $$ Hw Hp Hs

/-- What a row's program leaves besides its own buffers. -/
def Scratch (d : Dev nD) (i : grid0.Coords) (a b : MemI S4112) (h0 h1 h2 h3 : MemI S1024) : sProp 𝕄 :=
  iprop(Some' (F := F) d i a ∗ Some' (F := F) d i b ∗ Hists (F := F) d i h0 h1 h2 h3 (fun _ _ => True))

theorem mask_lane {l : ℕ} (hl : l < 16) : nth 0#1 (cmpi .eq lanes (broadcast S16 0#32) : IVec S16 1) l = 1#1 ↔ l = 0 := by
  have h := lanes_lane hl
  rw [wd_of_lt _ hl] at h
  rw [nth_of_lt _ _ hl]
  show (BitVec.ofBool (lanes (ix1 ⟨l, hl⟩) == 0#32)) = 1#1 ↔ _
  rw [h]
  interval_cases l <;> decide

theorem put_res {res : FVec F S128 .f32} {r : ℕ} (hr : r < 128) (v : F .f32) (h) :
    fl (storeIdx (F := F) (e := .f32) (s := S128) res ![broadcast S16 (BitVec.ofNat 32 r)] (broadcast S16 v : FVec F S16 .f32) (cmpi .eq lanes (broadcast S16 0#32)) false h) r = v
      ∧ ∀ k, k ≠ r → fl (storeIdx (F := F) (e := .f32) (s := S128) res ![broadcast S16 (BitVec.ofNat 32 r)] (broadcast S16 v : FVec F S16 .f32) (cmpi .eq lanes (broadcast S16 0#32)) false h) k = fl res k := by
  have hw : ∀ l < 16, (wd (broadcast S16 (BitVec.ofNat 32 r) : IVec S16 32) l).toNat = r := fun l hl => by
    rw [wd_of_lt _ hl]
    show (BitVec.ofNat 32 r).toNat = r
    rw [BitVec.toNat_ofNat]; omega
  refine ⟨?_, fun k hk => ?_⟩
  · have h0 := storeIdx_on (F := F) (e := .f32) (Scalar.ofBits .f32 0x00000000#32 : F .f32) (broadcast S16 (BitVec.ofNat 32 r) : IVec S16 32) (broadcast S16 v : FVec F S16 .f32)
      (cmpi .eq lanes (broadcast S16 0#32)) false h res (l := 0) (by omega) ((mask_lane (by omega)).mpr rfl)
      (fun l' hl' hne hm => absurd ((mask_lane hl').mp hm) hne)
    rw [hw 0 (by omega)] at h0
    refine h0.trans ?_
    rw [if_neg (by simp), nth_of_lt _ _ (by omega : 0 < 16)]; rfl
  · refine storeIdx_off (F := F) (e := .f32) (Scalar.ofBits .f32 0x00000000#32 : F .f32) (broadcast S16 (BitVec.ofNat 32 r) : IVec S16 32) (broadcast S16 v : FVec F S16 .f32)
      (cmpi .eq lanes (broadcast S16 0#32)) false h res k fun l hl _ => ?_
    rw [hw l hl]; exact fun he => hk he.symm

theorem rowProg_k {wb pb : MemF S4096} {a b : MemI S4112} {h0 h1 h2 h3 : MemI S1024} {res : MemF S128} {wv pv : FVec F S4096 .f32} {R : FVec F S128 .f32}
    {g0 g1 g2 g3 : IVec S16 32} (hg : Col g0 0 ∧ Col g1 1 ∧ Col g2 2 ∧ Col g3 3) {r : ℕ} (hr : r < 128) {w : BitVec 32} (hw : w = BitVec.ofNat 32 r) {k : PUnit → Pg F i α} :
    iprop(Holds (F := F) d i wb wv ∗ Holds (F := F) d i pb pv ∗ Scratch (F := F) d i a b h0 h1 h2 h3 ∗ Holds (F := F) d i res R)
      ⊢ iprop((∀ R' : FVec F S128 .f32, ⌜RowOK wv pv (fl R' r) ∧ ∀ k, k ≠ r → fl R' k = fl R k⌝ -∗ Holds (F := F) d i wb wv -∗ Holds (F := F) d i pb pv
            -∗ Scratch (F := F) d i a b h0 h1 h2 h3 -∗ Holds (F := F) d i res R' -∗ Wp d i (k ⟨⟩) Q)
        -∗ Wp d i (rowProg i wb pb a b h0 h1 h2 h3 res lanes (broadcast S16 1#32) g0 g1 g2 g3 w >>= k) Q) := by
  subst hw
  unfold rowProg Scratch
  simp only [bind_assoc, pure_bind]
  iintro ⟨Hw, Hp, ⟨Ha, Hb, Hh⟩, Hr⟩ HK
  iapply (sumLoop_k (F := F) (wv := wv)) $$ Hw
  iintro Hw
  iapply (sortProg_k (F := F) (pv := pv) hg) $$ [Hp Ha Hb Hh]
  · isplitl [Hp]; · iexact Hp
    isplitl [Ha]; · iexact Ha
    isplitl [Hb] <;> iassumption
  iintro %B %hB Hp Ha Hb Hh
  iapply (finLoop_k (F := F) (wv := wv) (pv := pv) (b := B)) $$ [Hw Hp Hb]
  · isplitl [Hw]; · iexact Hw
    isplitl [Hp] <;> iassumption
  iintro Hw Hp Hb
  iapply (wp_check (F := F) (ck_of fun l hl => by
    rw [wd_of_lt _ hl]
    show (BitVec.ofNat 32 r).toNat < 128
    rw [BitVec.toNat_ofNat]; omega))
  iapply (holds_storeIdx (F := F) (m := res) (f := R)) $$ Hr
  iintro Hr
  iapply HK $$ [] [Hw] [Hp] [Ha Hb Hh] [Hr]
  rotate_left
  · iexact Hw
  · iexact Hp
  · isplitl [Ha]; · iexact Ha
    isplitl [Hb]; · unfold Some'; iexists B; iexact Hb
    iexact Hh
  · iexact Hr
  · ipureintro
    have := put_res (res := R) hr (laneSum (finVal wv pv B (gxOf (sumVal wv 128).1) (gyOf (sumVal wv 128).2) 256).2)
    exact ⟨⟨B, hB, (this _).1⟩, (this _).2⟩

end Rules

end Cert.Proof.W1

end
-- ==== Proof.Wasserstein.lean ====
/-
  The mathematics of a row: the integral over the quantiles and the sum over the sorted positions are one number.
-/
module

public import Mathlib.Data.Real.Basic
public import Mathlib.Algebra.BigOperators.Group.Finset.Basic
public import Mathlib.Algebra.BigOperators.Ring.Finset
public import Mathlib.Algebra.Order.BigOperators.Group.Finset
public import Mathlib.Tactic.Linarith
public import Mathlib.Tactic.Ring

@[expose] public section

noncomputable section

namespace Cert.Proof.W1

open Finset

/-- `1` where the proposition holds, `0` elsewhere. -/
def ind (p : Prop) : ℝ := by classical exact if p then 1 else 0
theorem ind_true {p : Prop} (h : p) : ind p = 1 := by classical exact if_pos h
theorem ind_false {p : Prop} (h : ¬p) : ind p = 0 := by classical exact if_neg h

/-- `z` is in increasing order on its first `E` places. -/
def Up (z : ℕ → ℝ) (E : ℕ) : Prop := ∀ i j, i ≤ j → j < E → z i ≤ z j

/-! ## Telescoping -/

theorem sum_gap_le {z : ℕ → ℝ} {E : ℕ} (hz : Up z E) {i : ℕ} : ∀ k, k < E → i < E →
    ∑ m ∈ range k, (z (m + 1) - z m) * ind (z i ≤ z m) = z k - z (min i k)
  | 0, _, _ => by simp
  | k + 1, hk, hi => by
    rw [sum_range_succ, sum_gap_le hz k (by omega) hi]
    by_cases h : i ≤ k
    · rw [ind_true (hz i k h (by omega)), min_eq_left h, min_eq_left (by omega)]; ring
    · have e1 : min i k = k := by omega
      have e2 : min i (k + 1) = k + 1 := by omega
      rw [e1, e2]
      by_cases h' : z i ≤ z k
      · have h1 := hz k (k + 1) (by omega) hk
        have h2 := hz (k + 1) i (by omega) hi
        have : z (k + 1) = z k := by linarith
        rw [this]; ring
      · rw [ind_false h']; ring

theorem sum_gap_top {z : ℕ → ℝ} {E : ℕ} (hz : Up z (E + 1)) {i : ℕ} (hi : i < E + 1) :
    ∑ m ∈ range E, (z (m + 1) - z m) * ind (z i ≤ z m) = z E - z i := by
  rw [sum_gap_le hz E (by omega) hi, min_eq_left (by omega)]

theorem abs_ind_sub {a b t : ℝ} (h : a ≤ b) : |ind (a ≤ t) - ind (b ≤ t)| = ind (a ≤ t) - ind (b ≤ t) := by
  by_cases hb : b ≤ t
  · rw [ind_true hb, ind_true (h.trans hb)]; norm_num
  · rw [ind_false hb]
    by_cases ha : a ≤ t
    · rw [ind_true ha]; norm_num
    · rw [ind_false ha]; norm_num

theorem abs_ind_sub' {a b t : ℝ} (h : a ≤ b) : |ind (t ≤ a) - ind (t ≤ b)| = ind (t ≤ b) - ind (t ≤ a) := by
  by_cases ha : t ≤ a
  · rw [ind_true ha, ind_true (ha.trans h)]; norm_num
  · rw [ind_false ha]
    by_cases hb : t ≤ b
    · rw [ind_true hb]; norm_num
    · rw [ind_false hb]; norm_num

/-- A distance of two of the places is the sum of the gaps between them. -/
theorem abs_sub_layers {z : ℕ → ℝ} {E : ℕ} (hz : Up z (E + 1)) {i j : ℕ} (hi : i < E + 1) (hj : j < E + 1) :
    |z i - z j| = ∑ m ∈ range E, (z (m + 1) - z m) * |ind (z i ≤ z m) - ind (z j ≤ z m)| := by
  rcases le_total (z i) (z j) with h | h
  · rw [abs_of_nonpos (by linarith)]
    rw [sum_congr rfl fun m _ => by rw [abs_ind_sub h, mul_sub], sum_sub_distrib, sum_gap_top hz hi, sum_gap_top hz hj]
    ring
  · rw [abs_of_nonneg (by linarith)]
    rw [sum_congr rfl fun m _ => by rw [abs_sub_comm, abs_ind_sub h, mul_sub], sum_sub_distrib, sum_gap_top hz hi, sum_gap_top hz hj]
    ring

/-- The steps of an increasing sequence up to one of its places. -/
theorem sum_step_le {P : ℕ → ℝ} {E : ℕ} (hP : Up P (E + 1)) {i : ℕ} (hi : i < E + 1) : ∀ k, k ≤ E →
    ∑ m ∈ range k, (P (m + 1) - P m) * ind (P (m + 1) ≤ P i) = P (min i k) - P 0
  | 0, _ => by simp
  | k + 1, hk => by
    rw [sum_range_succ, sum_step_le hP hi k (by omega)]
    by_cases h : i ≤ k
    · rw [min_eq_left h, min_eq_left (by omega)]
      by_cases h' : P (k + 1) ≤ P i
      · have h1 := hP k (k + 1) (by omega) (by omega)
        have h2 := hP i k h (by omega)
        have : P (k + 1) = P k := by linarith
        rw [this]; ring
      · rw [ind_false h']; ring
    · have e1 : min i k = k := by omega
      have e2 : min i (k + 1) = k + 1 := by omega
      rw [e1, e2, ind_true (hP (k + 1) i (by omega) hi)]; ring

theorem sum_step {P : ℕ → ℝ} {E : ℕ} (hP : Up P (E + 1)) (h0 : P 0 = 0) {i : ℕ} (hi : i < E + 1) :
    ∑ m ∈ range E, (P (m + 1) - P m) * ind (P (m + 1) ≤ P i) = P i := by
  rw [sum_step_le hP hi E le_rfl, min_eq_left (by omega), h0, sub_zero]

/-- The steps between two of the places. -/
theorem sum_step_abs {P : ℕ → ℝ} {E : ℕ} (hP : Up P (E + 1)) (h0 : P 0 = 0) {i j : ℕ} (hi : i < E + 1) (hj : j < E + 1) :
    ∑ k ∈ range E, (P (k + 1) - P k) * |ind (P (k + 1) ≤ P i) - ind (P (k + 1) ≤ P j)| = |P i - P j| := by
  rcases le_total (P i) (P j) with h | h
  · rw [abs_of_nonpos (by linarith : P i - P j ≤ 0)]
    rw [sum_congr rfl fun m _ => by rw [abs_ind_sub' h, mul_sub], sum_sub_distrib, sum_step hP h0 hi, sum_step hP h0 hj]
    ring
  · rw [abs_of_nonneg (by linarith : 0 ≤ P i - P j)]
    rw [sum_congr rfl fun m _ => by rw [abs_sub_comm, abs_ind_sub' h, mul_sub], sum_sub_distrib, sum_step hP h0 hi, sum_step hP h0 hj]

/-! ## Cumulative weights and quantiles -/

/-- The sum of the first `j + 1` weights. -/
def cum (a : ℕ → ℝ) (j : ℕ) : ℝ := ∑ i ∈ range (j + 1), a i
/-- How many of the first `n` places lie below `q`. -/
def cnt (U : ℕ → ℝ) (n : ℕ) (q : ℝ) : ℕ := by classical exact ((range n).filter fun j => U j < q).card
/-- The weight at places no greater than `t`. -/
def mass (u a : ℕ → ℝ) (n : ℕ) (t : ℝ) : ℝ := ∑ j ∈ range n, a j * ind (u j ≤ t)

/-- A downward closed property of places holds on an initial stretch. -/
theorem initial (p : ℕ → Prop) [DecidablePred p] : ∀ n : ℕ, (∀ i j, i ≤ j → j < n → p j → p i) →
    ∀ i, i < n → (p i ↔ i < ((range n).filter p).card)
  | 0, _, i, hi => absurd hi (by omega)
  | n + 1, h, i, hi => by
    have ih := initial p n fun i j hij hj => h i j hij (by omega)
    rw [range_add_one, filter_insert]
    by_cases hn : p n
    · have : (range n).filter p = range n := filter_true_of_mem fun k hk => h k n (by have := mem_range.1 hk; omega) (by omega) hn
      rw [if_pos hn, this, card_insert_of_notMem (by simp), card_range]
      exact ⟨fun _ => hi, fun _ => h i n (by omega) (by omega) hn⟩
    · rw [if_neg hn]
      by_cases e : i = n
      · subst e
        have : ((range i).filter p).card ≤ i := (card_filter_le _ _).trans (card_range i).le
        exact ⟨fun h => absurd h hn, fun h => by omega⟩
      · exact ih i (by omega)

theorem cum_up {a : ℕ → ℝ} {n : ℕ} (ha : ∀ j, j < n → 0 ≤ a j) : Up (cum a) n := fun i j hij hj =>
  sum_le_sum_of_subset_of_nonneg (range_subset_range.2 (by omega)) fun k hk _ => ha k (by have := mem_range.1 hk; omega)

theorem cnt_iff {U : ℕ → ℝ} {n : ℕ} (hU : Up U n) (q : ℝ) {j : ℕ} (hj : j < n) : U j < q ↔ j < cnt U n q := by
  classical
  exact initial (fun j => U j < q) n (fun i j hij hj h => (hU i j hij hj).trans_lt h) j hj

/-- The weight at places no greater than `t` is the sum of an initial stretch. -/
theorem mass_eq {u a : ℕ → ℝ} {n : ℕ} (hu : Up u n) (t : ℝ) :
    ∃ d, d ≤ n ∧ (∀ j, j < n → (u j ≤ t ↔ j < d)) ∧ mass u a n t = ∑ j ∈ range d, a j := by
  classical
  let d := ((range n).filter fun j => u j ≤ t).card
  have hd : d ≤ n := (card_filter_le _ _).trans (card_range n).le
  have hi : ∀ j, j < n → (u j ≤ t ↔ j < d) := initial (fun j => u j ≤ t) n fun i j hij hj h => (hu i j hij hj).trans h
  refine ⟨d, hd, hi, ?_⟩
  unfold mass
  rw [← sum_subset (range_subset_range.2 hd) (f := fun j => a j * ind (u j ≤ t)) fun j hj hj' => by
    rw [ind_false fun h => hj' (mem_range.2 ((hi j (mem_range.1 hj)).1 h)), mul_zero]]
  exact sum_congr rfl fun j hj => by
    have := mem_range.1 hj
    rw [ind_true ((hi j (by omega)).2 this), mul_one]

/-- The quantile at `q` is no greater than `t` exactly when `q` is no greater than the weight up to `t`. -/
theorem quantile_le {u a : ℕ → ℝ} {n : ℕ} (hu : Up u n) (ha : ∀ j, j < n → 0 ≤ a j) {q : ℝ} (hq : 0 < q)
    (hc : cnt (cum a) n q < n) (t : ℝ) :
    u (cnt (cum a) n q) ≤ t ↔ q ≤ mass u a n t := by
  obtain ⟨d, hd, hi, hm⟩ := mass_eq (a := a) hu t
  have hU := cum_up ha
  rw [hi _ hc, hm]
  constructor
  · intro h
    have h1 : ¬cum a (cnt (cum a) n q) < q := fun h' => lt_irrefl _ ((cnt_iff hU q hc).1 h')
    have h2 : cum a (cnt (cum a) n q) ≤ cum a (d - 1) := hU _ _ (by omega) (by omega)
    have h3 : cum a (d - 1) = ∑ j ∈ range d, a j := by unfold cum; rw [Nat.sub_add_cancel (by omega)]
    linarith
  · intro h
    by_contra h'
    rcases Nat.eq_zero_or_pos d with h0 | h0
    · rw [h0, sum_range_zero] at h; linarith
    · have h3 : cum a (d - 1) = ∑ j ∈ range d, a j := by unfold cum; rw [Nat.sub_add_cancel (by omega)]
      have h4 := (cnt_iff hU q (show d - 1 < n by omega)).2 (by omega)
      linarith

theorem cnt_lt {U : ℕ → ℝ} {n : ℕ} (hn : 0 < n) (hU : Up U n) {q : ℝ} (hq : q ≤ U (n - 1)) : cnt U n q < n := by
  have h1 : ¬(n - 1 < cnt U n q) := fun h => absurd ((cnt_iff hU q (by omega)).2 h) (by linarith)
  omega

/-! ## The two sums -/

/-- The sum over the quantiles. -/
def refSum (u v a c P : ℕ → ℝ) (n E : ℕ) : ℝ :=
  ∑ k ∈ range E, (P (k + 1) - P k) * |u (cnt (cum a) n (P (k + 1))) - v (cnt (cum c) n (P (k + 1)))|

/-- The sum over the sorted positions of the gap times the weight below it. -/
def gapSum (z : ℕ → ℝ) (H : ℝ → ℝ) (E : ℕ) : ℝ := ∑ m ∈ range E, (z (m + 1) - z m) * |H (z m)|

theorem refSum_eq {u v a c P z : ℕ → ℝ} {n E : ℕ} (hn : 0 < n) (hu : Up u n) (hv : Up v n)
    (ha : ∀ j, j < n → 0 ≤ a j) (hc : ∀ j, j < n → 0 ≤ c j)
    (hP : Up P (E + 1)) (h0 : P 0 = 0) (hPa : ∀ k, k < E → P (k + 1) ≤ cum a (n - 1)) (hPc : ∀ k, k < E → P (k + 1) ≤ cum c (n - 1))
    (hUP : ∀ j, j < n → ∃ k, k < E ∧ P (k + 1) = cum a j) (hVP : ∀ j, j < n → ∃ k, k < E ∧ P (k + 1) = cum c j)
    {N : ℕ} (hz : Up z (N + 1)) (huz : ∀ j, j < n → ∃ i, i < N + 1 ∧ z i = u j) (hvz : ∀ j, j < n → ∃ i, i < N + 1 ∧ z i = v j) :
    refSum u v a c P n E = gapSum z (fun t => mass u a n t - mass v c n t) N := by
  have hca : ∀ k, k < E → cnt (cum a) n (P (k + 1)) < n := fun k hk => cnt_lt hn (cum_up ha) (hPa k hk)
  have hcc : ∀ k, k < E → cnt (cum c) n (P (k + 1)) < n := fun k hk => cnt_lt hn (cum_up hc) (hPc k hk)
  have hmem : ∀ {a u : ℕ → ℝ} (hu : Up u n), (∀ j, j < n → ∃ k, k < E ∧ P (k + 1) = cum a j) → ∀ t, ∃ i, i < E + 1 ∧ P i = mass u a n t := by
    intro a u hu hUP t
    obtain ⟨d, hd, _, hm⟩ := mass_eq (a := a) hu t
    rcases Nat.eq_zero_or_pos d with h | h
    · exact ⟨0, by omega, by rw [hm, h, sum_range_zero, h0]⟩
    · obtain ⟨k, hk, e⟩ := hUP (d - 1) (by omega)
      exact ⟨k + 1, by omega, by rw [e, hm]; unfold cum; rw [Nat.sub_add_cancel h]⟩
  unfold refSum gapSum
  calc _ = ∑ k ∈ range E, ∑ m ∈ range N, (z (m + 1) - z m) * ((P (k + 1) - P k)
              * |ind (P (k + 1) ≤ mass u a n (z m)) - ind (P (k + 1) ≤ mass v c n (z m))|) := by
        refine sum_congr rfl fun k hk => ?_
        have hk := mem_range.1 hk
        obtain ⟨i, hi, ei⟩ := huz _ (hca k hk)
        obtain ⟨j, hj, ej⟩ := hvz _ (hcc k hk)
        rw [← ei, ← ej, abs_sub_layers hz hi hj, mul_sum]
        refine sum_congr rfl fun m _ => ?_
        have h1 : 0 ≤ P k := by have := hP 0 k (by omega) (by omega); linarith
        have h2 := hP k (k + 1) (by omega) (by omega)
        rcases lt_or_ge 0 (P (k + 1)) with h | h
        · have e1 : ind (z i ≤ z m) = ind (P (k + 1) ≤ mass u a n (z m)) :=
            congrArg ind (propext (by rw [ei]; exact quantile_le hu ha h (hca k hk) _))
          have e2 : ind (z j ≤ z m) = ind (P (k + 1) ≤ mass v c n (z m)) :=
            congrArg ind (propext (by rw [ej]; exact quantile_le hv hc h (hcc k hk) _))
          rw [e1, e2]; ring
        · have : P (k + 1) - P k = 0 := by linarith
          rw [this]; ring
    _ = ∑ m ∈ range N, ∑ k ∈ range E, _ := sum_comm
    _ = _ := by
        refine sum_congr rfl fun m _ => ?_
        rw [← mul_sum]
        show _ = (z (m + 1) - z m) * |mass u a n (z m) - mass v c n (z m)|
        obtain ⟨i, hi, ei⟩ := hmem hu hUP (z m)
        obtain ⟨j, hj, ej⟩ := hmem hv hVP (z m)
        rw [← ei, ← ej, sum_step_abs hP h0 hi hj]

/-- The sum of the positions times the falls of the running weight. -/
def kerSum (z w : ℕ → ℝ) (E : ℕ) : ℝ :=
  ∑ m ∈ range E, z m * (|∑ i ∈ range m, w i| - |∑ i ∈ range (m + 1), w i|)

theorem abel (z D : ℕ → ℝ) : ∀ E, ∑ m ∈ range (E + 1), z m * (D m - D (m + 1))
    = ∑ m ∈ range E, (z (m + 1) - z m) * D (m + 1) + z 0 * D 0 - z E * D (E + 1)
  | 0 => by simp; ring
  | E + 1 => by rw [sum_range_succ, abel z D E, sum_range_succ]; ring

theorem kerSum_eq {z w : ℕ → ℝ} {N : ℕ} (hz : Up z (N + 1)) (hw : ∑ i ∈ range (N + 1), w i = 0) :
    kerSum z w (N + 1) = gapSum z (mass z w (N + 1)) N := by
  unfold kerSum gapSum
  rw [abel z (fun m => |∑ i ∈ range m, w i|) N]
  simp only [hw, range_zero, sum_empty, abs_zero, mul_zero, add_zero, sub_zero]
  refine sum_congr rfl fun m hm => ?_
  have hm := mem_range.1 hm
  rcases lt_or_ge (z m) (z (m + 1)) with h | h
  · congr 2
    unfold mass
    rw [← sum_subset (range_subset_range.2 (show m + 1 ≤ N + 1 by omega)) (f := fun j => w j * ind (z j ≤ z m)) fun j hj hj' => by
      have := mem_range.1 hj
      rw [ind_false fun h' => by
        have := hz (m + 1) j (by have : ¬(j < m + 1) := fun h => hj' (mem_range.2 h); omega) (by omega)
        linarith, mul_zero]]
    exact sum_congr rfl fun j hj => by
      have := mem_range.1 hj
      rw [ind_true (hz j m (by omega) (by omega)), mul_one]
  · have := hz m (m + 1) (by omega) (by omega)
    have : z (m + 1) - z m = 0 := by linarith
    rw [this]; ring

/-! ## Reordering -/

/-- `s` runs through the first `n` places, each once. -/
def Shuf (n : ℕ) (s : ℕ → ℕ) : Prop := (∀ i, i < n → s i < n) ∧ ∀ i j, i < n → j < n → s i = s j → i = j

theorem Shuf.sum {n : ℕ} {s : ℕ → ℕ} (hs : Shuf n s) (f : ℕ → ℝ) : ∑ i ∈ range n, f (s i) = ∑ i ∈ range n, f i := by
  have himg : (range n).image s = range n := by
    refine eq_of_subset_of_card_le (image_subset_iff.2 fun i hi => mem_range.2 (hs.1 i (mem_range.1 hi))) ?_
    rw [card_image_of_injOn fun i hi j hj => hs.2 i j (mem_range.1 hi) (mem_range.1 hj)]
  conv_rhs => rw [← himg]
  rw [sum_image fun i hi j hj => hs.2 i j (mem_range.1 hi) (mem_range.1 hj)]

theorem Shuf.surj {n : ℕ} {s : ℕ → ℕ} (hs : Shuf n s) {k : ℕ} (hk : k < n) : ∃ i, i < n ∧ s i = k := by
  have himg : (range n).image s = range n := by
    refine eq_of_subset_of_card_le (image_subset_iff.2 fun i hi => mem_range.2 (hs.1 i (mem_range.1 hi))) ?_
    rw [card_image_of_injOn fun i hi j hj => hs.2 i j (mem_range.1 hi) (mem_range.1 hj)]
  obtain ⟨i, hi, e⟩ := mem_image.1 (himg ▸ mem_range.2 hk)
  exact ⟨i, mem_range.1 hi, e⟩

theorem mass_shuf {n : ℕ} {s : ℕ → ℕ} (hs : Shuf n s) (u a : ℕ → ℝ) (t : ℝ) :
    mass (fun i => u (s i)) (fun i => a (s i)) n t = mass u a n t := hs.sum fun i => a i * ind (u i ≤ t)

/-- The two sums of a row of `n` and `n` points: `W` the signed weights and `Z` the positions of all of them, the first `n`
    those of the one set and the others those of the other. -/
theorem row_eq {n : ℕ} (hn : 0 < n) {a c u v W Z P : ℕ → ℝ} {s t σ : ℕ → ℕ} (hs : Shuf n s) (ht : Shuf n t) (hσ : Shuf (n + n) σ)
    (hW1 : ∀ i, i < n → W i = a i) (hW2 : ∀ i, i < n → W (n + i) = -c i)
    (hZ1 : ∀ i, i < n → Z i = u i) (hZ2 : ∀ i, i < n → Z (n + i) = v i)
    (ha : ∀ j, j < n → 0 ≤ a j) (hc : ∀ j, j < n → 0 ≤ c j)
    (hA : ∑ i ∈ range n, a i = 1) (hC : ∑ i ∈ range n, c i = 1)
    (hu : Up (fun i => u (s i)) n) (hv : Up (fun i => v (t i)) n) (hz : Up (fun i => Z (σ i)) (n + n))
    (hP : Up P (n + n + 1)) (h0 : P 0 = 0)
    (hPU : ∀ k, k < n + n → (∃ j, j < n ∧ P (k + 1) = cum (fun i => a (s i)) j) ∨ ∃ j, j < n ∧ P (k + 1) = cum (fun i => c (t i)) j)
    (hUP : ∀ j, j < n → ∃ k, k < n + n ∧ P (k + 1) = cum (fun i => a (s i)) j)
    (hVP : ∀ j, j < n → ∃ k, k < n + n ∧ P (k + 1) = cum (fun i => c (t i)) j) :
    kerSum (fun i => Z (σ i)) (fun i => W (σ i)) (n + n)
      = refSum (fun i => u (s i)) (fun i => v (t i)) (fun i => a (s i)) (fun i => c (t i)) P n (n + n) := by
  have ha' : ∀ j, j < n → 0 ≤ a (s j) := fun j hj => ha _ (hs.1 j hj)
  have hc' : ∀ j, j < n → 0 ≤ c (t j) := fun j hj => hc _ (ht.1 j hj)
  have topA : cum (fun i => a (s i)) (n - 1) = 1 := by unfold cum; rw [Nat.sub_add_cancel hn, hs.sum, hA]
  have topC : cum (fun i => c (t i)) (n - 1) = 1 := by unfold cum; rw [Nat.sub_add_cancel hn, ht.sum, hC]
  have hle : ∀ k, k < n + n → P (k + 1) ≤ 1 := fun k hk => by
    rcases hPU k hk with ⟨j, hj, e⟩ | ⟨j, hj, e⟩
    · rw [e, ← topA]; exact cum_up ha' j (n - 1) (by omega) (by omega)
    · rw [e, ← topC]; exact cum_up hc' j (n - 1) (by omega) (by omega)
  have split : ∀ f : ℕ → ℝ, ∑ i ∈ range (n + n), f i = ∑ i ∈ range n, f i + ∑ i ∈ range n, f (n + i) := fun f => sum_range_add f n n
  obtain ⟨N, hN⟩ : ∃ N, n + n = N + 1 := ⟨n + n - 1, by omega⟩
  have huz : ∀ j, j < n → ∃ i, i < N + 1 ∧ Z (σ i) = u (s j) := fun j hj => by
    obtain ⟨i, hi, e⟩ := hσ.surj (show s j < n + n by have := hs.1 j hj; omega)
    exact ⟨i, by omega, by rw [e, hZ1 _ (hs.1 j hj)]⟩
  have hvz : ∀ j, j < n → ∃ i, i < N + 1 ∧ Z (σ i) = v (t j) := fun j hj => by
    obtain ⟨i, hi, e⟩ := hσ.surj (show n + t j < n + n by have := ht.1 j hj; omega)
    exact ⟨i, by omega, by rw [e, hZ2 _ (ht.1 j hj)]⟩
  rw [refSum_eq (z := fun i => Z (σ i)) (N := N) hn hu hv ha' hc' hP h0 (fun k hk => topA ▸ hle k hk) (fun k hk => topC ▸ hle k hk) hUP hVP
    (hN ▸ hz) huz hvz]
  have hw : ∑ i ∈ range (N + 1), W (σ i) = 0 := by
    rw [← hN, hσ.sum, split, sum_congr rfl fun i hi => hW1 i (mem_range.1 hi), sum_congr rfl fun i hi => hW2 i (mem_range.1 hi),
      sum_neg_distrib, hA, hC]
    norm_num
  rw [hN, kerSum_eq (hN ▸ hz) hw]
  have hm : mass (fun i => Z (σ i)) (fun i => W (σ i)) (N + 1) = fun x => mass (fun i => u (s i)) (fun i => a (s i)) n x - mass (fun i => v (t i)) (fun i => c (t i)) n x := by
    funext x
    rw [mass_shuf hs u a, mass_shuf ht v c, ← hN, mass_shuf hσ Z W]
    unfold mass
    rw [split, sum_congr rfl fun i hi => by rw [hW1 i (mem_range.1 hi), hZ1 i (mem_range.1 hi)],
      sum_congr (s₁ := range n) (f := fun i => W (n + i) * ind (Z (n + i) ≤ x)) (g := fun i => -(c i * ind (v i ≤ x))) rfl
        fun i hi => by rw [hW2 i (mem_range.1 hi), hZ2 i (mem_range.1 hi)]; ring, sum_neg_distrib]
    ring
  rw [hm]

end Cert.Proof.W1

end
-- ==== Proof.Value.lean ====
/-
  A row's result over the extended reals: with real weights and positions it is the sum of the sorted positions times the
  falls of the running signed weight.
-/
module

public import proofs.«01_k».proof.Proof.Row
public import proofs.«01_k».proof.Proof.Wasserstein
public import Idealize.ShloMosaic.Lib.IdealHost

@[expose] public section

noncomputable section

namespace Cert.Proof.W1

open Cert.KernelIdeal Cert.KernelIdeal.Gen
open Idealize.ShloMosaic
open Idealize.ShloMosaic.ValueIdx (ix1 eq_ix1)
open Cert.Proof.Radix
open Finset

theorem zero_word : (Scalar.ofBits .f32 0x00000000#32 : Ideal .f32) = ((0 : ℝ) : EReal) := Ideal.ofBits_zero_f32
theorem one_word : (Scalar.ofBits .f32 0x3F800000#32 : Ideal .f32) = ((1 : ℝ) : EReal) := Ideal.ofBits_one_f32
theorem neg_one_word : (Scalar.ofBits .f32 0xBF800000#32 : Ideal .f32) = ((-1 : ℝ) : EReal) := by
  show Ideal.ofBits .f32 0xBF800000#32 = _
  simp [Ideal.ofBits, Ideal.ieee, -EReal.coe_mul, -EReal.coe_neg]
  norm_num

/-- The lanes of `v` are the reals `g`. -/
def IsR (v : FVec Ideal S16 .f32) (g : ℕ → ℝ) : Prop := ∀ x : S16.Idx, v x = ((g (x 0).val : ℝ) : EReal)

theorem IsR.at_lane {v : FVec Ideal S16 .f32} {g : ℕ → ℝ} (h : IsR v g) {j : ℕ} (hj : j < 16) :
    W1.lane (F := Ideal) (e := .f32) v j hj = ((g j : ℝ) : EReal) := by
  have e : W1.lane (F := Ideal) (e := .f32) v j hj = v (ix1 ⟨j, hj⟩) := by
    refine congrArg v (funext fun a => Fin.ext ?_)
    match a with
    | ⟨0, _⟩ => rfl
  rw [e, h]

theorem IsR.laneSumTo {v : FVec Ideal S16 .f32} {g : ℕ → ℝ} (h : IsR v g) : ∀ (n : ℕ) (hn : n < 16),
    laneSumTo v n hn = ((∑ j ∈ range (n + 1), g j : ℝ) : EReal)
  | 0, hn => by rw [W1.laneSumTo, h.at_lane]; simp
  | n + 1, hn => by
    rw [W1.laneSumTo, h.laneSumTo n, h.at_lane, sum_range_succ _ (n + 1), EReal.coe_add]; rfl

theorem IsR.laneSum {v : FVec Ideal S16 .f32} {g : ℕ → ℝ} (h : IsR v g) : laneSum v = ((∑ j ∈ range 16, g j : ℝ) : EReal) :=
  h.laneSumTo 15 (by omega)

theorem IsR.zero : IsR (broadcast S16 (Scalar.ofBits .f32 0x00000000#32 : Ideal .f32)) fun _ => 0 := fun _ => zero_word
theorem IsR.splat {a : Ideal .f32} {r : ℝ} (h : a = ((r : ℝ) : EReal)) : IsR (broadcast S16 a) fun _ => r := fun _ => h
theorem IsR.add {v w : FVec Ideal S16 .f32} {g k : ℕ → ℝ} (hv : IsR v g) (hw : IsR w k) : IsR (addf v w) fun j => g j + k j := fun x => by
  show v x + w x = _
  rw [hv, hw, EReal.coe_add]
theorem IsR.sub {v w : FVec Ideal S16 .f32} {g k : ℕ → ℝ} (hv : IsR v g) (hw : IsR w k) : IsR (subf v w) fun j => g j - k j := fun x => by
  show v x - w x = _
  rw [hv, hw, EReal.coe_sub]
theorem IsR.mul {v w : FVec Ideal S16 .f32} {g k : ℕ → ℝ} (hv : IsR v g) (hw : IsR w k) : IsR (mulf v w) fun j => g j * k j := fun x => by
  show v x * w x = _
  rw [hv, hw, EReal.coe_mul]
theorem IsR.abs {v : FVec Ideal S16 .f32} {g : ℕ → ℝ} (hv : IsR v g) : IsR (absf v) fun j => |g j| := fun x => by
  show max (v x) (-(v x)) = _
  rw [hv, ← EReal.coe_neg]
  exact (EReal.coe_strictMono.monotone.map_max (a := g (x 0).val) (b := -g (x 0).val)).symm
theorem IsR.congr {v : FVec Ideal S16 .f32} {g k : ℕ → ℝ} (hv : IsR v g) (h : ∀ j < 16, g j = k j) : IsR v k := fun x => by
  rw [hv, h _ (x 0).isLt]

theorem div_coe {a b : ℝ} (hb : b ≠ 0) : Ideal.div (a : EReal) (b : EReal) = ((a / b : ℝ) : EReal) := by
  unfold Ideal.div
  rw [if_neg (by rw [← EReal.coe_zero]; exact fun h => hb (EReal.coe_injective h)), div_eq_mul_inv, EReal.coe_mul, EReal.coe_inv]

/-! ## Selects of lanes by their number -/

theorem lanes_at (x : S16.Idx) : (lanes : IVec S16 32) x = BitVec.ofNat 32 (x 0).val := by
  have h := lanes_lane (l := (x 0).val) (x 0).isLt
  exact (nth_idx 0#32 (lanes : IVec S16 32) x).symm.trans h

theorem sge_lane {a b : ℕ} (ha : a < 16) (hb : b < 16) : IntOp.cmpi .sge (BitVec.ofNat 32 a) (BitVec.ofNat 32 b) = if b ≤ a then 1#1 else 0#1 := by
  have : ∀ a b : Fin 16, IntOp.cmpi .sge (BitVec.ofNat 32 a.val) (BitVec.ofNat 32 b.val) = if b.val ≤ a.val then 1#1 else 0#1 := by decide
  exact this ⟨a, ha⟩ ⟨b, hb⟩
theorem sgt_lane {a b : ℕ} (ha : a < 16) (hb : b < 16) : IntOp.cmpi .sgt (BitVec.ofNat 32 a) (BitVec.ofNat 32 b) = if b < a then 1#1 else 0#1 := by
  have : ∀ a b : Fin 16, IntOp.cmpi .sgt (BitVec.ofNat 32 a.val) (BitVec.ofNat 32 b.val) = if b.val < a.val then 1#1 else 0#1 := by decide
  exact this ⟨a, ha⟩ ⟨b, hb⟩
theorem eq_lane {a : ℕ} (ha : a < 16) : IntOp.cmpi .eq (BitVec.ofNat 32 a) 0#32 = if a = 0 then 1#1 else 0#1 := by
  have : ∀ a : Fin 16, IntOp.cmpi .eq (BitVec.ofNat 32 a.val) 0#32 = if a.val = 0 then 1#1 else 0#1 := by decide
  exact this ⟨a, ha⟩

theorem IsR.sel {c : IVec S16 1} {p : ℕ → Prop} [DecidablePred p] (hc : ∀ x : S16.Idx, c x = if p (x 0).val then 1#1 else 0#1)
    {v w : FVec Ideal S16 .f32} {g k : ℕ → ℝ} (hv : IsR v g) (hw : IsR w k) : IsR (select c v w) fun j => if p j then g j else k j := fun x => by
  show Scalar.select (c x) (v x) (w x) = _
  rw [hc, hv, hw]
  by_cases h : p (x 0).val
  · simp only [if_pos h]; rfl
  · simp only [if_neg h]; rfl

theorem IsR.prefTo {w : FVec Ideal S16 .f32} {g : ℕ → ℝ} (h : IsR w g) : ∀ (n : ℕ) (hn : n ≤ 16),
    IsR (prefTo lanes w n hn) fun x => ∑ j ∈ range n, if j ≤ x then g j else 0
  | 0, _ => (IsR.zero).congr fun _ _ => by simp
  | n + 1, hn => by
    rw [W1.prefTo]
    refine (IsR.add (h.prefTo n (by omega)) (IsR.sel (p := fun x => n ≤ x) (fun x => ?_) (IsR.splat (h.at_lane _)) IsR.zero)).congr
      fun x _ => by rw [sum_range_succ]
    show IntOp.cmpi .sge (lanes x) (BitVec.ofNat 32 n) = _
    rw [lanes_at, sge_lane (x 0).isLt (by omega)]

theorem sum_pref (g : ℕ → ℝ) {x : ℕ} (hx : x < 16) : (∑ j ∈ range 16, if j ≤ x then g j else 0) = ∑ j ∈ range (x + 1), g j := by
  rw [← sum_filter]
  refine sum_congr (Finset.ext fun j => ?_) fun _ _ => rfl
  rw [mem_filter, mem_range, mem_range]; omega

theorem IsR.shiftTo {w : FVec Ideal S16 .f32} {g : ℕ → ℝ} (h : IsR w g) : ∀ (n : ℕ) (hn : n < 16),
    IsR (shiftTo lanes w n hn) fun x => g (min n (x - 1))
  | 0, _ => (IsR.splat (h.at_lane _)).congr fun x _ => by simp
  | n + 1, hn => by
    rw [W1.shiftTo]
    refine (IsR.sel (p := fun x => n + 1 < x) (fun x => ?_) (IsR.splat (h.at_lane _)) (h.shiftTo n (by omega))).congr fun x _ => ?_
    · show IntOp.cmpi .sgt (lanes x) (BitVec.ofNat 32 (n + 1)) = _
      rw [lanes_at, sgt_lane (x 0).isLt (by omega)]
    · by_cases hx : n + 1 < x
      · rw [if_pos hx]; congr 1; omega
      · rw [if_neg hx]; congr 1; omega

/-! ## Sums over blocks of sixteen -/

theorem sum_blocks (f : ℕ → ℝ) : ∀ n, ∑ j ∈ range 16, ∑ k ∈ range n, f (16 * k + j) = ∑ i ∈ range (16 * n), f i
  | 0 => by simp
  | n + 1 => by
    rw [sum_congr rfl fun j _ => sum_range_succ _ n, sum_add_distrib, sum_blocks f n, Nat.mul_succ, sum_range_add]

/-! ## The row -/

section Row
variable {wv pv : FVec Ideal S4096 .f32} {w p : ℕ → ℝ}

theorem sumVal_eq (hw : ∀ k, k < 4096 → fl wv k = ((w k : ℝ) : EReal)) : ∀ n, n ≤ 128 →
    IsR (sumVal wv n).1 (fun j => ∑ k ∈ range n, w (16 * k + j)) ∧ IsR (sumVal wv n).2 (fun j => ∑ k ∈ range n, w (2048 + (16 * k + j)))
  | 0, _ => ⟨(IsR.zero).congr fun _ _ => by simp, (IsR.zero).congr fun _ _ => by simp⟩
  | n + 1, hn => by
    obtain ⟨h1, h2⟩ := sumVal_eq hw n (by omega)
    constructor
    · refine (IsR.add h1 (w := blk wv (16 * n)) (k := fun j => w (16 * n + j)) fun x => hw _ (by have := (x 0).isLt; change (x 0).val < 16 at this; omega)).congr
        fun j _ => by rw [sum_range_succ]
    · refine (IsR.add h2 (w := blk wv (16 * n + 2048)) (k := fun j => w (2048 + (16 * n + j))) fun x => ?_).congr
        fun j _ => by rw [sum_range_succ]
      have := (x 0).isLt
      change (x 0).val < 16 at this
      refine (hw _ (by omega)).trans (by congr 2; omega)

theorem sum1_eq (hw : ∀ k, k < 4096 → fl wv k = ((w k : ℝ) : EReal)) :
    laneSum (sumVal wv 128).1 = ((∑ i ∈ range 2048, w i : ℝ) : EReal) := by
  rw [(sumVal_eq hw 128 le_rfl).1.laneSum, sum_blocks]
theorem sum2_eq (hw : ∀ k, k < 4096 → fl wv k = ((w k : ℝ) : EReal)) :
    laneSum (sumVal wv 128).2 = ((∑ i ∈ range 2048, w (2048 + i) : ℝ) : EReal) := by
  rw [(sumVal_eq hw 128 le_rfl).2.laneSum, sum_blocks fun i => w (2048 + i)]

theorem gx_eq {a : FVec Ideal S16 .f32} {X : ℝ} (h : laneSum a = ((X : ℝ) : EReal)) (hX : X ≠ 0) : IsR (gxOf a) fun _ => 1 / X := fun x => by
  show Ideal.div _ _ = _
  rw [← div_coe hX]
  exact congrArg₂ Ideal.div one_word h
theorem gy_eq {a : FVec Ideal S16 .f32} {Y : ℝ} (h : laneSum a = ((Y : ℝ) : EReal)) (hY : Y ≠ 0) : IsR (gyOf a) fun _ => -1 / Y := fun x => by
  show Ideal.div _ _ = _
  rw [← div_coe hY]
  exact congrArg₂ Ideal.div neg_one_word h

/-- The place a sorted word names. -/
def place (b : IVec S4112 32) (m : ℕ) : ℕ := (wd b m).toNat % 4096
/-- A place's signed share. -/
def share (w : ℕ → ℝ) (X Y : ℝ) (i : ℕ) : ℝ := w i * if i < 2048 then 1 / X else -1 / Y

theorem place_lt (b : IVec S4112 32) (m : ℕ) : place b m < 4096 := Nat.mod_lt _ (by omega)

theorem idx_at (b : IVec S4112 32) (n : ℕ) (x : S16.Idx) : (idxOf (blkI b (16 * n)) x).toNat = place b (16 * n + (x 0).val) := by
  show (wd b (16 * n + (x 0).val) &&& 4095#32).toNat = _
  rw [BitVec.toNat_and]
  exact Nat.and_two_pow_sub_one_eq_mod _ 12

theorem slt_2048 {a : BitVec 32} (ha : a.toNat < 4096) : IntOp.cmpi .slt a 2048#32 = if a.toNat < 2048 then 1#1 else 0#1 := by
  show BitVec.ofBool (a.slt 2048#32) = _
  have h1 : a.toInt = a.toNat := by rw [BitVec.toInt_eq_toNat_cond]; split <;> omega
  rw [BitVec.slt, h1]
  by_cases h : a.toNat < 2048
  · rw [if_pos h]; simp [h]
  · rw [if_neg h]; simp [h]

variable {b : IVec S4112 32} {X Y : ℝ}

theorem gat_eq (hp : ∀ k, k < 4096 → fl pv k = ((p k : ℝ) : EReal)) (n : ℕ) : IsR (gat pv (idxOf (blkI b (16 * n)))) fun j => p (place b (16 * n + j)) := fun x => by
  show fl pv (idxOf (blkI b (16 * n)) x).toNat = _
  rw [idx_at, hp _ (place_lt _ _)]

theorem wAt_eq (hw : ∀ k, k < 4096 → fl wv k = ((w k : ℝ) : EReal)) {gx gy : FVec Ideal S16 .f32}
    (hx : IsR gx fun _ => 1 / X) (hy : IsR gy fun _ => -1 / Y) (n : ℕ) :
    IsR (wAt wv b gx gy n) fun j => share w X Y (place b (16 * n + j)) := by
  refine (IsR.mul (gat_eq hw n) (IsR.sel (p := fun j => place b (16 * n + j) < 2048) (fun x => ?_) hx hy)).congr fun j _ => rfl
  show IntOp.cmpi .slt (idxOf (blkI b (16 * n)) x) 2048#32 = _
  have h := idx_at b n x
  rw [slt_2048 (by rw [h]; exact place_lt _ _), h]

/-- The running signed share before place `m`. -/
def run (f : ℕ → ℝ) (m : ℕ) : ℝ := ∑ i ∈ range m, f i

theorem finAcc_eq {c : Ideal .f32} {acc ws pos : FVec Ideal S16 .f32} {f z a : ℕ → ℝ} {n : ℕ} (hc : c = ((run f (16 * n) : ℝ) : EReal))
    (ha : IsR acc a) (hw : IsR ws fun j => f (16 * n + j)) (hp : IsR pos fun j => z (16 * n + j)) :
    IsR (finAcc lanes c acc ws pos) fun j => a j + z (16 * n + j) * (|run f (16 * n + j)| - |run f (16 * n + j + 1)|) := by
  have hg : IsR (finG lanes c ws) fun j => |run f (16 * n + j + 1)| :=
    ((IsR.add (IsR.splat hc) (hw.prefTo 16 le_rfl)).abs).congr fun j hj => by
      rw [sum_pref _ hj]
      unfold run
      rw [show 16 * n + j + 1 = 16 * n + (j + 1) by omega, sum_range_add f (16 * n) (j + 1)]
  have h0 : IsR (broadcast S16 c) fun _ => run f (16 * n) := IsR.splat hc
  refine (IsR.add ha (IsR.mul hp (IsR.sub (IsR.sel (p := fun j => j = 0) (fun x => ?_) h0.abs (hg.shiftTo 14 (by omega))) hg))).congr fun j hj => ?_
  · show IntOp.cmpi .eq (lanes x) 0#32 = _
    rw [lanes_at, eq_lane (x 0).isLt]
  · by_cases h : j = 0
    · subst h; simp
    · rw [if_neg h, show min 14 (j - 1) = j - 1 by omega, show 16 * n + (j - 1) + 1 = 16 * n + j by omega]

theorem finVal_eq (hw : ∀ k, k < 4096 → fl wv k = ((w k : ℝ) : EReal)) (hp : ∀ k, k < 4096 → fl pv k = ((p k : ℝ) : EReal))
    {gx gy : FVec Ideal S16 .f32} (hx : IsR gx fun _ => 1 / X) (hy : IsR gy fun _ => -1 / Y) : ∀ n,
    (finVal wv pv b gx gy n).1 = ((run (fun m => share w X Y (place b m)) (16 * n) : ℝ) : EReal)
    ∧ IsR (finVal wv pv b gx gy n).2 (fun j => ∑ k ∈ range n, p (place b (16 * k + j))
        * (|run (fun m => share w X Y (place b m)) (16 * k + j)| - |run (fun m => share w X Y (place b m)) (16 * k + j + 1)|))
  | 0 => ⟨by rw [finVal, zero_word]; simp [run], (IsR.zero).congr fun _ _ => by simp⟩
  | n + 1 => by
    obtain ⟨h1, h2⟩ := finVal_eq hw hp hx hy n
    have hwn := wAt_eq (b := b) hw hx hy n
    constructor
    · rw [finVal]
      show (finVal wv pv b gx gy n).1 + laneSum (wAt wv b gx gy n) = _
      rw [h1, hwn.laneSum, ← EReal.coe_add]
      unfold run
      rw [Nat.mul_succ, sum_range_add]
    · rw [finVal]
      exact (finAcc_eq (z := fun m => p (place b m)) h1 h2 hwn (gat_eq hp n)).congr fun j _ => by rw [sum_range_succ]

/-- A row's result as a real. -/
theorem rowOut_eq (hw : ∀ k, k < 4096 → fl wv k = ((w k : ℝ) : EReal)) (hp : ∀ k, k < 4096 → fl pv k = ((p k : ℝ) : EReal))
    (hX : ∑ i ∈ range 2048, w i = X) (hY : ∑ i ∈ range 2048, w (2048 + i) = Y) (hX0 : X ≠ 0) (hY0 : Y ≠ 0) :
    rowOut wv pv b = ((kerSum (fun m => p (place b m)) (fun m => share w X Y (place b m)) 4096 : ℝ) : EReal) := by
  unfold rowOut
  rw [(finVal_eq hw hp (gx_eq (hX ▸ sum1_eq hw) hX0) (gy_eq (hY ▸ sum2_eq hw) hY0) 256).2.laneSum,
    sum_blocks fun m => p (place b m) * (|run (fun m => share w X Y (place b m)) m| - |run (fun m => share w X Y (place b m)) (m + 1)|)]
  rfl

end Row

end Cert.Proof.W1

end
-- ==== Proof.HostOps.lean ====
/-
  The reference's host operations read along one row: the take along an axis, the running sum, the sorts, the count of
  smaller elements, the padded differences.
-/
module

public import proofs.«01_k».proof.Proof.Value
public import Idealize.ShloMosaic.Lib.IdealHost
public import Idealize.ShloMosaic.Lib.KernelVsHost
public import Idealize.ShloMosaic.Lib.SortFacts
public import Idealize.ShloMosaic.Lib.IndicatorCount

@[expose] public section

noncomputable section

namespace Cert.Proof.W1

open Idealize.ShloMosaic
open Idealize.ShloMosaic.ValueIdx (ix0 ix1 ix2 ix3 eq_ix0 eq_ix1 eq_ix2 eq_ix3 hostDivf_apply hostReduceAdd_apply broadcastInDim_scalar_apply)
open Finset

abbrev mat (R N : ℕ) : Shape := ⟨2, ![R, N]⟩
abbrev cube (R N M : ℕ) : Shape := ⟨3, ![R, N, M]⟩

variable {R N M : ℕ}

/-- Row `r` of `x` holds the reals `g`. -/
def RowR (x : FVec Ideal (mat R N) .f32) (r : Fin R) (g : ℕ → ℝ) : Prop :=
  ∀ j : Fin N, x (ix2 r j) = ((g j.val : ℝ) : EReal)
/-- Row `r` of `v` holds the naturals `k`. -/
def RowI (v : IVec (mat R N) 32) (r : Fin R) (k : ℕ → ℕ) : Prop := ∀ j : Fin N, v (ix2 r j) = BitVec.ofNat 32 (k j.val)

/-! ## Words -/

theorem toInt_small {k : ℕ} (h : k < 2 ^ 31) : (BitVec.ofNat 32 k).toInt = (k : ℤ) := by
  rw [BitVec.toInt_eq_toNat_of_lt (by rw [BitVec.toNat_ofNat]; omega), BitVec.toNat_ofNat, Nat.mod_eq_of_lt (by omega)]

theorem slt_zero {k : ℕ} (h : k < 2 ^ 31) : IntOp.cmpi .slt (BitVec.ofNat 32 k) 0#32 = 0#1 := by
  have : ¬ (BitVec.ofNat 32 k).toInt < (0#32 : BitVec 32).toInt := by
    rw [toInt_small h]; simp
  show BitVec.ofBool (decide ((BitVec.ofNat 32 k).toInt < (0#32 : BitVec 32).toInt)) = 0#1
  rw [decide_eq_false this]; rfl

theorem sge_zero {k : ℕ} (h : k < 2 ^ 31) : IntOp.cmpi .sge (BitVec.ofNat 32 k) 0#32 = 1#1 := by
  have : (0#32 : BitVec 32).toInt ≤ (BitVec.ofNat 32 k).toInt := by
    rw [toInt_small h]; simp
  show BitVec.ofBool (decide ((0#32 : BitVec 32).toInt ≤ (BitVec.ofNat 32 k).toInt)) = 1#1
  rw [decide_eq_true this]; rfl

theorem sle_top {k m : ℕ} (h : k ≤ m) (hm : m < 2 ^ 31) : IntOp.cmpi .sle (BitVec.ofNat 32 k) (BitVec.ofNat 32 m) = 1#1 := by
  have : (BitVec.ofNat 32 k).toInt ≤ (BitVec.ofNat 32 m).toInt := by
    rw [toInt_small hm, toInt_small (by omega)]; exact_mod_cast h
  show BitVec.ofBool (decide ((BitVec.ofNat 32 k).toInt ≤ (BitVec.ofNat 32 m).toInt)) = 1#1
  rw [decide_eq_true this]; rfl

/-! ## The take along an axis -/

theorem gather_row {α : Type} (d : GatherDims (mat R N) (cube R M 1) (mat R M)) (hod : d.offsetDims = [])
    (hc : d.collapsedSliceDims = [1]) (hob : d.operandBatchingDims = [0]) (hsb : d.startIndicesBatchingDims = [0])
    (hsim : d.startIndexMap = [1]) (hivd : d.indexVectorDim = 2) (x : (mat R N).Idx → α) (idx : IVec (cube R M 1) 32)
    (r : Fin R) (j : Fin M) {k : ℕ} (hk : k < N) (hN : N ≤ 2 ^ 31) (hi : idx (ix3 r j (0 : Fin 1)) = BitVec.ofNat 32 k) :
    Host.gather d x idx (ix2 r j) = x (ix2 r ⟨k, hk⟩) := by
  obtain ⟨od, cs, ob, sb, sm, iv, ss, wf⟩ := d
  dsimp only at hod hc hob hsb hsim hivd
  subst hod hc hob hsb hsim hivd
  have e0 : ∀ X : Fin 2, X.val = 0 → ((ix2 r j : (mat R M).Idx) X).val = r.val := fun X hX => by
    obtain rfl : X = 0 := Fin.ext hX
    rfl
  have e1 : ∀ X : Fin 2, X.val = 1 → ((ix2 r j : (mat R M).Idx) X).val = j.val := fun X hX => by
    obtain rfl : X = 1 := Fin.ext hX
    rfl
  have hss : ss 1 = 1 := wf.2.2.2.2.2.2.2.2.2.2.2.1 1 (List.mem_singleton.2 rfl)
  unfold Host.gather
  refine congrArg x (funext fun a => Fin.ext ?_)
  match a with
  | ⟨0, _⟩ =>
    show GatherDims.start _ (ix2 r j) idx 0 + GatherDims.batchCoord _ (ix2 r j) 0 + GatherDims.offCoord _ (ix2 r j) 0 = r.val
    rw [GatherDims.start_batching _ _ _ _ (List.mem_singleton.2 rfl),
      GatherDims.offCoord_eq_zero _ _ _ (fun h => ((GatherDims.mem_sKept _ _).1 h).2 (List.mem_singleton.2 rfl)), Nat.zero_add, Nat.add_zero]
    unfold GatherDims.batchCoord
    rw [dif_pos (List.mem_singleton.2 rfl)]
    unfold GatherDims.siCoord
    exact e0 _ rfl
  | ⟨1, _⟩ =>
    show GatherDims.start _ (ix2 r j) idx 1 + GatherDims.batchCoord _ (ix2 r j) 1 + GatherDims.offCoord _ (ix2 r j) 1 = k
    rw [GatherDims.batchCoord_eq_zero _ _ _ (by simp),
      GatherDims.offCoord_eq_zero _ _ _ (fun h => ((GatherDims.mem_sKept _ _).1 h).1 (List.mem_singleton.2 rfl)), Nat.add_zero]
    unfold GatherDims.start
    rw [dif_pos (List.mem_singleton.2 rfl)]
    have hsi : ∀ c, GatherDims.siIdx (⟨[], [1], [0], [0], [1], 2, ss, wf⟩ : GatherDims (mat R N) (cube R M 1) (mat R M)) (ix2 r j) c
        = ix3 r j (0 : Fin 1) := fun c => by
      funext b
      apply Fin.ext
      match b with
      | ⟨0, _⟩ =>
        unfold GatherDims.siIdx
        rw [dif_neg (show ¬((0 : ℕ) = 2) by decide)]
        unfold GatherDims.siCoord
        exact e0 _ rfl
      | ⟨1, _⟩ =>
        unfold GatherDims.siIdx
        rw [dif_neg (show ¬((1 : ℕ) = 2) by decide)]
        unfold GatherDims.siCoord
        exact e1 _ rfl
      | ⟨2, _⟩ =>
        unfold GatherDims.siIdx
        rw [dif_pos rfl]
        have := c.isLt
        change c.val < 1 at this
        show c.val = 0
        omega
    rw [hsi, hi, toInt_small (by omega), Int.toNat_natCast]
    show min k (N - ss 1) = k
    rw [hss]
    omega

/-- An index that is not negative is used as it is. -/
theorem wrap_row {v : IVec (mat R M) 32} {r : Fin R} {k : ℕ → ℕ} (hv : RowI v r k) (hk : ∀ j, j < M → k j < 2 ^ 31)
    (hb : (⟨0, ![]⟩ : Shape).BroadcastsInDim (mat R M) ![]) (w : IVec (mat R M) 32) (hs : (mat R M).ShapeCasts (cube R M 1)) (j : Fin M) :
    shapeCast (cube R M 1) (select (cmpi .slt v (broadcastInDim (mat R M) ![] hb (constantI ⟨0, ![]⟩ 32 0#32))) w v) hs (ix3 r j (0 : Fin 1))
      = BitVec.ofNat 32 (k j.val) := by
  rw [shapeCast_apply _ hs _ (ix2 r j) (by
    rw [Shape.rowMajor_val_two, Shape.rowMajor_val_three]
    show r.val * M + j.val = (r.val * M + j.val) * 1 + 0
    omega)]
  show Scalar.select (IntOp.cmpi .slt (v (ix2 r j)) _) _ (v (ix2 r j)) = _
  rw [broadcastInDim_scalar_apply, hv j]
  show Scalar.select (IntOp.cmpi .slt (BitVec.ofNat 32 (k j.val)) 0#32) _ _ = _
  rw [slt_zero (hk _ j.isLt)]
  rfl

theorem fold_andi_one (f : Fin 1 → BitVec 1) (h : f 0 = 1#1) : (univ : Finset (Fin 1)).fold IntOp.andi 1#1 f = 1#1 := by
  rw [Finset.univ_unique, Finset.fold_singleton]
  show IntOp.andi (f 0) 1#1 = 1#1
  rw [h]; rfl

/-- The reads of a row at indices that are in range. -/
theorem take_row (d : GatherDims (mat R N) (cube R M 1) (mat R M)) (hod : d.offsetDims = [])
    (hc : d.collapsedSliceDims = [1]) (hob : d.operandBatchingDims = [0]) (hsb : d.startIndicesBatchingDims = [0])
    (hsim : d.startIndexMap = [1]) (hivd : d.indexVectorDim = 2) {x : FVec Ideal (mat R N) .f32} {I : IVec (cube R M 1) 32}
    {r : Fin R} {g : ℕ → ℝ} {k : ℕ → ℕ} (hx : RowR x r g) (hI : ∀ j : Fin M, I (ix3 r j (0 : Fin 1)) = BitVec.ofNat 32 (k j.val))
    (hk : ∀ j, j < M → k j < N) (hN : N ≤ 2 ^ 31) {m : ℕ} (hm : N = m + 1)
    (hb : (⟨0, ![]⟩ : Shape).BroadcastsInDim (cube R M 1) ![])
    (h1 : (⟨3, ![1, 1, 1]⟩ : Shape).BroadcastsInDim (cube R M 1) ![0, 1, 2]) (h2 : (⟨1, ![1]⟩ : Shape).BroadcastsInDim ⟨3, ![1, 1, 1]⟩ ![2])
    (hr : (cube R M 1).ReducesTo [2] (mat R M)) (hS : 0 < (⟨0, ![]⟩ : Shape).numel) (z : FVec Ideal (mat R M) .f32) :
    RowR (select (Host.reduce IntOp.andi (andi (cmpi .sge I (broadcastInDim (cube R M 1) ![] hb (constantI ⟨0, ![]⟩ 32 0#32)))
        (cmpi .sle I (broadcastInDim (cube R M 1) ![0, 1, 2] h1 (broadcastInDim ⟨3, ![1, 1, 1]⟩ ![2] h2 (constantI ⟨1, ![1]⟩ 32 (BitVec.ofNat 32 m))))))
        (constantI ⟨0, ![]⟩ 1 1#1) hr hS) (Host.gather d x I) z) r (fun j => g (k j)) := fun j => by
  have hkj := hk _ j.isLt
  have hred : (cube R M 1).Reduces [2] (mat R M) := ⟨hr.1, Nat.two_pos, hr.2⟩
  have hl : ∀ q : Fin ((cube R M 1).size 2), hred.lift (ix2 r j) q = ix3 r j (0 : Fin 1) := fun q => by
    funext c; apply Fin.ext
    match c with
    | ⟨0, _⟩ => rfl
    | ⟨1, _⟩ => rfl
    | ⟨2, _⟩ =>
      have := q.isLt
      change q.val < 1 at this
      show q.val = 0
      omega
  show Scalar.select (Host.reduce IntOp.andi _ _ hr hS (ix2 r j)) (Host.gather d x I (ix2 r j)) _ = _
  rw [Host.reduce_eq_fold_single IntOp.andi _ _ hr hred hS]
  have hf : ∀ q : Fin ((cube R M 1).size 2), ((andi (cmpi .sge I (broadcastInDim (cube R M 1) ![] hb (constantI ⟨0, ![]⟩ 32 0#32)))
        (cmpi .sle I (broadcastInDim (cube R M 1) ![0, 1, 2] h1 (broadcastInDim ⟨3, ![1, 1, 1]⟩ ![2] h2 (constantI ⟨1, ![1]⟩ 32 (BitVec.ofNat 32 m))))))
        ∘ hred.lift (ix2 r j)) q = 1#1 := fun q => by
    rw [Function.comp, hl]
    show IntOp.andi (IntOp.cmpi .sge (I (ix3 r j (0 : Fin 1))) 0#32) (IntOp.cmpi .sle (I (ix3 r j (0 : Fin 1))) (BitVec.ofNat 32 m)) = 1#1
    rw [hI, sge_zero (by omega), sle_top (by omega) (by omega)]
    rfl
  have e := fold_andi_one _ (hf (0 : Fin 1))
  show Scalar.select ((univ : Finset (Fin 1)).fold IntOp.andi 1#1 _) _ _ = _
  rw [e, gather_row d hod hc hob hsb hsim hivd x I r j hkj hN (hI j)]
  exact hx ⟨_, hkj⟩

/-! ## The running sum -/

theorem foldl_add_coe {ι : Type} (l : List ι) (G : ι → EReal) (f : ι → ℝ) (hg : ∀ a ∈ l, G a = ((f a : ℝ) : EReal)) (z : ℝ) :
    l.foldl (fun r a => r + G a) ((z : ℝ) : EReal) = ((z + (l.map f).sum : ℝ) : EReal) := by
  induction l generalizing z with
  | nil => simp
  | cons a l ih =>
    rw [List.foldl_cons, hg a List.mem_cons_self, ← EReal.coe_add, ih (fun b hb => hg b (List.mem_cons_of_mem _ hb)), List.map_cons,
      List.sum_cons, add_assoc]

theorem numel_row (N : ℕ) : (mat 1 N).numel = N := by
  show ∏ a : Fin 2, (![1, N] : Fin 2 → Nat) a = N
  rw [Fin.prod_univ_two]
  exact Nat.one_mul N

theorem symm_row (n : Fin (mat 1 N).numel) : (mat 1 N).rowMajor.symm n = ix2 (0 : Fin 1) (n.cast (numel_row N)) :=
  ((mat 1 N).rowMajor.symm_apply_eq).2 (Fin.ext (by
    rw [Shape.rowMajor_val_two]
    show n.val = 0 * N + n.val
    omega))

theorem map_range_val {n k : ℕ} (h : n = k) (f : ℕ → ℝ) : (List.finRange n).map (fun i => f i.val) = (List.range k).map f := by
  subst h
  rw [← List.map_coe_finRange_eq_range, List.map_map]
  rfl

theorem sum_list (f : ℕ → ℝ) : ∀ n : ℕ, ((List.range n).map f).sum = ∑ i ∈ range n, f i
  | 0 => rfl
  | n + 1 => by rw [List.range_succ, List.map_append, List.sum_append, sum_list f n, sum_range_succ]; simp

theorem sum_tail (f : ℕ → ℝ) (m j : ℕ) (hj : j ≤ m) :
    ∑ w ∈ range (m + 1), (if m ≤ j + w then f (j + w - m) else 0) = cum f j := by
  obtain ⟨d, rfl⟩ : ∃ d, m = d + j := ⟨m - j, by omega⟩
  rw [show d + j + 1 = d + (j + 1) by omega, sum_range_add _ d (j + 1), sum_eq_zero fun w hw => if_neg (by have := mem_range.1 hw; omega), zero_add]
  unfold cum
  refine sum_congr rfl fun i _ => ?_
  rw [if_pos (by omega)]
  exact congrArg f (by omega)

theorem cumsum_row {x : FVec Ideal (mat R N) .f32} {r : Fin R} {g : ℕ → ℝ} (hx : RowR x r g) {m : ℕ} (hm : N = m + 1)
    (init : (⟨0, ![]⟩ : Shape).Idx → EReal) (hi : ∀ j, init j = 0)
    (h : (mat R N).ReduceWindows ![1, N] ![1, 1] ![0, m] ![0, 0] (mat R N)) (hS : 0 < (⟨0, ![]⟩ : Shape).numel) :
    RowR (Host.reduceWindowAdd (F := Ideal) (φ := .f32) ![1, N] ![1, 1] ![0, m] ![0, 0] x init h hS) r (cum g) := fun j => by
  subst hm
  have hj := j.isLt
  show Host.reduceWindow (· + ·) ![1, m + 1] ![1, 1] ![0, m] ![0, 0] x (fun _ : (⟨0, ![]⟩ : Shape).Idx => init (Shape.Idx.first hS)) h hS (ix2 r j) = _
  unfold Host.reduceWindow
  simp only [hi]
  rw [← EReal.coe_zero]
  refine (foldl_add_coe _ _ (fun n => if m ≤ j.val + n.val then g (j.val + n.val - m) else 0) (fun n _ => ?_) 0).trans ?_
  · have hw0 : ((mat 1 (m + 1)).rowMajor.symm n 0).val = 0 := by rw [symm_row]; rfl
    have hw : ((mat 1 (m + 1)).rowMajor.symm n 1).val = n.val := by rw [symm_row]; rfl
    have hn : n.val < m + 1 := (n.cast (numel_row _)).isLt
    split
    · next hin =>
      have h1 := hin 1
      change m ≤ j.val * 1 + ((mat 1 (m + 1)).rowMajor.symm n 1).val
        ∧ j.val * 1 + ((mat 1 (m + 1)).rowMajor.symm n 1).val - m < m + 1 at h1
      rw [hw] at h1
      rw [if_pos (by omega)]
      refine (congrArg x (funext fun a => Fin.ext ?_)).trans (hx ⟨j.val + n.val - m, by omega⟩)
      match a with
      | ⟨0, _⟩ =>
        show r.val * 1 + ((mat 1 (m + 1)).rowMajor.symm n 0).val - 0 = r.val
        rw [hw0]
        omega
      | ⟨1, _⟩ =>
        show j.val * 1 + ((mat 1 (m + 1)).rowMajor.symm n 1).val - m = j.val + n.val - m
        rw [hw, Nat.mul_one]
    · next hin =>
      rw [if_neg fun hle => hin fun a => by
        match a with
        | ⟨0, _⟩ =>
          have := r.isLt
          show 0 ≤ r.val * 1 + ((mat 1 (m + 1)).rowMajor.symm n 0).val ∧ r.val * 1 + ((mat 1 (m + 1)).rowMajor.symm n 0).val - 0 < R
          rw [hw0]
          omega
        | ⟨1, _⟩ =>
          show m ≤ j.val * 1 + ((mat 1 (m + 1)).rowMajor.symm n 1).val
            ∧ j.val * 1 + ((mat 1 (m + 1)).rowMajor.symm n 1).val - m < m + 1
          rw [hw]
          omega]
  · rw [zero_add]
    have e := map_range_val (numel_row (m + 1)) fun w => if m ≤ j.val + w then g (j.val + w - m) else 0
    exact congrArg (fun s : ℝ => (s : EReal)) ((congrArg List.sum e).trans ((sum_list _ _).trans (sum_tail g m j.val (by omega))))

/-! ## The row sums and the weights -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

theorem lift_row (hr : (mat R N).Reduces [1] (⟨1, ![R]⟩ : Shape)) (r : Fin R) (q : Fin N) : hr.lift (ix1 r) q = ix2 r q := by
  funext c; apply Fin.ext
  match c with
  | ⟨0, _⟩ => rfl
  | ⟨1, _⟩ => rfl

theorem rowsum_apply (x : FVec Ideal (mat R N) .f32) (r : Fin R) (h : (mat R N).ReducesTo [1] (⟨1, ![R]⟩ : Shape)) (hS : 0 < (⟨0, ![]⟩ : Shape).numel) :
    Host.reduceAdd x (constant (F := Ideal) ⟨0, ![]⟩ .f32 0x00000000#32) h hS (ix1 r) = ∑ q : Fin N, x (ix2 r q) := by
  have hr : (mat R N).Reduces [1] (⟨1, ![R]⟩ : Shape) := ⟨h.1, Nat.one_pos, h.2⟩
  rw [hostReduceAdd_apply, Ideal.hostReduceAdd_single h hr]
  show Ideal.ofBits .f32 0x00000000#32 + _ = _
  rw [Ideal.ofBits_zero_f32, zero_add]
  exact sum_congr rfl fun q _ => congrArg x (lift_row hr r q)

theorem rowsum_row {x : FVec Ideal (mat R N) .f32} {r : Fin R} {g : ℕ → ℝ} (hx : RowR x r g) (h : (mat R N).ReducesTo [1] (⟨1, ![R]⟩ : Shape))
    (hS : 0 < (⟨0, ![]⟩ : Shape).numel) :
    Host.reduceAdd x (constant (F := Ideal) ⟨0, ![]⟩ .f32 0x00000000#32) h hS (ix1 r) = ((∑ i ∈ range N, g i : ℝ) : EReal) := by
  rw [rowsum_apply, sum_congr rfl fun q _ => hx q, coe_sum, Fin.sum_univ_eq_sum_range]

theorem weight_row {x : FVec Ideal (mat R N) .f32} {r : Fin R} {g : ℕ → ℝ} (hx : RowR x r g) (hX : ∑ i ∈ range N, g i ≠ 0)
    (h : (mat R N).ReducesTo [1] (⟨1, ![R]⟩ : Shape)) (hS : 0 < (⟨0, ![]⟩ : Shape).numel)
    (h1 : (mat R 1).BroadcastsInDim (mat R N) ![0, 1]) (h2 : (⟨1, ![R]⟩ : Shape).BroadcastsInDim (mat R 1) ![0]) :
    RowR (Host.divf x (broadcastInDim (mat R N) ![0, 1] h1 (broadcastInDim (mat R 1) ![0] h2
      (Host.reduceAdd x (constant (F := Ideal) ⟨0, ![]⟩ .f32 0x00000000#32) h hS)))) r (fun j => g j / ∑ i ∈ range N, g i) := fun j => by
  rw [hostDivf_apply, broadcastInDim_apply _ h1 _ _ (ix2 r (0 : Fin 1)) (fun a => by
    match a with
    | ⟨0, _⟩ =>
      have := r.isLt
      show r.val = if R = 1 then 0 else r.val
      split <;> omega
    | ⟨1, _⟩ => rfl), broadcastInDim_apply _ h2 _ _ (ix1 r) (fun a => by
    match a with
    | ⟨0, _⟩ =>
      have := r.isLt
      show r.val = if R = 1 then 0 else r.val
      split <;> omega), rowsum_row hx, hx j, div_coe hX]

end Cert.Proof.W1

end
-- ==== Proof.HostSort.lean ====
/-
  The reference's sorts, its count of smaller elements and its padded differences, read along one row.
-/
module

public import proofs.«01_k».proof.Proof.HostOps
public import proofs.«01_k».proof.ReferenceIdeal

@[expose] public section

noncomputable section

namespace Cert.Proof.W1

open Idealize.ShloMosaic
open Idealize.ShloMosaic.ValueIdx (ix0 ix1 ix2 ix3 eq_ix0 eq_ix1 eq_ix2 eq_ix3 hostDivf_apply hostReduceAdd_apply broadcastInDim_scalar_apply)
open Finset

variable {R N M : ℕ}

/-! ## Sorts -/

theorem ofBool_iff (p : Prop) [Decidable p] : BitVec.ofBool (decide p) = 1#1 ↔ p := by
  by_cases h : p <;> simp [h]

theorem canon_zero (l : EReal) : Scalar.select (Ideal.cmp .oeq l (Ideal.ofBits .f32 0x00000000#32)) (Ideal.ofBits .f32 0x00000000#32) l = l := by
  rw [Ideal.ofBits_zero_f32]
  by_cases h : l = 0
  · subst h; unfold Scalar.select; split <;> rfl
  · have : Ideal.cmp .oeq l 0 = 0#1 := by
      show BitVec.ofBool (decide (l = 0)) = 0#1
      rw [decide_eq_false h]; rfl
    rw [this]; rfl

theorem canon_nan (l x y : EReal) : Scalar.select (Ideal.cmp .une l l) x y = y := by
  have : Ideal.cmp .une l l = 0#1 := by
    show BitVec.ofBool (decide (l ≠ l)) = 0#1
    rw [decide_eq_false (fun h => h rfl)]; rfl
  rw [this]; rfl

theorem before_iff (l r : EReal) : Cert.ReferenceIdeal.comparator_f32_d1 (F := Ideal) l r = 1#1 ↔ l < r := by
  show Ideal.cmp .olt (Scalar.select (Ideal.cmp .une l l) _ (Scalar.select (Ideal.cmp .oeq l (Ideal.ofBits .f32 0x00000000#32)) (Ideal.ofBits .f32 0x00000000#32) l))
    (Scalar.select (Ideal.cmp .une r r) _ (Scalar.select (Ideal.cmp .oeq r (Ideal.ofBits .f32 0x00000000#32)) (Ideal.ofBits .f32 0x00000000#32) r)) = 1#1 ↔ _
  rw [canon_nan, canon_nan, canon_zero, canon_zero]
  exact ofBool_iff (l < r)

theorem before2_iff (l r : EReal × BitVec 32) : Cert.ReferenceIdeal.comparator_f32_i32_d1 (F := Ideal) l r = 1#1 ↔ l.1 < r.1 := before_iff l.1 r.1

theorem along_row (r : Fin R) (j k : Fin N) : Shape.Idx.along (s := mat R N) (ix2 r j) 1 k = ix2 r k := by
  unfold Shape.Idx.along
  funext a
  match a with
  | ⟨0, _⟩ => exact Function.update_of_ne (Fin.ne_of_val_ne (by decide : (0 : ℕ) ≠ 1)) _ _
  | ⟨1, _⟩ => exact Function.update_self _ _ _

/-- Sorting positions by a strict comparison of reals. -/
theorem sorted_shuf {u : ℕ → ℝ} (B : Fin N → Fin N → Bool) (hB : ∀ k k', B k k' = true ↔ u k.val < u k'.val) :
    ∃ s : ℕ → ℕ, Shuf N s ∧ Up (fun i => u (s i)) N ∧ ∀ j : Fin N, (sortedFrom B j).val = s j.val := by
  have hB' : ∀ k k', B k k' = false ↔ u k'.val ≤ u k.val := fun k k' => by
    rw [← not_lt, ← hB, Bool.not_eq_true]
  refine ⟨fun i => if h : i < N then (sortedFrom B ⟨i, h⟩).val else 0, ⟨fun i hi => ?_, fun i i' hi hi' h => ?_⟩, fun i j hij hj => ?_, fun j => ?_⟩
  · dsimp only
    rw [dif_pos hi]; exact Fin.isLt _
  · dsimp only at h
    rw [dif_pos hi, dif_pos hi'] at h
    exact congrArg Fin.val (sortedFrom_injective B (Fin.ext h))
  · dsimp only
    rw [dif_pos hj, dif_pos (by omega : i < N)]
    rcases Nat.lt_or_ge i j with h | h
    · exact (hB' _ _).1 (sortedFrom_noInversion B B (fun a b h => (hB' _ _).2 ((hB _ _).1 h).le) (fun a b h => h)
        (fun a b c h1 h2 => (hB' _ _).2 (((hB' _ _).1 h2).trans ((hB' _ _).1 h1))) ⟨i, by omega⟩ ⟨j, hj⟩ h)
    · obtain rfl : i = j := by omega
      exact le_rfl
  · dsimp only
    rw [dif_pos j.isLt]

/-- The positions a row's sort takes its elements from. -/
theorem argsort_row {x : FVec Ideal (mat R N) .f32} {r : Fin R} {u : ℕ → ℝ} (hx : RowR x r u) :
    ∃ s : ℕ → ℕ, Shuf N s ∧ Up (fun i => u (s i)) N
      ∧ RowI (Host.sort2 (mat R N) 1 (Cert.ReferenceIdeal.comparator_f32_i32_d1 (F := Ideal)) x (iotaInDim (mat R N) 32 1)).2 r s := by
  obtain ⟨s, h1, h2, h3⟩ := sorted_shuf (N := N) (u := u) (fun k k' => Cert.ReferenceIdeal.comparator_f32_i32_d1 (F := Ideal)
    (x (ix2 r k), iotaInDim (mat R N) 32 1 (ix2 r k)) (x (ix2 r k'), iotaInDim (mat R N) 32 1 (ix2 r k')) == 1#1) (fun k k' => by
      rw [beq_iff_eq, before2_iff, hx, hx]
      exact EReal.coe_lt_coe_iff)
  refine ⟨s, h1, h2, fun j => ?_⟩
  rw [← h3 j]
  unfold Host.sort2
  rw [dif_pos (show 1 < (mat R N).rank from Nat.one_lt_two)]
  refine (congrArg (fun B : Fin N → Fin N → Bool => iotaInDim (mat R N) 32 1 (Shape.Idx.along (s := mat R N) (ix2 r j) 1 (sortedFrom B j))) (funext fun k => funext fun k' =>
    congrArg₂ (fun a b => Cert.ReferenceIdeal.comparator_f32_i32_d1 (F := Ideal) (x a, iotaInDim (mat R N) 32 1 a) (x b, iotaInDim (mat R N) 32 1 b) == 1#1)
      (along_row r j k) (along_row r j k'))).trans ?_
  exact congrArg (iotaInDim (mat R N) 32 1) (along_row r j _)

/-- A row sorted by value. -/
theorem sort_row {x : FVec Ideal (mat R N) .f32} {r : Fin R} {u : ℕ → ℝ} (hx : RowR x r u) :
    ∃ s : ℕ → ℕ, Shuf N s ∧ Up (fun i => u (s i)) N
      ∧ RowR (Host.sort (mat R N) 1 (Cert.ReferenceIdeal.comparator_f32_d1 (F := Ideal)) x) r (fun i => u (s i)) := by
  obtain ⟨s, h1, h2, h3⟩ := sorted_shuf (N := N) (u := u) (fun k k' => Cert.ReferenceIdeal.comparator_f32_d1 (F := Ideal)
    (x (ix2 r k)) (x (ix2 r k')) == 1#1) (fun k k' => by
      rw [beq_iff_eq, before_iff, hx, hx]
      exact EReal.coe_lt_coe_iff)
  refine ⟨s, h1, h2, fun j => ?_⟩
  show _ = ((u (s j.val) : ℝ) : EReal)
  rw [← h3 j]
  unfold Host.sort
  rw [dif_pos (show 1 < (mat R N).rank from Nat.one_lt_two)]
  refine (congrArg (fun B : Fin N → Fin N → Bool => x (Shape.Idx.along (s := mat R N) (ix2 r j) 1 (sortedFrom B j))) (funext fun k => funext fun k' =>
    congrArg₂ (fun a b => Cert.ReferenceIdeal.comparator_f32_d1 (F := Ideal) (x a) (x b) == 1#1)
      (along_row r j k) (along_row r j k'))).trans ?_
  exact (congrArg x (along_row r j _)).trans (hx _)

/-! ## Two rows end to end -/

theorem concat_row {x y : FVec Ideal (mat R N) .f32} {r : Fin R} {g h : ℕ → ℝ} (hx : RowR x r g) (hy : RowR y r h) {E : ℕ} (hE : E = N + N)
    (hc : Shape.Concatenates [mat R N, mat R N] (mat R E) 1) :
    RowR (concatenate (mat R E) 1 [⟨mat R N, x⟩, ⟨mat R N, y⟩] hc) r (fun j => if j < N then g j else h (j - N)) := fun j => by
  have hj := j.isLt
  show _ = (((if j.val < N then g j.val else h (j.val - N)) : ℝ) : EReal)
  by_cases hlt : j.val < N
  · rw [if_pos hlt, concatenate_pair_apply_left 1 x y hc (ix2 r j) rfl (ix2 r ⟨j.val, hlt⟩) (fun b => by
      match b with
      | ⟨0, _⟩ => rfl
      | ⟨1, _⟩ => rfl)]
    exact hx _
  · rw [if_neg hlt, concatenate_pair_apply_right 1 x y hc (ix2 r j) rfl rfl (ix2 r ⟨j.val - N, by omega⟩) (fun b hb => by
      match b, hb with
      | ⟨0, _⟩, _ => rfl
      | ⟨1, _⟩, hb => exact absurd rfl hb) (by
      show j.val - N + N = j.val
      omega)]
    exact hy _

/-! ## The count of smaller elements -/

theorem card_fin_cnt (f : ℕ → ℝ) (q : ℝ) (p : Fin N → BitVec 1) (hp : ∀ k, p k = 1#1 ↔ f k.val < q) :
    ((univ : Finset (Fin N)).filter fun k => p k = 1#1).card = cnt f N q := by
  classical
  unfold cnt
  rw [card_filter, card_filter, ← Fin.sum_univ_eq_sum_range (fun j => if f j < q then 1 else 0)]
  exact sum_congr rfl fun k _ => if_congr (hp k) rfl rfl

theorem fold_cnt (f : ℕ → ℝ) (q : ℝ) (p : Fin N → BitVec 1) (hp : ∀ k, p k = 1#1 ↔ f k.val < q) :
    (univ : Finset (Fin N)).fold IntOp.addi (0#32) (fun k => (p k).setWidth 32) = BitVec.ofNat 32 (cnt f N q) :=
  (IndicatorCount.fold_addi_setWidth_eq_card p univ).trans (congrArg (BitVec.ofNat 32) (card_fin_cnt f q p hp))

/-- A sum of one-bit marks along the last axis counts them. -/
theorem reduce_cnt (v : IVec (cube R M N) 1) (r : Fin R) (j : Fin M) (f : ℕ → ℝ) (q : ℝ) (hv : ∀ k : Fin N, v (ix3 r j k) = 1#1 ↔ f k.val < q)
    (hw : 1 < 32) (hr : (cube R M N).ReducesTo [2] (mat R M)) (hS : 0 < (⟨0, ![]⟩ : Shape).numel) :
    Host.reduce IntOp.addi (extui 32 v hw) (constantI ⟨0, ![]⟩ 32 0#32) hr hS (ix2 r j) = BitVec.ofNat 32 (cnt f N q) := by
  have hred : (cube R M N).Reduces [2] (mat R M) := ⟨hr.1, Nat.two_pos, hr.2⟩
  have hl : ∀ k : Fin N, hred.lift (ix2 r j) k = ix3 r j k := fun k => by
    funext c; apply Fin.ext
    match c with
    | ⟨0, _⟩ => rfl
    | ⟨1, _⟩ => rfl
    | ⟨2, _⟩ => rfl
  rw [Host.reduce_eq_fold_single IntOp.addi _ _ hr hred hS]
  exact fold_cnt (N := N) f q (fun k => v (hred.lift (ix2 r j) k)) fun k => by rw [show v (hred.lift (ix2 r j) k) = v (ix3 r j k) from congrArg v (hl k)]; exact hv k

theorem clamp_small {c m : ℕ} (h : c ≤ m) (hm : m < 2 ^ 31) :
    IntOp.minsi (BitVec.ofNat 32 m) (IntOp.maxsi 0#32 (BitVec.ofNat 32 c)) = BitVec.ofNat 32 c := by
  have h1 : IntOp.maxsi 0#32 (BitVec.ofNat 32 c) = BitVec.ofNat 32 c := by
    unfold IntOp.maxsi
    rw [BitVec.slt_eq_decide, toInt_small (by omega)]
    by_cases h0 : c = 0
    · subst h0; simp
    · rw [decide_eq_false (by simp)]
      rfl
  rw [h1]
  unfold IntOp.minsi
  rw [BitVec.slt_eq_decide, toInt_small (by omega), toInt_small (by omega), decide_eq_false (by omega)]
  rfl

theorem count_row {U : FVec Ideal (mat R N) .f32} {Q : FVec Ideal (mat R M) .f32} {r : Fin R} {f q : ℕ → ℝ} (hU : RowR U r f) (hQ : RowR Q r q)
    {m : ℕ} (hm : m < 2 ^ 31) (hc : ∀ j, j < M → cnt f N (q j) ≤ m)
    (hb : (⟨0, ![]⟩ : Shape).BroadcastsInDim (mat R M) ![])
    (b1 : (mat R N).BroadcastsInDim (cube R 1 N) ![0, 2]) (b2 : (cube R 1 N).BroadcastsInDim (cube R M N) ![0, 1, 2])
    (b3 : (mat R M).BroadcastsInDim (cube R M 1) ![0, 1]) (b4 : (cube R M 1).BroadcastsInDim (cube R M N) ![0, 1, 2])
    (hw : 1 < 32) (hr : (cube R M N).ReducesTo [2] (mat R M)) (hS : 0 < (⟨0, ![]⟩ : Shape).numel) :
    RowI (minsi (broadcastInDim (mat R M) ![] hb (id (constantI ⟨0, ![]⟩ 32 (BitVec.ofNat 32 m))))
      (maxsi (broadcastInDim (mat R M) ![] hb (id (constantI ⟨0, ![]⟩ 32 0#32)))
        (Host.reduce IntOp.addi (extui 32 (cmpf (F := Ideal) (φ := .f32) .olt (broadcastInDim (cube R M N) ![0, 1, 2] b2 (broadcastInDim (cube R 1 N) ![0, 2] b1 U))
          (broadcastInDim (cube R M N) ![0, 1, 2] b4 (broadcastInDim (cube R M 1) ![0, 1] b3 Q))) hw) (constantI ⟨0, ![]⟩ 32 0#32) hr hS)))
      r (fun j => cnt f N (q j)) := fun j => by
  have e1 : ∀ k : Fin N, broadcastInDim (cube R M N) ![0, 1, 2] b2 (broadcastInDim (cube R 1 N) ![0, 2] b1 U) (ix3 r j k) = ((f k.val : ℝ) : EReal) := fun k => by
    rw [broadcastInDim_apply _ b2 _ _ (ix3 r (0 : Fin 1) k) (fun a => by
      match a with
      | ⟨0, _⟩ =>
        have := r.isLt
        show r.val = if R = 1 then 0 else r.val
        split <;> omega
      | ⟨1, _⟩ => rfl
      | ⟨2, _⟩ =>
        have := k.isLt
        show k.val = if N = 1 then 0 else k.val
        split <;> omega), broadcastInDim_apply _ b1 _ _ (ix2 r k) (fun a => by
      match a with
      | ⟨0, _⟩ =>
        have := r.isLt
        show r.val = if R = 1 then 0 else r.val
        split <;> omega
      | ⟨1, _⟩ =>
        have := k.isLt
        show k.val = if N = 1 then 0 else k.val
        split <;> omega)]
    exact hU k
  have e2 : ∀ k : Fin N, broadcastInDim (cube R M N) ![0, 1, 2] b4 (broadcastInDim (cube R M 1) ![0, 1] b3 Q) (ix3 r j k) = ((q j.val : ℝ) : EReal) := fun k => by
    rw [broadcastInDim_apply _ b4 _ _ (ix3 r j (0 : Fin 1)) (fun a => by
      match a with
      | ⟨0, _⟩ =>
        have := r.isLt
        show r.val = if R = 1 then 0 else r.val
        split <;> omega
      | ⟨1, _⟩ =>
        have := j.isLt
        show j.val = if M = 1 then 0 else j.val
        split <;> omega
      | ⟨2, _⟩ => rfl), broadcastInDim_apply _ b3 _ _ (ix2 r j) (fun a => by
      match a with
      | ⟨0, _⟩ =>
        have := r.isLt
        show r.val = if R = 1 then 0 else r.val
        split <;> omega
      | ⟨1, _⟩ =>
        have := j.isLt
        show j.val = if M = 1 then 0 else j.val
        split <;> omega)]
    exact hQ j
  have e := reduce_cnt (cmpf (F := Ideal) (φ := .f32) .olt (broadcastInDim (cube R M N) ![0, 1, 2] b2 (broadcastInDim (cube R 1 N) ![0, 2] b1 U))
      (broadcastInDim (cube R M N) ![0, 1, 2] b4 (broadcastInDim (cube R M 1) ![0, 1] b3 Q))) r j f (q j.val) (fun k => by
    show Ideal.cmp .olt (broadcastInDim (cube R M N) ![0, 1, 2] b2 (broadcastInDim (cube R 1 N) ![0, 2] b1 U) (ix3 r j k)) (broadcastInDim (cube R M N) ![0, 1, 2] b4 (broadcastInDim (cube R M 1) ![0, 1] b3 Q) (ix3 r j k)) = 1#1 ↔ _
    rw [e1, e2]
    exact (ofBool_iff _).trans EReal.coe_lt_coe_iff) hw hr hS
  exact (congrArg (fun w => IntOp.minsi (BitVec.ofNat 32 m) (IntOp.maxsi 0#32 w)) e).trans (clamp_small (hc _ j.isLt) hm)

/-! ## The padded differences -/

/-- The running places with a zero before them. -/
def pre0 (q : ℕ → ℝ) (k : ℕ) : ℝ := if k = 0 then 0 else q (k - 1)

theorem pad_row {Q : FVec Ideal (mat R M) .f32} {r : Fin R} {q : ℕ → ℝ} (hQ : RowR Q r q) {M1 : ℕ} (hM : M1 = M + 1)
    (hp : (mat R M).Pads ![0, 1] ![0, 0] ![0, 0] (mat R M1)) (hS : 0 < (⟨0, ![]⟩ : Shape).numel) :
    RowR (pad (mat R M1) ![0, 1] ![0, 0] ![0, 0] Q (sitofp (F := Ideal) .f32 (constantI ⟨0, ![]⟩ 32 0#32)) hp hS) r (pre0 q) := fun j => by
  have hj := j.isLt
  by_cases h0 : j.val = 0
  · rw [pad_apply_of_not_inside _ _ _ _ _ hp hS (ix2 r j) (1 : Fin 2) (fun h => by
      have e : 1 ≤ j.val := h.1
      omega)]
    show (((0#32 : BitVec 32).toInt : ℝ) : EReal) = _
    unfold pre0
    rw [if_pos h0]
    simp
  · rw [pad_apply_of_inside _ _ _ _ _ hp hS (ix2 r j) (ix2 r ⟨j.val - 1, by omega⟩) (fun a => by
      match a with
      | ⟨0, _⟩ =>
        show r.val = 0 + r.val * (0 + 1)
        omega
      | ⟨1, _⟩ =>
        show j.val = 1 + (j.val - 1) * (0 + 1)
        omega)]
    unfold pre0
    rw [if_neg h0]
    exact hQ _

theorem slice_row {Q : FVec Ideal (mat R M) .f32} {r : Fin R} {q : ℕ → ℝ} (hQ : RowR Q r q) (o : ℕ)
    (h : (mat R M).Slices ![0, o] (mat R N)) (hN : o + N ≤ M) :
    RowR (extractStridedSlice (mat R N) ![0, o] Q h) r (fun j => q (o + j)) := fun j => by
  have hj := j.isLt
  rw [extractStridedSlice_apply _ _ h _ (ix2 r ⟨o + j.val, by omega⟩) (fun a => by
    match a with
    | ⟨0, _⟩ =>
      show r.val = 0 + r.val
      omega
    | ⟨1, _⟩ => rfl)]
  exact hQ _

theorem abs_coe (a : ℝ) : max (a : EReal) (-(a : EReal)) = ((|a| : ℝ) : EReal) := by
  rw [← EReal.coe_neg, ← EReal.coe_strictMono.monotone.map_max]
  rfl

theorem absdiff_row {x y : FVec Ideal (mat R N) .f32} {r : Fin R} {g h : ℕ → ℝ} (hx : RowR x r g) (hy : RowR y r h) :
    RowR (Host.absf (subf x y)) r (fun j => |g j - h j|) := fun j => by
  show max (x (ix2 r j) - y (ix2 r j)) (-(x (ix2 r j) - y (ix2 r j))) = _
  rw [hx j, hy j, ← EReal.coe_sub, abs_coe]

theorem sub_row {x y : FVec Ideal (mat R N) .f32} {r : Fin R} {g h : ℕ → ℝ} (hx : RowR x r g) (hy : RowR y r h) :
    RowR (subf x y) r (fun j => g j - h j) := fun j => by
  show x (ix2 r j) - y (ix2 r j) = _
  rw [hx j, hy j, ← EReal.coe_sub]

theorem mul_row {x y : FVec Ideal (mat R N) .f32} {r : Fin R} {g h : ℕ → ℝ} (hx : RowR x r g) (hy : RowR y r h) :
    RowR (mulf x y) r (fun j => g j * h j) := fun j => by
  show x (ix2 r j) * y (ix2 r j) = _
  rw [hx j, hy j, ← EReal.coe_mul]

end Cert.Proof.W1

end
-- ==== Proof.Copies.lean ====
/-
  The copies of a row: four transfers issued on one semaphore, waited for together, which leave the two halves of a
  weights buffer and of a positions buffer at the row of the arrays they were taken from.
-/
module

public import proofs.«01_k».proof.Proof.Row
public import Idealize.ShloMosaic.Lib.Batch

@[expose] public section

noncomputable section

namespace Cert.Proof.W1

open Cert.KernelIdeal Cert.KernelIdeal.Gen
open Idealize.ShloMosaic
open Idealize.ShloMosaic.ValueIdx (ix1 eq_ix1)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix

variable {F : FTy → Type} [FloatOps F]

local notation "𝕄" => MT nD τ sig (HIx 1) (Elt F) ℕ UU ℕ

/-! ## A buffer filled by halves -/

/-- Two halves side by side. -/
def two (u v : FVec F S2048 .f32) : FVec F S4096 .f32 := fun j =>
  if h : (j 0).val < 2048 then u (ix1 ⟨(j 0).val, h⟩) else v (ix1 ⟨(j 0).val - 2048, by have : (j 0).val < 4096 := (j 0).isLt; omega⟩)

theorem emb_lo (b : MemF S4096) (j : S4096.Idx) (h : (j 0).val < 2048) :
    b.view.emb j = (lo b).view.emb (ix1 ⟨(j 0).val, h⟩) := by
  show b.view.emb j = b.view.emb ((Rect.unit (s := S4096) ![0] S2048.size inb_S4096_S2048_0).emb _)
  congr 1
  funext a; apply Fin.ext
  rw [Rect.emb_apply]
  have h0 : a = 0 := Subsingleton.elim (α := Fin 1) a 0
  subst h0
  simp [Rect.unit, ix1]

theorem emb_hi (b : MemF S4096) (j : S4096.Idx) (h : ¬ (j 0).val < 2048) (h' : (j 0).val - 2048 < 2048) :
    b.view.emb j = (hi b).view.emb (ix1 ⟨(j 0).val - 2048, h'⟩) := by
  show b.view.emb j = b.view.emb ((Rect.unit (s := S4096) ![2048] S2048.size inb_S4096_S2048_2048).emb _)
  congr 1
  funext a; apply Fin.ext
  rw [Rect.emb_apply]
  have h0 : a = 0 := Subsingleton.elim (α := Fin 1) a 0
  subst h0
  simp [Rect.unit, ix1]
  omega

theorem lo_subset (b : MemF S4096) : (lo b).view.set ⊆ b.view.set := View.set_slice_subset _ _

theorem lo_hi_ne (b : MemF S4096) (x y : S2048.Idx) : (lo b).view.emb x ≠ (hi b).view.emb y := by
  intro h
  have h2 : (Rect.unit (s := S4096) ![0] S2048.size inb_S4096_S2048_0).emb x = (Rect.unit (s := S4096) ![2048] S2048.size inb_S4096_S2048_2048).emb y :=
    b.view.emb.injective h
  have h3 := congrArg Fin.val (congrFun h2 0)
  rw [Rect.emb_apply, Rect.emb_apply] at h3
  have : (x 0).val < 2048 := (x 0).isLt
  simp [Rect.unit] at h3
  omega

theorem hi_subset (b : MemF S4096) : (hi b).view.set ⊆ b.view.set \ (lo b).view.set := by
  intro z hz
  refine Finset.mem_sdiff.mpr ⟨View.set_slice_subset _ _ hz, fun hz' => ?_⟩
  obtain ⟨x, -, hx⟩ := Finset.mem_map.mp hz
  obtain ⟨y, -, hy⟩ := Finset.mem_map.mp hz'
  exact lo_hi_ne b y x (hy.trans hx.symm)

/-- The two halves written, read together. -/
theorem read_two (b : MemF S4096) (g g' : b.view.ty.Contents (Elt F)) (u v : FVec F S2048 .f32) :
    b.view.read (Elt F) ((lo b).view.set.piecewise ((lo b).view.write (Elt F) g u Finset.univ) ((hi b).view.write (Elt F) g' v Finset.univ)) = two u v := by
  funext j
  rw [View.read_apply]
  unfold two
  by_cases h : (j 0).val < 2048
  · rw [dif_pos h, emb_lo b j h]
    refine (congrArg (cast _) (Finset.piecewise_eq_of_mem _ _ _ (View.emb_mem_set (lo b).view _))).trans ?_
    have := congrFun (View.read_write_univ (v := (lo b).view) (Val := Elt F) g u) (ix1 ⟨(j 0).val, h⟩)
    rw [View.read_apply] at this
    exact this
  · have h' : (j 0).val - 2048 < 2048 := by have : (j 0).val < 4096 := (j 0).isLt; omega
    rw [dif_neg h, emb_hi b j h h']
    refine (congrArg (cast _) (Finset.piecewise_eq_of_notMem _ _ _ (fun hz => by
      obtain ⟨y, -, hy⟩ := Finset.mem_map.mp hz
      exact lo_hi_ne b y _ hy))).trans ?_
    have := congrFun (View.read_write_univ (v := (hi b).view) (Val := Elt F) g' v) (ix1 ⟨(j 0).val - 2048, h'⟩)
    rw [View.read_apply] at this
    exact this

section Rules

variable {d : Dev nD} {i : grid0.Coords} {α : Type} {Q : α → sProp (MT nD τ sig (HIx 1) (Elt F) ℕ UU ℕ)}

/-- The transfers issued on `sm`. -/
abbrev Bat (d : Dev nD) (i : grid0.Coords) (sm : DmaSem sig) (N n : ℕ) (Ds : List (sProp (MT nD τ sig (HIx 1) (Elt F) ℕ UU ℕ))) (u : ℕ) : sProp 𝕄 :=
  Transfers.Batched (countersEmb (U := UU)) (thr d i) (.dma sm) (default : HIx 1) N n Ds u

theorem enq_k {sp sp' : Space} {s : Shape} {n N : ℕ} {src : Memref sig .scVector sp s .f32} {dst : Memref sig .scVector sp' s .f32} {sm : DmaSem sig} {hs hd ht}
    {Sd : Finset (Idx (dst.view.loc (thr d i)))} {fd : Buf (Elt F) (dst.view.loc (thr d i))} {q : PosShare TreeShare} {fs : Buf (Elt F) (src.view.loc (thr d i))}
    {Ds : List (sProp 𝕄)} (hN : dst.view.dmaCredit = N) (hSd : dst.view.set ⊆ Sd) (hj : Ds.length < n) {k : PUnit → Pg F i α} :
    iprop((src.view.loc (thr d i) ↦[src.view.set]{q} fs) ∗ (dst.view.loc (thr d i) ↦[Sd]{fullShare} fd) ∗ Bat (F := F) d i sm N n Ds 0)
      ⊢ iprop((Bat (F := F) d i sm N n (Ds ++ [iprop((dst.view.loc (thr d i) ↦[Sd]{fullShare} (dst.view.write (Elt F) fd (src.view.read (Elt F) fs) Finset.univ))
              ∗ (src.view.loc (thr d i) ↦[src.view.set]{q} fs))]) 0 -∗ Wp d i (k ⟨⟩) Q)
        -∗ Wp d i (Prog.lift (TpuEff.enqueueDma src (.here dst) (.dma sm) hs hd ht) >>= k) Q) :=
  Transfers.wp_dmaBatched (countersEmb (U := UU)) 𝒱₀ (thr d i) none (via := ReadAs.same) (src := src) (dst := dst) (sm := .dma sm) (hsrc := hs) (hdst := hd) (hsem := ht)
    (k := k) (q := q) (fs := fs) (Sd := Sd) (fd := fd) (Ds := Ds) (m := n) (u := 0) (defs := defs₀ (F := F)) (Q := Q) (default : HIx 1) N hN hSd hj (Nat.zero_le _)

/-- What a tile owes, some waits taken. -/
def Owes (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

theorem Owes_insert {sm : DmaSem sig} {O : CellTallies nD τ sig (HIx 1)} {W W' : Waits sig (HIx 1)} (h : ∀ p ∈ W', p ∈ W ∨ p.2 = none) :
    ∀ p ∈ insert (SemLoc.dma sm, (default : HIx 1)) W', p ∈ W ∨ p.2 = none := by
  intro p hp
  rcases Finset.mem_insert.mp hp with rfl | hp
  · exact Or.inr rfl
  · exact h p hp

theorem wait_k {sp sp' : Space} {s : Shape} {n N : ℕ} {src : Memref sig .scVector sp s .f32} {dst : Memref sig .scVector sp' s .f32} {sm : DmaSem sig} {hs hd}
    {Ds : List (sProp 𝕄)} (hN : dst.view.dmaCredit = N) (hm : Ds.length = n) {u : ℕ} (hu : u + N < N * n)
    {O : CellTallies nD τ sig (HIx 1)} {W : Waits sig (HIx 1)} {k : PUnit → Pg F i α} :
    iprop(Transfers.MayWaits (thr d i) (default : HIx 1) O ∗ Bat (F := F) d i sm N n Ds u ∗ Owes (F := F) d i O W)
      ⊢ iprop((Bat (F := F) d i sm N n Ds (u + N) -∗ Owes (F := F) d i O W -∗ Wp d i (k ⟨⟩) Q)
        -∗ Wp d i (Prog.lift (TpuEff.waitDma2 sm src dst hs hd) >>= k) Q) := by
  unfold Owes
  iintro ⟨HM, HB, ⟨%W', %hW, HO⟩⟩ HK
  iapply (Transfers.wp_waitBatchedO (countersEmb (U := UU)) 𝒱₀ (thr d i) none (default : HIx 1) (k := k) (srcw := src) (dstw := dst) (hsrc := hs) (hdst := hd) hN hm hu) $$ [HM HB HO]
  · isplitl [HB]; · iexact HB
    isplitl [HO]; · iexact HO
    iapply (Transfers.MayWaits.elim (.dma sm)) $$ HM
  iintro ⟨HB, HO⟩
  iapply HK $$ HB
  iexists _; isplitr
  rotate_left
  · iexact HO
  · ipureintro; exact Owes_insert (O := O) hW

theorem waitAll_k {sp sp' : Space} {s : Shape} {n N : ℕ} {src : Memref sig .scVector sp s .f32} {dst : Memref sig .scVector sp' s .f32} {sm : DmaSem sig} {hs hd}
    {Ds : List (sProp 𝕄)} (hN : dst.view.dmaCredit = N) (hN0 : 0 < N) (hm : Ds.length = n) {u : ℕ} (hu : u + N = N * n)
    {O : CellTallies nD τ sig (HIx 1)} {W : Waits sig (HIx 1)} {k : PUnit → Pg F i α} :
    iprop(Transfers.MayWaits (thr d i) (default : HIx 1) O ∗ Bat (F := F) d i sm N n Ds u ∗ Owes (F := F) d i O W)
      ⊢ iprop((bigSep Finset.univ (Transfers.deliv (m := n) Ds) -∗ semVal (thr d i, .dma sm) 0 -∗ Owes (F := F) d i O W -∗ Wp d i (k ⟨⟩) Q)
        -∗ Wp d i (Prog.lift (TpuEff.waitDma2 sm src dst hs hd) >>= k) Q) := by
  unfold Owes
  iintro ⟨HM, HB, ⟨%W', %hW, HO⟩⟩ HK
  iapply (Transfers.wp_waitBatchedAllO (countersEmb (U := UU)) 𝒱₀ (thr d i) none (default : HIx 1) (k := k) (srcw := src) (dstw := dst) (hsrc := hs) (hdst := hd) hN hN0 hm hu) $$ [HM HB HO]
  · isplitl [HB]; · iexact HB
    isplitl [HO]; · iexact HO
    iapply (Transfers.MayWaits.elim (.dma sm)) $$ HM
  iintro ⟨HB, HS, HO⟩
  iapply HK $$ HB HS
  iexists _; isplitr
  rotate_left
  · iexact HO
  · ipureintro; exact Owes_insert (O := O) hW

/-! ## A row under way, and landed -/

variable (x y xp yp : MemH)

/-- An array read at a share. -/
abbrev Arr (d : Dev nD) (i : grid0.Coords) (x : MemH) (q : PosShare TreeShare) (fx : Buf (Elt F) (x.view.loc (thr d i))) : sProp 𝕄 :=
  x.view.loc (thr d i) ↦[x.view.set]{q} fx

theorem row_subset (x : MemH) (o : Fin 2 → Nat) (ho : ∀ a, o a + S1x2048.size a ≤ S4096x2048.size a) : (rowAt x o ho).view.set ⊆ x.view.set := by
  show ((x.view.slice (Rect.unit (s := S4096x2048) o S1x2048.size ho)).reshape S2048 squeezes_S1x2048_S2048.numel_eq).set ⊆ _
  rw [View.set_reshape]
  exact View.set_slice_subset _ _

/-- Row `o` of an array, read. -/
abbrev rd (x : MemH) (o : Fin 2 → Nat) (ho : ∀ a, o a + S1x2048.size a ≤ S4096x2048.size a) (fx : Buf (Elt F) (x.view.loc (thr d i))) : FVec F S2048 .f32 :=
  (rowAt x o ho).view.read (Elt F) fx

/-- What one transfer of row `o` leaves. -/
abbrev Landed (d : Dev nD) (i : grid0.Coords) (x : MemH) (o : Fin 2 → Nat) (ho : ∀ a, o a + S1x2048.size a ≤ S4096x2048.size a) (q : PosShare TreeShare)
    (fx : Buf (Elt F) (x.view.loc (thr d i))) (b : MemF S2048) (S : Finset (Idx (b.view.loc (thr d i)))) (g : Buf (Elt F) (b.view.loc (thr d i))) : sProp 𝕄 :=
  iprop((b.view.loc (thr d i) ↦[S]{fullShare} b.view.write (Elt F) g ((rowAt x o ho).view.read (Elt F) fx) Finset.univ)
    ∗ ((rowAt x o ho).view.loc (thr d i) ↦[(rowAt x o ho).view.set]{q} fx))
/-- What is left of an array while row `o` is read. -/
abbrev Rest (d : Dev nD) (i : grid0.Coords) (x : MemH) (o : Fin 2 → Nat) (ho : ∀ a, o a + S1x2048.size a ≤ S4096x2048.size a) (q : PosShare TreeShare)
    (fx : Buf (Elt F) (x.view.loc (thr d i))) : sProp 𝕄 :=
  x.view.loc (thr d i) ↦[x.view.set \ (rowAt x o ho).view.set]{q} fx

theorem arr_split {x : MemH} {o : Fin 2 → Nat} {ho : ∀ a, o a + S1x2048.size a ≤ S4096x2048.size a} {q : PosShare TreeShare} {fx : Buf (Elt F) (x.view.loc (thr d i))} :
    (Arr (F := F) d i x q fx) ⊣⊢ iprop(((rowAt x o ho).view.loc (thr d i) ↦[(rowAt x o ho).view.set]{q} fx) ∗ Rest (F := F) d i x o ho q fx) :=
  pointsTo_split_subset (row_subset x o ho)

/-- What the four transfers of row `o` leave. -/
abbrev four (d : Dev nD) (i : grid0.Coords) (x y xp yp : MemH) (wb pb : MemF S4096) (o : Fin 2 → Nat)
    (ho : ∀ a, o a + S1x2048.size a ≤ S4096x2048.size a) (q : PosShare TreeShare) (fx : Buf (Elt F) (x.view.loc (thr d i))) (fy : Buf (Elt F) (y.view.loc (thr d i)))
    (fxp : Buf (Elt F) (xp.view.loc (thr d i))) (fyp : Buf (Elt F) (yp.view.loc (thr d i))) (g : Buf (Elt F) (wb.view.loc (thr d i))) (g' : Buf (Elt F) (pb.view.loc (thr d i))) : List (sProp 𝕄) :=
  [Landed (F := F) d i x o ho q fx (lo wb) (lo wb).view.set g,
    Landed (F := F) d i y o ho q fy (hi wb) (wb.view.set \ (lo wb).view.set) g,
    Landed (F := F) d i xp o ho q fxp (lo pb) (lo pb).view.set g',
    Landed (F := F) d i yp o ho q fyp (hi pb) (pb.view.set \ (lo pb).view.set) g']

/-- The four transfers of row `o` under way on `sm`. -/
def Flight (d : Dev nD) (i : grid0.Coords) (x y xp yp : MemH) (wb pb : MemF S4096) (sm : DmaSem sig) (N : ℕ) (o : Fin 2 → Nat)
    (ho : ∀ a, o a + S1x2048.size a ≤ S4096x2048.size a) (q : PosShare TreeShare) (fx : Buf (Elt F) (x.view.loc (thr d i))) (fy : Buf (Elt F) (y.view.loc (thr d i)))
    (fxp : Buf (Elt F) (xp.view.loc (thr d i))) (fyp : Buf (Elt F) (yp.view.loc (thr d i))) : sProp 𝕄 :=
  iprop(∃ (g : Buf (Elt F) (wb.view.loc (thr d i))) (g' : Buf (Elt F) (pb.view.loc (thr d i))),
    Bat (F := F) d i sm N 4 (four (F := F) d i x y xp yp wb pb o ho q fx fy fxp fyp g g') 0
    ∗ Rest (F := F) d i x o ho q fx ∗ Rest (F := F) d i y o ho q fy ∗ Rest (F := F) d i xp o ho q fxp ∗ Rest (F := F) d i yp o ho q fyp)

variable {x y xp yp}

theorem startRow_k {wb pb : MemF S4096} {sm : DmaSem sig} {N : ℕ} (hw : (lo wb).view.dmaCredit = N) (hp : (lo pb).view.dmaCredit = N)
    {o : Fin 2 → Nat} {ho : ∀ a, o a + S1x2048.size a ≤ S4096x2048.size a} {q : PosShare TreeShare} {fx : Buf (Elt F) (x.view.loc (thr d i))}
    {fy : Buf (Elt F) (y.view.loc (thr d i))} {fxp : Buf (Elt F) (xp.view.loc (thr d i))} {fyp : Buf (Elt F) (yp.view.loc (thr d i))} {k : PUnit → Pg F i α} :
    iprop(Some' (F := F) d i wb ∗ Some' (F := F) d i pb ∗ semVal (thr d i, .dma sm) 0
        ∗ Arr (F := F) d i x q fx ∗ Arr (F := F) d i y q fy ∗ Arr (F := F) d i xp q fxp ∗ Arr (F := F) d i yp q fyp)
      ⊢ iprop((Flight (F := F) d i x y xp yp wb pb sm N o ho q fx fy fxp fyp -∗ Wp d i (k ⟨⟩) Q)
        -∗ Wp d i (startRow i x y xp yp wb pb sm o ho >>= k) Q) := by
  unfold Some' Holds startRow
  simp only [bind_assoc]
  iintro ⟨⟨%f, %g, -, Hw⟩, ⟨%f', %g', -, Hp⟩, Hs, Hx, Hy, Hxp, Hyp⟩ HK
  imod (Transfers.batched_alloc (countersEmb (U := UU)) (thr d i) (default : HIx 1) N 4) $$ Hs with HB
  ihave Hx := (arr_split (F := F) (o := o) (ho := ho)).1 $$ Hx
  icases Hx with ⟨Hx, Rx⟩
  ihave Hy := (arr_split (F := F) (o := o) (ho := ho)).1 $$ Hy
  icases Hy with ⟨Hy, Ry⟩
  ihave Hxp := (arr_split (F := F) (o := o) (ho := ho)).1 $$ Hxp
  icases Hxp with ⟨Hxp, Rxp⟩
  ihave Hyp := (arr_split (F := F) (o := o) (ho := ho)).1 $$ Hyp
  icases Hyp with ⟨Hyp, Ryp⟩
  ihave Hw := (pointsTo_split_subset (lo_subset wb)).1 $$ Hw
  icases Hw with ⟨Hwl, Hwh⟩
  ihave Hp := (pointsTo_split_subset (lo_subset pb)).1 $$ Hp
  icases Hp with ⟨Hpl, Hph⟩
  iapply (enq_k (F := F) (src := rowAt x o ho) (dst := lo wb) (fs := fx) (q := q) (Sd := (lo wb).view.set) (fd := g) (n := 4) (Ds := []) hw (Finset.Subset.refl _) (by simp)) $$ [Hx Hwl HB]
  · isplitl [Hx]; · iexact Hx
    isplitl [Hwl]; · iexact Hwl
    iexact HB
  iintro HB
  iapply (enq_k (F := F) (src := rowAt y o ho) (dst := hi wb) (fs := fy) (q := q) (Sd := wb.view.set \ (lo wb).view.set) (fd := g) (n := 4) (Ds := [Landed (F := F) d i x o ho q fx (lo wb) (lo wb).view.set g]) hw (hi_subset wb) (by simp)) $$ [Hy Hwh HB]
  · isplitl [Hy]; · iexact Hy
    isplitl [Hwh]; · iexact Hwh
    iexact HB
  iintro HB
  iapply (enq_k (F := F) (src := rowAt xp o ho) (dst := lo pb) (fs := fxp) (q := q) (Sd := (lo pb).view.set) (fd := g') (n := 4) (Ds := [Landed (F := F) d i x o ho q fx (lo wb) (lo wb).view.set g,
      Landed (F := F) d i y o ho q fy (hi wb) (wb.view.set \ (lo wb).view.set) g]) hp (Finset.Subset.refl _) (by simp)) $$ [Hxp Hpl HB]
  · isplitl [Hxp]; · iexact Hxp
    isplitl [Hpl]; · iexact Hpl
    iexact HB
  iintro HB
  iapply (enq_k (F := F) (src := rowAt yp o ho) (dst := hi pb) (fs := fyp) (q := q) (Sd := pb.view.set \ (lo pb).view.set) (fd := g') (n := 4) (Ds := [Landed (F := F) d i x o ho q fx (lo wb) (lo wb).view.set g,
      Landed (F := F) d i y o ho q fy (hi wb) (wb.view.set \ (lo wb).view.set) g,
      Landed (F := F) d i xp o ho q fxp (lo pb) (lo pb).view.set g']) hp (hi_subset pb) (by simp)) $$ [Hyp Hph HB]
  · isplitl [Hyp]; · iexact Hyp
    isplitl [Hph]; · iexact Hph
    iexact HB
  iintro HB
  iapply HK
  unfold Flight
  iexists g, g'
  isplitl [HB]; · iexact HB
  isplitl [Rx]; · iexact Rx
  isplitl [Ry]; · iexact Ry
  isplitl [Rxp]; · iexact Rxp
  iexact Ryp

theorem fin4 (Φ : Fin 4 → sProp 𝕄) : bigSep Finset.univ Φ ⊢ iprop(Φ 0 ∗ Φ 1 ∗ Φ 2 ∗ Φ 3) := by
  rw [show (Finset.univ : Finset (Fin 4)) = insert 0 (insert 1 (insert 2 {3})) from by decide,
    bigSep_insert (by decide), bigSep_insert (by decide), bigSep_insert (by decide), bigSep_singleton]
  exact Entails.rfl

theorem join_two {b : MemF S4096} {g : Buf (Elt F) (b.view.loc (thr d i))} {u v : FVec F S2048 .f32} :
    iprop(((lo b).view.loc (thr d i) ↦[(lo b).view.set]{fullShare} (lo b).view.write (Elt F) g u Finset.univ)
        ∗ ((hi b).view.loc (thr d i) ↦[b.view.set \ (lo b).view.set]{fullShare} (hi b).view.write (Elt F) g v Finset.univ))
      ⊢ Holds (F := F) d i b (two u v) := by
  unfold Holds
  iintro H
  ihave H := (pointsTo_join_subset (ℓ := b.view.loc (thr d i)) (lo_subset b)) $$ H
  iexists ((lo b).view.set.piecewise ((lo b).view.write (Elt F) g u Finset.univ) ((hi b).view.write (Elt F) g v Finset.univ))
  isplitr
  · ipureintro; exact read_two b g g u v
  · iexact H

theorem waitRow_k {wb pb : MemF S4096} {sm : DmaSem sig} {N : ℕ} (hw : (lo wb).view.dmaCredit = N) (hp : (lo pb).view.dmaCredit = N) (hN : 0 < N)
    {o o' : Fin 2 → Nat} {ho : ∀ a, o a + S1x2048.size a ≤ S4096x2048.size a} {ho' : ∀ a, o' a + S1x2048.size a ≤ S4096x2048.size a}
    {q : PosShare TreeShare} {fx : Buf (Elt F) (x.view.loc (thr d i))}
    {fy : Buf (Elt F) (y.view.loc (thr d i))} {fxp : Buf (Elt F) (xp.view.loc (thr d i))} {fyp : Buf (Elt F) (yp.view.loc (thr d i))}
    {O : CellTallies nD τ sig (HIx 1)} {W : Waits sig (HIx 1)} {k : PUnit → Pg F i α} :
    iprop(□ Transfers.MayWaits (thr d i) (default : HIx 1) O ∗ Flight (F := F) d i x y xp yp wb pb sm N o ho q fx fy fxp fyp ∗ Owes (F := F) d i O W)
      ⊢ iprop((Holds (F := F) d i wb (two (rd (F := F) (d := d) (i := i) x o ho fx) (rd (F := F) (d := d) (i := i) y o ho fy))
            -∗ Holds (F := F) d i pb (two (rd (F := F) (d := d) (i := i) xp o ho fxp) (rd (F := F) (d := d) (i := i) yp o ho fyp))
            -∗ semVal (thr d i, .dma sm) 0
            -∗ Arr (F := F) d i x q fx -∗ Arr (F := F) d i y q fy -∗ Arr (F := F) d i xp q fxp -∗ Arr (F := F) d i yp q fyp
            -∗ Owes (F := F) d i O W -∗ Wp d i (k ⟨⟩) Q)
        -∗ Wp d i (waitRow i x y xp yp wb pb sm o' ho' >>= k) Q) := by
  unfold Flight waitRow
  simp only [bind_assoc]
  iintro ⟨#HM, ⟨%g, %g', HB, Rx, Ry, Rxp, Ryp⟩, HO⟩ HK
  iapply (wait_k (F := F) (n := 4) (N := N) (Ds := four (F := F) d i x y xp yp wb pb o ho q fx fy fxp fyp g g') (u := 0) (dst := lo wb) hw (by rfl) (by omega)) $$ [HB HO]
  · isplitr; · iexact HM
    isplitl [HB]; · iexact HB
    iexact HO
  iintro HB HO
  iapply (wait_k (F := F) (n := 4) (N := N) (Ds := four (F := F) d i x y xp yp wb pb o ho q fx fy fxp fyp g g') (u := 0 + N) (dst := hi wb) hw (by rfl) (by omega)) $$ [HB HO]
  · isplitr; · iexact HM
    isplitl [HB]; · iexact HB
    iexact HO
  iintro HB HO
  iapply (wait_k (F := F) (n := 4) (N := N) (Ds := four (F := F) d i x y xp yp wb pb o ho q fx fy fxp fyp g g') (u := 0 + N + N) (dst := lo pb) hp (by rfl) (by omega)) $$ [HB HO]
  · isplitr; · iexact HM
    isplitl [HB]; · iexact HB
    iexact HO
  iintro HB HO
  iapply (waitAll_k (F := F) (n := 4) (N := N) (Ds := four (F := F) d i x y xp yp wb pb o ho q fx fy fxp fyp g g') (u := 0 + N + N + N) (dst := hi pb) hp hN (by rfl) (by omega)) $$ [HB HO]
  · isplitr; · iexact HM
    isplitl [HB]; · iexact HB
    iexact HO
  iintro HB HS HO
  ihave HB := (show bigSep Finset.univ (Transfers.deliv (m := 4) (four (F := F) d i x y xp yp wb pb o ho q fx fy fxp fyp g g'))
    ⊢ iprop(Landed (F := F) d i x o ho q fx (lo wb) (lo wb).view.set g
      ∗ Landed (F := F) d i y o ho q fy (hi wb) (wb.view.set \ (lo wb).view.set) g
      ∗ Landed (F := F) d i xp o ho q fxp (lo pb) (lo pb).view.set g'
      ∗ Landed (F := F) d i yp o ho q fyp (hi pb) (pb.view.set \ (lo pb).view.set) g') from fin4 (F := F) _) $$ HB
  icases HB with ⟨⟨H1, Hx⟩, ⟨H2, Hy⟩, ⟨H3, Hxp⟩, ⟨H4, Hyp⟩⟩
  ihave Hw := (join_two (F := F) (d := d) (i := i) (b := wb) (g := g)) $$ [H1 H2]
  · isplitl [H1]; · iexact H1
    iexact H2
  ihave Hp := (join_two (F := F) (d := d) (i := i) (b := pb) (g := g')) $$ [H3 H4]
  · isplitl [H3]; · iexact H3
    iexact H4
  iapply HK $$ Hw Hp HS [Hx Rx] [Hy Ry] [Hxp Rxp] [Hyp Ryp] HO
  · iapply (arr_split (F := F) (o := o) (ho := ho)).2
    isplitl [Hx]; · iexact Hx
    iexact Rx
  · iapply (arr_split (F := F) (o := o) (ho := ho)).2
    isplitl [Hy]; · iexact Hy
    iexact Ry
  · iapply (arr_split (F := F) (o := o) (ho := ho)).2
    isplitl [Hxp]; · iexact Hxp
    iexact Rxp
  · iapply (arr_split (F := F) (o := o) (ho := ho)).2
    isplitl [Hyp]; · iexact Hyp
    iexact Ryp

end Rules

end Cert.Proof.W1

end
-- ==== Proof.Tile.lean ====
/-
  A tile's whole program: its 128 rows, two at a time, each row's copies under way while the row before is worked on, and
  the copy of its results out.
-/
module

public import proofs.«01_k».proof.Proof.Copies

@[expose] public section

noncomputable section

namespace Cert.Proof.W1

open Cert.KernelIdeal Cert.KernelIdeal.Gen
open Idealize.ShloMosaic
open Idealize.ShloMosaic.ValueIdx (ix1 eq_ix1)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix

variable {F : FTy → Type} [FloatOps F]

local notation "𝕄" => MT nD τ sig (HIx 1) (Elt F) ℕ UU ℕ

/-! ## Rows by number -/

/-- Row `n` of an array. -/
def xrow {d : Dev nD} {i : grid0.Coords} (x : MemH) (fx : Buf (Elt F) (x.view.loc (thr d i))) (n : ℕ) : FVec F S2048 .f32 := fun j =>
  if h : n < 4096 then x.view.read (Elt F) fx (ValueIdx.ix2 ⟨n, h⟩ (j 0)) else (Scalar.ofBits .f32 0x00000000#32 : F .f32)

theorem row_emb (o : Fin 2 → Nat) (ho : ∀ a, o a + S1x2048.size a ≤ S4096x2048.size a) {n : ℕ} (hn : n < 4096) (h : o = ![n, 0]) (j : S2048.Idx) :
    (Rect.unit (s := S4096x2048) o S1x2048.size ho).emb (Shape.reshapeEquiv (s := S1x2048) squeezes_S1x2048_S2048.numel_eq j) = ValueIdx.ix2 ⟨n, hn⟩ (j 0) := by
  have e : Shape.reshapeEquiv (s := S1x2048) squeezes_S1x2048_S2048.numel_eq j = (ValueIdx.ix2 (0 : Fin 1) (j 0) : S1x2048.Idx) := by
    refine Shape.reshapeEquiv_eq_of_rowMajor _ ?_
    rw [Shape.rowMajor_val_two, Shape.rowMajor_val_one]
    simp
  rw [e]
  subst h
  funext a; apply Fin.ext
  rw [Rect.emb_apply]
  match a with
  | 0 => simp [Rect.unit]
  | 1 => simp [Rect.unit]

theorem rd_eq {d : Dev nD} {i : grid0.Coords} (x : MemH) (fx : Buf (Elt F) (x.view.loc (thr d i))) (o : Fin 2 → Nat)
    (ho : ∀ a, o a + S1x2048.size a ≤ S4096x2048.size a) {n : ℕ} (hn : n < 4096) (h : o = ![n, 0]) :
    rd (F := F) (d := d) (i := i) x o ho fx = xrow (F := F) x fx n := by
  funext j
  unfold xrow
  rw [dif_pos hn]
  refine (View.read_apply _ _).trans (Eq.trans ?_ (View.read_apply _ _).symm)
  have e : (rowAt x o ho).view.emb j = x.view.emb (ValueIdx.ix2 ⟨n, hn⟩ (j 0)) := by
    exact congrArg x.view.emb (row_emb o ho hn h j)
  show cast _ (fx ((rowAt x o ho).view.emb j)) = _
  rw [e]

/-- A tile's first row. -/
abbrev row0 (i : grid0.Coords) : ℕ := 256 * (i 1).val + 128 * (i 0).val

theorem row0_lt (i : grid0.Coords) : row0 i + 128 ≤ 4096 := by
  have h0 : (i 0).val < 2 := (i 0).isLt
  have h1 : (i 1).val < 16 := (i 1).isLt
  unfold row0; omega

theorem iv_fin (t : Fin k0_t1_loop.trips) : t.val < 64 := trips1 ▸ t.isLt

theorem off13_eq (i : grid0.Coords) (t : Fin k0_t1_loop.trips) : k0_off13 i t = ![row0 i + (2 * t.val + 2) % 128, 0] := by
  have h0 : (i 0).val < 2 := (i 0).isLt
  have h1 : (i 1).val < 16 := (i 1).isLt
  have ht := iv_fin t
  unfold k0_off13
  funext a
  match a with
  | 1 => rfl
  | 0 =>
    show (((BitVec.ofNat 32 (i 1).val * 2#32 + BitVec.ofNat 32 (i 0).val) * 128#32
      + ((2#32 * Scf.iv 0#32 1#32 t.val + 2#32) &&& 127#32)) : BitVec 32).toNat = row0 i + (2 * t.val + 2) % 128
    rw [iv_eq]
    have e : ((2#32 * BitVec.ofNat 32 t.val + 2#32) &&& 127#32).toNat = (2 * t.val + 2) % 128 := by
      rw [BitVec.toNat_and, BitVec.toNat_add, BitVec.toNat_mul, BitVec.toNat_ofNat, BitVec.toNat_ofNat]
      show _ &&& (2 ^ 7 - 1) = _
      rw [Nat.and_two_pow_sub_one_eq_mod]
      omega
    rw [BitVec.toNat_add, e, BitVec.toNat_mul, BitVec.toNat_add, BitVec.toNat_mul]
    simp only [BitVec.toNat_ofNat]
    unfold row0
    have : (2 * t.val + 2) % 128 < 128 := Nat.mod_lt _ (by omega)
    omega

section Rules

variable {d : Dev nD} {i : grid0.Coords} {α : Type} {Q : α → sProp (MT nD τ sig (HIx 1) (Elt F) ℕ UU ℕ)}

/-- The four arrays the rows are taken from, with what they hold. -/
structure Src (F : FTy → Type) (d : Dev nD) (i : grid0.Coords) where
  x : MemH
  y : MemH
  xp : MemH
  yp : MemH
  fx : Buf (Elt F) (x.view.loc (thr d i))
  fy : Buf (Elt F) (y.view.loc (thr d i))
  fxp : Buf (Elt F) (xp.view.loc (thr d i))
  fyp : Buf (Elt F) (yp.view.loc (thr d i))

variable (A : Src F d i)

/-- The weights and the positions of row `n`. -/
def Src.w (n : ℕ) : FVec F S4096 .f32 := two (xrow (F := F) A.x A.fx n) (xrow (F := F) A.y A.fy n)
def Src.p (n : ℕ) : FVec F S4096 .f32 := two (xrow (F := F) A.xp A.fxp n) (xrow (F := F) A.yp A.fyp n)
/-- `v` is row `n`'s result. -/
def Src.Good (n : ℕ) (v : F .f32) : Prop := RowOK (A.w n) (A.p n) v

/-- The four arrays at a share. -/
def Arrs (q : PosShare TreeShare) : sProp 𝕄 :=
  iprop(Arr (F := F) d i A.x q A.fx ∗ Arr (F := F) d i A.y q A.fy ∗ Arr (F := F) d i A.xp q A.fxp ∗ Arr (F := F) d i A.yp q A.fyp)

/-- Row `n` under way on `sm`. -/
def Coming (wb pb : MemF S4096) (sm : DmaSem sig) (N : ℕ) (q : PosShare TreeShare) (n : ℕ) : sProp 𝕄 :=
  iprop(∃ (o : Fin 2 → Nat) (ho : ∀ a, o a + S1x2048.size a ≤ S4096x2048.size a), ⌜o = ![n, 0]⌝
    ∗ Flight (F := F) d i A.x A.y A.xp A.yp wb pb sm N o ho q A.fx A.fy A.fxp A.fyp)

variable {A}

theorem start_k {wb pb : MemF S4096} {sm : DmaSem sig} {N : ℕ} (hw : (lo wb).view.dmaCredit = N) (hp : (lo pb).view.dmaCredit = N)
    {o : Fin 2 → Nat} {ho : ∀ a, o a + S1x2048.size a ≤ S4096x2048.size a} {n : ℕ} (hn : o = ![n, 0]) {q : PosShare TreeShare} {k : PUnit → Pg F i α} :
    iprop(Some' (F := F) d i wb ∗ Some' (F := F) d i pb ∗ semVal (thr d i, .dma sm) 0 ∗ Arrs A q)
      ⊢ iprop((Coming A wb pb sm N q n -∗ Wp d i (k ⟨⟩) Q) -∗ Wp d i (startRow i A.x A.y A.xp A.yp wb pb sm o ho >>= k) Q) := by
  unfold Arrs
  iintro H HK
  iapply (startRow_k (F := F) (q := q) (fx := A.fx) (fy := A.fy) (fxp := A.fxp) (fyp := A.fyp) (ho := ho) hw hp) $$ H
  iintro H
  iapply HK
  unfold Coming
  iexists o, ho
  isplitr
  · ipureintro; exact hn
  · iexact H

theorem land_k {wb pb : MemF S4096} {sm : DmaSem sig} {N : ℕ} (hw : (lo wb).view.dmaCredit = N) (hp : (lo pb).view.dmaCredit = N) (hN : 0 < N)
    {o' : Fin 2 → Nat} {ho' : ∀ a, o' a + S1x2048.size a ≤ S4096x2048.size a} {n : ℕ} (hn : n < 4096) {q : PosShare TreeShare}
    {O : CellTallies nD τ sig (HIx 1)} {W : Waits sig (HIx 1)} {k : PUnit → Pg F i α} :
    iprop(□ Transfers.MayWaits (thr d i) (default : HIx 1) O ∗ Coming A wb pb sm N q n ∗ Owes (F := F) d i O W)
      ⊢ iprop((Holds (F := F) d i wb (A.w n) -∗ Holds (F := F) d i pb (A.p n) -∗ semVal (thr d i, .dma sm) 0 -∗ Arrs A q
            -∗ Owes (F := F) d i O W -∗ Wp d i (k ⟨⟩) Q)
        -∗ Wp d i (waitRow i A.x A.y A.xp A.yp wb pb sm o' ho' >>= k) Q) := by
  unfold Coming
  iintro ⟨#HM, ⟨%o, %ho, %ho1, HF⟩, HO⟩ HK
  iapply (waitRow_k (F := F) (o := o) (ho := ho) (q := q) (fx := A.fx) (fy := A.fy) (fxp := A.fxp) (fyp := A.fyp) hw hp hN) $$ [HF HO]
  · isplitr; · iexact HM
    isplitl [HF]; · iexact HF
    iexact HO
  rw [rd_eq A.x A.fx o ho hn ho1, rd_eq A.y A.fy o ho hn ho1, rd_eq A.xp A.fxp o ho hn ho1, rd_eq A.yp A.fyp o ho hn ho1]
  iintro Hw Hp HS Hx Hy Hxp Hyp HO
  unfold Src.w Src.p
  iapply HK $$ Hw Hp HS [Hx Hy Hxp Hyp] HO
  unfold Arrs
  isplitl [Hx]; · iexact Hx
  isplitl [Hy]; · iexact Hy
  isplitl [Hxp] <;> iassumption

theorem some_of_holds {s : Shape} {e : EltTy} {m : Memref sig .scVector .vmem s e} {f : Vec F s e} : Holds (F := F) d i m f ⊢ Some' (F := F) d i m := by
  unfold Some'
  iintro H
  iexists f; iexact H

variable {w0 w1 p0 p1 : MemF S4096} {a b : MemI S4112} {h0 h1 h2 h3 : MemI S1024} {res : MemF S128} {s0 s1 s2 : DmaSems sig S_} {N : ℕ}

/-- Before trip `t` of the outer loop: row `2 t` under way, `2 t` results written. -/
def Inv (A : Src F d i) (w0 w1 p0 p1 : MemF S4096) (a b : MemI S4112) (h0 h1 h2 h3 : MemI S1024) (res : MemF S128) (s0 s1 : DmaSems sig S_) (N : ℕ)
    (q0 q1 : PosShare TreeShare) (O : CellTallies nD τ sig (HIx 1)) (W : Waits sig (HIx 1)) (t : ℕ) : sProp 𝕄 :=
  iprop(∃ R : FVec F S128 .f32, ⌜∀ k < 2 * t, A.Good (row0 i + k) (fl R k)⌝ ∗ Coming A w0 p0 s0.sem N q0 (row0 i + (2 * t) % 128)
    ∗ semVal (thr d i, .dma s1.sem) 0 ∗ Arrs A q1 ∗ Some' (F := F) d i w1 ∗ Some' (F := F) d i p1
    ∗ Scratch (F := F) d i a b h0 h1 h2 h3 ∗ Holds (F := F) d i res R ∗ Owes (F := F) d i O W)

theorem pairTrip_wp (hw0 : (lo w0).view.dmaCredit = N) (hp0 : (lo p0).view.dmaCredit = N) (hw1 : (lo w1).view.dmaCredit = N) (hp1 : (lo p1).view.dmaCredit = N)
    (hN : 0 < N) {g0 g1 g2 g3 : IVec S16 32} (hg : Col g0 0 ∧ Col g1 1 ∧ Col g2 2 ∧ Col g3 3) {q0 q1 : PosShare TreeShare}
    {O : CellTallies nD τ sig (HIx 1)} {W : Waits sig (HIx 1)} (t : Fin k0_t1_loop.trips) :
    iprop(□ Transfers.MayWaits (thr d i) (default : HIx 1) O ∗ Inv A w0 w1 p0 p1 a b h0 h1 h2 h3 res s0 s1 N q0 q1 O W t.val)
      ⊢ Wp d i (pairTrip i A.x A.y A.xp A.yp w0 w1 p0 p1 a b h0 h1 h2 h3 res s0 s1 lanes (broadcast S16 1#32) g0 g1 g2 g3 t)
          (fun _ => iprop(□ Transfers.MayWaits (thr d i) (default : HIx 1) O ∗ Inv A w0 w1 p0 p1 a b h0 h1 h2 h3 res s0 s1 N q0 q1 O W (t.val + 1))) := by
  have ht := iv_fin t
  have hr := row0_lt i
  unfold Inv pairTrip
  iintro ⟨#HM, %R, %hR, HF, HS1, HA1, Hw1, Hp1, Hsc, Hres, HO⟩
  iapply (start_k (F := F) (A := A) (n := row0 i + 2 * t.val + 1) (q := q1) hw1 hp1 (k0_off2_eq i t)) $$ [Hw1 Hp1 HS1 HA1]
  · isplitl [Hw1]; · iexact Hw1
    isplitl [Hp1]; · iexact Hp1
    isplitl [HS1]; · iexact HS1
    iexact HA1
  iintro HF1
  rw [Nat.mod_eq_of_lt (by omega : 2 * t.val < 128)]
  iapply (land_k (F := F) (A := A) (n := row0 i + 2 * t.val) (q := q0) hw0 hp0 hN (by omega)) $$ [HF HO]
  · isplitr; · iexact HM
    isplitl [HF]; · iexact HF
    iexact HO
  iintro Hw0 Hp0 HS0 HA0 HO
  iapply (rowProg_k (F := F) (r := 2 * t.val) (R := R) hg (by omega) (by rw [iv_eq]; show 2#32 * _ = _; rw [← BitVec.ofNat_mul])) $$ [Hw0 Hp0 Hsc Hres]
  · isplitl [Hw0]; · iexact Hw0
    isplitl [Hp0]; · iexact Hp0
    isplitl [Hsc]; · iexact Hsc
    iexact Hres
  iintro %R1 %hR1 Hw0 Hp0 Hsc Hres
  iapply (start_k (F := F) (A := A) (n := row0 i + (2 * (t.val + 1)) % 128) (q := q0) hw0 hp0 (off13_eq i t)) $$ [Hw0 Hp0 HS0 HA0]
  · isplitl [Hw0]; · iapply (some_of_holds (F := F)) $$ Hw0
    isplitl [Hp0]; · iapply (some_of_holds (F := F)) $$ Hp0
    isplitl [HS0]; · iexact HS0
    iexact HA0
  iintro HF
  iapply (land_k (F := F) (A := A) (n := row0 i + 2 * t.val + 1) (q := q1) hw1 hp1 hN (by omega)) $$ [HF1 HO]
  · isplitr; · iexact HM
    isplitl [HF1]; · iexact HF1
    iexact HO
  iintro Hw1 Hp1 HS1 HA1 HO
  iapply (rowProg_k (F := F) (r := 2 * t.val + 1) (R := R1) hg (by omega) (by rw [iv_eq]; show 2#32 * _ + 1#32 = _; rw [← BitVec.ofNat_mul, ← BitVec.ofNat_add])) $$ [Hw1 Hp1 Hsc Hres]
  · isplitl [Hw1]; · iexact Hw1
    isplitl [Hp1]; · iexact Hp1
    isplitl [Hsc]; · iexact Hsc
    iexact Hres
  iintro %R2 %hR2 Hw1 Hp1 Hsc Hres
  iapply (wp_pure_r (F := F))
  isplitr; · iexact HM
  iexists R2
  isplitr
  · ipureintro
    intro k hk
    by_cases hk1 : k = 2 * t.val + 1
    · subst hk1; rw [← Nat.add_assoc]; exact hR2.1
    · rw [hR2.2 k hk1]
      by_cases hk0 : k = 2 * t.val
      · subst hk0; exact hR1.1
      · rw [hR1.2 k hk0]; exact hR k (by omega)
  isplitl [HF]; · iexact HF
  isplitl [HS1]; · iexact HS1
  isplitl [HA1]; · iexact HA1
  isplitl [Hw1]; · iapply (some_of_holds (F := F)) $$ Hw1
  isplitl [Hp1]; · iapply (some_of_holds (F := F)) $$ Hp1
  isplitl [Hsc]; · iexact Hsc
  isplitl [Hres]; · iexact Hres
  iexact HO

/-- The results as they stand in the array they are copied to. -/
abbrev OutHeld (d : Dev nD) (i : grid0.Coords) (o : Memref sig .scVector .hbm S4096 .f32) (fo : Buf (Elt F) ((outAt o i).view.loc (thr d i))) : sProp 𝕄 :=
  (outAt o i).view.loc (thr d i) ↦[(outAt o i).view.set]{fullShare} fo

theorem copyOut_k {o : Memref sig .scVector .hbm S4096 .f32} {sm : DmaSem sig} {M : ℕ} (hM : (outAt o i).view.dmaCredit = M) (hM0 : 0 < M) {hs hd ht hs' hd'} {R : FVec F S128 .f32}
    {fo : Buf (Elt F) ((outAt o i).view.loc (thr d i))} {O : CellTallies nD τ sig (HIx 1)} {W : Waits sig (HIx 1)} {k : PUnit → Pg F i α} :
    iprop(□ Transfers.MayWaits (thr d i) (default : HIx 1) O ∗ Holds (F := F) d i res R ∗ OutHeld (F := F) d i o fo ∗ semVal (thr d i, .dma sm) 0 ∗ Owes (F := F) d i O W)
      ⊢ iprop((Holds (F := F) d i res R -∗ OutHeld (F := F) d i o ((outAt o i).view.write (Elt F) fo R Finset.univ) -∗ semVal (thr d i, .dma sm) 0
            -∗ Owes (F := F) d i O W -∗ Wp d i (k ⟨⟩) Q)
        -∗ Wp d i (Prog.lift (TpuEff.enqueueDma res (.here (outAt o i)) (.dma sm) hs hd ht) >>= fun _ =>
            Prog.lift (TpuEff.waitDma2 sm res (outAt o i) hs' hd') >>= k) Q) := by
  unfold Holds
  iintro ⟨#HM, ⟨%g, %hg, Hres⟩, Ho, HS, HO⟩ HK
  imod (Transfers.batched_alloc (countersEmb (U := UU)) (thr d i) (default : HIx 1) M 1) $$ HS with HB
  iapply (enq_k (F := F) (src := res) (dst := outAt o i) (fs := g) (q := fullShare) (Sd := (outAt o i).view.set) (fd := fo) (n := 1) (Ds := []) hM (Finset.Subset.refl _) (by simp)) $$ [Hres Ho HB]
  · isplitl [Hres]; · iexact Hres
    isplitl [Ho]; · iexact Ho
    iexact HB
  iintro HB
  iapply (waitAll_k (F := F) (n := 1) (N := M) (u := 0) (dst := outAt o i)
    (Ds := [iprop(((outAt o i).view.loc (thr d i) ↦[(outAt o i).view.set]{fullShare} ((outAt o i).view.write (Elt F) fo (res.view.read (Elt F) g) Finset.univ))
              ∗ (res.view.loc (thr d i) ↦[res.view.set]{fullShare} g))]) hM hM0 rfl (by omega)) $$ [HB HO]
  · isplitr; · iexact HM
    isplitl [HB]; · iexact HB
    iexact HO
  iintro HB HS HO
  ihave HB := (Entails.of_eq (bigSep_univ_of_subsingleton (0 : Fin 1) (Φ := Transfers.deliv (m := 1)
    [iprop(((outAt o i).view.loc (thr d i) ↦[(outAt o i).view.set]{fullShare} ((outAt o i).view.write (Elt F) fo (res.view.read (Elt F) g) Finset.univ))
              ∗ (res.view.loc (thr d i) ↦[res.view.set]{fullShare} g))]))) $$ HB
  ihave HB := (show Transfers.deliv (m := 1) [iprop(((outAt o i).view.loc (thr d i) ↦[(outAt o i).view.set]{fullShare} ((outAt o i).view.write (Elt F) fo (res.view.read (Elt F) g) Finset.univ))
              ∗ (res.view.loc (thr d i) ↦[res.view.set]{fullShare} g))] (0 : Fin 1)
      ⊢ iprop(((outAt o i).view.loc (thr d i) ↦[(outAt o i).view.set]{fullShare} ((outAt o i).view.write (Elt F) fo (res.view.read (Elt F) g) Finset.univ))
              ∗ (res.view.loc (thr d i) ↦[res.view.set]{fullShare} g)) from Entails.rfl) $$ HB
  icases HB with ⟨Ho, Hres⟩
  rw [hg]
  iapply HK $$ [Hres] Ho HS HO
  iexists g
  isplitr
  · ipureintro; exact hg
  · iexact Hres

/-- A tile's program: from the arrays at two shares, its part of the results' array and its own buffers, to the same with
    the results written. -/
theorem body_wp {o : Memref sig .scVector .hbm S4096 .f32} {hres : res.IsWhole}
    (hw0 : (lo w0).view.dmaCredit = N) (hp0 : (lo p0).view.dmaCredit = N) (hw1 : (lo w1).view.dmaCredit = N) (hp1 : (lo p1).view.dmaCredit = N)
    (hN : 0 < N) {M : ℕ} (hM : (outAt o i).view.dmaCredit = M) (hM0 : 0 < M) {q0 q1 : PosShare TreeShare}
    {fo : Buf (Elt F) ((outAt o i).view.loc (thr d i))} {O : CellTallies nD τ sig (HIx 1)} {W : Waits sig (HIx 1)} :
    iprop(□ Transfers.MayWaits (thr d i) (default : HIx 1) O ∗ Arrs A q0 ∗ Arrs A q1 ∗ OutHeld (F := F) d i o fo
        ∗ Some' (F := F) d i w0 ∗ Some' (F := F) d i w1 ∗ Some' (F := F) d i p0 ∗ Some' (F := F) d i p1 ∗ Scratch (F := F) d i a b h0 h1 h2 h3 ∗ Some' (F := F) d i res
        ∗ semVal (thr d i, .dma s0.sem) 0 ∗ semVal (thr d i, .dma s1.sem) 0 ∗ semVal (thr d i, .dma s2.sem) 0 ∗ Owes (F := F) d i O W)
      ⊢ Wp d i (bodyProg i A.x A.y A.xp A.yp o w0 w1 p0 p1 a b h0 h1 h2 h3 res hres s0 s1 s2)
        (fun _ => iprop(Arrs A q0 ∗ Arrs A q1
          ∗ (∃ R : FVec F S128 .f32, ⌜∀ k < 128, A.Good (row0 i + k) (fl R k)⌝ ∗ OutHeld (F := F) d i o ((outAt o i).view.write (Elt F) fo R Finset.univ))
          ∗ Some' (F := F) d i w0 ∗ Some' (F := F) d i w1 ∗ Some' (F := F) d i p0 ∗ Some' (F := F) d i p1 ∗ Scratch (F := F) d i a b h0 h1 h2 h3 ∗ Some' (F := F) d i res
          ∗ semVal (thr d i, .dma s0.sem) 0 ∗ semVal (thr d i, .dma s1.sem) 0 ∗ semVal (thr d i, .dma s2.sem) 0 ∗ Owes (F := F) d i O W)) := by
  have hr := row0_lt i
  unfold bodyProg
  iintro ⟨#HM, HA0, HA1, Ho, Hw0, Hw1, Hp0, Hp1, Hsc, Hres, HS0, HS1, HS2, HO⟩
  ihave Hres := (show Some' (F := F) d i res ⊢ iprop(∃ R, Holds (F := F) d i res R) from Entails.rfl) $$ Hres
  icases Hres with ⟨%R0, Hres⟩
  iapply (start_k (F := F) (A := A) (n := row0 i + (2 * 0) % 128) (q := q0) hw0 hp0 (k0_off1_eq i)) $$ [Hw0 Hp0 HS0 HA0]
  · isplitl [Hw0]; · iexact Hw0
    isplitl [Hp0]; · iexact Hp0
    isplitl [HS0]; · iexact HS0
    iexact HA0
  iintro HF
  unfold pairLoop
  iapply (wp_loop (F := F) (d := d) (i := i) k0_t1_ok trips1 (init := 0#32)
    (fun n _ => iprop(□ Transfers.MayWaits (thr d i) (default : HIx 1) O ∗ Inv A w0 w1 p0 p1 a b h0 h1 h2 h3 res s0 s1 N q0 q1 O W n))
    (fun t _ _ => pairTrip_wp (F := F) hw0 hp0 hw1 hp1 hN
      ⟨base_col (by omega) rfl, base_col (by omega) rfl, base_col (by omega) rfl, base_col (by omega) rfl⟩ t)) $$ [HF HS1 HA1 Hw1 Hp1 Hsc Hres HO]
  · isplitr; · iexact HM
    unfold Inv
    iexists R0
    isplitr; · ipureintro; intro k hk; omega
    isplitl [HF]; · iexact HF
    isplitl [HS1]; · iexact HS1
    isplitl [HA1]; · iexact HA1
    isplitl [Hw1]; · iexact Hw1
    isplitl [Hp1]; · iexact Hp1
    isplitl [Hsc]; · iexact Hsc
    isplitl [Hres]; · iexact Hres
    iexact HO
  iintro %_ ⟨-, HI⟩
  unfold Inv
  icases HI with ⟨%R, %hR, HF, HS1, HA1, Hw1, Hp1, Hsc, Hres, HO⟩
  iapply (land_k (F := F) (A := A) (n := row0 i + (2 * 64) % 128) (q := q0) hw0 hp0 hN (by omega)) $$ [HF HO]
  · isplitr; · iexact HM
    isplitl [HF]; · iexact HF
    iexact HO
  iintro Hw0 Hp0 HS0 HA0 HO
  iapply (copyOut_k (F := F) (o := o) (fo := fo) (R := R) hM hM0) $$ [Hres Ho HS2 HO]
  · isplitr; · iexact HM
    isplitl [Hres]; · iexact Hres
    isplitl [Ho]; · iexact Ho
    isplitl [HS2]; · iexact HS2
    iexact HO
  iintro Hres Ho HS2 HO
  iapply (wp_pure_r (F := F))
  isplitl [HA0]; · iexact HA0
  isplitl [HA1]; · iexact HA1
  isplitl [Ho]
  · iexists R; isplitr
    · ipureintro; exact hR
    · iexact Ho
  isplitl [Hw0]; · iapply (some_of_holds (F := F)) $$ Hw0
  isplitl [Hw1]; · iexact Hw1
  isplitl [Hp0]; · iapply (some_of_holds (F := F)) $$ Hp0
  isplitl [Hp1]; · iexact Hp1
  isplitl [Hsc]; · iexact Hsc
  isplitl [Hres]; · iapply (some_of_holds (F := F)) $$ Hres
  isplitl [HS0]; · iexact HS0
  isplitl [HS1]; · iexact HS1
  isplitl [HS2]; · iexact HS2
  iexact HO

end Rules

end Cert.Proof.W1

end
-- ==== Proof.Launch.lean ====
/-
  The kernel's run from any memory: the thirty-two tiles each take their share of the four arrays and their block of the
  result, and leave every row of the result a row's result; the arrays are left unchanged and every counter is back at zero.
-/
module

public import proofs.«01_k».proof.Defs
public import proofs.«01_k».proof.Proof.Tile
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.W1

open Cert.KernelIdeal Cert.KernelIdeal.Gen
open Idealize.ShloMosaic
open Idealize.ShloMosaic.ValueIdx (ix1 eq_ix1)
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Radix

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The launch memory -/

variable (m : (ℓ : Loc nD τ sig) → Buf (Elt F) ℓ) (ρ : Dev nD → PrngReg)

abbrev xLoc (d : Dev nD) : Loc nD τ sig := (SparseCore.T d).loc main_arg0
abbrev yLoc (d : Dev nD) : Loc nD τ sig := (SparseCore.T d).loc main_arg1
abbrev pLoc (d : Dev nD) : Loc nD τ sig := (SparseCore.T d).loc main_arg2
abbrev rLoc (d : Dev nD) : Loc nD τ sig := (SparseCore.T d).loc main_arg3
abbrev oLoc (d : Dev nD) : Loc nD τ sig := (SparseCore.T d).loc main_v0

theorem odiv : 32 ∣ S4096.size 0 := ⟨128, rfl⟩
abbrev oBlk (t : Fin 32) : Rect S4096 := Rect.part (s := S4096) (a₀ := 0) odiv t
/-- The result's block of tile number `t`. -/
abbrev oSet (t : Fin 32) : Finset S4096.Idx := ((Memref.whole main_v0_scv).view.slice (oBlk t)).set

/-! ## Shares: the full share halved five times -/

/-- The `t`-th of the thirty-two shares the full share halves into, `n` halvings deep. -/
def part : (n : ℕ) → PosShare TreeShare → ℕ → PosShare TreeShare
  | 0, q, _ => q
  | n + 1, q, t => if t % 2 = 0 then part n q.left (t / 2) else part n q.right (t / 2)

/-- The even and the odd numbers below `2 ^ (n + 1)`. -/
def evenOdd (n : ℕ) : Fin (2 ^ n) × Fin 2 ≃ Fin (2 ^ (n + 1)) := finProdFinEquiv.trans (finCongr (by omega))

omit m ρ in
theorem pointsTo_parts {ℓ : Loc nD τ sig} (I : Finset (Idx ℓ)) (f : Buf (Elt F) ℓ) (n : ℕ) :
    ∀ q : PosShare TreeShare, (ℓ ↦[I]{q} f : sProp 𝕄) = bigSep Finset.univ fun t : Fin (2 ^ n) => ℓ ↦[I]{part n q t.val} f := by
  induction n with
  | zero => intro q; exact (bigSep_univ_of_subsingleton (0 : Fin 1) (Φ := fun i : Fin (2 ^ 0) => (ℓ ↦[I]{part 0 q i.val} f : sProp 𝕄))).symm
  | succ n ih =>
    intro q
    rw [BI.Entails.antisymm (pointsTo_share (PosShare.mem_left_op_right q)).1 (pointsTo_share (PosShare.mem_left_op_right q)).2,
      ih q.left, ih q.right, bigSep_univ_equiv (evenOdd n), bigSep_univ_prod, ← BI.bigSep_sep']
    refine bigSep_congr fun t _ => ?_
    rw [show (Finset.univ : Finset (Fin 2)) = {0, 1} by decide, SparseCore.bigSep_insert' (by decide), bigSep_singleton]
    have e0 : (evenOdd n (t, 0)).val = 2 * t.val := by simp [evenOdd]
    have e1 : (evenOdd n (t, 1)).val = 2 * t.val + 1 := by simp [evenOdd]; omega
    rw [e0, e1, part, part, if_pos (by omega), if_neg (by omega), show 2 * t.val / 2 = t.val by omega, show (2 * t.val + 1) / 2 = t.val by omega]

/-- Tile number `t`'s share of the arrays. -/
abbrev sh (t : Fin 32) : PosShare TreeShare := part 5 fullShare t.val

variable [FloatOps F]

/-! ## What a tile takes and leaves -/

/-- Row `n` of the array `f`. -/
def rowOf (f : FVec F S4096x2048 .f32) (n : ℕ) : FVec F S2048 .f32 := fun j =>
  if h : n < 4096 then f (ValueIdx.ix2 ⟨n, h⟩ (j 0)) else (Scalar.ofBits .f32 0x00000000#32 : F .f32)

/-- `v` is row `n`'s result, of the launch memory's arrays. -/
def RowAt (d : Dev nD) (n : ℕ) (v : F .f32) : Prop :=
  RowOK (two (rowOf (F := F) (m (xLoc d)) n) (rowOf (F := F) (m (yLoc d)) n)) (two (rowOf (F := F) (m (pLoc d)) n) (rowOf (F := F) (m (rLoc d)) n)) v

/-- The four arrays at a share. -/
def Ins (d : Dev nD) (q : PosShare TreeShare) : sProp 𝕄 :=
  iprop((xLoc d ↦{q} m (xLoc d)) ∗ (yLoc d ↦{q} m (yLoc d)) ∗ (pLoc d ↦{q} m (pLoc d)) ∗ rLoc d ↦{q} m (rLoc d))

/-- Every entry of `f` over `I` is its row's result. -/
def Rows (d : Dev nD) (I : Finset S4096.Idx) (f : FVec F S4096 .f32) : Prop := ∀ j ∈ I, RowAt m d (j 0).val (f j)

def Go (d : Dev nD) (t : Fin 32) : sProp 𝕄 := iprop(Ins m d (sh t) ∗ oLoc d ↦[oSet t]{fullShare} m (oLoc d))
def Td (d : Dev nD) (t : Fin 32) : sProp 𝕄 := iprop(Ins m d (sh t) ∗ ∃ f : Buf (Elt F) (oLoc d), ⌜Rows m d (oSet t) f⌝ ∗ oLoc d ↦[oSet t]{fullShare} f)

instance (d : Dev nD) (q : PosShare TreeShare) : BI.Storable (upEmb : UEmb _ 𝕄) (Ins m d q) := by unfold Ins; infer_instance
instance (d : Dev nD) (t : Fin 32) : BI.Storable (upEmb : UEmb _ 𝕄) (Go m d t) := by unfold Go; infer_instance
instance (d : Dev nD) (t : Fin 32) : BI.Storable (upEmb : UEmb _ 𝕄) (Td m d t) := by unfold Td; infer_instance

/-- The number of tile `(c, s)`. -/
def tn (c : Fin 2) (s : Fin 16) : Fin 32 := ⟨2 * s.val + c.val, by omega⟩

/-- Each SparseCore takes what its sixteen tiles take, and brings back what they leave. -/
def P : (K (F := F)).Pay (nD := nD) (Val := Elt F) (Name := ℕ) (U := UU) where
  st := fun q d c => match q with | 0 => bigSep Finset.univ fun s : Fin 16 => Go m d (tn (Fin.cast nCore_zero c) s)
  dn := fun q d c => match q with | 0 => bigSep Finset.univ fun s : Fin 16 => Td m d (tn (Fin.cast nCore_zero c) s)
  go := fun q d c i => match q with | 0 => Go m d (tn (Fin.cast nCore_zero c) (Fin.cast nSub_zero i))
  td := fun q d c i => match q with | 0 => Td m d (tn (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => Go m d (tn (Fin.cast nCore_zero c) s)))
  dn q d c := match q with
    | 0 => (inferInstance : BI.Storable (upEmb : UEmb _ 𝕄) (bigSep Finset.univ fun s : Fin 16 => Td m d (tn (Fin.cast nCore_zero c) s)))
  go q d c i := match q with
    | 0 => (inferInstance : BI.Storable (upEmb : UEmb _ 𝕄) (Go m d (tn (Fin.cast nCore_zero c) (Fin.cast nSub_zero i))))
  td q d c i := match q with
    | 0 => (inferInstance : BI.Storable (upEmb : UEmb _ 𝕄) (Td m d (tn (Fin.cast nCore_zero c) (Fin.cast nSub_zero i))))

/-! ## The task -/

section Tile

variable (d : Dev nD) (i : grid0.Coords)

/-- Tile `i`'s number. -/
def tnum (i : grid0.Coords) : Fin 32 := tn ⟨(i 0).val, (i 0).isLt⟩ ⟨(i 1).val, (i 1).isLt⟩

omit [FloatOps F] in
theorem outRect_eq : Rect.unit (s := S4096) (k0_off24 i) S128.size (k0_off24_inb i) = oBlk (tnum i) := by
  unfold oBlk Rect.part Rect.block
  congr 1 <;> funext a
  · rw [k0_off24_eq]
    match a with
    | 0 => simp [Shape.partIx, Shape.partSize, tnum, tn]; omega
  · match a with
    | 0 => simp [Shape.partSize]

omit [FloatOps F] in
theorem set_out : (outAt (Memref.whole main_v0_scv) i).view.set = oSet (tnum i) := by
  show ((Memref.whole main_v0_scv).view.slice (Rect.unit (s := S4096) (k0_off24 i) S128.size (k0_off24_inb i))).set = _
  exact outRect_eq i ▸ rfl

omit [FloatOps F] in
theorem out_emb (j : S4096.Idx) (hj : j ∈ oSet (tnum i)) :
    ∃ k < 128, (j 0).val = row0 i + k ∧ ∃ h : k < 128, j = (outAt (Memref.whole main_v0_scv) i).view.emb (ix1 ⟨k, h⟩) := by
  rw [← set_out] at hj
  obtain ⟨y, -, rfl⟩ := Finset.mem_map.mp hj
  refine ⟨(y 0).val, (y 0).isLt, ?_, (y 0).isLt, ?_⟩
  · show ((Rect.unit (s := S4096) (k0_off24 i) S128.size (k0_off24_inb i)).emb y 0).val = _
    rw [Rect.emb_apply]
    have := congrFun (k0_off24_eq i) 0
    simp [Rect.unit, this]
  · exact congrArg _ (eq_ix1 (n := 128) y)

/-- Tile `i`'s four arrays. -/
def src : Src F d i where
  x := Memref.whole main_arg0_scv
  y := Memref.whole main_arg1_scv
  xp := Memref.whole main_arg2_scv
  yp := Memref.whole main_arg3_scv
  fx := m (xLoc d)
  fy := m (yLoc d)
  fxp := m (pLoc d)
  fyp := m (rLoc d)

theorem good_eq (n : ℕ) (v : F .f32) : (src m d i).Good n v = RowAt m d n v := rfl

theorem arrs_eq (q : PosShare TreeShare) : Arrs (src m d i) q = Ins m d q := by
  have hx : (Memref.whole main_arg0_scv).view.set = Finset.univ := View.set_whole _
  have hy : (Memref.whole main_arg1_scv).view.set = Finset.univ := View.set_whole _
  have hp : (Memref.whole main_arg2_scv).view.set = Finset.univ := View.set_whole _
  have hr : (Memref.whole main_arg3_scv).view.set = Finset.univ := View.set_whole _
  show iprop((xLoc d ↦[(Memref.whole main_arg0_scv).view.set]{q} m (xLoc d)) ∗ (yLoc d ↦[(Memref.whole main_arg1_scv).view.set]{q} m (yLoc d))
    ∗ (pLoc d ↦[(Memref.whole main_arg2_scv).view.set]{q} m (pLoc d)) ∗ rLoc d ↦[(Memref.whole main_arg3_scv).view.set]{q} m (rLoc d)) = _
  rw [hx, hy, hp, hr]
  rfl

theorem ins_halves (q : PosShare TreeShare) : Ins m d q ⊣⊢ iprop(Ins m d q.left ∗ Ins m d q.right) := by
  have e (ℓ : Loc nD τ sig) (f : Buf (Elt F) ℓ) : (ℓ ↦{q} f : sProp 𝕄) = iprop((ℓ ↦{q.left} f) ∗ ℓ ↦{q.right} f) :=
    BI.Entails.antisymm (pointsTo_share (PosShare.mem_left_op_right q)).1 (pointsTo_share (PosShare.mem_left_op_right q)).2
  unfold Ins
  rw [e, e, e, e]
  constructor
  · iintro ⟨⟨A, A'⟩, ⟨B, B'⟩, ⟨C, C'⟩, E, E'⟩
    isplitl [A B C E]
    · isplitl [A]; · iexact A
      isplitl [B]; · iexact B
      isplitl [C] <;> iassumption
    · isplitl [A']; · iexact A'
      isplitl [B']; · iexact B'
      isplitl [C'] <;> iassumption
  · iintro ⟨⟨A, B, C, E⟩, A', B', C', E'⟩
    isplitl [A A']; · isplitl [A] <;> iassumption
    isplitl [B B']; · isplitl [B] <;> iassumption
    isplitl [C C']; · isplitl [C] <;> iassumption
    isplitl [E] <;> iassumption

/-- The tile's scratch buffers. -/
def bufs : Finset (Ref sig .scVector) :=
  {cc0_scratch0, cc0_scratch1, cc0_scratch2, cc0_scratch3, cc0_scratch4, cc0_scratch5, cc0_scratch6, cc0_scratch7, cc0_scratch8, cc0_scratch9, cc0_scratch10}
/-- The tile's semaphores. -/
def sems : Finset (SemLoc sig) := {.dma cc0_scratch11.sem, .dma cc0_scratch12.sem, .dma cc0_scoped0.sem}

def semE (t : Thread nD τ) : SemLoc sig ↪ GSem nD τ sig := ⟨fun s => (t, s), fun a b h => (Prod.mk.inj h).2⟩
def bufE (p : Proc τ) : Ref sig p.kind ↪ DevRef τ sig := ⟨p.devRef, Proc.devRef_injective _⟩

omit [FloatOps F] in
theorem ownSems0_V :
    (ownSems0 (thr d i) : sProp 𝕄)
      = iprop((semVal (thr d i, .dma cc0_scratch11.sem) 0 ∗ semVal (thr d i, .dma cc0_scratch12.sem) 0 ∗ semVal (thr d i, .dma cc0_scoped0.sem) 0)
          ∗ bigSep (ownCells (thr d i) \ sems.map (semE (thr d i))) fun g => semVal g 0) := by
  unfold SparseCore.Cfg.ownSems0
  rw [SparseCore.bigSep_sdiff_split' (t := sems.map (semE (thr d i))) (by
    intro g hg
    obtain ⟨s, hs, rfl⟩ := Finset.mem_map.mp hg
    refine mem_ownCells.mpr ⟨rfl, ?_⟩
    exact (show ∀ s ∈ sems, s.isScoped .scVector = true by decide) s hs), bigSep_map]
  unfold sems
  rw [SparseCore.bigSep_insert' (by decide), SparseCore.bigSep_insert' (by decide), bigSep_singleton]
  rfl

omit [FloatOps F] in
theorem bigSep_bufs (Φ : Ref sig .scVector → sProp 𝕄) :
    bigSep bufs Φ = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch8 ∗ Φ cc0_scratch9 ∗ Φ cc0_scratch10) := by
  unfold bufs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem ownBufs_V :
    (ownBufs (thr d i) : sProp 𝕄)
      = iprop(((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ (∃ f, (thr d i).loc cc0_scratch4 ↦{fullShare} f) ∗ (∃ f, (thr d i).loc cc0_scratch5 ↦{fullShare} f)
          ∗ (∃ f, (thr d i).loc cc0_scratch6 ↦{fullShare} f) ∗ (∃ f, (thr d i).loc cc0_scratch7 ↦{fullShare} f)
          ∗ (∃ f, (thr d i).loc cc0_scratch8 ↦{fullShare} f) ∗ (∃ f, (thr d i).loc cc0_scratch9 ↦{fullShare} f)
          ∗ ∃ f, (thr d i).loc cc0_scratch10 ↦{fullShare} f)
          ∗ bigSep (ownRefs (τ := τ) (.scVector (cV i) (jV i)) \ bufs.map (bufE (.scVector (cV i) (jV i))))
              fun b => iprop(∃ f, ((d, b) : Loc nD τ sig) ↦{fullShare} f)) := by
  unfold SparseCore.Cfg.ownBufs
  refine (SparseCore.bigSep_sdiff_split' (t := bufs.map (bufE (.scVector (cV i) (jV i)))) (by
    intro g hg
    obtain ⟨s, hs, rfl⟩ := Finset.mem_map.mp hg
    refine SparseCore.Cfg.mem_ownRefs_of_owner ?_
    simp only [bufs, Finset.mem_insert, Finset.mem_singleton] at hs
    rcases hs with rfl | rfl | rfl | rfl | rfl | rfl | rfl | rfl | rfl | rfl | rfl <;> rfl)).trans ?_
  rw [bigSep_map]
  exact congrArg (fun X => iprop(X ∗ _)) (bigSep_bufs (F := F) fun r => iprop(∃ f, (thr d i).loc r ↦{fullShare} f))

theorem out_pts (f : Buf (Elt F) (oLoc d)) :
    OutHeld (F := F) d i (Memref.whole main_v0_scv) f = (oLoc d ↦[oSet (tnum i)]{fullShare} f) := by
  show (oLoc d ↦[(outAt (Memref.whole main_v0_scv) i).view.set]{fullShare} f) = _
  rw [set_out]

theorem rows_write {R : FVec F S128 .f32} (h : ∀ k < 128, (src m d i).Good (row0 i + k) (fl R k)) :
    Rows m d (oSet (tnum i)) ((outAt (Memref.whole main_v0_scv) i).view.write (Elt F) (m (oLoc d)) R Finset.univ) := by
  intro j hj
  obtain ⟨k, hk, e, hk', rfl⟩ := out_emb i j hj
  rw [e]
  have hv : (outAt (Memref.whole main_v0_scv) i).view.write (Elt F) (m (oLoc d)) R Finset.univ
      ((outAt (Memref.whole main_v0_scv) i).view.emb (ix1 ⟨k, hk'⟩)) = fl R k := by
    have h1 := congrFun (View.read_write_univ (Val := Elt F) (v := (outAt (Memref.whole main_v0_scv) i).view) (m (oLoc d)) R) (ix1 ⟨k, hk'⟩)
    unfold fl
    rw [nth_of_lt _ _ hk']
    exact ((View.read_apply _ _).trans (cast_eq _ _)).symm.trans h1
  have h2 := h k hk
  rw [good_eq] at h2
  exact hv ▸ h2

variable {d i}

theorem of_some {sp : Space} {s : Shape} {e : EltTy} (r : Memref sig .scVector sp s e) (h : r.view.set = Finset.univ) :
    Some' (F := F) d i r ⊢ iprop(∃ f, r.view.loc (thr d i) ↦{fullShare} f) := by
  unfold Some' Holds
  rw [h]
  iintro ⟨%f, %g, -, H⟩
  iexists g; iexact H

theorem some_of {sp : Space} {s : Shape} {e : EltTy} (r : Memref sig .scVector sp s e) (h : r.view.set = Finset.univ) :
    iprop(∃ f, r.view.loc (thr d i) ↦{fullShare} f) ⊢ Some' (F := F) d i r := by
  unfold Some' Holds
  rw [h]
  iintro ⟨%f, H⟩
  iexists r.view.read (Elt F) f, f
  isplitr; · ipureintro; rfl
  iexact H

theorem of_hists {h0 h1 h2 h3 : MemI S1024} : Hists (F := F) d i h0 h1 h2 h3 (fun _ _ => True)
    ⊢ iprop(Some' (F := F) d i h0 ∗ Some' (F := F) d i h1 ∗ Some' (F := F) d i h2 ∗ Some' (F := F) d i h3) := by
  unfold Hists Some'
  iintro ⟨%H0, %H1, %H2, %H3, -, A, B, C, E⟩
  isplitl [A]; · iexists H0; iexact A
  isplitl [B]; · iexists H1; iexact B
  isplitl [C]; · iexists H2; iexact C
  iexists H3; iexact E

theorem hists_of {h0 h1 h2 h3 : MemI S1024} : iprop(Some' (F := F) d i h0 ∗ Some' (F := F) d i h1 ∗ Some' (F := F) d i h2 ∗ Some' (F := F) d i h3)
    ⊢ Hists (F := F) d i h0 h1 h2 h3 (fun _ _ => True) := by
  unfold Hists Some'
  iintro ⟨⟨%H0, A⟩, ⟨%H1, B⟩, ⟨%H2, C⟩, %H3, E⟩
  iexists H0, H1, H2, H3
  isplitr; · ipureintro; exact ⟨trivial, trivial, trivial, trivial⟩
  isplitl [A]; · iexact A
  isplitl [B]; · iexact B
  isplitl [C] <;> iassumption

variable (d i)

set_option maxHeartbeats 1000000 in
/-- The task on tile `i` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ Go m d (tnum i) ∗ scopedBufs (thr d i) ∗ scopedSems0 (thr d i) ∗ owes (thr d i) O W)
      ⊢ wp frame (wpE (defs₀ (F := F)) 𝒱₀ (thr d i) none) Set.univ
          (cc0__w1_body i (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)
            cc0_scratch11 cc0_scratch12 cc0_scoped0)
          fun _ => iprop(Td m d (tnum i) ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d (cV i) (jV i), SparseCore.Cfg.scopedSems0_V (Val := Elt F) d (cV i) (jV i), ownSems0_V, ownBufs_V]
  unfold Go Td
  iintro ⟨#Hlv, -, ⟨Hin, Ho⟩, ⟨⟨B0, B1, B2, B3, B4, B5, B6, B7, B8, B9, B10⟩, Hbufs⟩, ⟨⟨S0, S1, S2⟩, Hsems⟩, HO⟩
  ihave #Hmw := (show levAts (K (F := F)).L (K (F := F)).lev ⊢ Transfers.MayWaits (thr d i) (default : HIx 1) O from
    (K (F := F)).mayWaits_none (thr := thr d i) hO) $$ Hlv
  ihave Hin' := (ins_halves m d (sh (tnum i))).1 $$ Hin
  icases Hin' with ⟨HL, HR⟩
  ihave B0 := (some_of (F := F) (d := d) (i := i) (Memref.whole cc0_scratch0) (View.set_whole _)) $$ B0
  ihave B1 := (some_of (F := F) (d := d) (i := i) (Memref.whole cc0_scratch1) (View.set_whole _)) $$ B1
  ihave B2 := (some_of (F := F) (d := d) (i := i) (Memref.whole cc0_scratch2) (View.set_whole _)) $$ B2
  ihave B3 := (some_of (F := F) (d := d) (i := i) (Memref.whole cc0_scratch3) (View.set_whole _)) $$ B3
  ihave B4 := (some_of (F := F) (d := d) (i := i) (Memref.whole cc0_scratch4) (View.set_whole _)) $$ B4
  ihave B5 := (some_of (F := F) (d := d) (i := i) (Memref.whole cc0_scratch5) (View.set_whole _)) $$ B5
  ihave B6 := (some_of (F := F) (d := d) (i := i) (Memref.whole cc0_scratch6) (View.set_whole _)) $$ B6
  ihave B7 := (some_of (F := F) (d := d) (i := i) (Memref.whole cc0_scratch7) (View.set_whole _)) $$ B7
  ihave B8 := (some_of (F := F) (d := d) (i := i) (Memref.whole cc0_scratch8) (View.set_whole _)) $$ B8
  ihave B9 := (some_of (F := F) (d := d) (i := i) (Memref.whole cc0_scratch9) (View.set_whole _)) $$ B9
  ihave B10 := (some_of (F := F) (d := d) (i := i) (Memref.whole cc0_scratch10) (View.set_whole _)) $$ B10
  ihave HH := (hists_of (F := F) (d := d) (i := i)) $$ [B6 B7 B8 B9]
  · isplitl [B6]; · iexact B6
    isplitl [B7]; · iexact B7
    isplitl [B8] <;> iassumption
  ihave Ho := (Entails.of_eq (out_pts (F := F) d i (m (oLoc d))).symm) $$ Ho
  iapply (wp_wand frame _ Set.univ) $$ [HL HR Ho B0 B1 B2 B3 B4 B5 HH B10 S0 S1 S2 HO]
  · iapply (body_wp (A := src m d i) (o := Memref.whole main_v0_scv) (q0 := (sh (tnum i)).left) (q1 := (sh (tnum i)).right) (fo := m (oLoc d)) (W := W) (O := O)
      (N := (lo (Memref.whole cc0_scratch0)).view.dmaCredit) (M := (outAt (Memref.whole main_v0_scv) i).view.dmaCredit)
      rfl (by decide) (by decide) (by decide) (by decide) rfl (View.dmaCredit_pos _ (by decide)))
    rw [arrs_eq, arrs_eq]
    unfold Scratch Owes
    isplitr; · imodintro; iexact Hmw
    isplitl [HL]; · iexact HL
    isplitl [HR]; · iexact HR
    isplitl [Ho]; · iexact Ho
    isplitl [B0]; · iexact B0
    isplitl [B1]; · iexact B1
    isplitl [B2]; · iexact B2
    isplitl [B3]; · iexact B3
    isplitl [B4 B5 HH]
    · isplitl [B4]; · iexact B4
      isplitl [B5] <;> iassumption
    isplitl [B10]; · iexact B10
    isplitl [S0]; · iexact S0
    isplitl [S1]; · iexact S1
    isplitl [S2]; · iexact S2
    iexists W; isplitr
    · ipureintro; exact fun p hp => Or.inl hp
    · iexact HO
  rw [arrs_eq, arrs_eq]
  unfold Scratch Owes
  iintro %_ ⟨HL, HR, ⟨%R, %hR, Ho⟩, B0, B1, B2, B3, ⟨B4, B5, HH⟩, B10, S0, S1, S2, HO⟩
  ihave HH := (of_hists (F := F) (d := d) (i := i)) $$ HH
  icases HH with ⟨B6, B7, B8, B9⟩
  ihave B0 := (of_some (F := F) (d := d) (i := i) (Memref.whole cc0_scratch0) (View.set_whole _)) $$ B0
  ihave B1 := (of_some (F := F) (d := d) (i := i) (Memref.whole cc0_scratch1) (View.set_whole _)) $$ B1
  ihave B2 := (of_some (F := F) (d := d) (i := i) (Memref.whole cc0_scratch2) (View.set_whole _)) $$ B2
  ihave B3 := (of_some (F := F) (d := d) (i := i) (Memref.whole cc0_scratch3) (View.set_whole _)) $$ B3
  ihave B4 := (of_some (F := F) (d := d) (i := i) (Memref.whole cc0_scratch4) (View.set_whole _)) $$ B4
  ihave B5 := (of_some (F := F) (d := d) (i := i) (Memref.whole cc0_scratch5) (View.set_whole _)) $$ B5
  ihave B6 := (of_some (F := F) (d := d) (i := i) (Memref.whole cc0_scratch6) (View.set_whole _)) $$ B6
  ihave B7 := (of_some (F := F) (d := d) (i := i) (Memref.whole cc0_scratch7) (View.set_whole _)) $$ B7
  ihave B8 := (of_some (F := F) (d := d) (i := i) (Memref.whole cc0_scratch8) (View.set_whole _)) $$ B8
  ihave B9 := (of_some (F := F) (d := d) (i := i) (Memref.whole cc0_scratch9) (View.set_whole _)) $$ B9
  ihave B10 := (of_some (F := F) (d := d) (i := i) (Memref.whole cc0_scratch10) (View.set_whole _)) $$ B10
  ihave Ho := (Entails.of_eq (out_pts (F := F) d i _)) $$ Ho
  isplitl [HL HR Ho]
  · isplitl [HL HR]
    · iapply (ins_halves m d (sh (tnum i))).2
      isplitl [HL] <;> iassumption
    · iexists (outAt (Memref.whole main_v0_scv) i).view.write (Elt F) (m (oLoc d)) R Finset.univ
      isplitr
      · ipureintro; exact rows_write m d i hR
      · iexact Ho
  isplitl [B0 B1 B2 B3 B4 B5 B6 B7 B8 B9 B10 Hbufs]
  · isplitr [Hbufs]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    · iexact Hbufs
  isplitl [S0 S1 S2 Hsems]
  · isplitr [Hsems]
    · isplitl [S0]; · iexact S0
      isplitl [S1] <;> iassumption
    · iexact Hsems
  iexact HO

end Tile

section Obl

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__w1_body (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_v0_scv) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)
            cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Obl

/-! ## The tiles' parts split and join -/

omit [FloatOps F] in
theorem oSet_eq (t : Fin 32) : oSet t = (oBlk t).set := by
  show ((View.whole (main_v0_scv : Ref sig .scVector)).slice (oBlk t)).set = _
  rw [View.set_slice]; exact Finset.map_refl
omit [FloatOps F] in
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
theorem oSet_cover : (Finset.univ : Finset (Fin 32)).biUnion oSet = Finset.univ :=
  (Finset.biUnion_congr rfl fun i _ => oSet_eq i).trans (Rect.biUnion_part odiv)

omit [FloatOps F] in
theorem oPts_parts (d : Dev nD) (f : Buf (Elt F) (oLoc d)) :
    (oLoc d ↦{fullShare} f : sProp 𝕄) = bigSep Finset.univ fun t : Fin 32 => oLoc d ↦[oSet t]{fullShare} f := by
  rw [← pointsTo_biUnion Finset.univ (ℓ := oLoc d) oSet oSet_disjoint, oSet_cover]; try rfl

theorem ins_parts (d : Dev nD) : Ins m d fullShare = bigSep Finset.univ fun t : Fin 32 => Ins m d (sh t) := by
  unfold Ins
  rw [BI.bigSep_sep', BI.bigSep_sep', BI.bigSep_sep']
  rw [pointsTo_parts Finset.univ (m (xLoc d)) 5 fullShare, pointsTo_parts Finset.univ (m (yLoc d)) 5 fullShare,
    pointsTo_parts Finset.univ (m (pLoc d)) 5 fullShare, pointsTo_parts Finset.univ (m (rLoc d)) 5 fullShare]
  rfl

/-- What all the tiles hold, by SparseCore and subcore. -/
theorem by_tile (Φ : Fin 32 → sProp 𝕄) :
    bigSep Finset.univ Φ = bigSep Finset.univ fun c : Fin 2 => bigSep Finset.univ fun s : Fin 16 => Φ (tn c s) := by
  have hb : Function.Bijective fun p : Fin 2 × Fin 16 => tn p.1 p.2 := by decide
  rw [bigSep_univ_equiv (Equiv.ofBijective _ hb), bigSep_univ_prod]
  rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

set_option maxRecDepth 4096 in
theorem td_join (d : Dev nD) :
    (bigSep Finset.univ fun t : Fin 32 => Td m d t) ⊢ iprop(Ins m d fullShare ∗ ∃ f : Buf (Elt F) (oLoc d), ⌜Rows m d Finset.univ f⌝ ∗ oLoc d ↦{fullShare} f) := by
  unfold Td
  rw [BI.bigSep_sep', ← ins_parts]
  refine sep_mono_r ?_
  refine (bigSep_exists_pi Finset.univ (fun t (f : Buf (Elt F) (oLoc d)) => iprop(⌜Rows m d (oSet t) f⌝ ∗ oLoc d ↦[oSet t]{fullShare} f))).trans ?_
  iintro ⟨%fs, H⟩
  ihave H := (bigSep_pure_sep Finset.univ (fun t => Rows m d (oSet t) (fs t)) (fun t => (oLoc d ↦[oSet t]{fullShare} fs t : sProp 𝕄))) $$ H
  icases H with ⟨%hR, H⟩
  ihave H' := (pointsTo_biUnion_join (ℓ := oLoc d) (q := fullShare) (Val := Elt F) Finset.univ oSet fs (fs 0) oSet_disjoint) $$ H
  icases H' with ⟨%g, %hg, Hg⟩
  rw [oSet_cover]
  iexists g
  isplitr
  · ipureintro
    intro j _
    have hj : j ∈ (Finset.univ : Finset (Fin 32)).biUnion oSet := by rw [oSet_cover]; exact Finset.mem_univ _
    obtain ⟨t, ht, hjt⟩ := Finset.mem_biUnion.mp hj
    have e : g j = fs t j := hg t ht j hjt
    exact e ▸ hR t ht j hjt
  · iexact Hg

theorem vecSplit : (K (F := F)).VecSplit' (P m) 0 := by
  intro d c
  show (bigSep Finset.univ fun s : Fin 16 => Go m d (tn (Fin.cast nCore_zero c) s)) ⊢ |={Set.univ}=> iprop(
      (bigSep Finset.univ fun i : Fin ((K (F := F)).nSub 0) => Go m d (tn (Fin.cast nCore_zero c) (Fin.cast nSub_zero i)))
      ∗ ((bigSep Finset.univ fun i : Fin ((K (F := F)).nSub 0) => Td m d (tn (Fin.cast nCore_zero c) (Fin.cast nSub_zero i)))
          -∗ (bigSep Finset.univ fun s : Fin 16 => Td m d (tn (Fin.cast nCore_zero c) s))))
  rw [bigSep_tasks (F := F) (fun i => Go m d (tn (Fin.cast nCore_zero c) i)), bigSep_tasks (F := F) (fun i => Td m d (tn (Fin.cast nCore_zero c) i))]
  iintro H; imodintro
  isplitl [H]; · iexact H
  iintro H
  iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_arg1) ∗ (pLoc d ↦{fullShare} W main_arg2)
      ∗ (rLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = iprop(Ins m d fullShare ∗ oLoc d ↦{fullShare} m (oLoc d)) := by
  refine (bigSep_cores (F := F) fun c => bigSep Finset.univ fun s : Fin 16 => Go m d (tn c s)).trans ?_
  rw [← by_tile (F := F) (fun t => Go m d t)]
  unfold Go
  rw [BI.bigSep_sep', ← ins_parts, ← oPts_parts]
theorem dn0_eq (d : Dev nD) : (bigSep Finset.univ fun c : Fin ((K (F := F)).nCore 0) => (P m).dn 0 d c) = bigSep Finset.univ fun t : Fin 32 => Td m d t := by
  refine (bigSep_cores (F := F) fun c => bigSep Finset.univ fun s : Fin 16 => Td m d (tn c s)).trans ?_
  rw [← by_tile (F := F) (fun t => Td m d t)]

/-- What is held at the end: the arrays unchanged, and a result whose every entry is its row's. -/
abbrev FIN (d : Dev nD) : sProp 𝕄 := iprop(Ins m d fullShare ∗ ∃ f : Buf (Elt F) (oLoc d), ⌜Rows m d Finset.univ f⌝ ∗ oLoc d ↦{fullShare} f)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hy, Hp, Hr, Ho⟩, Hts, -⟩, -⟩
  iapply ((K (F := F)).wp_run (D (F := F)) 𝒱 (EH := EH) (P := P m) κ d 0) $$ [Hst Hx Hy Hp Hr Ho Hb Hts]
  isplitr; · iexact Hctx
  isplitl [Hst]; · iexact Hst
  isplitl [Hx Hy Hp Hr Ho]
  · rw [st0_eq]
    unfold Ins
    isplitr [Ho]
    · isplitl [Hx]; · iexact Hx
      isplitl [Hy]; · iexact Hy
      isplitl [Hp]; · iexact Hp
      iexact Hr
    · iexact Ho
  iintro ⟨Hst, Hdn⟩
  ihave Hdn' := (Entails.of_eq (dn0_eq m d)) $$ Hdn
  ihave HF := (td_join m d) $$ Hdn'
  imodintro
  isplitl [Hst]; · iexact Hst
  isplitl [HF]; · iexact HF
  isplitl [Hb] <;> iassumption

def fq (d : Dev nD) (s' : Phys nD τ sig (Elt F)) : Prop :=
  (s'.mem.mem (xLoc d) = m (xLoc d) ∧ s'.mem.mem (yLoc d) = m (yLoc d) ∧ s'.mem.mem (pLoc d) = m (pLoc d) ∧ s'.mem.mem (rLoc d) = m (rLoc d))
    ∧ Rows m d Finset.univ (s'.mem.mem (oLoc d))

set_option maxRecDepth 16384 in
theorem hfin (d : Dev nD) (s' : Phys nD τ sig (Elt F)) : iprop(FIN m d ∗ SI s') ⊢ (⌜fq m d s'⌝ : sProp 𝕄) := by
  have ag (ℓ : Loc nD τ sig) (f : Buf (Elt F) ℓ) := persistent_entails_right (SI_pointsTo_agree (Ix := HIx 1) (Name := ℕ) (U := UU) (Lvl := ℕ) (st := s') (ℓ := ℓ) (I := Finset.univ) (q := fullShare) (f := f))
  unfold FIN Ins
  iintro ⟨⟨⟨Hx, Hy, Hp, Hr⟩, %f, %hf, Ho⟩, HSI⟩
  ihave H := (ag (xLoc d) (m (xLoc d))) $$ [HSI Hx]
  · isplitl [HSI] <;> iassumption
  icases H with ⟨%h1, HSI, -⟩
  ihave H := (ag (yLoc d) (m (yLoc d))) $$ [HSI Hy]
  · isplitl [HSI] <;> iassumption
  icases H with ⟨%h2, HSI, -⟩
  ihave H := (ag (pLoc d) (m (pLoc d))) $$ [HSI Hp]
  · isplitl [HSI] <;> iassumption
  icases H with ⟨%h3, HSI, -⟩
  ihave H := (ag (rLoc d) (m (rLoc d))) $$ [HSI Hr]
  · isplitl [HSI] <;> iassumption
  icases H with ⟨%h4, HSI, -⟩
  ihave H := (ag (oLoc d) f) $$ [HSI Ho]
  · isplitl [HSI] <;> iassumption
  icases H with ⟨%h5, -, -⟩
  ipureintro
  have e5 : s'.mem.mem (oLoc d) = f := funext fun i => h5 i (Finset.mem_univ i)
  exact ⟨⟨funext fun i => h1 i (Finset.mem_univ i), funext fun i => h2 i (Finset.mem_univ i), funext fun i => h3 i (Finset.mem_univ i),
    funext fun i => h4 i (Finset.mem_univ i)⟩, e5 ▸ hf⟩

/-! ## The program's run -/

/-- At the end: the arrays are unchanged, every row of the result is that row's, and every counter is zero. -/
def QC : PUnit × MemSt nD τ sig (Elt F) → Prop := fun r => (∀ d : Dev nD,
  (r.2.mem (xLoc d) = m (xLoc d) ∧ r.2.mem (yLoc d) = m (yLoc d) ∧ r.2.mem (pLoc d) = m (pLoc d) ∧ r.2.mem (rLoc d) = m (rLoc d))
    ∧ Rows m d Finset.univ (r.2.mem (oLoc d))) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.W1

end
-- ==== Proof.Frames.lean ====
/-
  The runs read as frames: the kernel and the reference leave their arguments as they were and every counter at zero.
-/
module

public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof.W1

open Idealize.ShloMosaic Idealize.SL.Sem

instance : Cert.ReferenceIdeal.Facts := Cert.ReferenceIdeal.Gen.facts

theorem frame_kernelIdeal : Cert.quiescent_KernelIdeal := fun m ρ _ =>
  (θ_run Cert.KernelIdeal.defs _ _).mono (fun _ h => ⟨fun c => (h.1 c).1, h.2⟩) (run_main (F := Ideal) m ρ)

theorem frame_kernel : Cert.quiescent_Kernel := fun m ρ _ =>
  (θ_run Cert.KernelIdeal.defs _ _).mono (fun _ h => ⟨fun c => (h.1 c).1, h.2⟩) (run_main (F := Bits) m ρ)

theorem frame_referenceIdeal : Cert.quiescent_ReferenceIdeal := fun m ρ _ =>
  (θ_run Cert.ReferenceIdeal.defs _ _).mono (fun _ h => ⟨fun c => (h c).2, funext fun g => nomatch g⟩)
    (Cert.ReferenceIdeal.Value.run (F := Ideal) m ρ)

end Cert.Proof.W1

end
-- ==== Proof.Ref.lean ====
/-
  One row of the reference's result, as the sum over the sorted positions.
-/
module

public import proofs.«01_k».proof.Proof.HostSort
public import proofs.«01_k».proof.Proof.Frames

@[expose] public section

noncomputable section

namespace Cert.Proof.W1

open Idealize.ShloMosaic
open Idealize.ShloMosaic.ValueIdx (ix0 ix1 ix2 ix3 eq_ix0 eq_ix1 eq_ix2 eq_ix3)
open Finset
open Cert.ReferenceIdeal Cert.ReferenceIdeal.Gen Cert.ReferenceIdeal.Value

/-! ## The merged places -/

/-- Two rows one after the other. -/
def both (U W : ℕ → ℝ) (n j : ℕ) : ℝ := if j < n then U j else W (j - n)

theorem pre0_succ (q : ℕ → ℝ) (k : ℕ) : pre0 q (k + 1) = q k := by
  unfold pre0; rw [if_neg (Nat.succ_ne_zero k)]; rfl

theorem pre0_up {q : ℕ → ℝ} {E : ℕ} (hq : Up q E) (h0 : ∀ k, k < E → 0 ≤ q k) : Up (pre0 q) (E + 1) := fun i j hij hj => by
  rcases Nat.eq_zero_or_pos i with rfl | hi
  · rcases Nat.eq_zero_or_pos j with rfl | hj0
    · exact le_rfl
    · obtain ⟨k, rfl⟩ : ∃ k, j = k + 1 := ⟨j - 1, by omega⟩
      rw [pre0_succ]; exact h0 k (by omega)
  · obtain ⟨k, rfl⟩ : ∃ k, j = k + 1 := ⟨j - 1, by omega⟩
    obtain ⟨l, rfl⟩ : ∃ l, i = l + 1 := ⟨i - 1, by omega⟩
    rw [pre0_succ, pre0_succ]; exact hq l k (by omega) (by omega)

theorem both_mem {U W : ℕ → ℝ} {n : ℕ} {s : ℕ → ℕ} (hs : Shuf (n + n) s) {k : ℕ} (hk : k < n + n) :
    (∃ j, j < n ∧ both U W n (s k) = U j) ∨ ∃ j, j < n ∧ both U W n (s k) = W j := by
  have := hs.1 k hk
  unfold both
  by_cases h : s k < n
  · exact .inl ⟨s k, h, if_pos h⟩
  · exact .inr ⟨s k - n, by omega, if_neg h⟩

theorem both_left {U W : ℕ → ℝ} {n : ℕ} {s : ℕ → ℕ} (hs : Shuf (n + n) s) {j : ℕ} (hj : j < n) : ∃ k, k < n + n ∧ both U W n (s k) = U j := by
  obtain ⟨k, hk, e⟩ := hs.surj (k := j) (by omega)
  exact ⟨k, hk, by rw [e]; exact if_pos hj⟩

theorem both_right {U W : ℕ → ℝ} {n : ℕ} {s : ℕ → ℕ} (hs : Shuf (n + n) s) {j : ℕ} (hj : j < n) : ∃ k, k < n + n ∧ both U W n (s k) = W j := by
  obtain ⟨k, hk, e⟩ := hs.surj (k := n + j) (by omega)
  refine ⟨k, hk, ?_⟩
  rw [e]; unfold both
  rw [if_neg (by omega), Nat.add_sub_cancel_left]

theorem cum_nonneg {a : ℕ → ℝ} {n j : ℕ} (ha : ∀ j, j < n → 0 ≤ a j) (hj : j < n) : 0 ≤ cum a j :=
  sum_nonneg fun i hi => ha i (by have := mem_range.1 hi; omega)

/-! ## The row -/

variable {V : Valuation τ sig (Elt Ideal)} {r : Fin 4096}

theorem ref_order {px : ℕ → ℝ} (hpx : RowR (R := 4096) (N := 2048) (V (Proc.devRef .tc main_arg2)) r px) :
    ∃ s, Shuf 2048 s ∧ Up (fun i => px (s i)) 2048 ∧ RowI (R := 4096) (N := 2048) (res_main_v8 V) r s := argsort_row (R := 4096) (N := 2048) hpx

theorem ref_order' {py : ℕ → ℝ} (hpy : RowR (R := 4096) (N := 2048) (V (Proc.devRef .tc main_arg3)) r py) :
    ∃ s, Shuf 2048 s ∧ Up (fun i => py (s i)) 2048 ∧ RowI (R := 4096) (N := 2048) (res_main_v11 V) r s := argsort_row (R := 4096) (N := 2048) hpy

theorem lt31 {s : ℕ → ℕ} {n M : ℕ} (hs : ∀ j, j < M → s j < n) (hn : n ≤ 2 ^ 31) : ∀ j, j < M → s j < 2 ^ 31 := fun j hj => (hs j hj).trans_le hn

theorem zero_init (j : (⟨0, ![]⟩ : Shape).Idx) :
    broadcastInDim S_ ![] bcast_S_S_ (constant (F := Ideal) S_ .f32 0x00000000#32) j = 0 := Ideal.ofBits_zero_f32

theorem ref_cum {x : ℕ → ℝ} {s : ℕ → ℕ} (hx : RowR (R := 4096) (N := 2048) (V (Proc.devRef .tc main_arg0)) r x)
    (hX : ∑ i ∈ range 2048, x i ≠ 0) (hs : Shuf 2048 s) (hI : RowI (R := 4096) (N := 2048) (res_main_v8 V) r s) :
    RowR (R := 4096) (N := 2048) (res_main_v14 V) r (cum fun j => x (s j) / ∑ i ∈ range 2048, x i) :=
  cumsum_row (R := 4096) (N := 2048) (take_row (R := 4096) (N := 2048) (M := 2048) gather_S4096x2048_S4096x2048x1_S4096x2048_n_1_0_0_1_2_11 rfl rfl rfl rfl rfl rfl
      (weight_row (R := 4096) (N := 2048) hx hX reducesTo_S4096x2048_S4096_d1 h_S_ bcast_S4096x1_S4096x2048_0_1 bcast_S4096_S4096x1_0)
      (wrap_row (R := 4096) (M := 2048) hI (lt31 hs.1 (by norm_num)) bcast_S_S4096x2048 _ shapeCasts_S4096x2048_S4096x2048x1)
      hs.1 (by norm_num) (m := 2047) rfl bcast_S_S4096x2048x1 bcast_S1x1x1_S4096x2048x1_0_1_2 bcast_S1_S1x1x1_2
      reducesTo_S4096x2048x1_S4096x2048_d2 h_S_ _) (m := 2047) rfl _ zero_init reduceWindows_S4096x2048_S4096x2048_w1s1p0_0_w2048s1p2047_0 h_S_

theorem ref_cum' {y : ℕ → ℝ} {t : ℕ → ℕ} (hy : RowR (R := 4096) (N := 2048) (V (Proc.devRef .tc main_arg1)) r y)
    (hY : ∑ i ∈ range 2048, y i ≠ 0) (ht : Shuf 2048 t) (hI : RowI (R := 4096) (N := 2048) (res_main_v11 V) r t) :
    RowR (R := 4096) (N := 2048) (res_main_v15 V) r (cum fun j => y (t j) / ∑ i ∈ range 2048, y i) :=
  cumsum_row (R := 4096) (N := 2048) (take_row (R := 4096) (N := 2048) (M := 2048) gather_S4096x2048_S4096x2048x1_S4096x2048_n_1_0_0_1_2_11 rfl rfl rfl rfl rfl rfl
      (weight_row (R := 4096) (N := 2048) hy hY reducesTo_S4096x2048_S4096_d1 h_S_ bcast_S4096x1_S4096x2048_0_1 bcast_S4096_S4096x1_0)
      (wrap_row (R := 4096) (M := 2048) hI (lt31 ht.1 (by norm_num)) bcast_S_S4096x2048 _ shapeCasts_S4096x2048_S4096x2048x1)
      ht.1 (by norm_num) (m := 2047) rfl bcast_S_S4096x2048x1 bcast_S1x1x1_S4096x2048x1_0_1_2 bcast_S1_S1x1x1_2
      reducesTo_S4096x2048x1_S4096x2048_d2 h_S_ _) (m := 2047) rfl _ zero_init reduceWindows_S4096x2048_S4096x2048_w1s1p0_0_w2048s1p2047_0 h_S_

theorem ref_merged {U W : ℕ → ℝ} (hU : RowR (R := 4096) (N := 2048) (res_main_v14 V) r U) (hW : RowR (R := 4096) (N := 2048) (res_main_v15 V) r W) :
    ∃ s, Shuf 4096 s ∧ Up (fun i => both U W 2048 (s i)) 4096 ∧ RowR (R := 4096) (N := 4096) (res_main_v17 V) r (fun i => both U W 2048 (s i)) :=
  sort_row (R := 4096) (N := 4096) (concat_row (R := 4096) (N := 2048) hU hW (E := 4096) rfl concatenates_S4096x2048_S4096x2048_S4096x4096_d1)

theorem ref_padded {q : ℕ → ℝ} (hQ : RowR (R := 4096) (N := 4096) (res_main_v17 V) r q) :
    RowR (R := 4096) (N := 4097) (res_main_v18 V) r (pre0 q) :=
  pad_row (R := 4096) (M := 4096) hQ (M1 := 4097) rfl pads_S4096x4096_S4096x4097_000_100 h_S_

theorem ref_count {f q : ℕ → ℝ} (hU : RowR (R := 4096) (N := 2048) (res_main_v14 V) r f) (hQ : RowR (R := 4096) (N := 4096) (res_main_v17 V) r q)
    (hc : ∀ j, j < 4096 → cnt f 2048 (q j) ≤ 2047) : RowI (R := 4096) (N := 4096) (res_main_v29 V) r (fun j => cnt f 2048 (q j)) :=
  count_row (R := 4096) (N := 2048) (M := 4096) hU hQ (m := 2047) (by norm_num) hc bcast_S_S4096x4096 bcast_S4096x2048_S4096x1x2048_0_2
    bcast_S4096x1x2048_S4096x4096x2048_0_1_2 bcast_S4096x4096_S4096x4096x1_0_1 bcast_S4096x4096x1_S4096x4096x2048_0_1_2 natLt_1_32
    reducesTo_S4096x4096x2048_S4096x4096_d2 h_S_

theorem ref_count' {f q : ℕ → ℝ} (hU : RowR (R := 4096) (N := 2048) (res_main_v15 V) r f) (hQ : RowR (R := 4096) (N := 4096) (res_main_v17 V) r q)
    (hc : ∀ j, j < 4096 → cnt f 2048 (q j) ≤ 2047) : RowI (R := 4096) (N := 4096) (res_main_v38 V) r (fun j => cnt f 2048 (q j)) :=
  count_row (R := 4096) (N := 2048) (M := 4096) hU hQ (m := 2047) (by norm_num) hc bcast_S_S4096x4096 bcast_S4096x2048_S4096x1x2048_0_2
    bcast_S4096x1x2048_S4096x4096x2048_0_1_2 bcast_S4096x4096_S4096x4096x1_0_1 bcast_S4096x4096x1_S4096x4096x2048_0_1_2 natLt_1_32
    reducesTo_S4096x4096x2048_S4096x4096_d2 h_S_

/-- The reference's result at a row of real points. -/
theorem ref_sum {px py a c : ℕ → ℝ} {P : ℕ → ℝ} {s t : ℕ → ℕ} (hs : Shuf 2048 s) (ht : Shuf 2048 t)
    (hpx : RowR (R := 4096) (N := 2048) (V (Proc.devRef .tc main_arg2)) r px) (hpy : RowR (R := 4096) (N := 2048) (V (Proc.devRef .tc main_arg3)) r py)
    (hI : RowI (R := 4096) (N := 2048) (res_main_v8 V) r s) (hJ : RowI (R := 4096) (N := 2048) (res_main_v11 V) r t)
    (hP : RowR (R := 4096) (N := 4097) (res_main_v18 V) r P)
    (hA : RowI (R := 4096) (N := 4096) (res_main_v29 V) r (fun j => cnt (cum a) 2048 (P (j + 1))))
    (hC : RowI (R := 4096) (N := 4096) (res_main_v38 V) r (fun j => cnt (cum c) 2048 (P (j + 1))))
    (hA' : ∀ j, j < 4096 → cnt (cum a) 2048 (P (j + 1)) < 2048) (hC' : ∀ j, j < 4096 → cnt (cum c) 2048 (P (j + 1)) < 2048) :
    val1 V (Proc.devRef .tc main_v43) (ix1 r) = ((refSum (fun i => px (s i)) (fun i => py (t i)) a c P 2048 4096 : ℝ) : EReal) := by
  rw [val1_main_v43]
  refine (rowsum_row (R := 4096) (N := 4096) (mul_row (R := 4096) (N := 4096) (sub_row (R := 4096) (N := 4096)
      (slice_row (R := 4096) (M := 4097) (N := 4096) hP 1 slices_S4096x4097_S4096x4096_0_1 (by norm_num))
      (slice_row (R := 4096) (M := 4097) (N := 4096) hP 0 slices_S4096x4097_S4096x4096_0_0 (by norm_num)))
      (absdiff_row (R := 4096) (N := 4096)
        (take_row (R := 4096) (N := 2048) (M := 4096) gather_S4096x2048_S4096x4096x1_S4096x4096_n_1_0_0_1_2_11 rfl rfl rfl rfl rfl rfl
          (take_row (R := 4096) (N := 2048) (M := 2048) gather_S4096x2048_S4096x2048x1_S4096x2048_n_1_0_0_1_2_11 rfl rfl rfl rfl rfl rfl
            hpx (wrap_row (R := 4096) (M := 2048) hI (lt31 hs.1 (by norm_num)) bcast_S_S4096x2048 _ shapeCasts_S4096x2048_S4096x2048x1)
            hs.1 (by norm_num) (m := 2047) rfl bcast_S_S4096x2048x1 bcast_S1x1x1_S4096x2048x1_0_1_2 bcast_S1_S1x1x1_2
            reducesTo_S4096x2048x1_S4096x2048_d2 h_S_ _)
          (wrap_row (R := 4096) (M := 4096) hA (lt31 hA' (by norm_num)) bcast_S_S4096x4096 _ shapeCasts_S4096x4096_S4096x4096x1)
          hA' (by norm_num) (m := 2047) rfl bcast_S_S4096x4096x1 bcast_S1x1x1_S4096x4096x1_0_1_2 bcast_S1_S1x1x1_2
          reducesTo_S4096x4096x1_S4096x4096_d2 h_S_ _)
        (take_row (R := 4096) (N := 2048) (M := 4096) gather_S4096x2048_S4096x4096x1_S4096x4096_n_1_0_0_1_2_11 rfl rfl rfl rfl rfl rfl
          (take_row (R := 4096) (N := 2048) (M := 2048) gather_S4096x2048_S4096x2048x1_S4096x2048_n_1_0_0_1_2_11 rfl rfl rfl rfl rfl rfl
            hpy (wrap_row (R := 4096) (M := 2048) hJ (lt31 ht.1 (by norm_num)) bcast_S_S4096x2048 _ shapeCasts_S4096x2048_S4096x2048x1)
            ht.1 (by norm_num) (m := 2047) rfl bcast_S_S4096x2048x1 bcast_S1x1x1_S4096x2048x1_0_1_2 bcast_S1_S1x1x1_2
            reducesTo_S4096x2048x1_S4096x2048_d2 h_S_ _)
          (wrap_row (R := 4096) (M := 4096) hC (lt31 hC' (by norm_num)) bcast_S_S4096x4096 _ shapeCasts_S4096x4096_S4096x4096x1)
          hC' (by norm_num) (m := 2047) rfl bcast_S_S4096x4096x1 bcast_S1x1x1_S4096x4096x1_0_1_2 bcast_S1_S1x1x1_2
          reducesTo_S4096x4096x1_S4096x4096_d2 h_S_ _)))
    reducesTo_S4096x4096_S4096_d1 h_S_).trans ?_
  refine congrArg _ (sum_congr rfl fun k _ => ?_)
  rw [Nat.add_comm 1 k, Nat.zero_add]

/-- The reference's result at a row of real points, as the sum over the sorted positions. -/
theorem ref_row {x y px py W Z : ℕ → ℝ} {σ : ℕ → ℕ}
    (hx : RowR (R := 4096) (N := 2048) (V (Proc.devRef .tc main_arg0)) r x) (hy : RowR (R := 4096) (N := 2048) (V (Proc.devRef .tc main_arg1)) r y)
    (hpx : RowR (R := 4096) (N := 2048) (V (Proc.devRef .tc main_arg2)) r px) (hpy : RowR (R := 4096) (N := 2048) (V (Proc.devRef .tc main_arg3)) r py)
    (hx0 : ∀ i, i < 2048 → 0 ≤ x i) (hy0 : ∀ i, i < 2048 → 0 ≤ y i) (hX : 0 < ∑ i ∈ range 2048, x i) (hY : 0 < ∑ i ∈ range 2048, y i)
    (hσ : Shuf 4096 σ) (hW1 : ∀ i, i < 2048 → W i = x i / ∑ i ∈ range 2048, x i) (hW2 : ∀ i, i < 2048 → W (2048 + i) = -(y i / ∑ i ∈ range 2048, y i))
    (hZ1 : ∀ i, i < 2048 → Z i = px i) (hZ2 : ∀ i, i < 2048 → Z (2048 + i) = py i) (hz : Up (fun i => Z (σ i)) 4096) :
    val1 V (Proc.devRef .tc main_v43) (ix1 r) = ((kerSum (fun i => Z (σ i)) (fun i => W (σ i)) 4096 : ℝ) : EReal) := by
  obtain ⟨s, hs, hus, hI⟩ := ref_order hpx
  obtain ⟨t, ht, hut, hJ⟩ := ref_order' hpy
  have hU := ref_cum hx hX.ne' hs hI
  have hV := ref_cum' hy hY.ne' ht hJ
  obtain ⟨m, hm, hum, hQ⟩ := ref_merged hU hV
  have hP := ref_padded hQ
  have ha : ∀ j, j < 2048 → 0 ≤ x j / ∑ i ∈ range 2048, x i := fun j hj => div_nonneg (hx0 j hj) hX.le
  have hc : ∀ j, j < 2048 → 0 ≤ y j / ∑ i ∈ range 2048, y i := fun j hj => div_nonneg (hy0 j hj) hY.le
  have hA : ∑ j ∈ range 2048, x j / ∑ i ∈ range 2048, x i = 1 := by rw [← sum_div, div_self hX.ne']
  have hC : ∑ j ∈ range 2048, y j / ∑ i ∈ range 2048, y i = 1 := by rw [← sum_div, div_self hY.ne']
  have ha' : ∀ j, j < 2048 → 0 ≤ x (s j) / ∑ i ∈ range 2048, x i := fun j hj => ha _ (hs.1 j hj)
  have hc' : ∀ j, j < 2048 → 0 ≤ y (t j) / ∑ i ∈ range 2048, y i := fun j hj => hc _ (ht.1 j hj)
  have topA : cum (fun j => x (s j) / ∑ i ∈ range 2048, x i) (2048 - 1) = 1 := (hs.sum fun j => x j / ∑ i ∈ range 2048, x i).trans hA
  have topC : cum (fun j => y (t j) / ∑ i ∈ range 2048, y i) (2048 - 1) = 1 := (ht.sum fun j => y j / ∑ i ∈ range 2048, y i).trans hC
  have leA : ∀ j, j < 2048 → cum (fun j => x (s j) / ∑ i ∈ range 2048, x i) j ≤ 1 := fun j hj => topA ▸ cum_up ha' j (2048 - 1) (by omega) (by norm_num)
  have leC : ∀ j, j < 2048 → cum (fun j => y (t j) / ∑ i ∈ range 2048, y i) j ≤ 1 := fun j hj => topC ▸ cum_up hc' j (2048 - 1) (by omega) (by norm_num)
  generalize hUe : cum (fun j => x (s j) / ∑ i ∈ range 2048, x i) = U at *
  generalize hVe : cum (fun j => y (t j) / ∑ i ∈ range 2048, y i) = Y at *
  have hq1 : ∀ k, k < 4096 → both U Y 2048 (m k) ≤ 1 := fun k hk => by
    rcases both_mem (U := U) (W := Y) (n := 2048) hm hk with ⟨j, hj, e⟩ | ⟨j, hj, e⟩
    · rw [e]; exact leA j hj
    · rw [e]; exact leC j hj
  have hq0 : ∀ k, k < 4096 → 0 ≤ both U Y 2048 (m k) := fun k hk => by
    rcases both_mem (U := U) (W := Y) (n := 2048) hm hk with ⟨j, hj, e⟩ | ⟨j, hj, e⟩
    · rw [e, ← hUe]; exact cum_nonneg ha' hj
    · rw [e, ← hVe]; exact cum_nonneg hc' hj
  have hcA : ∀ k, k < 4096 → cnt U 2048 (both U Y 2048 (m k)) < 2048 := fun k hk =>
    cnt_lt (by norm_num) (hUe ▸ cum_up ha') (by rw [topA]; exact hq1 k hk)
  have hcC : ∀ k, k < 4096 → cnt Y 2048 (both U Y 2048 (m k)) < 2048 := fun k hk =>
    cnt_lt (by norm_num) (hVe ▸ cum_up hc') (by rw [topC]; exact hq1 k hk)
  have hNA := ref_count hU hQ fun k hk => Nat.le_of_lt_succ (hcA k hk)
  have hNC := ref_count' hV hQ fun k hk => Nat.le_of_lt_succ (hcC k hk)
  rw [ref_sum (a := fun j => x (s j) / ∑ i ∈ range 2048, x i) (c := fun j => y (t j) / ∑ i ∈ range 2048, y i) hs ht hpx hpy hI hJ hP
    (by rw [hUe]; simp only [pre0_succ]; exact hNA) (by rw [hVe]; simp only [pre0_succ]; exact hNC)
    (fun j hj => by rw [hUe, pre0_succ]; exact hcA j hj) (fun j hj => by rw [hVe, pre0_succ]; exact hcC j hj)]
  refine congrArg _ (row_eq (n := 2048) (by norm_num) hs ht hσ hW1 hW2 hZ1 hZ2 ha hc hA hC hus hut hz (pre0_up hum hq0) rfl
    (fun k hk => ?_) (fun j hj => ?_) (fun j hj => ?_)).symm
  · rw [pre0_succ, hUe, hVe]; exact both_mem hm hk
  · obtain ⟨k, hk, e⟩ := both_left (U := U) (W := Y) (n := 2048) hm hj
    exact ⟨k, hk, by rw [pre0_succ, hUe]; exact e⟩
  · obtain ⟨k, hk, e⟩ := both_right (U := U) (W := Y) (n := 2048) hm hj
    exact ⟨k, hk, by rw [pre0_succ, hVe]; exact e⟩

end Cert.Proof.W1

end
-- ==== Proof.Order.lean ====
/-
  Sorting by cell is sorting by position, when different positions lie in different cells.
-/
module

public import proofs.«01_k».proof.Proof.HostOps

@[expose] public section

noncomputable section

namespace Cert.Proof.W1

open Idealize.ShloMosaic
open Cert.KernelIdeal Cert.KernelIdeal.Gen
open Cert.Proof.Radix
open Finset

theorem scale_word : Ideal.ofBits .f32 0x48800000#32 = ((262144 : ℝ) : EReal) := by
  simp [Ideal.ofBits, Ideal.ieee, -EReal.coe_mul]
  norm_num

/-- The whole part of a nonnegative real, as a word. -/
theorem whole_part {y : ℝ} (hy : 0 ≤ y) : Ideal.fptosi 32 (y : EReal) = BitVec.ofNat 32 (min 2147483647 ⌊y⌋.toNat) := by
  obtain ⟨n, hn⟩ : ∃ n : ℕ, ⌊y⌋ = (n : ℤ) := ⟨⌊y⌋.toNat, (Int.toNat_of_nonneg (Int.floor_nonneg.2 hy)).symm⟩
  have e : Ideal.toIntClamped (-(2 ^ (32 - 1) : ℕ)) ((2 ^ (32 - 1) : ℕ) - 1) (y : EReal) = ((min 2147483647 n : ℕ) : ℤ) := by
    show max _ (min _ (if 0 ≤ y then ⌊y⌋ else ⌈y⌉)) = _
    rw [if_pos hy, hn]
    norm_num
  show BitVec.ofInt 32 (Ideal.toIntClamped _ _ (y : EReal)) = _
  rw [e, BitVec.ofInt_natCast, hn, Int.toNat_natCast]

theorem minsi_small {a b : ℕ} (ha : a < 2 ^ 31) (hb : b < 2 ^ 31) :
    IntOp.minsi (BitVec.ofNat 32 a) (BitVec.ofNat 32 b) = BitVec.ofNat 32 (min a b) := by
  unfold IntOp.minsi
  rw [BitVec.slt_eq_decide, toInt_small ha, toInt_small hb]
  by_cases h : a < b
  · rw [decide_eq_true (by omega), min_eq_left h.le]; rfl
  · rw [decide_eq_false (by omega), min_eq_right (by omega)]; rfl

/-- The cell of a position. -/
def cell (y : ℝ) : ℕ := min (min 2147483647 ⌊y * 262144⌋.toNat) 262143

theorem quant1_eq {p : ℝ} (hp : 0 ≤ p) : quant1 (F := Ideal) ((p : ℝ) : EReal) = BitVec.ofNat 32 (cell p) := by
  show IntOp.minsi (Ideal.fptosi 32 ((p : EReal) * Ideal.ofBits .f32 0x48800000#32)) (BitVec.ofNat 32 262143) = _
  rw [scale_word, ← EReal.coe_mul, whole_part (by positivity), minsi_small (by omega) (by omega)]
  rfl

theorem cell_mono {p q : ℝ} (h : p ≤ q) : cell p ≤ cell q := by
  have : ⌊p * 262144⌋ ≤ ⌊q * 262144⌋ := Int.floor_le_floor (by linarith)
  unfold cell
  omega

theorem cell_lt (p : ℝ) : cell p < 2 ^ 18 := by unfold cell; omega

/-- The sorted words give the positions in order. -/
theorem order_of_sorted {pv : FVec Ideal S4096 .f32} {b : IVec S4112 32} {p : ℕ → ℝ} (h : Sorted pv b)
    (hp : ∀ k, k < 4096 → fl pv k = ((p k : ℝ) : EReal)) (h0 : ∀ k, k < 4096 → 0 ≤ p k)
    (hc : ∀ i j, i < 4096 → j < 4096 → cell (p i) = cell (p j) → p i = p j) :
    Shuf 4096 (place b) ∧ Up (fun m => p (place b m)) 4096 := by
  obtain ⟨⟨σ, h1, h2, h3⟩, hL⟩ := h
  have e : ∀ k, k < 4096 → place b k = σ k := fun k hk => by
    unfold place
    rw [h3 k hk]; exact key_mod pv (h1 k hk)
  have d : ∀ k, k < 4096 → (wd b k).toNat / 4096 % 2 ^ 18 = cell (p (σ k)) := fun k hk => by
    have := cell_lt (p (σ k))
    rw [h3 k hk, key_div pv (h1 k hk), hp _ (h1 k hk), quant1_eq (h0 _ (h1 k hk)), BitVec.toNat_ofNat]
    omega
  refine ⟨⟨fun i hi => by rw [e i hi]; exact h1 i hi, fun i j hi hj he => h2 i hi j hj (by rwa [e i hi, e j hj] at he)⟩, fun i j hij hj => ?_⟩
  show p (place b i) ≤ p (place b j)
  have hi : i < 4096 := by omega
  rw [e i hi, e j hj]
  rcases Nat.eq_or_lt_of_le hij with rfl | hlt
  · exact le_rfl
  have hle : cell (p (σ i)) ≤ cell (p (σ j)) := by rw [← d i hi, ← d j hj]; exact hL i j hlt hj
  by_contra hn
  have hgt := not_le.1 hn
  exact hn (hc _ _ (h1 i hi) (h1 j hj) (le_antisymm hle (cell_mono hgt.le))).le

end Cert.Proof.W1

end
-- ==== Proof.Pre.lean ====
/-
  What the precondition says of one row: real nonnegative weights of positive sums, real nonnegative positions, and
  different cells for different positions.
-/
module

public import proofs.«01_k».proof.Proof.HostSort
public import proofs.«01_k».proof.Proof.Order
public import proofs.«01_k».proof.Pre_apart

@[expose] public section

noncomputable section

namespace Cert.Proof.W1

open Idealize.ShloMosaic
open Idealize.ShloMosaic.ValueIdx (ix0 ix1 ix2 ix3 eq_ix0 eq_ix1 eq_ix2 eq_ix3)
open Finset

instance facts_apart : Cert.Pre_apart.Facts where
  concatenates_S4096x2048_S4096x2048_S4096x4096_d1 := by decide
  bcast_S_S4096x4096 := by decide
  bcast_S_S4096x2048 := by decide
  reducesTo_S4096x2048_S4096_d1 := by decide
  h_S_ := by decide
  bcast_S_S4096 := by decide
  bcast_S4096x4096_S4096x4096x1_0_1 := by decide
  bcast_S4096x4096_S4096x1x4096_0_2 := by decide
  bcast_S4096x4096x1_S4096x4096x4096_0_1_2 := by decide
  bcast_S4096x1x4096_S4096x4096x4096_0_1_2 := by decide

theorem inf_word : Ideal.ofBits .f32 0x7F800000#32 = ⊤ := by simp [Ideal.ofBits, Ideal.ieee]

/-- A finite sum of nonnegative terms has real terms. -/
theorem real_terms {ι : Type} [Fintype ι] (f : ι → EReal) (h0 : ∀ i, 0 ≤ f i) (ht : ∑ i, f i < ⊤) (i : ι) : f i = ((f i).toReal : EReal) := by
  have h1 : f i ≤ ∑ i, f i := single_le_sum (fun j _ => h0 j) (mem_univ i)
  exact (EReal.coe_toReal (h1.trans_lt ht).ne (fun h => absurd (h0 i) (by rw [h]; exact not_le.2 EReal.bot_lt_zero))).symm

variable {R N : ℕ}

/-- The reals a row holds. -/
def realRow (x : FVec Ideal (mat R N) .f32) (r : Fin R) (k : ℕ) : ℝ := if h : k < N then (x (ix2 r ⟨k, h⟩) : EReal).toReal else 0

theorem realRow_of (x : FVec Ideal (mat R N) .f32) (r : Fin R) (h : ∀ j : Fin N, (x (ix2 r j) : EReal) = ((x (ix2 r j) : EReal).toReal : EReal)) :
    RowR x r (realRow x r) := fun j => by
  unfold realRow
  rw [dif_pos j.isLt]; exact h j

theorem realRow_nonneg (x : FVec Ideal (mat R N) .f32) (r : Fin R) (h : ∀ j : Fin N, (0 : EReal) ≤ x (ix2 r j)) (k : ℕ) : 0 ≤ realRow x r k := by
  unfold realRow
  split
  · exact EReal.toReal_nonneg (h _)
  · exact le_rfl

/-- Weights that are nonnegative and of a positive finite sum. -/
theorem weights_row (x : FVec Ideal (mat R N) .f32) (r : Fin R) (h : (mat R N).ReducesTo [1] (⟨1, ![R]⟩ : Shape)) (hS : 0 < (⟨0, ![]⟩ : Shape).numel)
    (h0 : ∀ j : Fin N, (0 : EReal) ≤ x (ix2 r j))
    (hp : (0 : EReal) < Host.reduceAdd x (constant (F := Ideal) ⟨0, ![]⟩ .f32 0x00000000#32) h hS (ix1 r))
    (ht : Host.reduceAdd x (constant (F := Ideal) ⟨0, ![]⟩ .f32 0x00000000#32) h hS (ix1 r) < (⊤ : EReal)) :
    RowR x r (realRow x r) ∧ 0 < ∑ i ∈ range N, realRow x r i := by
  rw [rowsum_apply] at ht
  have hx : RowR x r (realRow x r) := realRow_of x r fun j => real_terms (fun q : Fin N => (x (ix2 r q) : EReal)) h0 ht j
  rw [rowsum_row hx] at hp
  exact ⟨hx, EReal.coe_lt_coe_iff.1 hp⟩

/-- What the precondition says of a row. -/
structure RowPre (X Y P Q : FVec Ideal (mat 4096 2048) .f32) (r : Fin 4096) : Prop where
  hx : RowR X r (realRow X r)
  hy : RowR Y r (realRow Y r)
  hp : RowR P r (realRow P r)
  hq : RowR Q r (realRow Q r)
  x0 : ∀ k, 0 ≤ realRow X r k
  y0 : ∀ k, 0 ≤ realRow Y r k
  p0 : ∀ k, 0 ≤ realRow P r k
  q0 : ∀ k, 0 ≤ realRow Q r k
  sx : 0 < ∑ i ∈ range 2048, realRow X r i
  sy : 0 < ∑ i ∈ range 2048, realRow Y r i
  far : ∀ i j, i < 4096 → j < 4096 →
    cell (if i < 2048 then realRow P r i else realRow Q r (i - 2048)) = cell (if j < 2048 then realRow P r j else realRow Q r (j - 2048)) →
    (if i < 2048 then realRow P r i else realRow Q r (i - 2048)) = (if j < 2048 then realRow P r j else realRow Q r (j - 2048))

theorem ge_of {a b : EReal} (h : Ideal.cmp .oge a b = 1#1) : b ≤ a := (ofBool_iff (b ≤ a)).1 h
theorem gt_of {a b : EReal} (h : Ideal.cmp .ogt a b = 1#1) : b < a := (ofBool_iff (b < a)).1 h
theorem lt_of {a b : EReal} (h : Ideal.cmp .olt a b = 1#1) : a < b := (ofBool_iff (a < b)).1 h

theorem eq_or_ne_of {a b : EReal} {v w : BitVec 32} (h : IntOp.ori (Ideal.cmp .oeq a b) (IntOp.cmpi .ne v w) = 1#1) (hv : v = w) : a = b := by
  have e : IntOp.cmpi .ne v w = 0#1 := by subst hv; simp [IntOp.cmpi]
  rw [e] at h
  exact (ofBool_iff (a = b)).1 (by
    have : Ideal.cmp .oeq a b ||| 0#1 = Ideal.cmp .oeq a b := BitVec.or_zero
    exact this.symm.trans h)

/-- A matrix spread along a new last axis. -/
theorem spread_last {α : Type} (z : (mat R N).Idx → α) (h1 : (mat R N).BroadcastsInDim (cube R N 1) ![0, 1])
    (h2 : (cube R N 1).BroadcastsInDim (cube R N N) ![0, 1, 2]) (r : Fin R) (i j : Fin N) :
    broadcastInDim (cube R N N) ![0, 1, 2] h2 (broadcastInDim (cube R N 1) ![0, 1] h1 z) (ix3 r i j) = z (ix2 r i) := by
  rw [broadcastInDim_apply _ h2 _ _ (ix3 r i (0 : Fin 1)) (fun a => by
      match a with
      | ⟨0, _⟩ =>
        have := r.isLt
        show r.val = if R = 1 then 0 else r.val
        split <;> omega
      | ⟨1, _⟩ =>
        have := i.isLt
        show i.val = if N = 1 then 0 else i.val
        split <;> omega
      | ⟨2, _⟩ => rfl), broadcastInDim_apply _ h1 _ _ (ix2 r i) (fun a => by
      match a with
      | ⟨0, _⟩ =>
        have := r.isLt
        show r.val = if R = 1 then 0 else r.val
        split <;> omega
      | ⟨1, _⟩ =>
        have := i.isLt
        show i.val = if N = 1 then 0 else i.val
        split <;> omega)]

/-- A matrix spread along a new middle axis. -/
theorem spread_mid {α : Type} (z : (mat R N).Idx → α) (h1 : (mat R N).BroadcastsInDim (cube R 1 N) ![0, 2])
    (h2 : (cube R 1 N).BroadcastsInDim (cube R N N) ![0, 1, 2]) (r : Fin R) (i j : Fin N) :
    broadcastInDim (cube R N N) ![0, 1, 2] h2 (broadcastInDim (cube R 1 N) ![0, 2] h1 z) (ix3 r i j) = z (ix2 r j) := by
  rw [broadcastInDim_apply _ h2 _ _ (ix3 r (0 : Fin 1) j) (fun a => by
      match a with
      | ⟨0, _⟩ =>
        have := r.isLt
        show r.val = if R = 1 then 0 else r.val
        split <;> omega
      | ⟨1, _⟩ => rfl
      | ⟨2, _⟩ =>
        have := j.isLt
        show j.val = if N = 1 then 0 else j.val
        split <;> omega), broadcastInDim_apply _ h1 _ _ (ix2 r j) (fun a => by
      match a with
      | ⟨0, _⟩ =>
        have := r.isLt
        show r.val = if R = 1 then 0 else r.val
        split <;> omega
      | ⟨1, _⟩ =>
        have := j.isLt
        show j.val = if N = 1 then 0 else j.val
        split <;> omega)]

/-- Both rows of positions end to end. -/
abbrev joined (P Q : FVec Ideal (mat 4096 2048) .f32) : FVec Ideal (mat 4096 4096) .f32 :=
  concatenate (mat 4096 4096) 1 [⟨mat 4096 2048, P⟩, ⟨mat 4096 2048, Q⟩] Cert.Pre_apart.Facts.concatenates_S4096x2048_S4096x2048_S4096x4096_d1

theorem joined_left (P Q : FVec Ideal (mat 4096 2048) .f32) (r : Fin 4096) (j : Fin 2048) :
    joined P Q (ix2 r (⟨j.val, by omega⟩ : Fin 4096)) = P (ix2 r j) :=
  concatenate_pair_apply_left 1 P Q _ (ix2 r (⟨j.val, by omega⟩ : Fin 4096)) rfl (ix2 r j) (fun b => by
    match b with
    | ⟨0, _⟩ => rfl
    | ⟨1, _⟩ => rfl)

theorem joined_right (P Q : FVec Ideal (mat 4096 2048) .f32) (r : Fin 4096) (j : Fin 2048) :
    joined P Q (ix2 r (⟨2048 + j.val, by omega⟩ : Fin 4096)) = Q (ix2 r j) :=
  concatenate_pair_apply_right 1 P Q _ (ix2 r (⟨2048 + j.val, by omega⟩ : Fin 4096)) rfl rfl (ix2 r j) (fun b hb => by
    match b, hb with
    | ⟨0, _⟩, _ => rfl
    | ⟨1, _⟩, hb => exact absurd rfl hb) (Nat.add_comm _ _)

theorem real_of {a : EReal} (h0 : 0 ≤ a) (ht : a < ⊤) : a = (a.toReal : EReal) :=
  (EReal.coe_toReal ht.ne (fun h => absurd h0 (by rw [h]; exact not_le.2 EReal.bot_lt_zero))).symm

/-- The cells of both rows of positions, as words. -/
abbrev cells (P Q : FVec Ideal (mat 4096 2048) .f32) : IVec (mat 4096 4096) 32 :=
  minsi (fptosi (F := Ideal) (φ := .f32) 32 (mulf (joined P Q) (broadcastInDim (mat 4096 4096) ![] Cert.Pre_apart.Facts.bcast_S_S4096x4096 (constant (F := Ideal) ⟨0, ![]⟩ .f32 0x48800000#32))))
    (broadcastInDim (mat 4096 4096) ![] Cert.Pre_apart.Facts.bcast_S_S4096x4096 (constantI ⟨0, ![]⟩ 32 262143#32))

theorem apart_of {X Y P Q : FVec Ideal (mat 4096 2048) .f32}
    (h9 : (Cert.Pre_apart.fn (F := Ideal) X Y P Q).2.2.2.2.2.2.2.2 = fun _ => 1#1) (r : Fin 4096) (a b : Fin 4096)
    (he : quant1 (F := Ideal) (joined P Q (ix2 r a)) = quant1 (F := Ideal) (joined P Q (ix2 r b))) : (joined P Q (ix2 r a) : EReal) = joined P Q (ix2 r b) := by
  have h : IntOp.ori
      (Ideal.cmp .oeq (broadcastInDim (cube 4096 4096 4096) ![0, 1, 2] Cert.Pre_apart.Facts.bcast_S4096x4096x1_S4096x4096x4096_0_1_2
          (broadcastInDim (cube 4096 4096 1) ![0, 1] Cert.Pre_apart.Facts.bcast_S4096x4096_S4096x4096x1_0_1 (joined P Q)) (ix3 r a b))
        (broadcastInDim (cube 4096 4096 4096) ![0, 1, 2] Cert.Pre_apart.Facts.bcast_S4096x1x4096_S4096x4096x4096_0_1_2
          (broadcastInDim (cube 4096 1 4096) ![0, 2] Cert.Pre_apart.Facts.bcast_S4096x4096_S4096x1x4096_0_2 (joined P Q)) (ix3 r a b)))
      (IntOp.cmpi .ne (broadcastInDim (cube 4096 4096 4096) ![0, 1, 2] Cert.Pre_apart.Facts.bcast_S4096x4096x1_S4096x4096x4096_0_1_2
          (broadcastInDim (cube 4096 4096 1) ![0, 1] Cert.Pre_apart.Facts.bcast_S4096x4096_S4096x4096x1_0_1 (cells P Q)) (ix3 r a b))
        (broadcastInDim (cube 4096 4096 4096) ![0, 1, 2] Cert.Pre_apart.Facts.bcast_S4096x1x4096_S4096x4096x4096_0_1_2
          (broadcastInDim (cube 4096 1 4096) ![0, 2] Cert.Pre_apart.Facts.bcast_S4096x4096_S4096x1x4096_0_2 (cells P Q)) (ix3 r a b))) = 1#1 :=
    congrFun h9 (ix3 r a b)
  rw [spread_last, spread_mid, spread_last, spread_mid] at h
  exact eq_or_ne_of h he

/-- The precondition read at a row. -/
theorem rowPre_of {X Y P Q : FVec Ideal (mat 4096 2048) .f32}
    (h1 : (Cert.Pre_apart.fn (F := Ideal) X Y P Q).1 = fun _ => 1#1)
    (h2 : (Cert.Pre_apart.fn (F := Ideal) X Y P Q).2.1 = fun _ => 1#1)
    (h3 : (Cert.Pre_apart.fn (F := Ideal) X Y P Q).2.2.1 = fun _ => 1#1)
    (h4 : (Cert.Pre_apart.fn (F := Ideal) X Y P Q).2.2.2.1 = fun _ => 1#1)
    (h5 : (Cert.Pre_apart.fn (F := Ideal) X Y P Q).2.2.2.2.1 = fun _ => 1#1)
    (h6 : (Cert.Pre_apart.fn (F := Ideal) X Y P Q).2.2.2.2.2.1 = fun _ => 1#1)
    (h7 : (Cert.Pre_apart.fn (F := Ideal) X Y P Q).2.2.2.2.2.2.1 = fun _ => 1#1)
    (h8 : (Cert.Pre_apart.fn (F := Ideal) X Y P Q).2.2.2.2.2.2.2.1 = fun _ => 1#1)
    (h9 : (Cert.Pre_apart.fn (F := Ideal) X Y P Q).2.2.2.2.2.2.2.2 = fun _ => 1#1) (r : Fin 4096) : RowPre X Y P Q r := by
  have x0 : ∀ j : Fin 2048, (0 : EReal) ≤ X (ix2 r j) := fun j => Ideal.ofBits_zero_f32 ▸ ge_of (congrFun h1 (ix2 r j))
  have y0 : ∀ j : Fin 2048, (0 : EReal) ≤ Y (ix2 r j) := fun j => Ideal.ofBits_zero_f32 ▸ ge_of (congrFun h4 (ix2 r j))
  have z0 : ∀ j : Fin 4096, (0 : EReal) ≤ joined P Q (ix2 r j) := fun j => Ideal.ofBits_zero_f32 ▸ ge_of (congrFun h7 (ix2 r j))
  have zt : ∀ j : Fin 4096, joined P Q (ix2 r j) < (⊤ : EReal) := fun j => inf_word ▸ lt_of (congrFun h8 (ix2 r j))
  have hX := weights_row X r Cert.Pre_apart.Facts.reducesTo_S4096x2048_S4096_d1 Cert.Pre_apart.Facts.h_S_ x0
    (Ideal.ofBits_zero_f32 ▸ gt_of (congrFun h2 (ix1 r))) (inf_word ▸ lt_of (congrFun h3 (ix1 r)))
  have hY := weights_row Y r Cert.Pre_apart.Facts.reducesTo_S4096x2048_S4096_d1 Cert.Pre_apart.Facts.h_S_ y0
    (Ideal.ofBits_zero_f32 ▸ gt_of (congrFun h5 (ix1 r))) (inf_word ▸ lt_of (congrFun h6 (ix1 r)))
  have p0 : ∀ j : Fin 2048, (0 : EReal) ≤ P (ix2 r j) := fun j => joined_left P Q r j ▸ z0 _
  have q0 : ∀ j : Fin 2048, (0 : EReal) ≤ Q (ix2 r j) := fun j => joined_right P Q r j ▸ z0 _
  have hP := realRow_of P r fun j => real_of (p0 j) (joined_left P Q r j ▸ zt _)
  have hQ := realRow_of Q r fun j => real_of (q0 j) (joined_right P Q r j ▸ zt _)
  have pn := realRow_nonneg P r p0
  have qn := realRow_nonneg Q r q0
  refine ⟨hX.1, hY.1, hP, hQ, realRow_nonneg X r x0, realRow_nonneg Y r y0, pn, qn, hX.2, hY.2, fun i j hi hj hc => ?_⟩
  have hz : RowR (joined P Q) r (fun j => if j < 2048 then realRow P r j else realRow Q r (j - 2048)) :=
    concat_row (R := 4096) (N := 2048) hP hQ (E := 4096) rfl _
  have hn : ∀ j, 0 ≤ (if j < 2048 then realRow P r j else realRow Q r (j - 2048)) := fun j => by
    split
    · exact pn _
    · exact qn _
  have e := apart_of h9 r ⟨i, hi⟩ ⟨j, hj⟩ (by
    rw [hz ⟨i, hi⟩, hz ⟨j, hj⟩, quant1_eq (hn i), quant1_eq (hn j)]
    exact congrArg (BitVec.ofNat 32) hc)
  rw [hz ⟨i, hi⟩, hz ⟨j, hj⟩] at e
  exact EReal.coe_eq_coe_iff.1 e

end Cert.Proof.W1

end
-- ==== Proof.Equal.lean ====
/-
  The kernel's result and the reference's are the same, row by row.
-/
module

public import proofs.«01_k».proof.Proof.Ref
public import proofs.«01_k».proof.Proof.Pre

@[expose] public section

noncomputable section

namespace Cert.Proof.W1

open Idealize.ShloMosaic Idealize.ShloMosaic.TcCoe Idealize.SL.Sem Idealize.ShloMosaic.StableHlo
open Idealize.ShloMosaic.ValueIdx (ix0 ix1 ix2 ix3 eq_ix0 eq_ix1 eq_ix2 eq_ix3)
open Finset
open Cert.KernelIdeal Cert.KernelIdeal.Gen

/-! ## One row -/

/-- Two rows of reals end to end. -/
def ends (g h : ℕ → ℝ) (k : ℕ) : ℝ := if k < 2048 then g k else h (k - 2048)

theorem ends_left (g h : ℕ → ℝ) {k : ℕ} (hk : k < 2048) : ends g h k = g k := if_pos hk
theorem ends_right (g h : ℕ → ℝ) (k : ℕ) : ends g h (2048 + k) = h k := by
  unfold ends; rw [if_neg (by omega), Nat.add_sub_cancel_left]

theorem fl_row {X Y : FVec Ideal (mat 4096 2048) .f32} {r : Fin 4096} {g h : ℕ → ℝ} (hx : RowR X r g) (hy : RowR Y r h) (k : ℕ) (hk : k < 4096) :
    fl (F := Ideal) (two (F := Ideal) (rowOf (F := Ideal) X r.val) (rowOf (F := Ideal) Y r.val)) k = ((ends g h k : ℝ) : EReal) := by
  have e1 : ∀ (X : FVec Ideal (mat 4096 2048) .f32) (q : Fin 2048), rowOf (F := Ideal) X r.val (ix1 q) = X (ix2 r q) := fun X q => by
    unfold rowOf
    exact dif_pos r.isLt
  refine (nth_of_lt _ _ hk).trans ?_
  unfold ends two
  by_cases h : k < 2048
  · rw [if_pos h]
    exact (dif_pos h).trans ((e1 X ⟨k, h⟩).trans (hx ⟨k, h⟩))
  · rw [if_neg h]
    exact (dif_neg h).trans ((e1 Y ⟨k - 2048, by omega⟩).trans (hy ⟨k - 2048, by omega⟩))

/-- A row's result is the reference's. -/
theorem row_same {V : Valuation Cert.ReferenceIdeal.τ Cert.ReferenceIdeal.sig (Elt Ideal)} {X Y P Q : FVec Ideal (mat 4096 2048) .f32} {r : Fin 4096}
    (hX : V (Proc.devRef .tc Cert.ReferenceIdeal.main_arg0) = X) (hY : V (Proc.devRef .tc Cert.ReferenceIdeal.main_arg1) = Y)
    (hP : V (Proc.devRef .tc Cert.ReferenceIdeal.main_arg2) = P) (hQ : V (Proc.devRef .tc Cert.ReferenceIdeal.main_arg3) = Q)
    (h : RowPre X Y P Q r) {v : Ideal .f32}
    (hv : RowOK (F := Ideal) (two (F := Ideal) (rowOf (F := Ideal) X r.val) (rowOf (F := Ideal) Y r.val))
      (two (F := Ideal) (rowOf (F := Ideal) P r.val) (rowOf (F := Ideal) Q r.val)) v) :
    v = Cert.ReferenceIdeal.Value.val1 V (Proc.devRef .tc Cert.ReferenceIdeal.main_v43) (ix1 r) := by
  obtain ⟨b, hb, rfl⟩ := hv
  have hn : ∀ k, 0 ≤ ends (realRow P r) (realRow Q r) k := fun k => by
    unfold ends
    split
    · exact h.p0 _
    · exact h.q0 _
  obtain ⟨hσ, hz⟩ := order_of_sorted hb (fl_row h.hp h.hq) (fun k _ => hn k) h.far
  rw [rowOut_eq (fl_row h.hx h.hy) (fl_row h.hp h.hq) (X := ∑ i ∈ range 2048, realRow X r i) (Y := ∑ i ∈ range 2048, realRow Y r i)
    (sum_congr rfl fun i hi => ends_left _ _ (mem_range.1 hi)) (sum_congr rfl fun i _ => ends_right _ _ i) h.sx.ne' h.sy.ne']
  refine (ref_row (V := V) (r := r) (by rw [hX]; exact h.hx) (by rw [hY]; exact h.hy) (by rw [hP]; exact h.hp) (by rw [hQ]; exact h.hq)
    (fun i _ => h.x0 i) (fun i _ => h.y0 i) h.sx h.sy hσ (fun i hi => ?_) (fun i hi => ?_) (fun i hi => ends_left _ _ hi) (fun i _ => ends_right _ _ i) hz
    (W := share (ends (realRow X r) (realRow Y r)) (∑ i ∈ range 2048, realRow X r i) (∑ i ∈ range 2048, realRow Y r i))).symm
  · unfold share
    rw [if_pos hi, ends_left _ _ hi]; ring
  · unfold share
    rw [if_neg (by omega), ends_right]; ring

/-! ## The programs -/

theorem frame_kernelIdeal_apart : Cert.quiescent_KernelIdeal_pre_apart := fun m ρ _ =>
  (θ_run Cert.KernelIdeal.defs _ _).mono (fun _ h => ⟨fun c => (h.1 c).1, h.2⟩) (run_main (F := Ideal) m ρ)

theorem frame_referenceIdeal_apart : Cert.quiescent_ReferenceIdeal_pre_apart := fun m ρ _ =>
  (θ_run Cert.ReferenceIdeal.defs _ _).mono (fun _ h => ⟨fun c => (h c).2, funext fun g => nomatch g⟩)
    (Cert.ReferenceIdeal.Value.run (F := Ideal) m ρ)

theorem algebraic : Cert.algebraic_KernelIdeal_ReferenceIdeal_pre_apart := fun m g m' g' hpre hargs => by
  refine ⟨fun c => Cert.ReferenceIdeal.Value.val1 (launchContents m' c) (Proc.devRef .tc Cert.ReferenceIdeal.main_v43), ?_, ?_⟩
  · refine (θ_run Cert.KernelIdeal.defs _ _).mono (fun s h c => ?_) (run_main (F := Ideal) m g)
    refine ⟨funext fun j => ?_, (h.1 c).1⟩
    obtain ⟨h1, h2, h3, h4, h5, h6, h7, h8, h9⟩ := hpre c
    obtain ⟨a0, a1, a2, a3⟩ := hargs c
    have hj := (h.1 c).2 j (mem_univ j)
    have hr := row_same (V := launchContents m' c) (r := j 0) a0 a1 a2 a3 (rowPre_of h1 h2 h3 h4 h5 h6 h7 h8 h9 (j 0)) hj
    refine hr.trans ?_
    exact congrArg _ (eq_ix1 j).symm
  · refine (θ_run Cert.ReferenceIdeal.defs _ _).mono (fun s h c => ⟨(h c).1.trans (Cert.ReferenceIdeal.Value.val1_main_v43 (launchContents m' c)).symm, (h c).2⟩)
      (Cert.ReferenceIdeal.Value.run (F := Ideal) m' g')

end Cert.Proof.W1

end
-- ==== Proof.Near.lean ====
/-
  How far the sum over the sorted positions moves when positions are cut to their cells.
-/
module

public import proofs.«01_k».proof.Proof.Order
public import proofs.«01_k».proof.Proof.HostSort

@[expose] public section

noncomputable section

namespace Cert.Proof.W1

open Idealize.ShloMosaic
open Cert.KernelIdeal Cert.KernelIdeal.Gen
open Cert.Proof.Radix
open Finset

/-- The sum moves by at most half of the cut times the total weight, when every position moves down by at most the cut. -/
theorem kerSum_close {z q w : ℕ → ℝ} {E : ℕ} {δ : ℝ} (h0 : ∀ m, m < E → q m ≤ z m) (h1 : ∀ m, m < E → z m - q m ≤ δ)
    (hw : ∑ i ∈ range E, w i = 0) : |kerSum z w E - kerSum q w E| ≤ δ / 2 * ∑ m ∈ range E, |w m| := by
  have e : kerSum z w E - kerSum q w E
      = ∑ m ∈ range E, (z m - q m - δ / 2) * (|∑ i ∈ range m, w i| - |∑ i ∈ range (m + 1), w i|) := by
    have t := sum_range_sub' (fun m => |∑ i ∈ range m, w i|) E
    rw [hw, sum_range_zero, sub_self] at t
    calc _ = ∑ m ∈ range E, (z m - q m) * (|∑ i ∈ range m, w i| - |∑ i ∈ range (m + 1), w i|) := by
          unfold kerSum
          rw [← sum_sub_distrib]
          exact sum_congr rfl fun m _ => by ring
      _ = ∑ m ∈ range E, (z m - q m) * (|∑ i ∈ range m, w i| - |∑ i ∈ range (m + 1), w i|)
            - δ / 2 * ∑ m ∈ range E, (|∑ i ∈ range m, w i| - |∑ i ∈ range (m + 1), w i|) := by rw [t]; ring
      _ = _ := by
          rw [mul_sum, ← sum_sub_distrib]
          exact sum_congr rfl fun m _ => by ring
  rw [e, mul_sum]
  refine (abs_sum_le_sum_abs _ _).trans (sum_le_sum fun m hm => ?_)
  have hm := mem_range.1 hm
  have a1 := h0 m hm
  have a2 := h1 m hm
  rw [abs_mul]
  refine mul_le_mul (abs_le.2 ⟨by linarith, by linarith⟩) ?_ (abs_nonneg _) (by linarith)
  refine (abs_abs_sub_abs_le _ _).trans ?_
  rw [sum_range_succ, abs_sub_comm, add_sub_cancel_left]

/-- Two orders of the same numbers, both increasing, are the same at every place. -/
theorem sorted_unique {z : ℕ → ℝ} {n : ℕ} {s t : ℕ → ℕ} (hs : Shuf n s) (ht : Shuf n t) (us : Up (fun i => z (s i)) n) (ut : Up (fun i => z (t i)) n)
    {i : ℕ} (hi : i < n) : z (s i) = z (t i) := by
  have key : ∀ x, (z (s i) ≤ x ↔ z (t i) ≤ x) := fun x => by
    obtain ⟨d, hd, h1, h2⟩ := mass_eq (a := fun _ => 1) us x
    obtain ⟨d', hd', h1', h2'⟩ := mass_eq (a := fun _ => 1) ut x
    have e1 := mass_shuf hs z (fun _ => 1) x
    have e2 := mass_shuf ht z (fun _ => 1) x
    have e : (d : ℝ) = d' := by
      have := (h2.symm.trans (e1.trans e2.symm)).trans h2'
      simpa using this
    have e' : d = d' := Nat.cast_injective e
    rw [h1 i hi, h1' i hi, e']
  exact le_antisymm ((key _).2 le_rfl) ((key _).1 le_rfl)

/-- Numbers have an increasing order. -/
theorem exists_sorted (z : ℕ → ℝ) : ∃ s, Shuf 4096 s ∧ Up (fun i => z (s i)) 4096 := by
  have h : RowR (R := 1) (N := 4096) (fun x => ((z (x 1).val : ℝ) : EReal)) 0 z := fun j => rfl
  obtain ⟨s, hs, hu, -⟩ := argsort_row (R := 1) (N := 4096) h
  exact ⟨s, hs, hu⟩

/-- The left end of a position's cell. -/
def cut (p : ℝ) : ℝ := cell p / 262144

theorem cut_mono {p q : ℝ} (h : p ≤ q) : cut p ≤ cut q :=
  div_le_div_of_nonneg_right (Nat.cast_le.2 (cell_mono h)) (by norm_num)

theorem cut_near {p : ℝ} (h0 : 0 ≤ p) (h1 : p ≤ 1) : cut p ≤ p ∧ p - cut p ≤ 1 / 262144 := by
  obtain ⟨n, hn⟩ : ∃ n : ℕ, ⌊p * 262144⌋ = (n : ℤ) := ⟨⌊p * 262144⌋.toNat, (Int.toNat_of_nonneg (Int.floor_nonneg.2 (by positivity))).symm⟩
  have l1 : (n : ℝ) ≤ p * 262144 := by
    have := Int.floor_le (p * 262144)
    rw [hn] at this; exact_mod_cast this
  have l2 : p * 262144 < n + 1 := by
    have := Int.lt_floor_add_one (p * 262144)
    rw [hn] at this; exact_mod_cast this
  have hle : n ≤ 262144 := by
    have : (n : ℝ) ≤ 262144 := by linarith
    exact_mod_cast this
  have hc : cell p = min n 262143 := by
    unfold cell
    rw [hn, Int.toNat_natCast]; omega
  unfold cut
  rw [hc]
  rcases Nat.lt_or_ge n 262144 with h | h
  · rw [min_eq_left (by omega)]
    constructor <;> linarith
  · have : n = 262144 := by omega
    subst this
    norm_num at l1 ⊢
    constructor <;> linarith

/-- The sorted words give the positions in the order of their cells. -/
theorem cells_of_sorted {pv : FVec Ideal S4096 .f32} {b : IVec S4112 32} {p : ℕ → ℝ} (h : Sorted pv b)
    (hp : ∀ k, k < 4096 → fl pv k = ((p k : ℝ) : EReal)) (h0 : ∀ k, k < 4096 → 0 ≤ p k) :
    Shuf 4096 (place b) ∧ Up (fun m => cut (p (place b m))) 4096 := by
  obtain ⟨⟨σ, h1, h2, h3⟩, hL⟩ := h
  have e : ∀ k, k < 4096 → place b k = σ k := fun k hk => by
    unfold place
    rw [h3 k hk]; exact key_mod pv (h1 k hk)
  have d : ∀ k, k < 4096 → (wd b k).toNat / 4096 % 2 ^ 18 = cell (p (σ k)) := fun k hk => by
    have := cell_lt (p (σ k))
    rw [h3 k hk, key_div pv (h1 k hk), hp _ (h1 k hk), quant1_eq (h0 _ (h1 k hk)), BitVec.toNat_ofNat]
    omega
  refine ⟨⟨fun i hi => by rw [e i hi]; exact h1 i hi, fun i j hi hj he => h2 i hi j hj (by rwa [e i hi, e j hj] at he)⟩, fun i j hij hj => ?_⟩
  show cut (p (place b i)) ≤ cut (p (place b j))
  have hi : i < 4096 := by omega
  rw [e i hi, e j hj]
  rcases Nat.eq_or_lt_of_le hij with rfl | hlt
  · exact le_rfl
  have hle : cell (p (σ i)) ≤ cell (p (σ j)) := by rw [← d i hi, ← d j hj]; exact hL i j hlt hj
  exact div_le_div_of_nonneg_right (Nat.cast_le.2 hle) (by norm_num)

/-- The sum in the order of the cells and the sum in the order of the positions differ by at most two cells. -/
theorem kerSum_near {z w : ℕ → ℝ} {n : ℕ} {s t : ℕ → ℕ} (hs : Shuf n s) (ht : Shuf n t) (us : Up (fun i => cut (z (s i))) n) (ut : Up (fun i => z (t i)) n)
    (h0 : ∀ i, i < n → 0 ≤ z i) (h1 : ∀ i, i < n → z i ≤ 1) (hw : ∑ i ∈ range n, w i = 0) (hW : ∑ i ∈ range n, |w i| = 2) :
    |kerSum (fun i => z (s i)) (fun i => w (s i)) n - kerSum (fun i => z (t i)) (fun i => w (t i)) n| ≤ 1 / 131072 := by
  have a : ∀ s, Shuf n s → |kerSum (fun i => z (s i)) (fun i => w (s i)) n - kerSum (fun i => cut (z (s i))) (fun i => w (s i)) n| ≤ 1 / 262144 := fun s hs => by
    have h := kerSum_close (z := fun i => z (s i)) (q := fun i => cut (z (s i))) (w := fun i => w (s i)) (E := n) (δ := 1 / 262144)
      (fun m hm => (cut_near (h0 _ (hs.1 m hm)) (h1 _ (hs.1 m hm))).1) (fun m hm => (cut_near (h0 _ (hs.1 m hm)) (h1 _ (hs.1 m hm))).2)
      ((hs.sum w).trans hw)
    rw [hs.sum fun i => |w i|, hW] at h
    linarith
  have vt : Up (fun i => cut (z (t i))) n := fun i j hij hj => cut_mono (ut i j hij hj)
  have m : kerSum (fun i => cut (z (s i))) (fun i => w (s i)) n = kerSum (fun i => cut (z (t i))) (fun i => w (t i)) n := by
    rcases Nat.eq_zero_or_pos n with rfl | hn
    · rfl
    obtain ⟨N, rfl⟩ : ∃ N, n = N + 1 := ⟨n - 1, by omega⟩
    rw [kerSum_eq us ((hs.sum w).trans hw), kerSum_eq vt ((ht.sum w).trans hw)]
    unfold gapSum
    refine sum_congr rfl fun k hk => ?_
    have hk := mem_range.1 hk
    rw [mass_shuf hs (fun i => cut (z i)) w, mass_shuf ht (fun i => cut (z i)) w]
    have e1 := sorted_unique (z := fun i => cut (z i)) hs ht us vt (i := k) (by omega)
    have e2 := sorted_unique (z := fun i => cut (z i)) hs ht us vt (i := k + 1) (by omega)
    show (cut (z (s (k + 1))) - cut (z (s k))) * |mass _ _ _ (cut (z (s k)))| = (cut (z (t (k + 1))) - cut (z (t k))) * |mass _ _ _ (cut (z (t k)))|
    rw [e1, e2]
  have a1 := abs_le.1 (a s hs)
  have a2 := abs_le.1 (a t ht)
  rw [m] at a1
  exact abs_le.2 ⟨by linarith [a1.1, a2.2], by linarith [a1.2, a2.1]⟩

end Cert.Proof.W1

end
-- ==== Proof.Post.lean ====
/-
  The reference inside the closeness statement is the reference program's result.
-/
module

public import proofs.«01_k».proof.Proof.Ref
public import proofs.«01_k».proof.Post_near

@[expose] public section

noncomputable section

namespace Cert.Proof.W1

open Idealize.ShloMosaic
open Cert.ReferenceIdeal Cert.ReferenceIdeal.Gen Cert.ReferenceIdeal.Value

instance facts_near : Cert.Post_near.Facts where
  reducesTo_S4096x2048_S4096_d1 := reducesTo_S4096x2048_S4096_d1
  h_S_ := h_S_
  bcast_S4096_S4096x1_0 := bcast_S4096_S4096x1_0
  bcast_S4096x1_S4096x2048_0_1 := bcast_S4096x1_S4096x2048_0_1
  bcast_S_S4096x2048 := bcast_S_S4096x2048
  shapeCasts_S4096x2048_S4096x2048x1 := shapeCasts_S4096x2048_S4096x2048x1
  bcast_S_S4096x2048x1 := bcast_S_S4096x2048x1
  bcast_S1_S1x1x1_2 := bcast_S1_S1x1x1_2
  bcast_S1x1x1_S4096x2048x1_0_1_2 := bcast_S1x1x1_S4096x2048x1_0_1_2
  reducesTo_S4096x2048x1_S4096x2048_d2 := reducesTo_S4096x2048x1_S4096x2048_d2
  bcast_S_S_ := bcast_S_S_
  reduceWindows_S4096x2048_S4096x2048_w1s1p0_0_w2048s1p2047_0 := reduceWindows_S4096x2048_S4096x2048_w1s1p0_0_w2048s1p2047_0
  concatenates_S4096x2048_S4096x2048_S4096x4096_d1 := concatenates_S4096x2048_S4096x2048_S4096x4096_d1
  pads_S4096x4096_S4096x4097_000_100 := pads_S4096x4096_S4096x4097_000_100
  slices_S4096x4097_S4096x4096_0_1 := slices_S4096x4097_S4096x4096_0_1
  slices_S4096x4097_S4096x4096_0_0 := slices_S4096x4097_S4096x4096_0_0
  bcast_S4096x2048_S4096x1x2048_0_2 := bcast_S4096x2048_S4096x1x2048_0_2
  bcast_S4096x4096_S4096x4096x1_0_1 := bcast_S4096x4096_S4096x4096x1_0_1
  bcast_S4096x1x2048_S4096x4096x2048_0_1_2 := bcast_S4096x1x2048_S4096x4096x2048_0_1_2
  bcast_S4096x4096x1_S4096x4096x2048_0_1_2 := bcast_S4096x4096x1_S4096x4096x2048_0_1_2
  natLt_1_32 := natLt_1_32
  reducesTo_S4096x4096x2048_S4096x4096_d2 := reducesTo_S4096x4096x2048_S4096x4096_d2
  bcast_S_S4096x4096 := bcast_S_S4096x4096
  shapeCasts_S4096x4096_S4096x4096x1 := shapeCasts_S4096x4096_S4096x4096x1
  bcast_S_S4096x4096x1 := bcast_S_S4096x4096x1
  bcast_S1x1x1_S4096x4096x1_0_1_2 := bcast_S1x1x1_S4096x4096x1_0_1_2
  reducesTo_S4096x4096x1_S4096x4096_d2 := reducesTo_S4096x4096x1_S4096x4096_d2
  reducesTo_S4096x4096_S4096_d1 := reducesTo_S4096x4096_S4096_d1
  bcast_S_S4096 := by decide
  gather_S4096x2048_S4096x2048x1_S4096x2048_n_1_0_0_1_2_11_wf := gather_S4096x2048_S4096x2048x1_S4096x2048_n_1_0_0_1_2_11.wf
  gather_S4096x2048_S4096x4096x1_S4096x4096_n_1_0_0_1_2_11_wf := gather_S4096x2048_S4096x4096x1_S4096x4096_n_1_0_0_1_2_11.wf

variable (V : Valuation τ sig (Elt Ideal))

theorem post_v8 : Cert.Post_near.fn_argsort (F := Ideal) (V (Proc.devRef .tc main_arg2)) = res_main_v8 V := rfl
theorem post_v11 : Cert.Post_near.fn_argsort (F := Ideal) (V (Proc.devRef .tc main_arg3)) = res_main_v11 V := rfl

/-- The statement read over the reference program's result. -/
theorem post_near (out : FVec Ideal S4096 .f32) :
    Cert.Post_near.fn (F := Ideal) (V (Proc.devRef .tc main_arg0)) (V (Proc.devRef .tc main_arg1)) (V (Proc.devRef .tc main_arg2)) (V (Proc.devRef .tc main_arg3)) out
      = cmpf (F := Ideal) (φ := .f32) .ole (Host.absf (subf out (val1 V (Proc.devRef .tc main_v43))))
          (broadcastInDim S4096 ![] Cert.Post_near.Facts.bcast_S_S4096 (constant (F := Ideal) S_ .f32 0x37000000#32)) := by
  rw [val1_main_v43]
  rfl

end Cert.Proof.W1

end
-- ==== Proof.Within.lean ====
/-
  For positions between 0 and 1 the kernel's result is within two cells of the reference's.
-/
module

public import proofs.«01_k».proof.Proof.Near
public import proofs.«01_k».proof.Proof.Post
public import proofs.«01_k».proof.Proof.Equal
public import proofs.«01_k».proof.Pre_unit

@[expose] public section

noncomputable section

namespace Cert.Proof.W1

open Idealize.ShloMosaic Idealize.ShloMosaic.TcCoe Idealize.SL.Sem Idealize.ShloMosaic.StableHlo
open Idealize.ShloMosaic.ValueIdx (ix0 ix1 ix2 ix3 eq_ix0 eq_ix1 eq_ix2 eq_ix3)
open Finset
open Cert.KernelIdeal Cert.KernelIdeal.Gen

instance facts_unit : Cert.Pre_unit.Facts where
  bcast_S_S4096x2048 := by decide
  reducesTo_S4096x2048_S4096_d1 := by decide
  h_S_ := by decide
  bcast_S_S4096 := by decide

theorem unit_word : Ideal.ofBits .f32 0x3F800000#32 = ((1 : ℝ) : EReal) := one_word

theorem two_cells_word : Ideal.ofBits .f32 0x37000000#32 = ((1 / 131072 : ℝ) : EReal) := by
  simp [Ideal.ofBits, Ideal.ieee, -EReal.coe_mul]
  norm_num

theorem le_of {a b : EReal} (h : Ideal.cmp .ole a b = 1#1) : a ≤ b := (ofBool_iff (a ≤ b)).1 h

/-- What the precondition says of a row. -/
structure RowUnit (X Y P Q : FVec Ideal (mat 4096 2048) .f32) (r : Fin 4096) : Prop where
  hx : RowR X r (realRow X r)
  hy : RowR Y r (realRow Y r)
  hp : RowR P r (realRow P r)
  hq : RowR Q r (realRow Q r)
  x0 : ∀ k, 0 ≤ realRow X r k
  y0 : ∀ k, 0 ≤ realRow Y r k
  p0 : ∀ k, 0 ≤ realRow P r k
  q0 : ∀ k, 0 ≤ realRow Q r k
  p1 : ∀ k, realRow P r k ≤ 1
  q1 : ∀ k, realRow Q r k ≤ 1
  sx : 0 < ∑ i ∈ range 2048, realRow X r i
  sy : 0 < ∑ i ∈ range 2048, realRow Y r i

theorem realRow_le {R N : ℕ} (x : FVec Ideal (mat R N) .f32) (r : Fin R) (h0 : ∀ j : Fin N, (0 : EReal) ≤ x (ix2 r j))
    (h : ∀ j : Fin N, x (ix2 r j) ≤ ((1 : ℝ) : EReal)) (k : ℕ) : realRow x r k ≤ 1 := by
  unfold realRow
  split
  · rename_i hk
    rw [← EReal.coe_le_coe_iff, ← real_of (h0 ⟨k, hk⟩) ((h ⟨k, hk⟩).trans_lt (EReal.coe_lt_top 1))]
    exact h _
  · exact zero_le_one

/-- The precondition read at a row. -/
theorem rowUnit_of {X Y P Q : FVec Ideal (mat 4096 2048) .f32}
    (h1 : (Cert.Pre_unit.fn (F := Ideal) X Y P Q).1 = fun _ => 1#1)
    (h2 : (Cert.Pre_unit.fn (F := Ideal) X Y P Q).2.1 = fun _ => 1#1)
    (h3 : (Cert.Pre_unit.fn (F := Ideal) X Y P Q).2.2.1 = fun _ => 1#1)
    (h4 : (Cert.Pre_unit.fn (F := Ideal) X Y P Q).2.2.2.1 = fun _ => 1#1)
    (h5 : (Cert.Pre_unit.fn (F := Ideal) X Y P Q).2.2.2.2.1 = fun _ => 1#1)
    (h6 : (Cert.Pre_unit.fn (F := Ideal) X Y P Q).2.2.2.2.2.1 = fun _ => 1#1)
    (h7 : (Cert.Pre_unit.fn (F := Ideal) X Y P Q).2.2.2.2.2.2.1 = fun _ => 1#1)
    (h8 : (Cert.Pre_unit.fn (F := Ideal) X Y P Q).2.2.2.2.2.2.2.1 = fun _ => 1#1)
    (h9 : (Cert.Pre_unit.fn (F := Ideal) X Y P Q).2.2.2.2.2.2.2.2.1 = fun _ => 1#1)
    (h10 : (Cert.Pre_unit.fn (F := Ideal) X Y P Q).2.2.2.2.2.2.2.2.2 = fun _ => 1#1) (r : Fin 4096) : RowUnit X Y P Q r := by
  have x0 : ∀ j : Fin 2048, (0 : EReal) ≤ X (ix2 r j) := fun j => Ideal.ofBits_zero_f32 ▸ ge_of (congrFun h1 (ix2 r j))
  have y0 : ∀ j : Fin 2048, (0 : EReal) ≤ Y (ix2 r j) := fun j => Ideal.ofBits_zero_f32 ▸ ge_of (congrFun h4 (ix2 r j))
  have p0 : ∀ j : Fin 2048, (0 : EReal) ≤ P (ix2 r j) := fun j => Ideal.ofBits_zero_f32 ▸ ge_of (congrFun h7 (ix2 r j))
  have p1 : ∀ j : Fin 2048, P (ix2 r j) ≤ ((1 : ℝ) : EReal) := fun j => unit_word ▸ le_of (congrFun h8 (ix2 r j))
  have q0 : ∀ j : Fin 2048, (0 : EReal) ≤ Q (ix2 r j) := fun j => Ideal.ofBits_zero_f32 ▸ ge_of (congrFun h9 (ix2 r j))
  have q1 : ∀ j : Fin 2048, Q (ix2 r j) ≤ ((1 : ℝ) : EReal) := fun j => unit_word ▸ le_of (congrFun h10 (ix2 r j))
  have hX := weights_row X r Cert.Pre_unit.Facts.reducesTo_S4096x2048_S4096_d1 Cert.Pre_unit.Facts.h_S_ x0
    (Ideal.ofBits_zero_f32 ▸ gt_of (congrFun h2 (ix1 r))) (inf_word ▸ lt_of (congrFun h3 (ix1 r)))
  have hY := weights_row Y r Cert.Pre_unit.Facts.reducesTo_S4096x2048_S4096_d1 Cert.Pre_unit.Facts.h_S_ y0
    (Ideal.ofBits_zero_f32 ▸ gt_of (congrFun h5 (ix1 r))) (inf_word ▸ lt_of (congrFun h6 (ix1 r)))
  exact ⟨hX.1, hY.1, realRow_of P r fun j => real_of (p0 j) ((p1 j).trans_lt (EReal.coe_lt_top 1)),
    realRow_of Q r fun j => real_of (q0 j) ((q1 j).trans_lt (EReal.coe_lt_top 1)),
    realRow_nonneg X r x0, realRow_nonneg Y r y0, realRow_nonneg P r p0, realRow_nonneg Q r q0,
    realRow_le P r p0 p1, realRow_le Q r q0 q1, hX.2, hY.2⟩

/-! ## One row -/

/-- The signed shares of a row add up to zero, and their sizes to two. -/
theorem share_sums {x y : ℕ → ℝ} (hx : ∀ k, 0 ≤ x k) (hy : ∀ k, 0 ≤ y k) (sx : 0 < ∑ i ∈ range 2048, x i) (sy : 0 < ∑ i ∈ range 2048, y i) :
    ∑ i ∈ range 4096, share (ends x y) (∑ i ∈ range 2048, x i) (∑ i ∈ range 2048, y i) i = 0
    ∧ ∑ i ∈ range 4096, |share (ends x y) (∑ i ∈ range 2048, x i) (∑ i ∈ range 2048, y i) i| = 2 := by
  have e1 : ∀ i ∈ range 2048, share (ends x y) (∑ i ∈ range 2048, x i) (∑ i ∈ range 2048, y i) i = x i / ∑ i ∈ range 2048, x i := fun i hi => by
    unfold share
    rw [if_pos (mem_range.1 hi), ends_left _ _ (mem_range.1 hi)]; ring
  have e2 : ∀ i ∈ range 2048, share (ends x y) (∑ i ∈ range 2048, x i) (∑ i ∈ range 2048, y i) (2048 + i) = -(y i / ∑ i ∈ range 2048, y i) := fun i _ => by
    unfold share
    rw [if_neg (by omega), ends_right]; ring
  have a1 : ∑ i ∈ range 2048, x i / ∑ i ∈ range 2048, x i = 1 := by rw [← sum_div, div_self sx.ne']
  have a2 : ∑ i ∈ range 2048, y i / ∑ i ∈ range 2048, y i = 1 := by rw [← sum_div, div_self sy.ne']
  have split : ∀ f : ℕ → ℝ, ∑ i ∈ range 4096, f i = ∑ i ∈ range 2048, f i + ∑ i ∈ range 2048, f (2048 + i) := fun f => sum_range_add f 2048 2048
  refine ⟨?_, ?_⟩
  · rw [split, sum_congr rfl e1, sum_congr rfl e2, sum_neg_distrib, a1, a2]; norm_num
  · have f1 : ∀ i ∈ range 2048, |share (ends x y) (∑ i ∈ range 2048, x i) (∑ i ∈ range 2048, y i) i| = x i / ∑ i ∈ range 2048, x i := fun i hi => by
      rw [e1 i hi, abs_of_nonneg (div_nonneg (hx i) sx.le)]
    have f2 : ∀ i ∈ range 2048, |share (ends x y) (∑ i ∈ range 2048, x i) (∑ i ∈ range 2048, y i) (2048 + i)| = y i / ∑ i ∈ range 2048, y i := fun i hi => by
      rw [e2 i hi, abs_neg, abs_of_nonneg (div_nonneg (hy i) sy.le)]
    rw [split, sum_congr rfl f1, sum_congr rfl f2, a1, a2]; norm_num

/-- A row's result is within two cells of the reference's. -/
theorem row_near {V : Valuation Cert.ReferenceIdeal.τ Cert.ReferenceIdeal.sig (Elt Ideal)} {X Y P Q : FVec Ideal (mat 4096 2048) .f32} {r : Fin 4096}
    (hX : V (Proc.devRef .tc Cert.ReferenceIdeal.main_arg0) = X) (hY : V (Proc.devRef .tc Cert.ReferenceIdeal.main_arg1) = Y)
    (hP : V (Proc.devRef .tc Cert.ReferenceIdeal.main_arg2) = P) (hQ : V (Proc.devRef .tc Cert.ReferenceIdeal.main_arg3) = Q)
    (h : RowUnit X Y P Q r) {v : Ideal .f32}
    (hv : RowOK (F := Ideal) (two (F := Ideal) (rowOf (F := Ideal) X r.val) (rowOf (F := Ideal) Y r.val))
      (two (F := Ideal) (rowOf (F := Ideal) P r.val) (rowOf (F := Ideal) Q r.val)) v) :
    ∃ a b : ℝ, v = ((a : ℝ) : EReal) ∧ Cert.ReferenceIdeal.Value.val1 V (Proc.devRef .tc Cert.ReferenceIdeal.main_v43) (ix1 r) = ((b : ℝ) : EReal)
      ∧ |a - b| ≤ 1 / 131072 := by
  obtain ⟨b, hb, rfl⟩ := hv
  have hn : ∀ k, 0 ≤ ends (realRow P r) (realRow Q r) k := fun k => by
    unfold ends
    split
    · exact h.p0 _
    · exact h.q0 _
  have hn1 : ∀ k, ends (realRow P r) (realRow Q r) k ≤ 1 := fun k => by
    unfold ends
    split
    · exact h.p1 _
    · exact h.q1 _
  obtain ⟨hσ, hz⟩ := cells_of_sorted hb (fl_row h.hp h.hq) (fun k _ => hn k)
  obtain ⟨τ, hτ, ut⟩ := exists_sorted (ends (realRow P r) (realRow Q r))
  refine ⟨_, _, rowOut_eq (fl_row h.hx h.hy) (fl_row h.hp h.hq) (X := ∑ i ∈ range 2048, realRow X r i) (Y := ∑ i ∈ range 2048, realRow Y r i)
    (sum_congr rfl fun i hi => ends_left _ _ (mem_range.1 hi)) (sum_congr rfl fun i _ => ends_right _ _ i) h.sx.ne' h.sy.ne',
    ref_row (V := V) (r := r) (by rw [hX]; exact h.hx) (by rw [hY]; exact h.hy) (by rw [hP]; exact h.hp) (by rw [hQ]; exact h.hq)
    (fun i _ => h.x0 i) (fun i _ => h.y0 i) h.sx h.sy hτ (fun i hi => ?_) (fun i hi => ?_) (fun i hi => ends_left _ _ hi) (fun i _ => ends_right _ _ i) ut
    (W := share (ends (realRow X r) (realRow Y r)) (∑ i ∈ range 2048, realRow X r i) (∑ i ∈ range 2048, realRow Y r i)), ?_⟩
  · unfold share
    rw [if_pos hi, ends_left _ _ hi]; ring
  · unfold share
    rw [if_neg (by omega), ends_right]; ring
  · have hs := share_sums h.x0 h.y0 h.sx h.sy
    exact kerSum_near hσ hτ hz ut (fun i _ => hn i) (fun i _ => hn1 i) hs.1 hs.2

/-! ## The program -/

theorem frame_kernelIdeal_unit : Cert.quiescent_KernelIdeal_pre_unit := fun m ρ _ =>
  (θ_run Cert.KernelIdeal.defs _ _).mono (fun _ h => ⟨fun c => (h.1 c).1, h.2⟩) (run_main (F := Ideal) m ρ)

/-- Arguments of the reference with given contents. -/
theorem exists_args (X Y P Q : FVec Ideal (mat 4096 2048) .f32) : ∃ V : Valuation Cert.ReferenceIdeal.τ Cert.ReferenceIdeal.sig (Elt Ideal),
    V (Proc.devRef .tc Cert.ReferenceIdeal.main_arg0) = X ∧ V (Proc.devRef .tc Cert.ReferenceIdeal.main_arg1) = Y
    ∧ V (Proc.devRef .tc Cert.ReferenceIdeal.main_arg2) = P ∧ V (Proc.devRef .tc Cert.ReferenceIdeal.main_arg3) = Q := by
  classical
  have e : ∀ t : EltTy, Nonempty (Elt Ideal t) := fun t => by
    cases t <;> first | exact ⟨(0 : BitVec _)⟩ | exact ⟨(0 : EReal)⟩
  let V0 : Valuation Cert.ReferenceIdeal.τ Cert.ReferenceIdeal.sig (Elt Ideal) := fun b _ => Classical.choice (e _)
  let V1 := Function.update V0 (Proc.devRef .tc Cert.ReferenceIdeal.main_arg0) X
  let V2 := Function.update V1 (Proc.devRef .tc Cert.ReferenceIdeal.main_arg1) Y
  let V3 := Function.update V2 (Proc.devRef .tc Cert.ReferenceIdeal.main_arg2) P
  let V4 := Function.update V3 (Proc.devRef .tc Cert.ReferenceIdeal.main_arg3) Q
  refine ⟨V4, ?_, ?_, ?_, Function.update_self _ _ _⟩
  · exact (Function.update_of_ne (by decide) _ _).trans ((Function.update_of_ne (by decide) _ _).trans
      ((Function.update_of_ne (by decide) _ _).trans (Function.update_self _ _ _)))
  · exact (Function.update_of_ne (by decide) _ _).trans ((Function.update_of_ne (by decide) _ _).trans (Function.update_self _ _ _))
  · exact (Function.update_of_ne (by decide) _ _).trans (Function.update_self _ _ _)

theorem near_cmp {a b : ℝ} (h : |a - b| ≤ 1 / 131072) :
    Ideal.cmp .ole (max ((a : EReal) - (b : EReal)) (-((a : EReal) - (b : EReal)))) (Ideal.ofBits .f32 0x37000000#32) = 1#1 := by
  refine (ofBool_iff (_ ≤ _)).2 ?_
  rw [two_cells_word, ← EReal.coe_sub, abs_coe]
  exact EReal.coe_le_coe_iff.2 h

theorem near : Cert.holds_KernelIdeal_near_pre_unit := fun m g hpre => by
  refine (θ_run Cert.KernelIdeal.defs _ _).mono (fun s h c => ?_) (run_main (F := Ideal) m g)
  obtain ⟨a0, a1, a2, a3⟩ := (h.1 c).1
  refine ⟨a0, a1, a2, a3, funext fun j => ?_⟩
  obtain ⟨h1, h2, h3, h4, h5, h6, h7, h8, h9, h10⟩ := hpre c
  obtain ⟨V, b0, b1, b2, b3⟩ := exists_args _ _ _ _
  obtain ⟨a, b, ea, eb, hab⟩ := row_near (V := V) (r := j 0) b0 b1 b2 b3 (rowUnit_of h1 h2 h3 h4 h5 h6 h7 h8 h9 h10 (j 0)) ((h.1 c).2 j (mem_univ j))
  rw [← b0, ← b1, ← b2, ← b3]
  refine (congrFun (post_near V _) j).trans ?_
  rw [eq_ix1 j] at ea ⊢
  show Ideal.cmp .ole (max (_ - _) (-(_ - _))) (Ideal.ofBits .f32 0x37000000#32) = 1#1
  refine Eq.trans ?_ (near_cmp hab)
  rw [← ea, ← eb]
  rfl

end Cert.Proof.W1

end
-- ==== Proof.lean ====
module

public import proofs.«01_k».proof.Defs
public import proofs.«01_k».proof.Proof.Equal
public import proofs.«01_k».proof.Proof.Within

@[expose] public section

noncomputable section

namespace Cert.Proof

theorem claim : Cert.Claim := ⟨Cert.Kernel.Gen.facts, Cert.KernelIdeal.Gen.facts, Cert.ReferenceIdeal.Gen.facts, W1.facts_apart, W1.facts_unit, W1.facts_near,
  W1.frame_kernel, W1.frame_kernelIdeal, W1.frame_kernelIdeal_apart, W1.frame_kernelIdeal_unit, W1.frame_referenceIdeal, W1.frame_referenceIdeal_apart, trivial, W1.algebraic, W1.near⟩

end Cert.Proof

end
